-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)) →
    ∃ (v0 : (c : Dev Cert.KernelIdeal.nD) → Buf (Elt Ideal) ((c.tc : Thread Cert.KernelIdeal.nD Cert.KernelIdeal.τ).loc Cert.KernelIdeal.main_v29)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v29) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v38) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4096x1 : Shape := ⟨2, ![4096, 1]⟩
abbrev S6144x1 : Shape := ⟨2, ![6144, 1]⟩
abbrev S6144x2048 : Shape := ⟨2, ![6144, 2048]⟩
abbrev S6144 : Shape := ⟨1, ![6144]⟩
abbrev S3072x2048 : Shape := ⟨2, ![3072, 2048]⟩
abbrev S3072x1024 : Shape := ⟨2, ![3072, 1024]⟩
abbrev S3072 : Shape := ⟨1, ![3072]⟩
abbrev S6144x1024 : Shape := ⟨2, ![6144, 1024]⟩
abbrev S1x2048 : Shape := ⟨2, ![1, 2048]⟩
abbrev S1 : Shape := ⟨1, ![1]⟩
abbrev S1x6144 : Shape := ⟨2, ![1, 6144]⟩
abbrev S2048x6144 : Shape := ⟨2, ![2048, 6144]⟩
abbrev S4096x2048 : Shape := ⟨2, ![4096, 2048]⟩
abbrev S512x1 : Shape := ⟨2, ![512, 1]⟩
abbrev S512x2048 : Shape := ⟨2, ![512, 2048]⟩
abbrev S_ : Shape := ⟨0, ![]⟩
abbrev S1x1 : Shape := ⟨2, ![1, 1]⟩
abbrev S1x3072 : Shape := ⟨2, ![1, 3072]⟩
abbrev S2048x3072 : Shape := ⟨2, ![2048, 3072]⟩
abbrev S1024x3072 : Shape := ⟨2, ![1024, 3072]⟩
abbrev S1x1024 : Shape := ⟨2, ![1, 1024]⟩
abbrev S512x3072 : Shape := ⟨2, ![512, 3072]⟩
abbrev S4096x1024 : Shape := ⟨2, ![4096, 1024]⟩
abbrev S512x1024 : Shape := ⟨2, ![512, 1024]⟩
abbrev S2048x1 : Shape := ⟨2, ![2048, 1]⟩
abbrev S1024x6144 : Shape := ⟨2, ![1024, 6144]⟩
abbrev S256x1024 : Shape := ⟨2, ![256, 1024]⟩
abbrev S256x1 : Shape := ⟨2, ![256, 1]⟩
abbrev S256x6144 : Shape := ⟨2, ![256, 6144]⟩
abbrev S256x2048 : Shape := ⟨2, ![256, 2048]⟩

abbrev nBuf : Space → Nat
  | .hbm => 49
  | .vmem => 40
  | .smem => 0
  | _ => 0

abbrev bufTy : (tb : Table) → Fin (tcTables nBuf tb) → BufTy
  | .hbm, ⟨0, _⟩ => ⟨S4096x1, .f32⟩
  | .hbm, ⟨1, _⟩ => ⟨S6144x1, .f32⟩
  | .hbm, ⟨2, _⟩ => ⟨S6144x2048, .f32⟩
  | .hbm, ⟨3, _⟩ => ⟨S6144, .f32⟩
  | .hbm, ⟨4, _⟩ => ⟨S6144, .f32⟩
  | .hbm, ⟨5, _⟩ => ⟨S3072x2048, .f32⟩
  | .hbm, ⟨6, _⟩ => ⟨S3072x1024, .f32⟩
  | .hbm, ⟨7, _⟩ => ⟨S3072, .f32⟩
  | .hbm, ⟨8, _⟩ => ⟨S3072, .f32⟩
  | .hbm, ⟨9, _⟩ => ⟨S3072x1024, .f32⟩
  | .hbm, ⟨10, _⟩ => ⟨S3072x1024, .f32⟩
  | .hbm, ⟨11, _⟩ => ⟨S3072, .f32⟩
  | .hbm, ⟨12, _⟩ => ⟨S3072, .f32⟩
  | .hbm, ⟨13, _⟩ => ⟨S6144x1024, .f32⟩
  | .hbm, ⟨14, _⟩ => ⟨S6144x2048, .f32⟩
  | .hbm, ⟨15, _⟩ => ⟨S6144, .f32⟩
  | .hbm, ⟨16, _⟩ => ⟨S6144, .f32⟩
  | .hbm, ⟨17, _⟩ => ⟨S1x2048, .f32⟩
  | .hbm, ⟨18, _⟩ => ⟨S1, .f32⟩
  | .hbm, ⟨19, _⟩ => ⟨S1x6144, .f32⟩
  | .hbm, ⟨20, _⟩ => ⟨S1x6144, .f32⟩
  | .hbm, ⟨21, _⟩ => ⟨S1x6144, .f32⟩
  | .hbm, ⟨22, _⟩ => ⟨S2048x6144, .f32⟩
  | .hbm, ⟨23, _⟩ => ⟨S2048x6144, .bf16⟩
  | .hbm, ⟨24, _⟩ => ⟨S4096x2048, .f32⟩
  | .hbm, ⟨25, _⟩ => ⟨S1x3072, .f32⟩
  | .hbm, ⟨26, _⟩ => ⟨S1x3072, .f32⟩
  | .hbm, ⟨27, _⟩ => ⟨S2048x3072, .f32⟩
  | .hbm, ⟨28, _⟩ => ⟨S2048x3072, .bf16⟩
  | .hbm, ⟨29, _⟩ => ⟨S1024x3072, .f32⟩
  | .hbm, ⟨30, _⟩ => ⟨S1024x3072, .bf16⟩
  | .hbm, ⟨31, _⟩ => ⟨S1x1024, .f32⟩
  | .hbm, ⟨32, _⟩ => ⟨S1x3072, .f32⟩
  | .hbm, ⟨33, _⟩ => ⟨S1x3072, .f32⟩
  | .hbm, ⟨34, _⟩ => ⟨S1024x3072, .f32⟩
  | .hbm, ⟨35, _⟩ => ⟨S1024x3072, .bf16⟩
  | .hbm, ⟨36, _⟩ => ⟨S1024x3072, .f32⟩
  | .hbm, ⟨37, _⟩ => ⟨S1024x3072, .bf16⟩
  | .hbm, ⟨38, _⟩ => ⟨S4096x1024, .f32⟩
  | .hbm, ⟨39, _⟩ => ⟨S1x6144, .f32⟩
  | .hbm, ⟨40, _⟩ => ⟨S1x6144, .f32⟩
  | .hbm, ⟨41, _⟩ => ⟨S2048x1, .f32⟩
  | .hbm, ⟨42, _⟩ => ⟨S2048x1, .bf16⟩
  | .hbm, ⟨43, _⟩ => ⟨S1x1, .f32⟩
  | .hbm, ⟨44, _⟩ => ⟨S1024x6144, .f32⟩
  | .hbm, ⟨45, _⟩ => ⟨S1024x6144, .bf16⟩
  | .hbm, ⟨46, _⟩ => ⟨S2048x6144, .f32⟩
  | .hbm, ⟨47, _⟩ => ⟨S2048x6144, .bf16⟩
  | .hbm, ⟨48, _⟩ => ⟨S4096x1, .f32⟩
  | .local _ .vmem, ⟨0, _⟩ => ⟨S512x1, .f32⟩
  | .local _ .vmem, ⟨1, _⟩ => ⟨S512x1, .f32⟩
  | .local _ .vmem, ⟨2, _⟩ => ⟨S1x6144, .f32⟩
  | .local _ .vmem, ⟨3, _⟩ => ⟨S1x6144, .f32⟩
  | .local _ .vmem, ⟨4, _⟩ => ⟨S1x6144, .f32⟩
  | .local _ .vmem, ⟨5, _⟩ => ⟨S512x2048, .f32⟩
  | .local _ .vmem, ⟨6, _⟩ => ⟨S512x2048, .f32⟩
  | .local _ .vmem, ⟨7, _⟩ => ⟨S2048x6144, .bf16⟩
  | .local _ .vmem, ⟨8, _⟩ => ⟨S1x2048, .f32⟩
  | .local _ .vmem, ⟨9, _⟩ => ⟨S512x2048, .f32⟩
  | .local _ .vmem, ⟨10, _⟩ => ⟨S512x2048, .f32⟩
  | .local _ .vmem, ⟨11, _⟩ => ⟨S1x3072, .f32⟩
  | .local _ .vmem, ⟨12, _⟩ => ⟨S1x3072, .f32⟩
  | .local _ .vmem, ⟨13, _⟩ => ⟨S1x1024, .f32⟩
  | .local _ .vmem, ⟨14, _⟩ => ⟨S2048x3072, .bf16⟩
  | .local _ .vmem, ⟨15, _⟩ => ⟨S1024x3072, .bf16⟩
  | .local _ .vmem, ⟨16, _⟩ => ⟨S512x3072, .f32⟩
  | .local _ .vmem, ⟨17, _⟩ => ⟨S1x1024, .f32⟩
  | .local _ .vmem, ⟨18, _⟩ => ⟨S1x1024, .f32⟩
  | .local _ .vmem, ⟨19, _⟩ => ⟨S1x3072, .f32⟩
  | .local _ .vmem, ⟨20, _⟩ => ⟨S1x3072, .f32⟩
  | .local _ .vmem, ⟨21, _⟩ => ⟨S512x1024, .f32⟩
  | .local _ .vmem, ⟨22, _⟩ => ⟨S512x1024, .f32⟩
  | .local _ .vmem, ⟨23, _⟩ => ⟨S1024x3072, .bf16⟩
  | .local _ .vmem, ⟨24, _⟩ => ⟨S1024x3072, .bf16⟩
  | .local _ .vmem, ⟨25, _⟩ => ⟨S1x3072, .f32⟩
  | .local _ .vmem, ⟨26, _⟩ => ⟨S1x1024, .f32⟩
  | .local _ .vmem, ⟨27, _⟩ => ⟨S256x1024, .f32⟩
  | .local _ .vmem, ⟨28, _⟩ => ⟨S256x1024, .f32⟩
  | .local _ .vmem, ⟨29, _⟩ => ⟨S1x6144, .f32⟩
  | .local _ .vmem, ⟨30, _⟩ => ⟨S1x6144, .f32⟩
  | .local _ .vmem, ⟨31, _⟩ => ⟨S2048x1, .bf16⟩
  | .local _ .vmem, ⟨32, _⟩ => ⟨S1x1, .f32⟩
  | .local _ .vmem, ⟨33, _⟩ => ⟨S256x1, .f32⟩
  | .local _ .vmem, ⟨34, _⟩ => ⟨S256x1, .f32⟩
  | .local _ .vmem, ⟨35, _⟩ => ⟨S1024x6144, .bf16⟩
  | .local _ .vmem, ⟨36, _⟩ => ⟨S2048x6144, .bf16⟩
  | .local _ .vmem, ⟨37, _⟩ => ⟨S256x6144, .f32⟩
  | .local _ .vmem, ⟨38, _⟩ => ⟨S256x2048, .f32⟩
  | .local _ .vmem, ⟨39, _⟩ => ⟨S1x2048, .f32⟩
  | _, _ => ⟨S4096x1, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | _, _ => false

abbrev semScoped : Fin 0 → Bool
  | ⟨_, h⟩ => absurd h (Nat.not_lt_zero _)

abbrev dmaSemScoped : Fin 32 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | _ => false

abbrev sig : RefSig :=
  ofTc nBuf bufTy 0 32 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_v5 : Ref sig .tc := ⟨.hbm, 24, rfl⟩
abbrev main_v6 : Ref sig .tc := ⟨.hbm, 25, rfl⟩
abbrev main_v7 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_v13 : Ref sig .tc := ⟨.hbm, 32, rfl⟩
abbrev main_v14 : Ref sig .tc := ⟨.hbm, 33, rfl⟩
abbrev main_v15 : Ref sig .tc := ⟨.hbm, 34, rfl⟩
abbrev main_v16 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_scratch0 : Ref sig .tc := ⟨.vmem, 7, rfl⟩
abbrev cc0_scratch1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg2_0 : Ref sig .tc := ⟨.vmem, 12, rfl⟩
abbrev cc1_stg3_0 : Ref sig .tc := ⟨.vmem, 13, rfl⟩
abbrev cc1_scratch0 : Ref sig .tc := ⟨.vmem, 14, rfl⟩
abbrev cc1_scratch1 : Ref sig .tc := ⟨.vmem, 15, rfl⟩
abbrev cc1_scratch2 : Ref sig .tc := ⟨.vmem, 16, rfl⟩
abbrev cc1_scratch3 : Ref sig .tc := ⟨.vmem, 17, rfl⟩
abbrev cc2_stg0_0 : Ref sig .tc := ⟨.vmem, 18, rfl⟩
abbrev cc2_stg1_0 : Ref sig .tc := ⟨.vmem, 19, rfl⟩
abbrev cc2_stg2_0 : Ref sig .tc := ⟨.vmem, 20, rfl⟩
abbrev cc2_stg3_0 : Ref sig .tc := ⟨.vmem, 21, rfl⟩
abbrev cc2_stg3_1 : Ref sig .tc := ⟨.vmem, 22, rfl⟩
abbrev cc2_scratch0 : Ref sig .tc := ⟨.vmem, 23, rfl⟩
abbrev cc2_scratch1 : Ref sig .tc := ⟨.vmem, 24, rfl⟩
abbrev cc2_scratch2 : Ref sig .tc := ⟨.vmem, 25, rfl⟩
abbrev cc2_scratch3 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg2_0 : Ref sig .tc := ⟨.vmem, 30, rfl⟩
abbrev cc3_stg3_0 : Ref sig .tc := ⟨.vmem, 31, rfl⟩
abbrev cc3_stg4_0 : Ref sig .tc := ⟨.vmem, 32, rfl⟩
abbrev cc3_stg5_0 : Ref sig .tc := ⟨.vmem, 33, rfl⟩
abbrev cc3_stg5_1 : Ref sig .tc := ⟨.vmem, 34, rfl⟩
abbrev cc3_scratch0 : Ref sig .tc := ⟨.vmem, 35, rfl⟩
abbrev cc3_scratch1 : Ref sig .tc := ⟨.vmem, 36, rfl⟩
abbrev cc3_scratch2 : Ref sig .tc := ⟨.vmem, 37, rfl⟩
abbrev cc3_scratch3 : Ref sig .tc := ⟨.vmem, 38, rfl⟩
abbrev cc3_scratch4 : Ref sig .tc := ⟨.vmem, 39, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6
abbrev cc1_sem0_0 : DmaSem sig := 8
abbrev cc1_sem0_1 : DmaSem sig := 9
abbrev cc1_sem1_0 : DmaSem sig := 10
abbrev cc1_sem2_0 : DmaSem sig := 11
abbrev cc1_sem3_0 : DmaSem sig := 12
abbrev cc2_sem0_0 : DmaSem sig := 15
abbrev cc2_sem1_0 : DmaSem sig := 16
abbrev cc2_sem2_0 : DmaSem sig := 17
abbrev cc2_sem3_0 : DmaSem sig := 18
abbrev cc2_sem3_1 : DmaSem sig := 19
abbrev cc3_sem0_0 : DmaSem sig := 22
abbrev cc3_sem0_1 : DmaSem sig := 23
abbrev cc3_sem1_0 : DmaSem sig := 24
abbrev cc3_sem2_0 : DmaSem sig := 25
abbrev cc3_sem3_0 : DmaSem sig := 26
abbrev cc3_sem4_0 : DmaSem sig := 27
abbrev cc3_sem5_0 : DmaSem sig := 28
abbrev cc3_sem5_1 : DmaSem sig := 29

abbrev nD : Nat := 1
abbrev τ : Topo := Topo.v7x

variable {F : FTy → Type} [FloatOps F]

abbrev grid0 : Pipeline.Grid := ⟨1, ![8], ![false]⟩

@[reducible] def k0_t1_loop : Scf.Loop 32 :=
  let c0_i32_1 : BitVec 32 := 0#32
  let c512_i32 : BitVec 32 := 512#32
  let v3 : BitVec 32 := Scalar.addi c0_i32_1 c512_i32
  let c1_i32 : BitVec 32 := 1#32
  ⟨c0_i32_1, v3, c1_i32⟩
def k0_off1 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v4 : Index := Scalar.indexCast arg10
  let c0 : Index := 0#32
  ![v4.toNat, 0]
def k0_off2 (k0_t1 : Fin k0_t1_loop.trips) : Fin 2 → Nat :=
  let c0_i32_1 : BitVec 32 := 0#32
  let c1_i32 : BitVec 32 := 1#32
  let arg10 : BitVec 32 := Scf.iv c0_i32_1 c1_i32 k0_t1
  let v42 : Index := Scalar.indexCast arg10
  let c0_18 : Index := 0#32
  ![v42.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x6144 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x6144 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x6144 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

@[reducible] def k1_t1_loop : Scf.Loop 32 :=
  let c0_i32_8 : BitVec 32 := 0#32
  let c512_i32 : BitVec 32 := 512#32
  let v15 : BitVec 32 := Scalar.addi c0_i32_8 c512_i32
  let c1_i32 : BitVec 32 := 1#32
  ⟨c0_i32_8, v15, c1_i32⟩
def k1_off1 (k1_t1 : Fin k1_t1_loop.trips) : Fin 2 → Nat :=
  let c0_i32_8 : BitVec 32 := 0#32
  let c1_i32 : BitVec 32 := 1#32
  let arg13 : BitVec 32 := Scf.iv c0_i32_8 c1_i32 k1_t1
  let v25 : Index := Scalar.indexCast arg13
  let c0_21 : Index := 0#32
  ![v25.toNat, 0]
def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x2048 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x3072 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x3072 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x1024 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev grid2 : Pipeline.Grid := ⟨1, ![8], ![false]⟩

@[reducible] def k2_t1_loop : Scf.Loop 32 :=
  let c0_i32_1 : BitVec 32 := 0#32
  let c512_i32 : BitVec 32 := 512#32
  let v3 : BitVec 32 := Scalar.addi c0_i32_1 c512_i32
  let c1_i32 : BitVec 32 := 1#32
  ⟨c0_i32_1, v3, c1_i32⟩
def k2_off1 (k2_t1 : Fin k2_t1_loop.trips) : Fin 2 → Nat :=
  let c0_i32_1 : BitVec 32 := 0#32
  let c1_i32 : BitVec 32 := 1#32
  let arg13 : BitVec 32 := Scf.iv c0_i32_1 c1_i32 k2_t1
  let v34 : Index := Scalar.indexCast arg13
  let c0_15 : Index := 0#32
  ![v34.toNat, 0]
def cc2_transform_0 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 1 → Memref sig .tc .vmem S1x1024 .f32 := fun | 0 => Memref.whole cc2_stg0_0 | ⟨_ + 1, h⟩ => absurd h (Nat.not_lt.2 (Nat.le_add_left _ _))
abbrev sem2_0 : Fin 1 → DmaSem sig := fun | 0 => cc2_sem0_0 | ⟨_ + 1, h⟩ => absurd h (Nat.not_lt.2 (Nat.le_add_left _ _))
abbrev reads2_0 : Fin grid2.rank → Bool := ![false]

abbrev stage2_1 : Fin 1 → Memref sig .tc .vmem S1x3072 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x3072 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S512x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev grid3 : Pipeline.Grid := ⟨1, ![16], ![false]⟩

@[reducible] def k3_t1_loop : Scf.Loop 32 :=
  let c0_i32_8 : BitVec 32 := 0#32
  let c256_i32 : BitVec 32 := 256#32
  let v15 : BitVec 32 := Scalar.addi c0_i32_8 c256_i32
  let c1_i32 : BitVec 32 := 1#32
  ⟨c0_i32_8, v15, c1_i32⟩
def k3_off1 (k3_t1 : Fin k3_t1_loop.trips) : Fin 2 → Nat :=
  let c0_i32_8 : BitVec 32 := 0#32
  let c1_i32 : BitVec 32 := 1#32
  let arg16 : BitVec 32 := Scf.iv c0_i32_8 c1_i32 k3_t1
  let v33 : Index := Scalar.indexCast arg16
  let c0_26 : Index := 0#32
  ![v33.toNat, 0]
def k3_off2 (k3_t1 : Fin k3_t1_loop.trips) : Fin 2 → Nat :=
  let c0_i32_8 : BitVec 32 := 0#32
  let c1_i32 : BitVec 32 := 1#32
  let arg16 : BitVec 32 := Scf.iv c0_i32_8 c1_i32 k3_t1
  let v57 : Index := Scalar.indexCast arg16
  let c0_32 : Index := 0#32
  ![v57.toNat, 0]
def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_7 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S256x1024 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x6144 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 1 → Memref sig .tc .vmem S1x6144 .f32 := fun | 0 => Memref.whole cc3_stg2_0 | ⟨_ + 1, h⟩ => absurd h (Nat.not_lt.2 (Nat.le_add_left _ _))
abbrev sem3_2 : Fin 1 → DmaSem sig := fun | 0 => cc3_sem2_0 | ⟨_ + 1, h⟩ => absurd h (Nat.not_lt.2 (Nat.le_add_left _ _))
abbrev reads3_2 : Fin grid3.rank → Bool := ![false]

abbrev stage3_3 : Fin 1 → Memref sig .tc .vmem S2048x1 .bf16 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 1 → Memref sig .tc .vmem S1x1 .f32 := fun | 0 => Memref.whole cc3_stg4_0 | ⟨_ + 1, h⟩ => absurd h (Nat.not_lt.2 (Nat.le_add_left _ _))
abbrev sem3_4 : Fin 1 → DmaSem sig := fun | 0 => cc3_sem4_0 | ⟨_ + 1, h⟩ => absurd h (Nat.not_lt.2 (Nat.le_add_left _ _))
abbrev reads3_4 : Fin grid3.rank → Bool := ![false]

abbrev stage3_5 : Fin 2 → Memref sig .tc .vmem S256x1 .f32 := fun | 0 => Memref.whole cc3_stg5_0 | 1 => Memref.whole cc3_stg5_1 | ⟨_ + 2, h⟩ => absurd h (Nat.not_lt.2 (Nat.le_add_left _ _))
abbrev sem3_5 : Fin 2 → DmaSem sig := fun | 0 => cc3_sem5_0 | 1 => cc3_sem5_1 | ⟨_ + 2, h⟩ => absurd h (Nat.not_lt.2 (Nat.le_add_left _ _))
abbrev reads3_5 : Fin grid3.rank → Bool := ![true]
-- ==== ReferenceIdeal.lean ====
abbrev S4096x1 : Shape := ⟨2, ![4096, 1]⟩
abbrev S6144x1 : Shape := ⟨2, ![6144, 1]⟩
abbrev S6144x2048 : Shape := ⟨2, ![6144, 2048]⟩
abbrev S6144 : Shape := ⟨1, ![6144]⟩
abbrev S3072x2048 : Shape := ⟨2, ![3072, 2048]⟩
abbrev S3072x1024 : Shape := ⟨2, ![3072, 1024]⟩
abbrev S3072 : Shape := ⟨1, ![3072]⟩
abbrev S6144x1024 : Shape := ⟨2, ![6144, 1024]⟩
abbrev S1x2048 : Shape := ⟨2, ![1, 2048]⟩
abbrev S1 : Shape := ⟨1, ![1]⟩
abbrev S1x6144 : Shape := ⟨2, ![1, 6144]⟩
abbrev S4096x6144 : Shape := ⟨2, ![4096, 6144]⟩
abbrev S_ : Shape := ⟨0, ![]⟩
abbrev S2048 : Shape := ⟨1, ![2048]⟩
abbrev S4096x2048 : Shape := ⟨2, ![4096, 2048]⟩
abbrev S2048x6144 : Shape := ⟨2, ![2048, 6144]⟩
abbrev S2048x3072 : Shape := ⟨2, ![2048, 3072]⟩
abbrev S4096x3072 : Shape := ⟨2, ![4096, 3072]⟩
abbrev S1x3072 : Shape := ⟨2, ![1, 3072]⟩
abbrev S1024 : Shape := ⟨1, ![1024]⟩
abbrev S4096x1024 : Shape := ⟨2, ![4096, 1024]⟩
abbrev S1024x3072 : Shape := ⟨2, ![1024, 3072]⟩
abbrev S1x1024 : Shape := ⟨2, ![1, 1024]⟩
abbrev S1024x6144 : Shape := ⟨2, ![1024, 6144]⟩
abbrev S2048x1 : Shape := ⟨2, ![2048, 1]⟩
abbrev S1x1 : Shape := ⟨2, ![1, 1]⟩

abbrev nBuf : Space → Nat
  | .hbm => 274
  | .vmem => 0
  | .smem => 0
  | _ => 0

abbrev hbmTy0_0 (i : Nat) : BufTy := match i % 128 with
  | 0 => ⟨S4096x1, .f32⟩
  | 1 => ⟨S6144x1, .f32⟩
  | 2 => ⟨S6144x2048, .f32⟩
  | 3 => ⟨S6144, .f32⟩
  | 4 => ⟨S6144, .f32⟩
  | 5 => ⟨S3072x2048, .f32⟩
  | 6 => ⟨S3072x1024, .f32⟩
  | 7 => ⟨S3072, .f32⟩
  | 8 => ⟨S3072, .f32⟩
  | 9 => ⟨S3072x1024, .f32⟩
  | 10 => ⟨S3072x1024, .f32⟩
  | 11 => ⟨S3072, .f32⟩
  | 12 => ⟨S3072, .f32⟩
  | 13 => ⟨S6144x1024, .f32⟩
  | 14 => ⟨S6144x2048, .f32⟩
  | 15 => ⟨S6144, .f32⟩
  | 16 => ⟨S6144, .f32⟩
  | 17 => ⟨S1x2048, .f32⟩
  | 18 => ⟨S1, .f32⟩
  | 19 => ⟨S1x6144, .f32⟩
  | 20 => ⟨S4096x6144, .f32⟩
  | 21 => ⟨S1x6144, .f32⟩
  | 22 => ⟨S4096x6144, .f32⟩
  | 23 => ⟨S4096x6144, .f32⟩
  | 24 => ⟨S_, .f32⟩
  | 25 => ⟨S2048, .f32⟩
  | 26 => ⟨S_, .f32⟩
  | 27 => ⟨S4096x2048, .f32⟩
  | 28 => ⟨S_, .i32⟩
  | 29 => ⟨S4096x6144, .f32⟩
  | 30 => ⟨S6144x2048, .f32⟩
  | 31 => ⟨S6144, .f32⟩
  | 32 => ⟨S_, .i32⟩
  | 33 => ⟨S2048, .f32⟩
  | 34 => ⟨S4096x2048, .f32⟩
  | 35 => ⟨S_, .i32⟩
  | 36 => ⟨S_, .i1⟩
  | 37 => ⟨S_, .i32⟩
  | 38 => ⟨S1x6144, .f32⟩
  | 39 => ⟨S6144, .f32⟩
  | 40 => ⟨S2048x6144, .f32⟩
  | 41 => ⟨S6144, .f32⟩
  | 42 => ⟨S6144, .f32⟩
  | 43 => ⟨S2048, .f32⟩
  | 44 => ⟨S2048, .f32⟩
  | 45 => ⟨S2048, .f32⟩
  | 46 => ⟨S2048, .f32⟩
  | 47 => ⟨S2048, .f32⟩
  | 48 => ⟨S2048, .f32⟩
  | 49 => ⟨S2048, .f32⟩
  | 50 => ⟨S2048, .f32⟩
  | 51 => ⟨S2048, .f32⟩
  | 52 => ⟨S_, .f32⟩
  | 53 => ⟨S2048, .f32⟩
  | 54 => ⟨S2048, .f32⟩
  | 55 => ⟨S_, .f32⟩
  | 56 => ⟨S2048, .f32⟩
  | 57 => ⟨S2048, .f32⟩
  | 58 => ⟨S2048, .f32⟩
  | 59 => ⟨S2048, .f32⟩
  | 60 => ⟨S2048, .f32⟩
  | 61 => ⟨S_, .f32⟩
  | 62 => ⟨S2048, .f32⟩
  | 63 => ⟨S2048, .f32⟩
  | 64 => ⟨S_, .f32⟩
  | 65 => ⟨S2048, .f32⟩
  | 66 => ⟨S2048, .f32⟩
  | 67 => ⟨S2048, .f32⟩
  | 68 => ⟨S2048, .f32⟩
  | 69 => ⟨S2048, .f32⟩
  | 70 => ⟨S_, .f32⟩
  | 71 => ⟨S2048, .f32⟩
  | 72 => ⟨S2048, .f32⟩
  | 73 => ⟨S2048, .f32⟩
  | 74 => ⟨S2048, .f32⟩
  | 75 => ⟨S2048, .f32⟩
  | 76 => ⟨S1x2048, .f32⟩
  | 77 => ⟨S_, .i32⟩
  | 78 => ⟨S4096x2048, .f32⟩
  | 79 => ⟨S_, .i32⟩
  | 80 => ⟨S_, .i32⟩
  | 81 => ⟨S2048x3072, .f32⟩
  | 82 => ⟨S4096x3072, .f32⟩
  | 83 => ⟨S1x3072, .f32⟩
  | 84 => ⟨S4096x3072, .f32⟩
  | 85 => ⟨S4096x3072, .f32⟩
  | 86 => ⟨S_, .f32⟩
  | 87 => ⟨S1024, .f32⟩
  | 88 => ⟨S_, .f32⟩
  | 89 => ⟨S4096x1024, .f32⟩
  | 90 => ⟨S_, .i32⟩
  | 91 => ⟨S4096x3072, .f32⟩
  | 92 => ⟨S3072x1024, .f32⟩
  | 93 => ⟨S3072, .f32⟩
  | 94 => ⟨S_, .i32⟩
  | 95 => ⟨S1024, .f32⟩
  | 96 => ⟨S4096x1024, .f32⟩
  | 97 => ⟨S_, .i32⟩
  | 98 => ⟨S_, .i1⟩
  | 99 => ⟨S_, .i32⟩
  | 100 => ⟨S1x3072, .f32⟩
  | 101 => ⟨S3072, .f32⟩
  | 102 => ⟨S1024x3072, .f32⟩
  | 103 => ⟨S3072, .f32⟩
  | 104 => ⟨S3072, .f32⟩
  | 105 => ⟨S1024, .f32⟩
  | 106 => ⟨S1024, .f32⟩
  | 107 => ⟨S1024, .f32⟩
  | 108 => ⟨S1024, .f32⟩
  | 109 => ⟨S1024, .f32⟩
  | 110 => ⟨S1024, .f32⟩
  | 111 => ⟨S1024, .f32⟩
  | 112 => ⟨S1024, .f32⟩
  | 113 => ⟨S1024, .f32⟩
  | 114 => ⟨S_, .f32⟩
  | 115 => ⟨S1024, .f32⟩
  | 116 => ⟨S1024, .f32⟩
  | 117 => ⟨S_, .f32⟩
  | 118 => ⟨S1024, .f32⟩
  | 119 => ⟨S1024, .f32⟩
  | 120 => ⟨S1024, .f32⟩
  | 121 => ⟨S1024, .f32⟩
  | 122 => ⟨S1024, .f32⟩
  | 123 => ⟨S_, .f32⟩
  | 124 => ⟨S1024, .f32⟩
  | 125 => ⟨S1024, .f32⟩
  | 126 => ⟨S_, .f32⟩
  | 127 => ⟨S1024, .f32⟩
  | _ => ⟨S4096x1, .f32⟩

abbrev hbmTy0_1 (i : Nat) : BufTy := match i % 128 with
  | 0 => ⟨S1024, .f32⟩
  | 1 => ⟨S1024, .f32⟩
  | 2 => ⟨S1024, .f32⟩
  | 3 => ⟨S1024, .f32⟩
  | 4 => ⟨S_, .f32⟩
  | 5 => ⟨S1024, .f32⟩
  | 6 => ⟨S1024, .f32⟩
  | 7 => ⟨S1024, .f32⟩
  | 8 => ⟨S1024, .f32⟩
  | 9 => ⟨S1024, .f32⟩
  | 10 => ⟨S1x1024, .f32⟩
  | 11 => ⟨S_, .i32⟩
  | 12 => ⟨S4096x1024, .f32⟩
  | 13 => ⟨S_, .i32⟩
  | 14 => ⟨S_, .i32⟩
  | 15 => ⟨S1x1024, .f32⟩
  | 16 => ⟨S4096x1024, .f32⟩
  | 17 => ⟨S1024x3072, .f32⟩
  | 18 => ⟨S4096x3072, .f32⟩
  | 19 => ⟨S1x3072, .f32⟩
  | 20 => ⟨S4096x3072, .f32⟩
  | 21 => ⟨S4096x3072, .f32⟩
  | 22 => ⟨S_, .f32⟩
  | 23 => ⟨S1024, .f32⟩
  | 24 => ⟨S_, .f32⟩
  | 25 => ⟨S4096x1024, .f32⟩
  | 26 => ⟨S_, .i32⟩
  | 27 => ⟨S4096x3072, .f32⟩
  | 28 => ⟨S3072x1024, .f32⟩
  | 29 => ⟨S3072, .f32⟩
  | 30 => ⟨S_, .i32⟩
  | 31 => ⟨S1024, .f32⟩
  | 32 => ⟨S4096x1024, .f32⟩
  | 33 => ⟨S_, .i32⟩
  | 34 => ⟨S_, .i1⟩
  | 35 => ⟨S_, .i32⟩
  | 36 => ⟨S1x3072, .f32⟩
  | 37 => ⟨S3072, .f32⟩
  | 38 => ⟨S1024x3072, .f32⟩
  | 39 => ⟨S3072, .f32⟩
  | 40 => ⟨S3072, .f32⟩
  | 41 => ⟨S1024, .f32⟩
  | 42 => ⟨S1024, .f32⟩
  | 43 => ⟨S1024, .f32⟩
  | 44 => ⟨S1024, .f32⟩
  | 45 => ⟨S1024, .f32⟩
  | 46 => ⟨S1024, .f32⟩
  | 47 => ⟨S1024, .f32⟩
  | 48 => ⟨S1024, .f32⟩
  | 49 => ⟨S1024, .f32⟩
  | 50 => ⟨S_, .f32⟩
  | 51 => ⟨S1024, .f32⟩
  | 52 => ⟨S1024, .f32⟩
  | 53 => ⟨S_, .f32⟩
  | 54 => ⟨S1024, .f32⟩
  | 55 => ⟨S1024, .f32⟩
  | 56 => ⟨S1024, .f32⟩
  | 57 => ⟨S1024, .f32⟩
  | 58 => ⟨S1024, .f32⟩
  | 59 => ⟨S_, .f32⟩
  | 60 => ⟨S1024, .f32⟩
  | 61 => ⟨S1024, .f32⟩
  | 62 => ⟨S_, .f32⟩
  | 63 => ⟨S1024, .f32⟩
  | 64 => ⟨S1024, .f32⟩
  | 65 => ⟨S1024, .f32⟩
  | 66 => ⟨S1024, .f32⟩
  | 67 => ⟨S1024, .f32⟩
  | 68 => ⟨S_, .f32⟩
  | 69 => ⟨S1024, .f32⟩
  | 70 => ⟨S1024, .f32⟩
  | 71 => ⟨S1024, .f32⟩
  | 72 => ⟨S1024, .f32⟩
  | 73 => ⟨S1024, .f32⟩
  | 74 => ⟨S1x1024, .f32⟩
  | 75 => ⟨S_, .i32⟩
  | 76 => ⟨S4096x1024, .f32⟩
  | 77 => ⟨S_, .i32⟩
  | 78 => ⟨S_, .i32⟩
  | 79 => ⟨S1024x6144, .f32⟩
  | 80 => ⟨S4096x6144, .f32⟩
  | 81 => ⟨S1x6144, .f32⟩
  | 82 => ⟨S4096x6144, .f32⟩
  | 83 => ⟨S4096x6144, .f32⟩
  | 84 => ⟨S_, .f32⟩
  | 85 => ⟨S2048, .f32⟩
  | 86 => ⟨S_, .f32⟩
  | 87 => ⟨S4096x2048, .f32⟩
  | 88 => ⟨S_, .i32⟩
  | 89 => ⟨S4096x6144, .f32⟩
  | 90 => ⟨S6144x2048, .f32⟩
  | 91 => ⟨S6144, .f32⟩
  | 92 => ⟨S_, .i32⟩
  | 93 => ⟨S2048, .f32⟩
  | 94 => ⟨S4096x2048, .f32⟩
  | 95 => ⟨S_, .i32⟩
  | 96 => ⟨S_, .i1⟩
  | 97 => ⟨S_, .i32⟩
  | 98 => ⟨S1x6144, .f32⟩
  | 99 => ⟨S6144, .f32⟩
  | 100 => ⟨S2048x6144, .f32⟩
  | 101 => ⟨S6144, .f32⟩
  | 102 => ⟨S6144, .f32⟩
  | 103 => ⟨S2048, .f32⟩
  | 104 => ⟨S2048, .f32⟩
  | 105 => ⟨S2048, .f32⟩
  | 106 => ⟨S2048, .f32⟩
  | 107 => ⟨S2048, .f32⟩
  | 108 => ⟨S2048, .f32⟩
  | 109 => ⟨S2048, .f32⟩
  | 110 => ⟨S2048, .f32⟩
  | 111 => ⟨S2048, .f32⟩
  | 112 => ⟨S_, .f32⟩
  | 113 => ⟨S2048, .f32⟩
  | 114 => ⟨S2048, .f32⟩
  | 115 => ⟨S_, .f32⟩
  | 116 => ⟨S2048, .f32⟩
  | 117 => ⟨S2048, .f32⟩
  | 118 => ⟨S2048, .f32⟩
  | 119 => ⟨S2048, .f32⟩
  | 120 => ⟨S2048, .f32⟩
  | 121 => ⟨S_, .f32⟩
  | 122 => ⟨S2048, .f32⟩
  | 123 => ⟨S2048, .f32⟩
  | 124 => ⟨S_, .f32⟩
  | 125 => ⟨S2048, .f32⟩
  | 126 => ⟨S2048, .f32⟩
  | 127 => ⟨S2048, .f32⟩
  | _ => ⟨S4096x1, .f32⟩

abbrev hbmTy0_2 (i : Nat) : BufTy := match i % 128 with
  | 0 => ⟨S2048, .f32⟩
  | 1 => ⟨S2048, .f32⟩
  | 2 => ⟨S_, .f32⟩
  | 3 => ⟨S2048, .f32⟩
  | 4 => ⟨S2048, .f32⟩
  | 5 => ⟨S2048, .f32⟩
  | 6 => ⟨S2048, .f32⟩
  | 7 => ⟨S2048, .f32⟩
  | 8 => ⟨S1x2048, .f32⟩
  | 9 => ⟨S_, .i32⟩
  | 10 => ⟨S4096x2048, .f32⟩
  | 11 => ⟨S_, .i32⟩
  | 12 => ⟨S_, .i32⟩
  | 13 => ⟨S2048x1, .f32⟩
  | 14 => ⟨S4096x1, .f32⟩
  | 15 => ⟨S1x1, .f32⟩
  | 16 => ⟨S4096x1, .f32⟩
  | 17 => ⟨S4096x1, .f32⟩
  | _ => ⟨S4096x1, .f32⟩

abbrev hbmTy (i : Nat) : BufTy := match i / 128 with
  | 0 => hbmTy0_0 i
  | 1 => hbmTy0_1 i
  | 2 => hbmTy0_2 i
  | _ => ⟨S4096x1, .f32⟩

abbrev bufTy : (tb : Table) → Fin (tcTables nBuf tb) → BufTy
  | .hbm, ⟨i, _⟩ => hbmTy i
  | _, _ => ⟨S4096x1, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_v0 : Ref sig .tc := ⟨.hbm, 19, rfl⟩
abbrev main_v1 : Ref sig .tc := ⟨.hbm, 20, rfl⟩
abbrev main_v2 : Ref sig .tc := ⟨.hbm, 21, rfl⟩
abbrev main_v3 : Ref sig .tc := ⟨.hbm, 22, rfl⟩
abbrev main_v4 : Ref sig .tc := ⟨.hbm, 23, rfl⟩
abbrev main_cst : Ref sig .tc := ⟨.hbm, 24, rfl⟩
abbrev main_v5 : Ref sig .tc := ⟨.hbm, 25, rfl⟩
abbrev main_cst_0 : Ref sig .tc := ⟨.hbm, 26, rfl⟩
abbrev main_v6 : Ref sig .tc := ⟨.hbm, 27, rfl⟩
abbrev main_c : Ref sig .tc := ⟨.hbm, 28, rfl⟩
abbrev main_v7_0 : Ref sig .tc := ⟨.hbm, 29, rfl⟩
abbrev main_v7_1 : Ref sig .tc := ⟨.hbm, 30, rfl⟩
abbrev main_v7_2 : Ref sig .tc := ⟨.hbm, 31, rfl⟩
abbrev main_v7_3 : Ref sig .tc := ⟨.hbm, 32, rfl⟩
abbrev main_v7_4 : Ref sig .tc := ⟨.hbm, 33, rfl⟩
abbrev main_v7_5 : Ref sig .tc := ⟨.hbm, 34, rfl⟩
abbrev main_while0c_c_15 : Ref sig .tc := ⟨.hbm, 35, rfl⟩
abbrev main_while0c_v39 : Ref sig .tc := ⟨.hbm, 36, rfl⟩
abbrev main_while0b_call0_c : Ref sig .tc := ⟨.hbm, 37, rfl⟩
abbrev main_while0b_call0_v0 : Ref sig .tc := ⟨.hbm, 38, rfl⟩
abbrev main_while0b_v39 : Ref sig .tc := ⟨.hbm, 39, rfl⟩
abbrev main_while0b_v40 : Ref sig .tc := ⟨.hbm, 40, rfl⟩
abbrev main_while0b_v41 : Ref sig .tc := ⟨.hbm, 41, rfl⟩
abbrev main_while0b_v42 : Ref sig .tc := ⟨.hbm, 42, rfl⟩
abbrev main_while0b_v43 : Ref sig .tc := ⟨.hbm, 43, rfl⟩
abbrev main_while0b_v44 : Ref sig .tc := ⟨.hbm, 44, rfl⟩
abbrev main_while0b_v45 : Ref sig .tc := ⟨.hbm, 45, rfl⟩
abbrev main_while0b_v46 : Ref sig .tc := ⟨.hbm, 46, rfl⟩
abbrev main_while0b_v47 : Ref sig .tc := ⟨.hbm, 47, rfl⟩
abbrev main_while0b_v48 : Ref sig .tc := ⟨.hbm, 48, rfl⟩
abbrev main_while0b_v49 : Ref sig .tc := ⟨.hbm, 49, rfl⟩
abbrev main_while0b_v50 : Ref sig .tc := ⟨.hbm, 50, rfl⟩
abbrev main_while0b_v51 : Ref sig .tc := ⟨.hbm, 51, rfl⟩
abbrev main_while0b_cst_15 : Ref sig .tc := ⟨.hbm, 52, rfl⟩
abbrev main_while0b_v52 : Ref sig .tc := ⟨.hbm, 53, rfl⟩
abbrev main_while0b_v53 : Ref sig .tc := ⟨.hbm, 54, rfl⟩
abbrev main_while0b_cst_16 : Ref sig .tc := ⟨.hbm, 55, rfl⟩
abbrev main_while0b_v54 : Ref sig .tc := ⟨.hbm, 56, rfl⟩
abbrev main_while0b_v55 : Ref sig .tc := ⟨.hbm, 57, rfl⟩
abbrev main_while0b_v56 : Ref sig .tc := ⟨.hbm, 58, rfl⟩
abbrev main_while0b_v57 : Ref sig .tc := ⟨.hbm, 59, rfl⟩
abbrev main_while0b_v58 : Ref sig .tc := ⟨.hbm, 60, rfl⟩
abbrev main_while0b_cst_17 : Ref sig .tc := ⟨.hbm, 61, rfl⟩
abbrev main_while0b_v59 : Ref sig .tc := ⟨.hbm, 62, rfl⟩
abbrev main_while0b_v60 : Ref sig .tc := ⟨.hbm, 63, rfl⟩
abbrev main_while0b_cst_18 : Ref sig .tc := ⟨.hbm, 64, rfl⟩
abbrev main_while0b_v61 : Ref sig .tc := ⟨.hbm, 65, rfl⟩
abbrev main_while0b_v62 : Ref sig .tc := ⟨.hbm, 66, rfl⟩
abbrev main_while0b_v63 : Ref sig .tc := ⟨.hbm, 67, rfl⟩
abbrev main_while0b_v64 : Ref sig .tc := ⟨.hbm, 68, rfl⟩
abbrev main_while0b_v65 : Ref sig .tc := ⟨.hbm, 69, rfl⟩
abbrev main_while0b_cst_19 : Ref sig .tc := ⟨.hbm, 70, rfl⟩
abbrev main_while0b_v66 : Ref sig .tc := ⟨.hbm, 71, rfl⟩
abbrev main_while0b_v67 : Ref sig .tc := ⟨.hbm, 72, rfl⟩
abbrev main_while0b_v68 : Ref sig .tc := ⟨.hbm, 73, rfl⟩
abbrev main_while0b_v69 : Ref sig .tc := ⟨.hbm, 74, rfl⟩
abbrev main_while0b_v70 : Ref sig .tc := ⟨.hbm, 75, rfl⟩
abbrev main_while0b_call1_v0 : Ref sig .tc := ⟨.hbm, 76, rfl⟩
abbrev main_while0b_call1_c : Ref sig .tc := ⟨.hbm, 77, rfl⟩
abbrev main_while0b_v71 : Ref sig .tc := ⟨.hbm, 78, rfl⟩
abbrev main_while0b_c_20 : Ref sig .tc := ⟨.hbm, 79, rfl⟩
abbrev main_while0b_v72 : Ref sig .tc := ⟨.hbm, 80, rfl⟩
abbrev main_v8 : Ref sig .tc := ⟨.hbm, 81, rfl⟩
abbrev main_v9 : Ref sig .tc := ⟨.hbm, 82, rfl⟩
abbrev main_v10 : Ref sig .tc := ⟨.hbm, 83, rfl⟩
abbrev main_v11 : Ref sig .tc := ⟨.hbm, 84, rfl⟩
abbrev main_v12 : Ref sig .tc := ⟨.hbm, 85, rfl⟩
abbrev main_cst_1 : Ref sig .tc := ⟨.hbm, 86, rfl⟩
abbrev main_v13 : Ref sig .tc := ⟨.hbm, 87, rfl⟩
abbrev main_cst_2 : Ref sig .tc := ⟨.hbm, 88, rfl⟩
abbrev main_v14 : Ref sig .tc := ⟨.hbm, 89, rfl⟩
abbrev main_c_3 : Ref sig .tc := ⟨.hbm, 90, rfl⟩
abbrev main_v15_0 : Ref sig .tc := ⟨.hbm, 91, rfl⟩
abbrev main_v15_1 : Ref sig .tc := ⟨.hbm, 92, rfl⟩
abbrev main_v15_2 : Ref sig .tc := ⟨.hbm, 93, rfl⟩
abbrev main_v15_3 : Ref sig .tc := ⟨.hbm, 94, rfl⟩
abbrev main_v15_4 : Ref sig .tc := ⟨.hbm, 95, rfl⟩
abbrev main_v15_5 : Ref sig .tc := ⟨.hbm, 96, rfl⟩
abbrev main_while1c_c_15 : Ref sig .tc := ⟨.hbm, 97, rfl⟩
abbrev main_while1c_v39 : Ref sig .tc := ⟨.hbm, 98, rfl⟩
abbrev main_while1b_call2_c : Ref sig .tc := ⟨.hbm, 99, rfl⟩
abbrev main_while1b_call2_v0 : Ref sig .tc := ⟨.hbm, 100, rfl⟩
abbrev main_while1b_v39 : Ref sig .tc := ⟨.hbm, 101, rfl⟩
abbrev main_while1b_v40 : Ref sig .tc := ⟨.hbm, 102, rfl⟩
abbrev main_while1b_v41 : Ref sig .tc := ⟨.hbm, 103, rfl⟩
abbrev main_while1b_v42 : Ref sig .tc := ⟨.hbm, 104, rfl⟩
abbrev main_while1b_v43 : Ref sig .tc := ⟨.hbm, 105, rfl⟩
abbrev main_while1b_v44 : Ref sig .tc := ⟨.hbm, 106, rfl⟩
abbrev main_while1b_v45 : Ref sig .tc := ⟨.hbm, 107, rfl⟩
abbrev main_while1b_v46 : Ref sig .tc := ⟨.hbm, 108, rfl⟩
abbrev main_while1b_v47 : Ref sig .tc := ⟨.hbm, 109, rfl⟩
abbrev main_while1b_v48 : Ref sig .tc := ⟨.hbm, 110, rfl⟩
abbrev main_while1b_v49 : Ref sig .tc := ⟨.hbm, 111, rfl⟩
abbrev main_while1b_v50 : Ref sig .tc := ⟨.hbm, 112, rfl⟩
abbrev main_while1b_v51 : Ref sig .tc := ⟨.hbm, 113, rfl⟩
abbrev main_while1b_cst_15 : Ref sig .tc := ⟨.hbm, 114, rfl⟩
abbrev main_while1b_v52 : Ref sig .tc := ⟨.hbm, 115, rfl⟩
abbrev main_while1b_v53 : Ref sig .tc := ⟨.hbm, 116, rfl⟩
abbrev main_while1b_cst_16 : Ref sig .tc := ⟨.hbm, 117, rfl⟩
abbrev main_while1b_v54 : Ref sig .tc := ⟨.hbm, 118, rfl⟩
abbrev main_while1b_v55 : Ref sig .tc := ⟨.hbm, 119, rfl⟩
abbrev main_while1b_v56 : Ref sig .tc := ⟨.hbm, 120, rfl⟩
abbrev main_while1b_v57 : Ref sig .tc := ⟨.hbm, 121, rfl⟩
abbrev main_while1b_v58 : Ref sig .tc := ⟨.hbm, 122, rfl⟩
abbrev main_while1b_cst_17 : Ref sig .tc := ⟨.hbm, 123, rfl⟩
abbrev main_while1b_v59 : Ref sig .tc := ⟨.hbm, 124, rfl⟩
abbrev main_while1b_v60 : Ref sig .tc := ⟨.hbm, 125, rfl⟩
abbrev main_while1b_cst_18 : Ref sig .tc := ⟨.hbm, 126, rfl⟩
abbrev main_while1b_v61 : Ref sig .tc := ⟨.hbm, 127, rfl⟩
abbrev main_while1b_v62 : Ref sig .tc := ⟨.hbm, 128, rfl⟩
abbrev main_while1b_v63 : Ref sig .tc := ⟨.hbm, 129, rfl⟩
abbrev main_while1b_v64 : Ref sig .tc := ⟨.hbm, 130, rfl⟩
abbrev main_while1b_v65 : Ref sig .tc := ⟨.hbm, 131, rfl⟩
abbrev main_while1b_cst_19 : Ref sig .tc := ⟨.hbm, 132, rfl⟩
abbrev main_while1b_v66 : Ref sig .tc := ⟨.hbm, 133, rfl⟩
abbrev main_while1b_v67 : Ref sig .tc := ⟨.hbm, 134, rfl⟩
abbrev main_while1b_v68 : Ref sig .tc := ⟨.hbm, 135, rfl⟩
abbrev main_while1b_v69 : Ref sig .tc := ⟨.hbm, 136, rfl⟩
abbrev main_while1b_v70 : Ref sig .tc := ⟨.hbm, 137, rfl⟩
abbrev main_while1b_call3_v0 : Ref sig .tc := ⟨.hbm, 138, rfl⟩
abbrev main_while1b_call3_c : Ref sig .tc := ⟨.hbm, 139, rfl⟩
abbrev main_while1b_v71 : Ref sig .tc := ⟨.hbm, 140, rfl⟩
abbrev main_while1b_c_20 : Ref sig .tc := ⟨.hbm, 141, rfl⟩
abbrev main_while1b_v72 : Ref sig .tc := ⟨.hbm, 142, rfl⟩
abbrev main_v16 : Ref sig .tc := ⟨.hbm, 143, rfl⟩
abbrev main_v17 : Ref sig .tc := ⟨.hbm, 144, rfl⟩
abbrev main_v18 : Ref sig .tc := ⟨.hbm, 145, rfl⟩
abbrev main_v19 : Ref sig .tc := ⟨.hbm, 146, rfl⟩
abbrev main_v20 : Ref sig .tc := ⟨.hbm, 147, rfl⟩
abbrev main_v21 : Ref sig .tc := ⟨.hbm, 148, rfl⟩
abbrev main_v22 : Ref sig .tc := ⟨.hbm, 149, rfl⟩
abbrev main_cst_4 : Ref sig .tc := ⟨.hbm, 150, rfl⟩
abbrev main_v23 : Ref sig .tc := ⟨.hbm, 151, rfl⟩
abbrev main_cst_5 : Ref sig .tc := ⟨.hbm, 152, rfl⟩
abbrev main_v24 : Ref sig .tc := ⟨.hbm, 153, rfl⟩
abbrev main_c_6 : Ref sig .tc := ⟨.hbm, 154, rfl⟩
abbrev main_v25_0 : Ref sig .tc := ⟨.hbm, 155, rfl⟩
abbrev main_v25_1 : Ref sig .tc := ⟨.hbm, 156, rfl⟩
abbrev main_v25_2 : Ref sig .tc := ⟨.hbm, 157, rfl⟩
abbrev main_v25_3 : Ref sig .tc := ⟨.hbm, 158, rfl⟩
abbrev main_v25_4 : Ref sig .tc := ⟨.hbm, 159, rfl⟩
abbrev main_v25_5 : Ref sig .tc := ⟨.hbm, 160, rfl⟩
abbrev main_while2c_c_15 : Ref sig .tc := ⟨.hbm, 161, rfl⟩
abbrev main_while2c_v39 : Ref sig .tc := ⟨.hbm, 162, rfl⟩
abbrev main_while2b_call4_c : Ref sig .tc := ⟨.hbm, 163, rfl⟩
abbrev main_while2b_call4_v0 : Ref sig .tc := ⟨.hbm, 164, rfl⟩
abbrev main_while2b_v39 : Ref sig .tc := ⟨.hbm, 165, rfl⟩
abbrev main_while2b_v40 : Ref sig .tc := ⟨.hbm, 166, rfl⟩
abbrev main_while2b_v41 : Ref sig .tc := ⟨.hbm, 167, rfl⟩
abbrev main_while2b_v42 : Ref sig .tc := ⟨.hbm, 168, rfl⟩
abbrev main_while2b_v43 : Ref sig .tc := ⟨.hbm, 169, rfl⟩
abbrev main_while2b_v44 : Ref sig .tc := ⟨.hbm, 170, rfl⟩
abbrev main_while2b_v45 : Ref sig .tc := ⟨.hbm, 171, rfl⟩
abbrev main_while2b_v46 : Ref sig .tc := ⟨.hbm, 172, rfl⟩
abbrev main_while2b_v47 : Ref sig .tc := ⟨.hbm, 173, rfl⟩
abbrev main_while2b_v48 : Ref sig .tc := ⟨.hbm, 174, rfl⟩
abbrev main_while2b_v49 : Ref sig .tc := ⟨.hbm, 175, rfl⟩
abbrev main_while2b_v50 : Ref sig .tc := ⟨.hbm, 176, rfl⟩
abbrev main_while2b_v51 : Ref sig .tc := ⟨.hbm, 177, rfl⟩
abbrev main_while2b_cst_15 : Ref sig .tc := ⟨.hbm, 178, rfl⟩
abbrev main_while2b_v52 : Ref sig .tc := ⟨.hbm, 179, rfl⟩
abbrev main_while2b_v53 : Ref sig .tc := ⟨.hbm, 180, rfl⟩
abbrev main_while2b_cst_16 : Ref sig .tc := ⟨.hbm, 181, rfl⟩
abbrev main_while2b_v54 : Ref sig .tc := ⟨.hbm, 182, rfl⟩
abbrev main_while2b_v55 : Ref sig .tc := ⟨.hbm, 183, rfl⟩
abbrev main_while2b_v56 : Ref sig .tc := ⟨.hbm, 184, rfl⟩
abbrev main_while2b_v57 : Ref sig .tc := ⟨.hbm, 185, rfl⟩
abbrev main_while2b_v58 : Ref sig .tc := ⟨.hbm, 186, rfl⟩
abbrev main_while2b_cst_17 : Ref sig .tc := ⟨.hbm, 187, rfl⟩
abbrev main_while2b_v59 : Ref sig .tc := ⟨.hbm, 188, rfl⟩
abbrev main_while2b_v60 : Ref sig .tc := ⟨.hbm, 189, rfl⟩
abbrev main_while2b_cst_18 : Ref sig .tc := ⟨.hbm, 190, rfl⟩
abbrev main_while2b_v61 : Ref sig .tc := ⟨.hbm, 191, rfl⟩
abbrev main_while2b_v62 : Ref sig .tc := ⟨.hbm, 192, rfl⟩
abbrev main_while2b_v63 : Ref sig .tc := ⟨.hbm, 193, rfl⟩
abbrev main_while2b_v64 : Ref sig .tc := ⟨.hbm, 194, rfl⟩
abbrev main_while2b_v65 : Ref sig .tc := ⟨.hbm, 195, rfl⟩
abbrev main_while2b_cst_19 : Ref sig .tc := ⟨.hbm, 196, rfl⟩
abbrev main_while2b_v66 : Ref sig .tc := ⟨.hbm, 197, rfl⟩
abbrev main_while2b_v67 : Ref sig .tc := ⟨.hbm, 198, rfl⟩
abbrev main_while2b_v68 : Ref sig .tc := ⟨.hbm, 199, rfl⟩
abbrev main_while2b_v69 : Ref sig .tc := ⟨.hbm, 200, rfl⟩
abbrev main_while2b_v70 : Ref sig .tc := ⟨.hbm, 201, rfl⟩
abbrev main_while2b_call5_v0 : Ref sig .tc := ⟨.hbm, 202, rfl⟩
abbrev main_while2b_call5_c : Ref sig .tc := ⟨.hbm, 203, rfl⟩
abbrev main_while2b_v71 : Ref sig .tc := ⟨.hbm, 204, rfl⟩
abbrev main_while2b_c_20 : Ref sig .tc := ⟨.hbm, 205, rfl⟩
abbrev main_while2b_v72 : Ref sig .tc := ⟨.hbm, 206, rfl⟩
abbrev main_v26 : Ref sig .tc := ⟨.hbm, 207, rfl⟩
abbrev main_v27 : Ref sig .tc := ⟨.hbm, 208, rfl⟩
abbrev main_v28 : Ref sig .tc := ⟨.hbm, 209, rfl⟩
abbrev main_v29 : Ref sig .tc := ⟨.hbm, 210, rfl⟩
abbrev main_v30 : Ref sig .tc := ⟨.hbm, 211, rfl⟩
abbrev main_cst_7 : Ref sig .tc := ⟨.hbm, 212, rfl⟩
abbrev main_v31 : Ref sig .tc := ⟨.hbm, 213, rfl⟩
abbrev main_cst_8 : Ref sig .tc := ⟨.hbm, 214, rfl⟩
abbrev main_v32 : Ref sig .tc := ⟨.hbm, 215, rfl⟩
abbrev main_c_9 : Ref sig .tc := ⟨.hbm, 216, rfl⟩
abbrev main_v33_0 : Ref sig .tc := ⟨.hbm, 217, rfl⟩
abbrev main_v33_1 : Ref sig .tc := ⟨.hbm, 218, rfl⟩
abbrev main_v33_2 : Ref sig .tc := ⟨.hbm, 219, rfl⟩
abbrev main_v33_3 : Ref sig .tc := ⟨.hbm, 220, rfl⟩
abbrev main_v33_4 : Ref sig .tc := ⟨.hbm, 221, rfl⟩
abbrev main_v33_5 : Ref sig .tc := ⟨.hbm, 222, rfl⟩
abbrev main_while3c_c_15 : Ref sig .tc := ⟨.hbm, 223, rfl⟩
abbrev main_while3c_v39 : Ref sig .tc := ⟨.hbm, 224, rfl⟩
abbrev main_while3b_call6_c : Ref sig .tc := ⟨.hbm, 225, rfl⟩
abbrev main_while3b_call6_v0 : Ref sig .tc := ⟨.hbm, 226, rfl⟩
abbrev main_while3b_v39 : Ref sig .tc := ⟨.hbm, 227, rfl⟩
abbrev main_while3b_v40 : Ref sig .tc := ⟨.hbm, 228, rfl⟩
abbrev main_while3b_v41 : Ref sig .tc := ⟨.hbm, 229, rfl⟩
abbrev main_while3b_v42 : Ref sig .tc := ⟨.hbm, 230, rfl⟩
abbrev main_while3b_v43 : Ref sig .tc := ⟨.hbm, 231, rfl⟩
abbrev main_while3b_v44 : Ref sig .tc := ⟨.hbm, 232, rfl⟩
abbrev main_while3b_v45 : Ref sig .tc := ⟨.hbm, 233, rfl⟩
abbrev main_while3b_v46 : Ref sig .tc := ⟨.hbm, 234, rfl⟩
abbrev main_while3b_v47 : Ref sig .tc := ⟨.hbm, 235, rfl⟩
abbrev main_while3b_v48 : Ref sig .tc := ⟨.hbm, 236, rfl⟩
abbrev main_while3b_v49 : Ref sig .tc := ⟨.hbm, 237, rfl⟩
abbrev main_while3b_v50 : Ref sig .tc := ⟨.hbm, 238, rfl⟩
abbrev main_while3b_v51 : Ref sig .tc := ⟨.hbm, 239, rfl⟩
abbrev main_while3b_cst_15 : Ref sig .tc := ⟨.hbm, 240, rfl⟩
abbrev main_while3b_v52 : Ref sig .tc := ⟨.hbm, 241, rfl⟩
abbrev main_while3b_v53 : Ref sig .tc := ⟨.hbm, 242, rfl⟩
abbrev main_while3b_cst_16 : Ref sig .tc := ⟨.hbm, 243, rfl⟩
abbrev main_while3b_v54 : Ref sig .tc := ⟨.hbm, 244, rfl⟩
abbrev main_while3b_v55 : Ref sig .tc := ⟨.hbm, 245, rfl⟩
abbrev main_while3b_v56 : Ref sig .tc := ⟨.hbm, 246, rfl⟩
abbrev main_while3b_v57 : Ref sig .tc := ⟨.hbm, 247, rfl⟩
abbrev main_while3b_v58 : Ref sig .tc := ⟨.hbm, 248, rfl⟩
abbrev main_while3b_cst_17 : Ref sig .tc := ⟨.hbm, 249, rfl⟩
abbrev main_while3b_v59 : Ref sig .tc := ⟨.hbm, 250, rfl⟩
abbrev main_while3b_v60 : Ref sig .tc := ⟨.hbm, 251, rfl⟩
abbrev main_while3b_cst_18 : Ref sig .tc := ⟨.hbm, 252, rfl⟩
abbrev main_while3b_v61 : Ref sig .tc := ⟨.hbm, 253, rfl⟩
abbrev main_while3b_v62 : Ref sig .tc := ⟨.hbm, 254, rfl⟩
abbrev main_while3b_v63 : Ref sig .tc := ⟨.hbm, 255, rfl⟩
abbrev main_while3b_v64 : Ref sig .tc := ⟨.hbm, 256, rfl⟩
abbrev main_while3b_v65 : Ref sig .tc := ⟨.hbm, 257, rfl⟩
abbrev main_while3b_cst_19 : Ref sig .tc := ⟨.hbm, 258, rfl⟩
abbrev main_while3b_v66 : Ref sig .tc := ⟨.hbm, 259, rfl⟩
abbrev main_while3b_v67 : Ref sig .tc := ⟨.hbm, 260, rfl⟩
abbrev main_while3b_v68 : Ref sig .tc := ⟨.hbm, 261, rfl⟩
abbrev main_while3b_v69 : Ref sig .tc := ⟨.hbm, 262, rfl⟩
abbrev main_while3b_v70 : Ref sig .tc := ⟨.hbm, 263, rfl⟩
abbrev main_while3b_call7_v0 : Ref sig .tc := ⟨.hbm, 264, rfl⟩
abbrev main_while3b_call7_c : Ref sig .tc := ⟨.hbm, 265, rfl⟩
abbrev main_while3b_v71 : Ref sig .tc := ⟨.hbm, 266, rfl⟩
abbrev main_while3b_c_20 : Ref sig .tc := ⟨.hbm, 267, rfl⟩
abbrev main_while3b_v72 : Ref sig .tc := ⟨.hbm, 268, rfl⟩
abbrev main_v34 : Ref sig .tc := ⟨.hbm, 269, rfl⟩
abbrev main_v35 : Ref sig .tc := ⟨.hbm, 270, rfl⟩
abbrev main_v36 : Ref sig .tc := ⟨.hbm, 271, rfl⟩
abbrev main_v37 : Ref sig .tc := ⟨.hbm, 272, rfl⟩
abbrev main_v38 : Ref sig .tc := ⟨.hbm, 273, rfl⟩

abbrev nD : Nat := 1
abbrev τ : Topo := Topo.v7x

variable {F : FTy → Type} [FloatOps F]

abbrev main_while0_count : Scf.Loop 32 := ⟨0#32, 4096#32, 1#32⟩

abbrev main_while1_count : Scf.Loop 32 := ⟨0#32, 4096#32, 1#32⟩

abbrev main_while2_count : Scf.Loop 32 := ⟨0#32, 4096#32, 1#32⟩

abbrev main_while3_count : Scf.Loop 32 := ⟨0#32, 4096#32, 1#32⟩
-- ==== Proof.Common.lean ====
/- What the four bodies' proofs share: an HBM operand held whole, and reading back a buffer that one store or one
   transfer has overwritten whole.  -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.WritesUnit
public import Idealize.ShloMosaic.Lib.VecWindow
public import Idealize.ShloMosaic.Lib.Pipeline.ValueKit.Basic
public import Idealize.ShloMosaic.Lib.Tactic
public import Idealize.ShloMosaic.Lib.WordCmp
public import Idealize.ShloMosaic.Lib.ValueIdxCore
public import Idealize.ShloMosaic.Lib.Pipeline.Value

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The contents an HBM operand of a body has on core `c`. -/
abbrev HbBuf (c : Dev nD) {sp : Space} {S : Shape} {e : EltTy} (M : Memref sig .tc sp S e) : Type := Buf (Elt F) (M.view.loc (c : Thread nD τ))
/-- One HBM operand of a body, held whole at contents `f`. -/
abbrev hbPt (c : Dev nD) {sp : Space} {S : Shape} {e : EltTy} (M : Memref sig .tc sp S e) (f : HbBuf (F := F) c M) : sProp 𝕄 :=
  M.view.loc (c : Thread nD τ) ↦{fullShare} f

section
variable {Val : EltTy → Type} {κ : Kind} {sp : Space} {S : Shape} {e : EltTy}

/-- A transfer over the whole buffer leaves what it carried. -/
theorem read_writes_whole {sg : RefSig} (v : View sg κ sp S e) (f : v.ty.Contents Val) (w : S.Idx → Val e) :
    v.read Val (v.writes Val f [(⟨Rect.whole S, w⟩ : View.Piece Val S e)]) = w :=
  View.read_writes_full v f (off := fun _ => 0) (fun a => by simp) w []

/-- A load of the whole buffer after such a transfer is what it carried. -/
theorem readCov_whole [∀ e, Nonempty (Val e)] {sg : RefSig} (v : View sg κ sp S e) {off : Fin S.rank → ℕ} (inb : ∀ a, off a + S.size a ≤ S.size a)
    (w : S.Idx → Val e) :
    v.readCov [(⟨Rect.whole S, w⟩ : View.Piece Val S e)] (Rect.unit off (no_index S.size) inb).toLoadRect = w := by
  have h : ∀ a, off a = 0 := fun a => by have := inb a; omega
  exact (congrArg (fun X => View.ld X (Rect.unit off S.size inb)) (read_writes_whole v v.junk w)).trans (View.ld_unit_lit inb w h)

/-- A store of the whole buffer leaves its payload. -/
theorem read_store {sg : RefSig} (v : View sg κ sp S e) (f : v.ty.Contents Val) {off : Fin S.rank → ℕ} (inb : ∀ a, off a + S.size a ≤ S.size a)
    (w : S.Idx → Val e) (L : List (View.Piece Val S e)) :
    v.read Val (v.writes Val f ((⟨Rect.unit off (no_index S.size) inb, w⟩ : View.Piece Val S e) :: L)) = w :=
  View.read_writes_full v f inb w L

/-- A load through the whole rectangle is the vector itself. -/
theorem ld_full {off : Fin S.rank → ℕ} (inb : ∀ a, off a + S.size a ≤ S.size a) (X : S.Idx → Val e) :
    View.ld X (Rect.unit off (no_index S.size) inb) = X :=
  View.ld_unit_lit inb X fun a => by have := inb a; omega
end

/-- The array `G` with its first `k` rows replaced: row `r` by `row r`. -/
def fillRows {n D : ℕ} {A : Type} (row : ℕ → Fin D → A) (G : (⟨2, ![n, D]⟩ : Shape).Idx → A) (k : ℕ) : (⟨2, ![n, D]⟩ : Shape).Idx → A :=
  fun y => if (y 0).val < k then row (y 0).val (y 1) else G y

/-- All rows replaced, nothing of `G` is left. -/
theorem fillRows_all {n D : ℕ} {A : Type} (row : ℕ → Fin D → A) (G : (⟨2, ![n, D]⟩ : Shape).Idx → A) {k : ℕ} (hk : n ≤ k) :
    fillRows row G k = fun y => row (y 0).val (y 1) :=
  funext fun y => if_pos (Nat.lt_of_lt_of_le (y 0).isLt hk)

theorem fillRows_zero {n D : ℕ} {A : Type} (row : ℕ → Fin D → A) (G : (⟨2, ![n, D]⟩ : Shape).Idx → A) : fillRows row G 0 = G :=
  funext fun y => if_neg (Nat.not_lt_zero _)

section
variable {Val : EltTy → Type} {κ : Kind} {sp : Space} {e : EltTy} {sg : RefSig} {n D : ℕ}

/-- A store of row `k` extends the replaced rows by one. -/
theorem read_row_store (v : View sg κ sp (⟨2, ![n, D]⟩ : Shape) e) (f : v.ty.Contents Val) {off : Fin 2 → ℕ}
    (inb : ∀ a : Fin 2, off a + (⟨2, ![1, D]⟩ : Shape).size a ≤ (⟨2, ![n, D]⟩ : Shape).size a)
    (w : (⟨2, ![1, D]⟩ : Shape).Idx → Val e) (row : ℕ → Fin D → Val e) (G : (⟨2, ![n, D]⟩ : Shape).Idx → Val e) (k : ℕ)
    (hoff : off = ![k, 0]) (hf : v.read Val f = fillRows row G k) (hw : ∀ j, w (ValueIdx.ix2 0 j) = row k j) :
    v.read Val (v.writes Val f [(⟨Rect.unit (s := ⟨2, ![n, D]⟩) off (⟨2, ![1, D]⟩ : Shape).size inb, w⟩ : View.Piece Val ⟨2, ![n, D]⟩ e)])
      = fillRows row G (k + 1) := by
  funext y
  rw [View.read_writes_cons_rows v f inb w [] y hoff (W := 1) rfl rfl]
  unfold fillRows
  by_cases h : k ≤ (y 0).val ∧ (y 0).val < k + 1
  · have e0 : (y 0).val = k := by omega
    rw [dif_pos h, if_pos h.2, e0]
    refine Eq.trans (congrArg w (funext fun a => Fin.ext ?_)) (hw (y 1))
    match a with
    | ⟨0, _⟩ => rw [Rect.unitLocal_val]; show (y 0).val - k = 0; omega
    | ⟨1, _⟩ => rw [Rect.unitLocal_val]; show (y 1).val - 0 = (y 1).val; omega
  · rw [dif_neg h, View.writes_nil, hf]
    unfold fillRows
    by_cases h' : (y 0).val < k
    · rw [if_pos h', if_pos (by omega)]
    · rw [if_neg h', if_neg (by omega)]
end

end Cert.KernelIdeal.Gru

end
-- ==== Proof.LoopE1.lean ====
/- The counted loop of the first call (`gru_e1`): 512 steps of the recurrence, each with its own element of the input
   block. Besides the state buffer, each step overwrites one row of the output block with the new state. -/
module

public import proofs.«01_k».proof.Proof.Common

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem tripsE1 : k0_t1_loop.trips = 512 := by decide

/-- The row of the block that step `k` reads. -/
def rowE1 (xs : Vec F S512x1 .f32) (k : Fin k0_t1_loop.trips) : Vec F S1x1 .f32 :=
  View.ld xs (Rect.unit (s := S512x1) (k0_off1 k) S1x1.size (k0_off1_inb k))

/-- The state after `k` steps, from `h`. -/
def itE1 (wih : Vec F S1x6144 .f32) (bih : Vec F S1x6144 .f32) (bhh : Vec F S1x6144 .f32) (whh : Vec F S2048x6144 .bf16) (xs : Vec F S512x1 .f32) (h : Vec F S1x2048 .f32) :
    ℕ → Vec F S1x2048 .f32
  | 0 => h
  | k + 1 => if hk : k < k0_t1_loop.trips then k0_pay2 (rowE1 xs ⟨k, hk⟩) wih bih (itE1 wih bih bhh whh xs h k) whh bhh (itE1 wih bih bhh whh xs h k) else itE1 wih bih bhh whh xs h k

theorem itE1_succ (wih : Vec F S1x6144 .f32) (bih : Vec F S1x6144 .f32) (bhh : Vec F S1x6144 .f32) (whh : Vec F S2048x6144 .bf16) (xs : Vec F S512x1 .f32) (h : Vec F S1x2048 .f32) (k : Fin k0_t1_loop.trips) :
    itE1 wih bih bhh whh xs h (k.val + 1) = k0_pay2 (rowE1 xs k) wih bih (itE1 wih bih bhh whh xs h k.val) whh bhh (itE1 wih bih bhh whh xs h k.val) := by
  rw [itE1]; exact dif_pos k.isLt

section
variable (arg1 : Memref sig .tc .vmem S512x1 .f32)
  (arg2 : Memref sig .tc .vmem S1x6144 .f32)
  (arg3 : Memref sig .tc .vmem S1x6144 .f32)
  (arg4 : Memref sig .tc .vmem S1x6144 .f32)
  (arg7 : Memref sig .tc .vmem S2048x6144 .bf16)
  (arg6 : Memref sig .tc .vmem S512x2048 .f32)
  (arg8 : Memref sig .tc .vmem S1x2048 .f32)
  (X1 : BufTy.Contents (Elt F) arg1.view.ty) (X2 : BufTy.Contents (Elt F) arg2.view.ty) (X3 : BufTy.Contents (Elt F) arg3.view.ty) (X4 : BufTy.Contents (Elt F) arg4.view.ty) (X7 : BufTy.Contents (Elt F) arg7.view.ty)
  (G6 : BufTy.Contents (Elt F) arg6.view.ty) (G8 : BufTy.Contents (Elt F) arg8.view.ty)

/-- The value step `k` computes from state buffer contents `f`. -/
abbrev valE1 (f : BufTy.Contents (Elt F) arg8.view.ty) (k : Fin k0_t1_loop.trips) : Vec F S1x2048 .f32 :=
  k0_pay2 (arg1.view.readAt (Elt F) (Rect.unit (s := S512x1) (k0_off1 k) S1x1.size (k0_off1_inb k)).toLoadRect X1) (arg2.view.readAt (Elt F) (Rect.unit (s := S1x6144) ![0, 0] S1x6144.size inb_S1x6144_S1x6144_0_0).toLoadRect X2) (arg3.view.readAt (Elt F) (Rect.unit (s := S1x6144) ![0, 0] S1x6144.size inb_S1x6144_S1x6144_0_0).toLoadRect X3) (arg8.view.readAt (Elt F) (Rect.unit (s := S1x2048) ![0, 0] S1x2048.size inb_S1x2048_S1x2048_0_0).toLoadRect f) (arg7.view.readAt (Elt F) (Rect.unit (s := S2048x6144) ![0, 0] S2048x6144.size inb_S2048x6144_S2048x6144_0_0).toLoadRect X7) (arg4.view.readAt (Elt F) (Rect.unit (s := S1x6144) ![0, 0] S1x6144.size inb_S1x6144_S1x6144_0_0).toLoadRect X4) (arg8.view.readAt (Elt F) (Rect.unit (s := S1x2048) ![0, 0] S1x2048.size inb_S1x2048_S1x2048_0_0).toLoadRect f)
/-- The state buffer's contents before step `k`. -/
def bufE1 : ℕ → BufTy.Contents (Elt F) arg8.view.ty
  | 0 => G8
  | k + 1 => if hk : k < k0_t1_loop.trips then
      arg8.view.writes (Elt F) (bufE1 k) [⟨Rect.unit (s := S1x2048) ![0, 0] S1x2048.size inb_S1x2048_S1x2048_0_0, k0_pay3 (arg1.view.readAt (Elt F) (Rect.unit (s := S512x1) (k0_off1 ⟨k, hk⟩) S1x1.size (k0_off1_inb ⟨k, hk⟩)).toLoadRect X1) (arg2.view.readAt (Elt F) (Rect.unit (s := S1x6144) ![0, 0] S1x6144.size inb_S1x6144_S1x6144_0_0).toLoadRect X2) (arg3.view.readAt (Elt F) (Rect.unit (s := S1x6144) ![0, 0] S1x6144.size inb_S1x6144_S1x6144_0_0).toLoadRect X3) (arg8.view.readAt (Elt F) (Rect.unit (s := S1x2048) ![0, 0] S1x2048.size inb_S1x2048_S1x2048_0_0).toLoadRect (bufE1 k)) (arg7.view.readAt (Elt F) (Rect.unit (s := S2048x6144) ![0, 0] S2048x6144.size inb_S2048x6144_S2048x6144_0_0).toLoadRect X7) (arg4.view.readAt (Elt F) (Rect.unit (s := S1x6144) ![0, 0] S1x6144.size inb_S1x6144_S1x6144_0_0).toLoadRect X4) (arg8.view.readAt (Elt F) (Rect.unit (s := S1x2048) ![0, 0] S1x2048.size inb_S1x2048_S1x2048_0_0).toLoadRect (bufE1 k))⟩]
      else bufE1 k
/-- The row buffer's contents before step `k`. -/
def rowsE1 : ℕ → BufTy.Contents (Elt F) arg6.view.ty
  | 0 => G6
  | k + 1 => if hk : k < k0_t1_loop.trips then
      arg6.view.writes (Elt F) (rowsE1 k) [⟨Rect.unit (s := S512x2048) (k0_off2 ⟨k, hk⟩) S1x2048.size (k0_off2_inb ⟨k, hk⟩), k0_pay2 (arg1.view.readAt (Elt F) (Rect.unit (s := S512x1) (k0_off1 ⟨k, hk⟩) S1x1.size (k0_off1_inb ⟨k, hk⟩)).toLoadRect X1) (arg2.view.readAt (Elt F) (Rect.unit (s := S1x6144) ![0, 0] S1x6144.size inb_S1x6144_S1x6144_0_0).toLoadRect X2) (arg3.view.readAt (Elt F) (Rect.unit (s := S1x6144) ![0, 0] S1x6144.size inb_S1x6144_S1x6144_0_0).toLoadRect X3) (arg8.view.readAt (Elt F) (Rect.unit (s := S1x2048) ![0, 0] S1x2048.size inb_S1x2048_S1x2048_0_0).toLoadRect (bufE1 arg1 arg2 arg3 arg4 arg7 arg8 X1 X2 X3 X4 X7 G8 k)) (arg7.view.readAt (Elt F) (Rect.unit (s := S2048x6144) ![0, 0] S2048x6144.size inb_S2048x6144_S2048x6144_0_0).toLoadRect X7) (arg4.view.readAt (Elt F) (Rect.unit (s := S1x6144) ![0, 0] S1x6144.size inb_S1x6144_S1x6144_0_0).toLoadRect X4) (arg8.view.readAt (Elt F) (Rect.unit (s := S1x2048) ![0, 0] S1x2048.size inb_S1x2048_S1x2048_0_0).toLoadRect (bufE1 arg1 arg2 arg3 arg4 arg7 arg8 X1 X2 X3 X4 X7 G8 k))⟩]
      else rowsE1 k

theorem bufE1_succ (k : Fin k0_t1_loop.trips) : bufE1 arg1 arg2 arg3 arg4 arg7 arg8 X1 X2 X3 X4 X7 G8 (k.val + 1) =
    arg8.view.writes (Elt F) (bufE1 arg1 arg2 arg3 arg4 arg7 arg8 X1 X2 X3 X4 X7 G8 k.val) [⟨Rect.unit (s := S1x2048) ![0, 0] S1x2048.size inb_S1x2048_S1x2048_0_0, k0_pay3 (arg1.view.readAt (Elt F) (Rect.unit (s := S512x1) (k0_off1 k) S1x1.size (k0_off1_inb k)).toLoadRect X1) (arg2.view.readAt (Elt F) (Rect.unit (s := S1x6144) ![0, 0] S1x6144.size inb_S1x6144_S1x6144_0_0).toLoadRect X2) (arg3.view.readAt (Elt F) (Rect.unit (s := S1x6144) ![0, 0] S1x6144.size inb_S1x6144_S1x6144_0_0).toLoadRect X3) (arg8.view.readAt (Elt F) (Rect.unit (s := S1x2048) ![0, 0] S1x2048.size inb_S1x2048_S1x2048_0_0).toLoadRect (bufE1 arg1 arg2 arg3 arg4 arg7 arg8 X1 X2 X3 X4 X7 G8 k.val)) (arg7.view.readAt (Elt F) (Rect.unit (s := S2048x6144) ![0, 0] S2048x6144.size inb_S2048x6144_S2048x6144_0_0).toLoadRect X7) (arg4.view.readAt (Elt F) (Rect.unit (s := S1x6144) ![0, 0] S1x6144.size inb_S1x6144_S1x6144_0_0).toLoadRect X4) (arg8.view.readAt (Elt F) (Rect.unit (s := S1x2048) ![0, 0] S1x2048.size inb_S1x2048_S1x2048_0_0).toLoadRect (bufE1 arg1 arg2 arg3 arg4 arg7 arg8 X1 X2 X3 X4 X7 G8 k.val))⟩] := by
  rw [bufE1]; exact dif_pos k.isLt
theorem rowsE1_succ (k : Fin k0_t1_loop.trips) : rowsE1 arg1 arg2 arg3 arg4 arg7 arg6 arg8 X1 X2 X3 X4 X7 G6 G8 (k.val + 1) =
    arg6.view.writes (Elt F) (rowsE1 arg1 arg2 arg3 arg4 arg7 arg6 arg8 X1 X2 X3 X4 X7 G6 G8 k.val) [⟨Rect.unit (s := S512x2048) (k0_off2 k) S1x2048.size (k0_off2_inb k), k0_pay2 (arg1.view.readAt (Elt F) (Rect.unit (s := S512x1) (k0_off1 k) S1x1.size (k0_off1_inb k)).toLoadRect X1) (arg2.view.readAt (Elt F) (Rect.unit (s := S1x6144) ![0, 0] S1x6144.size inb_S1x6144_S1x6144_0_0).toLoadRect X2) (arg3.view.readAt (Elt F) (Rect.unit (s := S1x6144) ![0, 0] S1x6144.size inb_S1x6144_S1x6144_0_0).toLoadRect X3) (arg8.view.readAt (Elt F) (Rect.unit (s := S1x2048) ![0, 0] S1x2048.size inb_S1x2048_S1x2048_0_0).toLoadRect (bufE1 arg1 arg2 arg3 arg4 arg7 arg8 X1 X2 X3 X4 X7 G8 k.val)) (arg7.view.readAt (Elt F) (Rect.unit (s := S2048x6144) ![0, 0] S2048x6144.size inb_S2048x6144_S2048x6144_0_0).toLoadRect X7) (arg4.view.readAt (Elt F) (Rect.unit (s := S1x6144) ![0, 0] S1x6144.size inb_S1x6144_S1x6144_0_0).toLoadRect X4) (arg8.view.readAt (Elt F) (Rect.unit (s := S1x2048) ![0, 0] S1x2048.size inb_S1x2048_S1x2048_0_0).toLoadRect (bufE1 arg1 arg2 arg3 arg4 arg7 arg8 X1 X2 X3 X4 X7 G8 k.val))⟩] := by
  rw [rowsE1]; exact dif_pos k.isLt

/-- Read as a vector, the state buffer holds the iterate of the step, -/
theorem read_bufE1 (k : ℕ) : arg8.view.read (Elt F) (bufE1 arg1 arg2 arg3 arg4 arg7 arg8 X1 X2 X3 X4 X7 G8 k) = itE1 (arg2.view.read (Elt F) X2) (arg3.view.read (Elt F) X3) (arg4.view.read (Elt F) X4) (arg7.view.read (Elt F) X7) (arg1.view.read (Elt F) X1) (arg8.view.read (Elt F) G8) k := by
  induction k with
  | zero => rfl
  | succ k ih =>
    rw [bufE1, itE1]
    split
    · rw [View.read_writes_full]
      simp only [View.readAt_eq_ld, ih, ld_full, k0_pay3]
      exact shapeCast_self _ _
    · exact ih
/-- the value a step computes is the next iterate, -/
theorem valE1_eq (k : Fin k0_t1_loop.trips) : valE1 arg1 arg2 arg3 arg4 arg7 arg8 X1 X2 X3 X4 X7 (bufE1 arg1 arg2 arg3 arg4 arg7 arg8 X1 X2 X3 X4 X7 G8 k.val) k = itE1 (arg2.view.read (Elt F) X2) (arg3.view.read (Elt F) X3) (arg4.view.read (Elt F) X4) (arg7.view.read (Elt F) X7) (arg1.view.read (Elt F) X1) (arg8.view.read (Elt F) G8) (k.val + 1) := by
  rw [itE1_succ]; unfold valE1
  simp only [View.readAt_eq_ld, read_bufE1, ld_full]
  rfl
/-- and the row buffer holds the iterates, one to a row. -/
theorem read_rowsE1 (k : ℕ) (hk : k ≤ k0_t1_loop.trips) : arg6.view.read (Elt F) (rowsE1 arg1 arg2 arg3 arg4 arg7 arg6 arg8 X1 X2 X3 X4 X7 G6 G8 k)
    = fillRows (fun r j => itE1 (arg2.view.read (Elt F) X2) (arg3.view.read (Elt F) X3) (arg4.view.read (Elt F) X4) (arg7.view.read (Elt F) X7) (arg1.view.read (Elt F) X1) (arg8.view.read (Elt F) G8) (r + 1) (ValueIdx.ix2 0 j)) (arg6.view.read (Elt F) G6) k := by
  induction k with
  | zero => exact (fillRows_zero _ _).symm
  | succ k ih =>
    have e := rowsE1_succ arg1 arg2 arg3 arg4 arg7 arg6 arg8 X1 X2 X3 X4 X7 G6 G8 ⟨k, hk⟩
    dsimp only at e
    rw [e]
    refine read_row_store _ _ _ _ _ _ k (k0_off2_eq ⟨k, hk⟩) (ih (Nat.le_of_succ_le hk)) fun j => ?_
    refine congrFun (Eq.trans ?_ (valE1_eq arg1 arg2 arg3 arg4 arg7 arg8 X1 X2 X3 X4 X7 G8 ⟨k, hk⟩)) _
    rfl
end

set_option warn.classDefReducibility false in
/-- The loop's invariant: what it reads stays; the row and the state buffer hold `rowsE1` and `bufE1` before step `k`. -/
@[sl_loop] def loopE1 (𝒱 : Variants) (c : Dev nD) (bd : Option 𝒱.V) (E : Set ℕ) (i : grid0.Coords)
    (arg1 : Memref sig .tc .vmem S512x1 .f32) (harg1 : arg1.IsWhole)
    (arg2 : Memref sig .tc .vmem S1x6144 .f32) (harg2 : arg2.IsWhole)
    (arg3 : Memref sig .tc .vmem S1x6144 .f32) (harg3 : arg3.IsWhole)
    (arg4 : Memref sig .tc .vmem S1x6144 .f32) (harg4 : arg4.IsWhole)
    (arg5 : Memref sig .tc .hbm S2048x6144 .bf16) (harg5 : arg5.IsWhole)
    (arg6 : Memref sig .tc .vmem S512x2048 .f32) (harg6 : arg6.IsWhole)
    (arg7 : Memref sig .tc .vmem S2048x6144 .bf16) (harg7 : arg7.IsWhole)
    (arg8 : Memref sig .tc .vmem S1x2048 .f32) (harg8 : arg8.IsWhole)
    (arg9 : DmaSems sig S_)
    (X1 : BufTy.Contents (Elt F) arg1.view.ty) (X2 : BufTy.Contents (Elt F) arg2.view.ty) (X3 : BufTy.Contents (Elt F) arg3.view.ty) (X4 : BufTy.Contents (Elt F) arg4.view.ty) (X7 : BufTy.Contents (Elt F) arg7.view.ty) (G6 : BufTy.Contents (Elt F) arg6.view.ty) (G8 : BufTy.Contents (Elt F) arg8.view.ty) :
    LoopInvTy_k0_t1 (F := F) Unit ℕ (Pipeline.UD sig nD τ) ℕ 𝒱 c bd E i arg1 harg1 arg2 harg2 arg3 harg3 arg4 harg4 arg5 harg5 arg6 harg6 arg7 harg7 arg8 harg8 arg9 where
  inv k _ := iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg7.view.loc (c : Thread nD τ) ↦[arg7.view.set]{fullShare} X7)
    ∗ (∃ f, (arg6.view.loc (c : Thread nD τ) ↦[arg6.view.set]{fullShare} f) ∗ ⌜f = rowsE1 arg1 arg2 arg3 arg4 arg7 arg6 arg8 X1 X2 X3 X4 X7 G6 G8 k⌝)
    ∗ (∃ f, (arg8.view.loc (c : Thread nD τ) ↦[arg8.view.set]{fullShare} f) ∗ ⌜f = bufE1 arg1 arg2 arg3 arg4 arg7 arg8 X1 X2 X3 X4 X7 G8 k⌝))
  step k acc := by
    have hk : k.val < 512 := Nat.lt_of_lt_of_le k.isLt k0_t1_abs.2.1
    unfold k0_t1_body
    iintro ⟨H1, H2, H3, H4, H7, ⟨%f, Ho, %hf⟩, ⟨%g, Hs, %hg⟩⟩
    subst hf; subst hg
    sl_exec
    sl_step
    isplitl [H1]; · iexact H1
    isplitl [H2]; · iexact H2
    isplitl [H3]; · iexact H3
    isplitl [H4]; · iexact H4
    isplitl [H7]; · iexact H7
    isplitl [Ho]
    · iexists _
      isplitl [Ho]; · iexact Ho
      ipureintro
      exact (rowsE1_succ _ _ _ _ _ _ _ _ _ _ _ _ _ _ k).symm
    iexists _
    isplitl [Hs]; · iexact Hs
    ipureintro
    exact (bufE1_succ _ _ _ _ _ _ _ _ _ _ _ _ k).symm

end Cert.KernelIdeal.Gru

end
-- ==== Proof.BodyE1.lean ====
/- The body of the first call (`gru_e1`) at one grid point, run twice: at the first point, where it copies the weights
   from HBM and clears the state, and at a later point, where the weights and the state are those the point before
   left. Each triple states what every buffer holds afterwards.  -/
module

public import proofs.«01_k».proof.Proof.LoopE1

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The state after one grid point. -/
def ptE1 (wih bih bhh : Vec F S1x6144 .f32) (whh : Vec F S2048x6144 .bf16) (xs : Vec F S512x1 .f32) (h : Vec F S1x2048 .f32) : Vec F S1x2048 .f32 :=
  itE1 wih bih bhh whh xs h k0_t1_loop.trips
/-- The states one grid point goes through, one to a row. -/
def ysE1 (wih bih bhh : Vec F S1x6144 .f32) (whh : Vec F S2048x6144 .bf16) (xs : Vec F S512x1 .f32) (h : Vec F S1x2048 .f32) : Vec F S512x2048 .f32 :=
  fun y => itE1 wih bih bhh whh xs h ((y 0).val + 1) (ValueIdx.ix2 0 (y 1))
theorem read_allE1 (arg1 : Memref sig .tc .vmem S512x1 .f32) (arg2 arg3 arg4 : Memref sig .tc .vmem S1x6144 .f32) (arg7 : Memref sig .tc .vmem S2048x6144 .bf16)
    (arg6 : Memref sig .tc .vmem S512x2048 .f32) (arg8 : Memref sig .tc .vmem S1x2048 .f32) (X1 X2 X3 X4 X7 G6 G8) :
    arg6.view.read (Elt F) (rowsE1 arg1 arg2 arg3 arg4 arg7 arg6 arg8 X1 X2 X3 X4 X7 G6 G8 (Scf.trips 0#32 (Scalar.addi 0#32 512#32) 1#32))
      = ysE1 (arg2.view.read (Elt F) X2) (arg3.view.read (Elt F) X3) (arg4.view.read (Elt F) X4) (arg7.view.read (Elt F) X7) (arg1.view.read (Elt F) X1) (arg8.view.read (Elt F) G8) := by
  refine Eq.trans (congrArg (arg6.view.read (Elt F)) (show _ = rowsE1 arg1 arg2 arg3 arg4 arg7 arg6 arg8 X1 X2 X3 X4 X7 G6 G8 k0_t1_loop.trips from rfl)) ?_
  rw [read_rowsE1 _ _ _ _ _ _ _ _ _ _ _ _ _ _ _ le_rfl, fillRows_all _ _ (le_of_eq tripsE1.symm)]; rfl

/-- The branch taken at the first grid point. -/
abbrev condE1 (i : grid0.Coords) : Prop := (Scalar.cmpi .ne (Scalar.extui (Scalar.cmpi .eq (BitVec.ofNat 32 (i 0).val) 0#32)) 0#32) = 1#1
theorem hcondE1 : ∀ t : Fin cfg0.N, condE1 (grid0.coords t) ↔ t.val % 8 = 0 :=
  (fun t => by
    have ht : t.val < 8 := Nat.lt_of_lt_of_eq t.isLt N_0
    have e0 : (grid0.coords t 0).val = t.val / 1 % 8 := Pipeline.Grid.coords_val t 0 (by decide) rfl
    simp only [condE1, e0]
    word_cmp
   : ∀ t : Fin grid0.N, condE1 (grid0.coords t) ↔ t.val % 8 = 0)

section
variable (c : Dev nD) (i : grid0.Coords)
    (arg1 : Memref sig .tc .vmem S512x1 .f32) (harg1 : arg1.IsWhole)
    (arg2 : Memref sig .tc .vmem S1x6144 .f32) (harg2 : arg2.IsWhole)
    (arg3 : Memref sig .tc .vmem S1x6144 .f32) (harg3 : arg3.IsWhole)
    (arg4 : Memref sig .tc .vmem S1x6144 .f32) (harg4 : arg4.IsWhole)
    (arg6 : Memref sig .tc .vmem S512x2048 .f32) (harg6 : arg6.IsWhole)
    (arg7 : Memref sig .tc .vmem S2048x6144 .bf16) (harg7 : arg7.IsWhole)
    (arg8 : Memref sig .tc .vmem S1x2048 .f32) (harg8 : arg8.IsWhole)
    (x : Vec F S512x1 .f32) (wih : Vec F S1x6144 .f32) (bih : Vec F S1x6144 .f32) (bhh : Vec F S1x6144 .f32)
    (fh0 : HbBuf (F := F) c (Memref.whole main_v4))

set_option maxHeartbeats 1000000 in
/-- The first point. -/
theorem firstE1 (hc : condE1 i) (W : Waits sig Unit) (K : PUnit → sProp 𝕄) :
    iprop(owns (c : Thread nD τ) arg1 fullShare x ∗ owns (c : Thread nD τ) arg2 fullShare wih ∗ owns (c : Thread nD τ) arg3 fullShare bih ∗ owns (c : Thread nD τ) arg4 fullShare bhh ∗ (∃ d, owns (c : Thread nD τ) arg6 fullShare d)
        ∗ (∃ d, owns (c : Thread nD τ) arg7 fullShare d) ∗ (∃ d, owns (c : Thread nD τ) arg8 fullShare d)
        ∗ semVal ((c : Thread nD τ), SemLoc.dma 7) 0 ∗ hbPt c (Memref.whole main_v4) fh0 ∗ owes (c : Thread nD τ) 0 W
        ∗ (iprop(owns (c : Thread nD τ) arg1 fullShare x ∗ owns (c : Thread nD τ) arg2 fullShare wih ∗ owns (c : Thread nD τ) arg3 fullShare bih ∗ owns (c : Thread nD τ) arg4 fullShare bhh ∗ owns (c : Thread nD τ) arg6 fullShare (ysE1 wih bih bhh ((Memref.whole main_v4).view.read (Elt F) fh0) x k0_pay1)
            ∗ owns (c : Thread nD τ) arg7 fullShare ((Memref.whole main_v4).view.read (Elt F) fh0) ∗ owns (c : Thread nD τ) arg8 fullShare (ptE1 wih bih bhh ((Memref.whole main_v4).view.read (Elt F) fh0) x k0_pay1)
            ∗ semVal ((c : Thread nD τ), SemLoc.dma 7) 0 ∗ hbPt c (Memref.whole main_v4) fh0 ∗ (∃ W', owes (c : Thread nD τ) 0 W')) -∗ K ⟨⟩))
      ⊢ wp frame (wpE (defs₀ (F := F)) Variants.none c none) Set.univ (cc0_gru_e1 i arg1 harg1 arg2 harg2 arg3 harg3 arg4 harg4 (Memref.whole main_v4) (Memref.isWhole_whole _) arg6 harg6 arg7 harg7 arg8 harg8 cc0_scratch2) K := by
    simp only [cc0_gru_e1_eq_skeleton]; unfold cc0_gru_e1_skel
    unfold owns
    iintro ⟨⟨%f1, %hf1, H1⟩, ⟨%f2, %hf2, H2⟩, ⟨%f3, %hf3, H3⟩, ⟨%f4, %hf4, H4⟩, ⟨%d6, %f6, -, H6⟩, ⟨%d7, %f7, -, H7⟩, ⟨%d8, %f8, -, H8⟩, Hq7, Hh0, HW, Hk⟩
    obtain rfl := harg1.eq_unread hf1; obtain rfl := harg2.eq_unread hf2; obtain rfl := harg3.eq_unread hf3; obtain rfl := harg4.eq_unread hf4
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; swap; · iexact H6
      ipureintro
      sl_unfold_words
      simp only [View.readAt_eq_ld, read_bufE1, read_allE1, ld_full, read_writes_whole, readCov_whole, read_store, ← View.writes_singleton, View.writes_nil, harg1.read_unread, harg2.read_unread, harg3.read_unread, harg4.read_unread]
    isplitl [H7]
    · iexists _; isplitr; swap; · iexact H7
      ipureintro
      rw [read_writes_whole]; sl_unfold_words; rfl
    isplitl [H8]
    · iexists _; isplitr; swap; · iexact H8
      ipureintro
      sl_unfold_words
      simp only [View.readAt_eq_ld, read_bufE1, read_allE1, ld_full, read_writes_whole, readCov_whole, read_store, ← View.writes_singleton, View.writes_nil, harg1.read_unread, harg2.read_unread, harg3.read_unread, harg4.read_unread]
      rfl
    isplitl [Hq7]; · iexact Hq7
    isplitl [Hh0]; · iexact Hh0
    iexists _; iexact HW

set_option maxHeartbeats 1000000 in
/-- A later point. -/
theorem laterE1 (hc : ¬condE1 i) (w7 : Vec F S2048x6144 .bf16) (h : Vec F S1x2048 .f32) (W : Waits sig Unit) (K : PUnit → sProp 𝕄) :
    iprop(owns (c : Thread nD τ) arg1 fullShare x ∗ owns (c : Thread nD τ) arg2 fullShare wih ∗ owns (c : Thread nD τ) arg3 fullShare bih ∗ owns (c : Thread nD τ) arg4 fullShare bhh ∗ (∃ d, owns (c : Thread nD τ) arg6 fullShare d)
        ∗ owns (c : Thread nD τ) arg7 fullShare w7 ∗ owns (c : Thread nD τ) arg8 fullShare h
        ∗ semVal ((c : Thread nD τ), SemLoc.dma 7) 0 ∗ hbPt c (Memref.whole main_v4) fh0 ∗ owes (c : Thread nD τ) 0 W
        ∗ (iprop(owns (c : Thread nD τ) arg1 fullShare x ∗ owns (c : Thread nD τ) arg2 fullShare wih ∗ owns (c : Thread nD τ) arg3 fullShare bih ∗ owns (c : Thread nD τ) arg4 fullShare bhh ∗ owns (c : Thread nD τ) arg6 fullShare (ysE1 wih bih bhh w7 x h)
            ∗ owns (c : Thread nD τ) arg7 fullShare w7 ∗ owns (c : Thread nD τ) arg8 fullShare (ptE1 wih bih bhh w7 x h)
            ∗ semVal ((c : Thread nD τ), SemLoc.dma 7) 0 ∗ hbPt c (Memref.whole main_v4) fh0 ∗ (∃ W', owes (c : Thread nD τ) 0 W')) -∗ K ⟨⟩))
      ⊢ wp frame (wpE (defs₀ (F := F)) Variants.none c none) Set.univ (cc0_gru_e1 i arg1 harg1 arg2 harg2 arg3 harg3 arg4 harg4 (Memref.whole main_v4) (Memref.isWhole_whole _) arg6 harg6 arg7 harg7 arg8 harg8 cc0_scratch2) K := by
    simp only [cc0_gru_e1_eq_skeleton]; unfold cc0_gru_e1_skel
    unfold owns
    iintro ⟨⟨%f1, %hf1, H1⟩, ⟨%f2, %hf2, H2⟩, ⟨%f3, %hf3, H3⟩, ⟨%f4, %hf4, H4⟩, ⟨%d6, %f6, -, H6⟩, ⟨%f7, %hs7, H7⟩, ⟨%f8, %hs8, H8⟩, Hq7, Hh0, HW, Hk⟩
    obtain rfl := harg1.eq_unread hf1; obtain rfl := harg2.eq_unread hf2; obtain rfl := harg3.eq_unread hf3; obtain rfl := harg4.eq_unread hf4
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H6]
    · iexists _; isplitr; swap; · iexact H6
      ipureintro
      sl_unfold_words
      simp only [View.readAt_eq_ld, read_bufE1, read_allE1, ld_full, read_writes_whole, readCov_whole, read_store, ← View.writes_singleton, View.writes_nil, harg1.read_unread, harg2.read_unread, harg3.read_unread, harg4.read_unread, hs7, hs8]
    isplitl [H7]
    · iexists _; isplitr; swap; · iexact H7
      ipureintro
      exact hs7
    isplitl [H8]
    · iexists _; isplitr; swap; · iexact H8
      ipureintro
      sl_unfold_words
      simp only [View.readAt_eq_ld, read_bufE1, read_allE1, ld_full, read_writes_whole, readCov_whole, read_store, ← View.writes_singleton, View.writes_nil, harg1.read_unread, harg2.read_unread, harg3.read_unread, harg4.read_unread, hs7, hs8]
      rfl
    isplitl [Hq7]; · iexact Hq7
    isplitl [Hh0]; · iexact Hh0
    iexists _; iexact HW
end

end Cert.KernelIdeal.Gru

end
-- ==== Proof.RegE1.lean ====
/- The first call (`gru_e1`) as a region of the program: the contents its windows and its scratch have at every
   grid point, from the contents `W` the buffers have when the region is entered.  -/
module

public import proofs.«01_k».proof.Proof.BodyE1
public import Idealize.ShloMosaic.Lib.Pipeline.Value
public import Idealize.ShloMosaic.Lib.Pipeline.ValueKit

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The semaphores the body's own transfers complete on. -/
abbrev osemE1 : Fin 1 → SemLoc sig := fun j => (![SemLoc.dma 7] : Fin 1 → SemLoc sig) j
theorem ownSemFactsE1 : Pipeline.OwnSemFacts spec0 osemE1 := by decide
/-- The HBM operands the body copies from. -/
def HE1 : Finset (Ref sig .tc) := {main_v4}

theorem ownSemsE1_eq (c : Dev nD) :
    (Pipeline.ownSems0 (Ix := Unit) (Name := ℕ) (U := Pipeline.UD sig nD τ) (Lvl := ℕ) (Val := Elt F) (τ := τ) osemE1 c : sProp 𝕄)
      = iprop(semVal ((c : Thread nD τ), SemLoc.dma 7) 0) := by
  rw [Pipeline.ownSems0_eq_of_list c osemE1 [0] (by decide) (by decide)]; rfl

section
variable (W : Dev nD → Valuation τ sig (Elt F)) (c : Dev nD)

/-- The block of window `w` at point `t`, read off its array as the region finds it. -/
def iblkE1 (w : Fin cfg0.W) (t : Fin cfg0.N) : ((cfg0.win w).xblock (cfg0.grid.coords t)).Idx → Elt F (cfg0.win w).elt :=
  ((cfg0.win w).blk t).view.read (Elt F) (W c (Proc.devRef .tc (Pipeline.arrRef spec0 w)))

/-- The recurrent weights as the region finds them. -/
abbrev whhE1 : Vec F S2048x6144 .bf16 := W c (Proc.devRef .tc main_v4)

/-- The state after `n` grid points. -/
def stE1 : ℕ → Vec F S1x2048 .f32
  | 0 => k0_pay1
  | n + 1 => if hn : n < cfg0.N then
      ptE1 (iblkE1 W c 1 ⟨n, hn⟩) (iblkE1 W c 2 ⟨n, hn⟩) (iblkE1 W c 3 ⟨n, hn⟩) (whhE1 W c) (iblkE1 W c 0 ⟨n, hn⟩) (stE1 n) else stE1 n
theorem stE1_succ (t : Fin cfg0.N) : stE1 W c (t.val + 1) =
    ptE1 (iblkE1 W c 1 t) (iblkE1 W c 2 t) (iblkE1 W c 3 t) (whhE1 W c) (iblkE1 W c 0 t) (stE1 W c t.val) := by
  rw [stE1]; exact dif_pos t.isLt

/-- What point `t` writes. -/
def outE1At (t : Fin cfg0.N) : Vec F S512x2048 .f32 := ysE1 (iblkE1 W c 1 t) (iblkE1 W c 2 t) (iblkE1 W c 3 t) (whhE1 W c) (iblkE1 W c 0 t) (stE1 W c t.val)

theorem hbmE1_eq : (bigSep HE1 (fun b => ((c.tc : Thread nD τ).loc b) ↦{fullShare} W c (Proc.devRef .tc b)) : sProp 𝕄)
    = iprop(hbPt c (Memref.whole main_v4) (W c (Proc.devRef .tc main_v4))) := by
  unfold HE1; rw [BI.bigSep_eq_bigSepL_of_eq [main_v4] (by decide) (by decide)]; rfl

/-- What the invariant carries unchanged: the other calls' scoped buffers, the generator register, the
    semaphores at zero, the HBM operands. -/
def restE1 : sProp 𝕄 :=
  iprop(Pipeline.scopedRestBut (Ix := Unit) (Name := ℕ) (U := Pipeline.UD sig nD τ) (Lvl := ℕ) (Val := Elt F) spec0 c [cc0_scratch0, cc0_scratch1]
    ∗ (∃ r, prngReg c r) ∗ iprop(semVal ((c : Thread nD τ), SemLoc.dma 7) 0)
    ∗ iprop(hbPt c (Memref.whole main_v4) (W c (Proc.devRef .tc main_v4))))

/-- The region's invariant before point `n`: before the first, the scratch at anything; later the weights copied and
    the state so far. -/
def PhiE1 : ℕ → sProp 𝕄
  | 0 => iprop(iprop((∃ d, owns (c : Thread nD τ) (Memref.whole cc0_scratch0) fullShare d) ∗ (∃ d, owns (c : Thread nD τ) (Memref.whole cc0_scratch1) fullShare d)) ∗ restE1 W c)
  | n + 1 => iprop(iprop(owns (c : Thread nD τ) (Memref.whole cc0_scratch0) fullShare (whhE1 W c) ∗ owns (c : Thread nD τ) (Memref.whole cc0_scratch1) fullShare (stE1 W c (n + 1))) ∗ restE1 W c)

/-- The region's proof data. -/
def datE1 : Dat τ (Elt F) Unit ℕ (Pipeline.UD sig nD τ) ℕ cfg0 c where
  A w := W c (Proc.devRef .tc (Pipeline.arrRef spec0 w))
  after w t := match w with
    | ⟨0, _⟩ => iblkE1 W c 0 t
    | ⟨1, _⟩ => iblkE1 W c 1 t
    | ⟨2, _⟩ => iblkE1 W c 2 t
    | ⟨3, _⟩ => iblkE1 W c 3 t
    | ⟨4, _⟩ => outE1At W c t
  Φ t := PhiE1 W c t.val
  q _ := fullShare
  owed _ := 0

theorem A_E1 (w : Fin cfg0.W) : (datE1 W c).A w = W c (Proc.devRef .tc (Pipeline.arrRef spec0 w)) := by dsimp only [datE1]
theorem after_E1_0 (t : Fin cfg0.N) : (datE1 W c).after 0 t = iblkE1 W c 0 t := by dsimp only [datE1]
theorem after_E1_1 (t : Fin cfg0.N) : (datE1 W c).after 1 t = iblkE1 W c 1 t := by dsimp only [datE1]
theorem after_E1_2 (t : Fin cfg0.N) : (datE1 W c).after 2 t = iblkE1 W c 2 t := by dsimp only [datE1]
theorem after_E1_3 (t : Fin cfg0.N) : (datE1 W c).after 3 t = iblkE1 W c 3 t := by dsimp only [datE1]
theorem after_E1_4 (t : Fin cfg0.N) : (datE1 W c).after 4 t = outE1At W c t := by dsimp only [datE1]

/-- An input window's staging buffer holds its block at every point. -/
theorem before_E1_0 (t : Fin cfg0.N) (d) : (datE1 W c).before 0 t d = iblkE1 W c 0 t :=
  ((datE1 W c).before_in_eq_fetched 0 rfl (fun _ => rfl) (fun _ _ _ => rfl) (fun t => by rw [after_E1_0]; unfold Dat.blockOf iblkE1; rw [A_E1]; try rfl) t d).trans
    (by unfold Dat.fetched Dat.blockOf iblkE1; rw [A_E1]; try rfl)
theorem before_E1_1 (t : Fin cfg0.N) (d) : (datE1 W c).before 1 t d = iblkE1 W c 1 t :=
  ((datE1 W c).before_in_eq_fetched 1 rfl (fun _ => rfl) (fun _ _ _ => rfl) (fun t => by rw [after_E1_1]; unfold Dat.blockOf iblkE1; rw [A_E1]; try rfl) t d).trans
    (by unfold Dat.fetched Dat.blockOf iblkE1; rw [A_E1]; try rfl)
theorem before_E1_2 (t : Fin cfg0.N) (d) : (datE1 W c).before 2 t d = iblkE1 W c 2 t :=
  ((datE1 W c).before_in_eq_fetched 2 rfl (fun _ => rfl) (fun _ _ _ => rfl) (fun t => by rw [after_E1_2]; unfold Dat.blockOf iblkE1; rw [A_E1]; try rfl) t d).trans
    (by unfold Dat.fetched Dat.blockOf iblkE1; rw [A_E1]; try rfl)
theorem before_E1_3 (t : Fin cfg0.N) (d) : (datE1 W c).before 3 t d = iblkE1 W c 3 t :=
  ((datE1 W c).before_in_eq_fetched 3 rfl (fun _ => rfl) (fun _ _ _ => rfl) (fun t => by rw [after_E1_3]; unfold Dat.blockOf iblkE1; rw [A_E1]; try rfl) t d).trans
    (by unfold Dat.fetched Dat.blockOf iblkE1; rw [A_E1]; try rfl)

/-- What the body is called with at point `t`, window by window, -/
def preE1 (t : Fin cfg0.N) : sProp 𝕄 :=
  iprop((datE1 W c).Φ t.castSucc ∗ (datE1 W c).owesAt () t.castSucc
    ∗ (∃ d, owns (c : Thread nD τ) (st0_0 t) fullShare ((datE1 W c).before 0 t d))
    ∗ (∃ d, owns (c : Thread nD τ) (st0_1 t) fullShare ((datE1 W c).before 1 t d))
    ∗ (∃ d, owns (c : Thread nD τ) (st0_2 t) fullShare ((datE1 W c).before 2 t d))
    ∗ (∃ d, owns (c : Thread nD τ) (st0_3 t) fullShare ((datE1 W c).before 3 t d))
    ∗ (∃ d, owns (c : Thread nD τ) (st0_4 t) fullShare ((datE1 W c).before 4 t d)))
/-- and what it returns. -/
def postE1 (t : Fin cfg0.N) : sProp 𝕄 :=
  iprop((datE1 W c).Φ t.succ ∗ (datE1 W c).owesAt () t.succ
    ∗ owns (c : Thread nD τ) (st0_0 t) fullShare ((datE1 W c).after 0 t)
    ∗ owns (c : Thread nD τ) (st0_1 t) fullShare ((datE1 W c).after 1 t)
    ∗ owns (c : Thread nD τ) (st0_2 t) fullShare ((datE1 W c).after 2 t)
    ∗ owns (c : Thread nD τ) (st0_3 t) fullShare ((datE1 W c).after 3 t)
    ∗ owns (c : Thread nD τ) (st0_4 t) fullShare ((datE1 W c).after 4 t))

set_option maxHeartbeats 1600000 in
/-- The body at any point takes the invariant to the next point's. -/
theorem soundE1 (t : Fin cfg0.N) :
    preE1 W c t ⊢ wp frame (wpE (defs₀ (F := F)) Variants.none c none) Set.univ (bodyAt0 t) (fun _ => postE1 W c t) := by
  unfold preE1 postE1 bodyAt0
  simp only [before_E1_0, before_E1_1, before_E1_2, before_E1_3]
  rw [show (datE1 W c).Φ t.succ = PhiE1 W c (t.val + 1) from rfl, show (datE1 W c).Φ t.castSucc = PhiE1 W c t.val from rfl,
    after_E1_0, after_E1_1, after_E1_2, after_E1_3, after_E1_4]
  unfold Dat.owesAt Pipeline.owesWithin
  rw [show (datE1 W c).owed t.castSucc = 0 from rfl, show (datE1 W c).owed t.succ = 0 from rfl]
  have hN : t.val < 8 := lt_of_lt_of_eq t.isLt (show cfg0.N = 8 from N_0)
  rw [PhiE1, stE1_succ]
  by_cases hz : t.val = 0
  · unfold outE1At
    rw [hz, PhiE1]; unfold restE1; rw [show stE1 W c 0 = k0_pay1 from rfl]
    iintro ⟨⟨⟨HS0, HS1⟩, Hb, Hg, Hq0, Hh0⟩, ⟨%Wt, -, HW⟩, ⟨%d0, H0⟩, ⟨%d1, H1⟩, ⟨%d2, H2⟩, ⟨%d3, H3⟩, ⟨%d4, H4⟩⟩
    iapply (firstE1 c (grid0.coords t) _ _ _ _ _ _ _ _ _ _ _ _ _ _ (iblkE1 W c 0 t) (iblkE1 W c 1 t) (iblkE1 W c 2 t) (iblkE1 W c 3 t) (W c (Proc.devRef .tc main_v4)) ((hcondE1 t).mpr (by omega)) Wt _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [Hq0]; · iexact Hq0
    isplitl [Hh0]; · iexact Hh0
    isplitl [HW]; · iexact HW
    iintro ⟨H0, H1, H2, H3, H4, HS0, HS1, Hq0, Hh0, ⟨%W', HW'⟩⟩
    isplitl [HS0 HS1 Hb Hg Hq0 Hh0]
    · isplitl [HS0 HS1]
      · isplitl [HS0]; · iexact HS0
        iexact HS1
      isplitl [Hb]; · iexact Hb
      isplitl [Hg]; · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4
  · obtain ⟨n, hn⟩ := Nat.exists_eq_succ_of_ne_zero hz
    rw [show PhiE1 W c t.val = PhiE1 W c (n + 1) from by rw [hn], PhiE1, show stE1 W c (n + 1) = stE1 W c t.val from by rw [hn]]
    unfold restE1
    iintro ⟨⟨⟨HS0, HS1⟩, Hb, Hg, Hq0, Hh0⟩, ⟨%Wt, -, HW⟩, ⟨%d0, H0⟩, ⟨%d1, H1⟩, ⟨%d2, H2⟩, ⟨%d3, H3⟩, ⟨%d4, H4⟩⟩
    iapply (laterE1 c (grid0.coords t) _ _ _ _ _ _ _ _ _ _ _ _ _ _ (iblkE1 W c 0 t) (iblkE1 W c 1 t) (iblkE1 W c 2 t) (iblkE1 W c 3 t) (W c (Proc.devRef .tc main_v4)) (fun h => hz (by have := (hcondE1 t).mp h; omega)) (whhE1 W c) (stE1 W c t.val) Wt _)
    isplitl [H0]; · iexact H0
    isplitl [H1]; · iexact H1
    isplitl [H2]; · iexact H2
    isplitl [H3]; · iexact H3
    isplitl [H4]; · iexists _; iexact H4
    isplitl [HS0]; · iexact HS0
    isplitl [HS1]; · iexact HS1
    isplitl [Hq0]; · iexact Hq0
    isplitl [Hh0]; · iexact Hh0
    isplitl [HW]; · iexact HW
    iintro ⟨H0, H1, H2, H3, H4, HS0, HS1, Hq0, Hh0, ⟨%W', HW'⟩⟩
    isplitl [HS0 HS1 Hb Hg Hq0 Hh0]
    · isplitl [HS0 HS1]
      · isplitl [HS0]; · iexact HS0
        iexact HS1
      isplitl [Hb]; · iexact Hb
      isplitl [Hg]; · iexact Hg
      isplitl [Hq0]
      · iexact Hq0
      iexact Hh0
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    iexact H4

theorem rowE1_eq (t : Fin cfg0.N) : defs₀ (F := F) .tc cfg0.body (cfg0.bodyArgs t (cfg0.slots t)) = bodyAt0 t := by
  unfold defs₀; rw [Defs.onTc_tc]

/-- The body's obligation at every point. -/
theorem oblE1 : BodyObligation (datE1 W c) (defs₀ (F := F)) Variants.none () Set.univ := fun t => by
  rw [bigSep_W0, bigSep_W0, rowE1_eq]
  exact triple_restated (soundE1 W c t) rfl .rfl fun _ => .rfl

/-- What the region is entered with is the invariant before the first point, -/
theorem hinE1 : iprop(Pipeline.scopedRest spec0 c ∗ (∃ r, prngReg c r) ∗ Pipeline.ownSems0 osemE1 c
        ∗ (bigSep HE1 fun b => ((c.tc : Thread nD τ).loc b) ↦{fullShare} W c (Proc.devRef .tc b)) ∗ Transfers.MayWaits (c : Thread nD τ) (default : Unit) 0) ⊢ (datE1 W c).Φ 0 := by
  rw [show (datE1 W c).Φ 0 = PhiE1 W c 0 from rfl, PhiE1, scopedRest0_split]
  rw [ownSemsE1_eq, hbmE1_eq]; unfold restE1
  simp only [owns_whole]
  iintro ⟨⟨HS, Hb⟩, Hg, Hq, Hh, -⟩
  isplitl [HS]; · iexact HS
  isplitl [Hb]; · iexact Hb
  isplitl [Hg]; · iexact Hg
  isplitl [Hq]; · iexact Hq
  iexact Hh

/-- and the invariant after the last point gives it back. -/
theorem houtE1 : (datE1 W c).Φ (Fin.last cfg0.N) ⊢ iprop(Pipeline.scopedRest spec0 c ∗ (∃ r, prngReg c r) ∗ Pipeline.ownSems0 osemE1 c
        ∗ (bigSep HE1 fun b => ((c.tc : Thread nD τ).loc b) ↦{fullShare} W c (Proc.devRef .tc b))) := by
  rw [show (datE1 W c).Φ (Fin.last cfg0.N) = PhiE1 W c 8 from congrArg (PhiE1 W c) N_0, PhiE1, scopedRest0_split]
  rw [ownSemsE1_eq, hbmE1_eq]; unfold restE1
  simp only [owns_whole]
  iintro ⟨⟨HS0, HS1⟩, Hb, Hg, Hq, Hh⟩
  isplitl [HS0 HS1 Hb]
  · isplitl [HS0 HS1]
    · isplitl [HS0]; · iexists _; iexact HS0
      iexists _; iexact HS1
    iexact Hb
  isplitl [Hg]; · iexact Hg
  isplitl [Hq]; · iexact Hq
  iexact Hh

/-- The result array: row `r` is row `r % 512` of what point `r / 512` writes. -/
def arrE1 : Vec F S4096x2048 .f32 := fun y =>
  outE1At W c ⟨(y 0).val / 512, by have h : (y 0).val < 4096 := (y 0).isLt; have := N_0; show _ < grid0.N; omega⟩
    (ValueIdx.ix2 ⟨(y 0).val % 512, Nat.mod_lt _ (by decide)⟩ (y 1))

/-- What the region leaves in its result array. -/
theorem arrAt_E1 : (datE1 W c).arrAt 4 cfg0.N = arrE1 W c := by
  refine (datE1 W c).arrAt_eq_of_covers 4 _ (by decide +kernel) fun t hf y => ?_
  have ht : t.val < 8 := lt_of_lt_of_eq t.isLt N_0
  have hy0 : (y 0).val < 512 := (y 0).isLt
  show (datE1 W c).after 4 t _ = _
  rw [after_E1_4]
  unfold arrE1
  have i0 : win0_4.index t 0 = t.val := (by decide +kernel : ∀ t : Fin grid0.N, win0_4.index t 0 = t.val) t
  have i1 : win0_4.index t 1 = 0 := (by decide +kernel : ∀ t : Fin grid0.N, win0_4.index t 1 = 0) t
  have e0 : ((((cfg0.win 4).blk t).view.emb y) 0).val = t.val * 512 + (y 0).val := by blk_simp; rw [i0]
  have e1 : ((((cfg0.win 4).blk t).view.emb y) 1).val = (y 1).val := by blk_simp; rw [i1] ; simp
  have et : (⟨((((cfg0.win 4).blk t).view.emb y) 0).val / 512, by rw [e0]; have := N_0; show _ < grid0.N; omega⟩ : Fin cfg0.N) = t :=
    Fin.ext (by show _ / 512 = t.val; rw [e0]; omega)
  refine Eq.trans ?_ (congrArg (fun s => outE1At W c s _) et.symm)
  refine congrArg (outE1At W c t) (funext fun a => Fin.ext ?_)
  match a with
  | ⟨0, _⟩ => show (y 0).val = _ % 512; rw [e0]; omega
  | ⟨1, _⟩ => exact e1.symm

end

end Cert.KernelIdeal.Gru

end
-- ==== Proof.LoopE2.lean ====
/- The counted loop of the second call (`gru_e2`): 512 steps of the recurrence over one block of input rows.
   The state buffer before step `k` is the entry buffer overwritten by the steps before `k`; read as a vector it is
   the `k`-fold iterate of the step. -/
module

public import proofs.«01_k».proof.Proof.Gen.KernelIdeal.Launch
public import proofs.«01_k».proof.Proof.Gen.KernelIdeal.Skeleton
public import proofs.«01_k».proof.Proof.Gen.KernelIdeal.Loops
public import proofs.«01_k».proof.Proof.Gen.KernelIdeal.Points
public import Idealize.ShloMosaic.Lib.Pipeline.FrameBody
public import Idealize.ShloMosaic.Lib.WritesUnit
public import Idealize.ShloMosaic.Lib.VecWindow
public import Idealize.ShloMosaic.Lib.Pipeline.ValueKit.Basic
public import Idealize.ShloMosaic.Lib.Tactic
public import Idealize.ShloMosaic.Lib.WordCmp

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

/-- The row of the projected inputs that step `k` reads. -/
def rowE2 (xg : Vec F S512x3072 .f32) (k : Fin k1_t1_loop.trips) : Vec F S1x3072 .f32 :=
  View.ld xg (Rect.unit (s := S512x3072) (k1_off1 k) S1x3072.size (k1_off1_inb k))

/-- The state after `k` steps over the rows of `xg`, from `h`. -/
def itE2 (whh : Vec F S1024x3072 .bf16) (bhh : Vec F S1x3072 .f32) (xg : Vec F S512x3072 .f32) (h : Vec F S1x1024 .f32) :
    ℕ → Vec F S1x1024 .f32
  | 0 => h
  | k + 1 => if hk : k < k1_t1_loop.trips then
      k1_pay3 (itE2 whh bhh xg h k) whh bhh (rowE2 xg ⟨k, hk⟩) (itE2 whh bhh xg h k) else itE2 whh bhh xg h k

section
variable (arg3 : Memref sig .tc .vmem S1x3072 .f32) (arg8 : Memref sig .tc .vmem S1024x3072 .bf16)
  (arg9 : Memref sig .tc .vmem S512x3072 .f32) (arg10 : Memref sig .tc .vmem S1x1024 .f32)
  (X3 : BufTy.Contents (Elt F) arg3.view.ty) (X8 : BufTy.Contents (Elt F) arg8.view.ty)
  (X9 : BufTy.Contents (Elt F) arg9.view.ty) (G : BufTy.Contents (Elt F) arg10.view.ty)

/-- The state buffer's contents before step `k`. -/
def bufE2 : ℕ → BufTy.Contents (Elt F) arg10.view.ty
  | 0 => G
  | k + 1 => if hk : k < k1_t1_loop.trips then
      arg10.view.writes (Elt F) (bufE2 k) [⟨Rect.unit (s := S1x1024) ![0, 0] S1x1024.size inb_S1x1024_S1x1024_0_0,
        k1_pay3 (arg10.view.readAt (Elt F) (Rect.unit (s := S1x1024) ![0, 0] S1x1024.size inb_S1x1024_S1x1024_0_0).toLoadRect (bufE2 k))
          (arg8.view.readAt (Elt F) (Rect.unit (s := S1024x3072) ![0, 0] S1024x3072.size inb_S1024x3072_S1024x3072_0_0).toLoadRect X8)
          (arg3.view.readAt (Elt F) (Rect.unit (s := S1x3072) ![0, 0] S1x3072.size inb_S1x3072_S1x3072_0_0).toLoadRect X3)
          (arg9.view.readAt (Elt F) (Rect.unit (s := S512x3072) (k1_off1 ⟨k, hk⟩) S1x3072.size (k1_off1_inb ⟨k, hk⟩)).toLoadRect X9)
          (arg10.view.readAt (Elt F) (Rect.unit (s := S1x1024) ![0, 0] S1x1024.size inb_S1x1024_S1x1024_0_0).toLoadRect (bufE2 k))⟩]
      else bufE2 k

theorem bufE2_succ (k : Fin k1_t1_loop.trips) : bufE2 arg3 arg8 arg9 arg10 X3 X8 X9 G (k.val + 1) =
    arg10.view.writes (Elt F) (bufE2 arg3 arg8 arg9 arg10 X3 X8 X9 G k.val) [⟨Rect.unit (s := S1x1024) ![0, 0] S1x1024.size inb_S1x1024_S1x1024_0_0,
        k1_pay3 (arg10.view.readAt (Elt F) (Rect.unit (s := S1x1024) ![0, 0] S1x1024.size inb_S1x1024_S1x1024_0_0).toLoadRect (bufE2 arg3 arg8 arg9 arg10 X3 X8 X9 G k.val))
          (arg8.view.readAt (Elt F) (Rect.unit (s := S1024x3072) ![0, 0] S1024x3072.size inb_S1024x3072_S1024x3072_0_0).toLoadRect X8)
          (arg3.view.readAt (Elt F) (Rect.unit (s := S1x3072) ![0, 0] S1x3072.size inb_S1x3072_S1x3072_0_0).toLoadRect X3)
          (arg9.view.readAt (Elt F) (Rect.unit (s := S512x3072) (k1_off1 k) S1x3072.size (k1_off1_inb k)).toLoadRect X9)
          (arg10.view.readAt (Elt F) (Rect.unit (s := S1x1024) ![0, 0] S1x1024.size inb_S1x1024_S1x1024_0_0).toLoadRect (bufE2 arg3 arg8 arg9 arg10 X3 X8 X9 G k.val))⟩] := by
  rw [bufE2]; exact dif_pos k.isLt

/-- Read as a vector, the state buffer holds the iterate of the step. -/
theorem read_bufE2 (k : ℕ) : arg10.view.read (Elt F) (bufE2 arg3 arg8 arg9 arg10 X3 X8 X9 G k)
    = itE2 (arg8.view.read (Elt F) X8) (arg3.view.read (Elt F) X3) (arg9.view.read (Elt F) X9) (arg10.view.read (Elt F) G) k := by
  induction k with
  | zero => rfl
  | succ k ih =>
    rw [bufE2, itE2]
    split
    · rw [View.read_writes_full]
      simp only [View.readAt_eq_ld, ih]
      rw [View.ld_unit_lit _ _ (by decide), View.ld_unit_lit _ _ (by decide), View.ld_unit_lit _ _ (by decide)]
      rfl
    · exact ih
end

set_option warn.classDefReducibility false in
/-- The loop's invariant: what it reads stays; the state buffer holds `bufE2` before step `k`. -/
@[sl_loop] def loopE2 (𝒱 : Variants) (c : Dev nD) (bd : Option 𝒱.V) (E : Set ℕ) (i : grid1.Coords)
    (arg1 : Memref sig .tc .vmem S512x2048 .f32) (harg1 : arg1.IsWhole) (arg2 : Memref sig .tc .vmem S1x3072 .f32) (harg2 : arg2.IsWhole)
    (arg3 : Memref sig .tc .vmem S1x3072 .f32) (harg3 : arg3.IsWhole) (arg4 : Memref sig .tc .hbm S2048x3072 .bf16) (harg4 : arg4.IsWhole)
    (arg5 : Memref sig .tc .hbm S1024x3072 .bf16) (harg5 : arg5.IsWhole) (arg6 : Memref sig .tc .vmem S1x1024 .f32) (harg6 : arg6.IsWhole)
    (arg7 : Memref sig .tc .vmem S2048x3072 .bf16) (harg7 : arg7.IsWhole) (arg8 : Memref sig .tc .vmem S1024x3072 .bf16) (harg8 : arg8.IsWhole)
    (arg9 : Memref sig .tc .vmem S512x3072 .f32) (harg9 : arg9.IsWhole) (arg10 : Memref sig .tc .vmem S1x1024 .f32) (harg10 : arg10.IsWhole)
    (arg11 : DmaSems sig S_) (arg12 : DmaSems sig S_)
    (X3 : BufTy.Contents (Elt F) arg3.view.ty) (X8 : BufTy.Contents (Elt F) arg8.view.ty)
    (X9 : BufTy.Contents (Elt F) arg9.view.ty) (G : BufTy.Contents (Elt F) arg10.view.ty) :
    LoopInvTy_k1_t1 (F := F) Unit ℕ (Pipeline.UD sig nD τ) ℕ 𝒱 c bd E i arg1 harg1 arg2 harg2 arg3 harg3 arg4 harg4 arg5 harg5
      arg6 harg6 arg7 harg7 arg8 harg8 arg9 harg9 arg10 harg10 arg11 arg12 where
  inv k _ := iprop((arg3.view.loc (c : Thread nD τ) ↦[arg3.view.set]{fullShare} X3) ∗ (arg8.view.loc (c : Thread nD τ) ↦[arg8.view.set]{fullShare} X8)
    ∗ (arg9.view.loc (c : Thread nD τ) ↦[arg9.view.set]{fullShare} X9)
    ∗ (∃ f, (arg10.view.loc (c : Thread nD τ) ↦[arg10.view.set]{fullShare} f) ∗ ⌜f = bufE2 arg3 arg8 arg9 arg10 X3 X8 X9 G k⌝))
  step k acc := by
    have hk : k.val < 512 := Nat.lt_of_lt_of_le k.isLt k1_t1_abs.2.1
    unfold k1_t1_body
    iintro ⟨H3, H8, H9, %f, H10, %hf⟩
    subst hf
    sl_exec
    sl_step
    isplitl [H3]; · iexact H3
    isplitl [H8]; · iexact H8
    isplitl [H9]; · iexact H9
    iexists _
    isplitl [H10]; · iexact H10
    ipureintro
    exact (bufE2_succ _ _ _ _ _ _ _ _ k).symm

end Cert.KernelIdeal.Gru

end
-- ==== Proof.BodyE2.lean ====
/- The body of the second call (`gru_e2`) at one grid point, run twice: at the first point, where it copies both weight
   matrices from HBM and clears the state, and at a later point, where the weights and the state are those the
   point before left. Each triple states what every buffer holds afterwards.  -/
module

public import proofs.«01_k».proof.Proof.Common
public import proofs.«01_k».proof.Proof.LoopE2

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The state after one grid point: the recurrence run over the block's projected rows. -/
def ptE2 (wih : Vec F S2048x3072 .bf16) (whh : Vec F S1024x3072 .bf16) (bih bhh : Vec F S1x3072 .f32) (x : Vec F S512x2048 .f32)
    (h : Vec F S1x1024 .f32) : Vec F S1x1024 .f32 :=
  itE2 whh bhh (k1_pay2 x wih bih) h k1_t1_loop.trips

/-- The branch taken at the first grid point. -/
abbrev condE2 (i : grid1.Coords) : Prop := (Scalar.cmpi .ne (Scalar.extui (Scalar.cmpi .eq (BitVec.ofNat 32 (i 0).val) 0#32)) 0#32) = 1#1
theorem hcondE2 : ∀ t : Fin cfg1.N, condE2 (grid1.coords t) ↔ t.val % 8 = 0 :=
  (fun t => by
    have ht : t.val < 8 := Nat.lt_of_lt_of_eq t.isLt N_1
    have e0 : (grid1.coords t 0).val = t.val / 1 % 8 := Pipeline.Grid.coords_val t 0 (by decide) rfl
    simp only [condE2, e0]
    word_cmp
   : ∀ t : Fin grid1.N, condE2 (grid1.coords t) ↔ t.val % 8 = 0)

section
variable (c : Dev nD) (i : grid1.Coords) (arg1 : Memref sig .tc .vmem S512x2048 .f32) (harg1 : arg1.IsWhole) (arg2 : Memref sig .tc .vmem S1x3072 .f32) (harg2 : arg2.IsWhole)
    (arg3 : Memref sig .tc .vmem S1x3072 .f32) (harg3 : arg3.IsWhole) (arg6 : Memref sig .tc .vmem S1x1024 .f32) (harg6 : arg6.IsWhole)
    (arg7 : Memref sig .tc .vmem S2048x3072 .bf16) (harg7 : arg7.IsWhole) (arg8 : Memref sig .tc .vmem S1024x3072 .bf16) (harg8 : arg8.IsWhole)
    (arg9 : Memref sig .tc .vmem S512x3072 .f32) (harg9 : arg9.IsWhole) (arg10 : Memref sig .tc .vmem S1x1024 .f32) (harg10 : arg10.IsWhole)
    (x : Vec F S512x2048 .f32) (bih bhh : Vec F S1x3072 .f32)
    (fh0 : HbBuf (F := F) c (Memref.whole main_v9)) (fh1 : HbBuf (F := F) c (Memref.whole main_v11))

set_option maxHeartbeats 1000000 in
/-- The first point. -/
theorem firstE2 (hc : condE2 i) (W : Waits sig Unit) (K : PUnit → sProp 𝕄) :
    iprop(owns (c : Thread nD τ) arg1 fullShare x ∗ owns (c : Thread nD τ) arg2 fullShare bih ∗ owns (c : Thread nD τ) arg3 fullShare bhh ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ semVal ((c : Thread nD τ), SemLoc.dma 13) 0 ∗ semVal ((c : Thread nD τ), SemLoc.dma 14) 0 ∗ hbPt c (Memref.whole main_v9) fh0 ∗ hbPt c (Memref.whole main_v11) fh1 ∗ owes (c : Thread nD τ) 0 W
        ∗ (iprop(owns (c : Thread nD τ) arg1 fullShare x ∗ owns (c : Thread nD τ) arg2 fullShare bih ∗ owns (c : Thread nD τ) arg3 fullShare bhh
            ∗ owns (c : Thread nD τ) arg6 fullShare (ptE2 ((Memref.whole main_v9).view.read (Elt F) fh0) ((Memref.whole main_v11).view.read (Elt F) fh1) bih bhh x k1_pay1)
            ∗ owns (c : Thread nD τ) arg7 fullShare ((Memref.whole main_v9).view.read (Elt F) fh0) ∗ owns (c : Thread nD τ) arg8 fullShare ((Memref.whole main_v11).view.read (Elt F) fh1) ∗ (∃ d, owns (c : Thread nD τ) arg9 fullShare d)
            ∗ owns (c : Thread nD τ) arg10 fullShare (ptE2 ((Memref.whole main_v9).view.read (Elt F) fh0) ((Memref.whole main_v11).view.read (Elt F) fh1) bih bhh x k1_pay1)
            ∗ semVal ((c : Thread nD τ), SemLoc.dma 13) 0 ∗ semVal ((c : Thread nD τ), SemLoc.dma 14) 0 ∗ hbPt c (Memref.whole main_v9) fh0 ∗ hbPt c (Memref.whole main_v11) fh1 ∗ (∃ W', owes (c : Thread nD τ) 0 W')) -∗ K ⟨⟩))
      ⊢ wp frame (wpE (defs₀ (F := F)) Variants.none c none) Set.univ (cc1_gru_e2 i arg1 harg1 arg2 harg2 arg3 harg3 (Memref.whole main_v9) (Memref.isWhole_whole _) (Memref.whole main_v11) (Memref.isWhole_whole _) arg6 harg6 arg7 harg7 arg8 harg8 arg9 harg9 arg10 harg10 cc1_scratch4 cc1_scratch5) K := by
    simp only [cc1_gru_e2_eq_skeleton]; unfold cc1_gru_e2_skel
    unfold owns
    iintro ⟨⟨%f0, %hf0, H0⟩, ⟨%f1, %hf1, H1⟩, ⟨%f2, %hf2, H2⟩, ⟨%d3, %f3, -, H3⟩, ⟨%ds0, %fs0, -, HS0⟩, ⟨%ds1, %fs1, -, HS1⟩, ⟨%ds2, %fs2, -, HS2⟩, ⟨%ds3, %fs3, -, HS3⟩, Hq0, Hq1, Hh0, Hh1, HW, Hk⟩
    obtain rfl := harg1.eq_unread hf0; obtain rfl := harg2.eq_unread hf1; obtain rfl := harg3.eq_unread hf2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_full]
      sl_unfold_words
      simp only [View.readAt_eq_ld, read_bufE2, ld_full, read_writes_whole, readCov_whole, read_store, ← View.writes_singleton, View.writes_nil, harg1.read_unread, harg2.read_unread, harg3.read_unread]
      rfl
    isplitl [HS0]
    · iexists _; isplitr; swap; · iexact HS0
      ipureintro
      rw [read_writes_whole]; sl_unfold_words; rfl
    isplitl [HS1]
    · iexists _; isplitr; swap; · iexact HS1
      ipureintro; rw [read_writes_whole]; sl_unfold_words; rfl
    isplitl [HS2]
    · iexists _, _; isplitr; swap; · iexact HS2
      ipureintro; rfl
    isplitl [HS3]
    · iexists _; isplitr; swap; · iexact HS3
      ipureintro
      sl_unfold_words
      simp only [View.readAt_eq_ld, read_bufE2, ld_full, read_writes_whole, readCov_whole, read_store, ← View.writes_singleton, View.writes_nil, harg1.read_unread, harg2.read_unread, harg3.read_unread]
      rfl
    isplitl [Hq0]; · iexact Hq0
    isplitl [Hq1]; · iexact Hq1
    isplitl [Hh0]; · iexact Hh0
    isplitl [Hh1]; · iexact Hh1
    iexists _; iexact HW

set_option maxHeartbeats 1000000 in
/-- A later point. -/
theorem laterE2 (hc : ¬condE2 i) (w7 : Vec F S2048x3072 .bf16) (w8 : Vec F S1024x3072 .bf16) (h : Vec F S1x1024 .f32) (W : Waits sig Unit) (K : PUnit → sProp 𝕄) :
    iprop(owns (c : Thread nD τ) arg1 fullShare x ∗ owns (c : Thread nD τ) arg2 fullShare bih ∗ owns (c : Thread nD τ) arg3 fullShare bhh ∗ (∃ d, owns (c : Thread nD τ) arg6 fullShare d)
        ∗ owns (c : Thread nD τ) arg7 fullShare w7 ∗ owns (c : Thread nD τ) arg8 fullShare w8 ∗ (∃ d, owns (c : Thread nD τ) arg9 fullShare d) ∗ owns (c : Thread nD τ) arg10 fullShare h
        ∗ semVal ((c : Thread nD τ), SemLoc.dma 13) 0 ∗ semVal ((c : Thread nD τ), SemLoc.dma 14) 0 ∗ hbPt c (Memref.whole main_v9) fh0 ∗ hbPt c (Memref.whole main_v11) fh1 ∗ owes (c : Thread nD τ) 0 W
        ∗ (iprop(owns (c : Thread nD τ) arg1 fullShare x ∗ owns (c : Thread nD τ) arg2 fullShare bih ∗ owns (c : Thread nD τ) arg3 fullShare bhh
            ∗ owns (c : Thread nD τ) arg6 fullShare (ptE2 w7 w8 bih bhh x h)
            ∗ owns (c : Thread nD τ) arg7 fullShare w7 ∗ owns (c : Thread nD τ) arg8 fullShare w8 ∗ (∃ d, owns (c : Thread nD τ) arg9 fullShare d)
            ∗ owns (c : Thread nD τ) arg10 fullShare (ptE2 w7 w8 bih bhh x h)
            ∗ semVal ((c : Thread nD τ), SemLoc.dma 13) 0 ∗ semVal ((c : Thread nD τ), SemLoc.dma 14) 0 ∗ hbPt c (Memref.whole main_v9) fh0 ∗ hbPt c (Memref.whole main_v11) fh1 ∗ (∃ W', owes (c : Thread nD τ) 0 W')) -∗ K ⟨⟩))
      ⊢ wp frame (wpE (defs₀ (F := F)) Variants.none c none) Set.univ (cc1_gru_e2 i arg1 harg1 arg2 harg2 arg3 harg3 (Memref.whole main_v9) (Memref.isWhole_whole _) (Memref.whole main_v11) (Memref.isWhole_whole _) arg6 harg6 arg7 harg7 arg8 harg8 arg9 harg9 arg10 harg10 cc1_scratch4 cc1_scratch5) K := by
    simp only [cc1_gru_e2_eq_skeleton]; unfold cc1_gru_e2_skel
    unfold owns
    iintro ⟨⟨%f0, %hf0, H0⟩, ⟨%f1, %hf1, H1⟩, ⟨%f2, %hf2, H2⟩, ⟨%d3, %f3, -, H3⟩, ⟨%fs0, %hs0, HS0⟩, ⟨%fs1, %hs1, HS1⟩, ⟨%ds2, %fs2, -, HS2⟩, ⟨%fs3, %hs3, HS3⟩, Hq0, Hq1, Hh0, Hh1, HW, Hk⟩
    obtain rfl := harg1.eq_unread hf0; obtain rfl := harg2.eq_unread hf1; obtain rfl := harg3.eq_unread hf2
    sl_exec (disch := first | sl_exact hc)
    sl_step
    iapply Hk
    isplitl [H0]
    · iexists _; isplitr; · ipureintro; exact harg1.read_unread _
      iexact H0
    isplitl [H1]
    · iexists _; isplitr; · ipureintro; exact harg2.read_unread _
      iexact H1
    isplitl [H2]
    · iexists _; isplitr; · ipureintro; exact harg3.read_unread _
      iexact H2
    isplitl [H3]
    · iexists _; isplitr; swap; · iexact H3
      ipureintro
      rw [View.read_writes_full]
      sl_unfold_words
      simp only [View.readAt_eq_ld, read_bufE2, ld_full, read_writes_whole, readCov_whole, read_store, ← View.writes_singleton, View.writes_nil, harg1.read_unread, harg2.read_unread, harg3.read_unread, hs0, hs1, hs3]
      rfl
    isplitl [HS0]
    · iexists _; isplitr; swap; · iexact HS0
      ipureintro; exact hs0
    isplitl [HS1]
    · iexists _; isplitr; swap; · iexact HS1
      ipureintro; exact hs1
    isplitl [HS2]
    · iexists _, _; isplitr; swap; · iexact HS2
      ipureintro; rfl
    isplitl [HS3]
    · iexists _; isplitr; swap; · iexact HS3
      ipureintro
      sl_unfold_words
      simp only [View.readAt_eq_ld, read_bufE2, ld_full, read_writes_whole, readCov_whole, read_store, ← View.writes_singleton, View.writes_nil, harg1.read_unread, harg2.read_unread, harg3.read_unread, hs0, hs1, hs3]
      rfl
    isplitl [Hq0]; · iexact Hq0
    isplitl [Hq1]; · iexact Hq1
    isplitl [Hh0]; · iexact Hh0
    isplitl [Hh1]; · iexact Hh1
    iexists _; iexact HW
end

end Cert.KernelIdeal.Gru

end
-- ==== Proof.RegE2.lean ====
/- The second call (`gru_e2`) as a region of the program: the contents its windows and its scratch have at every
   grid point, from the contents `W` the buffers have when the region is entered.  -/
module

public import proofs.«01_k».proof.Proof.BodyE2
public import Idealize.ShloMosaic.Lib.Pipeline.Value

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The two semaphores the body's own transfers complete on. -/
abbrev osemE2 : Fin 2 → SemLoc sig := fun j => (![SemLoc.dma 13, SemLoc.dma 14] : Fin 2 → SemLoc sig) j
theorem ownSemFactsE2 : Pipeline.OwnSemFacts spec1 osemE2 := by decide
/-- The HBM operands the body copies from. -/
def HE2 : Finset (Ref sig .tc) := {main_v9, main_v11}

theorem ownSemsE2_eq (c : Dev nD) :
    (Pipeline.ownSems0 (Ix := Unit) (Name := ℕ) (U := Pipeline.UD sig nD τ) (Lvl := ℕ) (Val := Elt F) (τ := τ) osemE2 c : sProp 𝕄)
      = iprop(semVal ((c : Thread nD τ), SemLoc.dma 13) 0 ∗ semVal ((c : Thread nD τ), SemLoc.dma 14) 0) := by
  rw [Pipeline.ownSems0_eq_of_list c osemE2 [0, 1] (by decide) (by decide)]; rfl

section
variable (W : Dev nD → Valuation τ sig (Elt F)) (c : Dev nD)

/-- The block of window `w` at point `t`, read off its array as the region finds it. -/
def iblkE2 (w : Fin cfg1.W) (t : Fin cfg1.N) : ((cfg1.win w).xblock (cfg1.grid.coords t)).Idx → Elt F (cfg1.win w).elt :=
  ((cfg1.win w).blk t).view.read (Elt F) (W c (Proc.devRef .tc (Pipeline.arrRef spec1 w)))

/-- The input weights as the region finds them. -/
abbrev wihE2 : Vec F S2048x3072 .bf16 := W c (Proc.devRef .tc main_v9)
/-- The recurrent weights as the region finds them. -/
abbrev whhE2 : Vec F S1024x3072 .bf16 := W c (Proc.devRef .tc main_v11)

/-- The state after `n` grid points. -/
def stE2 : ℕ → Vec F S1x1024 .f32
  | 0 => k1_pay1
  | n + 1 => if hn : n < cfg1.N then
      ptE2 (wihE2 W c) (whhE2 W c) (iblkE2 W c 1 ⟨n, hn⟩) (iblkE2 W c 2 ⟨n, hn⟩) (iblkE2 W c 0 ⟨n, hn⟩) (stE2 n) else stE2 n
theorem stE2_succ (t : Fin cfg1.N) : stE2 W c (t.val + 1) =
    ptE2 (wihE2 W c) (whhE2 W c) (iblkE2 W c 1 t) (iblkE2 W c 2 t) (iblkE2 W c 0 t) (stE2 W c t.val) := by
  rw [stE2]; exact dif_pos t.isLt

theorem hbmE2_eq : (bigSep HE2 (fun b => ((c.tc : Thread nD τ).loc b) ↦{fullShare} W c (Proc.devRef .tc b)) : sProp 𝕄)
    = iprop(hbPt c (Memref.whole main_v9) (W c (Proc.devRef .tc main_v9)) ∗ hbPt c (Memref.whole main_v11) (W c (Proc.devRef .tc main_v11))) := by
  unfold HE2; rw [BI.bigSep_eq_bigSepL_of_eq [main_v9, main_v11] (by decide) (by decide)]; rfl

/-- What the invariant carries unchanged: the other calls' scoped buffers, the generator register, the two
    semaphores at zero, the HBM operands. -/
def restE2 : sProp 𝕄 :=
  iprop(Pipeline.scopedRestBut (Ix := Unit) (Name := ℕ) (U := Pipeline.UD sig nD τ) (Lvl := ℕ) (Val := Elt F) spec1 c [cc1_scratch0, cc1_scratch1, cc1_scratch2, cc1_scratch3]
    ∗ (∃ r, prngReg c r) ∗ iprop(semVal ((c : Thread nD τ), SemLoc.dma 13) 0 ∗ semVal ((c : Thread nD τ), SemLoc.dma 14) 0)
    ∗ iprop(hbPt c (Memref.whole main_v9) (W c (Proc.devRef .tc main_v9)) ∗ hbPt c (Memref.whole main_v11) (W c (Proc.devRef .tc main_v11))))

/-- The region's invariant before point `n`: before the first, the scratch at anything; later the weights copied and
    the state so far. -/
def PhiE2 : ℕ → sProp 𝕄
  | 0 => iprop(iprop((∃ d, owns (c : Thread nD τ) (Memref.whole cc1_scratch0) fullShare d) ∗ (∃ d, owns (c : Thread nD τ) (Memref.whole cc1_scratch1) fullShare d)
      ∗ (∃ d, owns (c : Thread nD τ) (Memref.whole cc1_scratch2) fullShare d) ∗ (∃ d, owns (c : Thread nD τ) (Memref.whole cc1_scratch3) fullShare d)) ∗ restE2 W c)
  | n + 1 => iprop(iprop(owns (c : Thread nD τ) (Memref.whole cc1_scratch0) fullShare (wihE2 W c) ∗ owns (c : Thread nD τ) (Memref.whole cc1_scratch1) fullShare (whhE2 W c)
      ∗ (∃ d, owns (c : Thread nD τ) (Memref.whole cc1_scratch2) fullShare d) ∗ owns (c : Thread nD τ) (Memref.whole cc1_scratch3) fullShare (stE2 W c (n + 1))) ∗ restE2 W c)

/-- The region's proof data. -/
def datE2 : Dat τ (Elt F) Unit ℕ (Pipeline.UD sig nD τ) ℕ cfg1 c where
  A w := W c (Proc.devRef .tc (Pipeline.arrRef spec1 w))
  after w t := match w with
    | ⟨0, _⟩ => iblkE2 W c 0 t
    | ⟨1, _⟩ => iblkE2 W c 1 t
    | ⟨2, _⟩ => iblkE2 W c 2 t
    | ⟨3, _⟩ => stE2 W c (t.val + 1)
  Φ t := PhiE2 W c t.val
  q _ := fullShare
  owed _ := 0

theorem A_E2 (w : Fin cfg1.W) : (datE2 W c).A w = W c (Proc.devRef .tc (Pipeline.arrRef spec1 w)) := by dsimp only [datE2]
theorem after_E2_0 (t : Fin cfg1.N) : (datE2 W c).after 0 t = iblkE2 W c 0 t := by dsimp only [datE2]
theorem after_E2_1 (t : Fin cfg1.N) : (datE2 W c).after 1 t = iblkE2 W c 1 t := by dsimp only [datE2]
theorem after_E2_2 (t : Fin cfg1.N) : (datE2 W c).after 2 t = iblkE2 W c 2 t := by dsimp only [datE2]
theorem after_E2_3 (t : Fin cfg1.N) : (datE2 W c).after 3 t = stE2 W c (t.val + 1) := by dsimp only [datE2]

/-- An input window's staging buffer holds its block at every point. -/
theorem before_E2_0 (t : Fin cfg1.N) (d) : (datE2 W c).before 0 t d = iblkE2 W c 0 t :=
  ((datE2 W c).before_in_eq_fetched 0 rfl (fun _ => rfl) (fun _ _ _ => rfl) (fun t => by rw [after_E2_0]; unfold Dat.blockOf iblkE2; rw [A_E2]; try rfl) t d).trans
    (by unfold Dat.fetched Dat.blockOf iblkE2; rw [A_E2]; try rfl)
theorem before_E2_1 (t : Fin cfg1.N) (d) : (datE2 W c).before 1 t d = iblkE2 W c 1 t :=
  ((datE2 W c).before_in_eq_fetched 1 rfl (fun _ => rfl) (fun _ _ _ => rfl) (fun t => by rw [after_E2_1]; unfold Dat.blockOf iblkE2; rw [A_E2]; try rfl) t d).trans
    (by unfold Dat.fetched Dat.blockOf iblkE2; rw [A_E2]; try rfl)
theorem before_E2_2 (t : Fin cfg1.N) (d) : (datE2 W c).before 2 t d = iblkE2 W c 2 t :=
  ((datE2 W c).before_in_eq_fetched 2 rfl (fun _ => rfl) (fun _ _ _ => rfl) (fun t => by rw [after_E2_2]; unfold Dat.blockOf iblkE2; rw [A_E2]; try rfl) t d).trans
    (by unfold Dat.fetched Dat.blockOf iblkE2; rw [A_E2]; try rfl)

/-- What the body is called with at point `t`, window by window, -/
def preE2 (t : Fin cfg1.N) : sProp 𝕄 :=
  iprop((datE2 W c).Φ t.castSucc ∗ (datE2 W c).owesAt () t.castSucc
    ∗ (∃ d, owns (c : Thread nD τ) (st1_0 t) fullShare ((datE2 W c).before 0 t d))
    ∗ (∃ d, owns (c : Thread nD τ) (st1_1 t) fullShare ((datE2 W c).before 1 t d))
    ∗ (∃ d, owns (c : Thread nD τ) (st1_2 t) fullShare ((datE2 W c).before 2 t d))
    ∗ (∃ d, owns (c : Thread nD τ) (st1_3 t) fullShare ((datE2 W c).before 3 t d)))
/-- and what it returns. -/
def postE2 (t : Fin cfg1.N) : sProp 𝕄 :=
  iprop((datE2 W c).Φ t.succ ∗ (datE2 W c).owesAt () t.succ
    ∗ owns (c : Thread nD τ) (st1_0 t) fullShare ((datE2 W c).after 0 t)
    ∗ owns (c : Thread nD τ) (st1_1 t) fullShare ((datE2 W c).after 1 t)
    ∗ owns (c : Thread nD τ) (st1_2 t) fullShare ((datE2 W c).after 2 t)
    ∗ owns (c : Thread nD τ) (st1_3 t) fullShare ((datE2 W c).after 3 t))

set_option maxHeartbeats 1600000 in
/-- The body at any point takes the invariant to the next point's. -/
theorem soundE2 (t : Fin cfg1.N) :
    preE2 W c t ⊢ wp frame (wpE (defs₀ (F := F)) Variants.none c none) Set.univ (bodyAt1 t) (fun _ => postE2 W c t) := by
  unfold preE2 postE2 bodyAt1
  simp only [before_E2_0, before_E2_1, before_E2_2]
  rw [show (datE2 W c).Φ t.succ = PhiE2 W c (t.val + 1) from rfl, show (datE2 W c).Φ t.castSucc = PhiE2 W c t.val from rfl,
    after_E2_0, after_E2_1, after_E2_2, after_E2_3]
  unfold Dat.owesAt Pipeline.owesWithin
  rw [show (datE2 W c).owed t.castSucc = 0 from rfl, show (datE2 W c).owed t.succ = 0 from rfl]
  have hN : t.val < 8 := lt_of_lt_of_eq t.isLt (show cfg1.N = 8 from N_1)
  rw [PhiE2, stE2_succ]
  by_cases hz : t.val = 0
  · rw [hz, PhiE2]; unfold restE2; rw [show stE2 W c 0 = k1_pay1 from rfl]
    iintro ⟨⟨⟨HS0, HS1, HS2, HS3⟩, Hb, Hg, ⟨Hq0, Hq1⟩, ⟨Hh0, Hh1⟩⟩, ⟨%Wt, -, HW⟩, ⟨%d0, H0⟩, ⟨%d1, H1⟩, ⟨%d2, H2⟩, ⟨%d3, H3⟩⟩
    iapply (firstE2 c (grid1.coords t) _ _ _ _ _ _ _ _ _ _ _ _ _ _ _ _ (iblkE2 W c 0 t) (iblkE2 W c 1 t) (iblkE2 W c 2 t) (W c (Proc.devRef .tc main_v9)) (W c (Proc.devRef .tc main_v11)) ((hcondE2 t).mpr (by omega)) Wt _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    iintro ⟨H0, H1, H2, H3, HS0, HS1, HS2, HS3, Hq0, Hq1, Hh0, Hh1, ⟨%W', HW'⟩⟩
    isplitl [HS0 HS1 HS2 HS3 Hb Hg Hq0 Hq1 Hh0 Hh1]
    · isplitl [HS0 HS1 HS2 HS3]
      · isplitl [HS0]; · iexact HS0
        isplitl [HS1]; · iexact HS1
        isplitl [HS2]; · iexact HS2
        iexact HS3
      isplitl [Hb]; · iexact Hb
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · obtain ⟨n, hn⟩ := Nat.exists_eq_succ_of_ne_zero hz
    rw [show PhiE2 W c t.val = PhiE2 W c (n + 1) from by rw [hn], PhiE2, show stE2 W c (n + 1) = stE2 W c t.val from by rw [hn]]
    unfold restE2
    iintro ⟨⟨⟨HS0, HS1, HS2, HS3⟩, Hb, Hg, ⟨Hq0, Hq1⟩, ⟨Hh0, Hh1⟩⟩, ⟨%Wt, -, HW⟩, ⟨%d0, H0⟩, ⟨%d1, H1⟩, ⟨%d2, H2⟩, ⟨%d3, H3⟩⟩
    iapply (laterE2 c (grid1.coords t) _ _ _ _ _ _ _ _ _ _ _ _ _ _ _ _ (iblkE2 W c 0 t) (iblkE2 W c 1 t) (iblkE2 W c 2 t) (W c (Proc.devRef .tc main_v9)) (W c (Proc.devRef .tc main_v11)) (fun h => hz (by have := (hcondE2 t).mp h; omega)) (wihE2 W c) (whhE2 W c) (stE2 W c t.val) Wt _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    iintro ⟨H0, H1, H2, H3, HS0, HS1, HS2, HS3, Hq0, Hq1, Hh0, Hh1, ⟨%W', HW'⟩⟩
    isplitl [HS0 HS1 HS2 HS3 Hb Hg Hq0 Hq1 Hh0 Hh1]
    · isplitl [HS0 HS1 HS2 HS3]
      · isplitl [HS0]; · iexact HS0
        isplitl [HS1]; · iexact HS1
        isplitl [HS2]; · iexact HS2
        iexact HS3
      isplitl [Hb]; · iexact Hb
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3

theorem rowE2_eq (t : Fin cfg1.N) : defs₀ (F := F) .tc cfg1.body (cfg1.bodyArgs t (cfg1.slots t)) = bodyAt1 t := by
  unfold defs₀; rw [Defs.onTc_tc]

/-- The body's obligation at every point. -/
theorem oblE2 : BodyObligation (datE2 W c) (defs₀ (F := F)) Variants.none () Set.univ := fun t => by
  rw [bigSep_W1, bigSep_W1, rowE2_eq]
  exact triple_restated (soundE2 W c t) rfl .rfl fun _ => .rfl

/-- What the region is entered with is the invariant before the first point, -/
theorem hinE2 : iprop(Pipeline.scopedRest spec1 c ∗ (∃ r, prngReg c r) ∗ Pipeline.ownSems0 osemE2 c
        ∗ (bigSep HE2 fun b => ((c.tc : Thread nD τ).loc b) ↦{fullShare} W c (Proc.devRef .tc b)) ∗ Transfers.MayWaits (c : Thread nD τ) (default : Unit) 0) ⊢ (datE2 W c).Φ 0 := by
  rw [show (datE2 W c).Φ 0 = PhiE2 W c 0 from rfl, PhiE2, scopedRest1_split]
  rw [ownSemsE2_eq, hbmE2_eq]; unfold restE2
  simp only [owns_whole]
  iintro ⟨⟨HS, Hb⟩, Hg, Hq, Hh, -⟩
  isplitl [HS]; · iexact HS
  isplitl [Hb]; · iexact Hb
  isplitl [Hg]; · iexact Hg
  isplitl [Hq]; · iexact Hq
  iexact Hh

/-- and the invariant after the last point gives it back. -/
theorem houtE2 : (datE2 W c).Φ (Fin.last cfg1.N) ⊢ iprop(Pipeline.scopedRest spec1 c ∗ (∃ r, prngReg c r) ∗ Pipeline.ownSems0 osemE2 c
        ∗ (bigSep HE2 fun b => ((c.tc : Thread nD τ).loc b) ↦{fullShare} W c (Proc.devRef .tc b))) := by
  rw [show (datE2 W c).Φ (Fin.last cfg1.N) = PhiE2 W c 8 from congrArg (PhiE2 W c) N_1, PhiE2, scopedRest1_split]
  rw [ownSemsE2_eq, hbmE2_eq]; unfold restE2
  simp only [owns_whole]
  iintro ⟨⟨HS0, HS1, HS2, HS3⟩, Hb, Hg, Hq, Hh⟩
  isplitl [HS0 HS1 HS2 HS3 Hb]
  · isplitl [HS0 HS1 HS2 HS3]
    · isplitl [HS0]; · iexists _; iexact HS0
      isplitl [HS1]; · iexists _; iexact HS1
      isplitl [HS2]; · iexact HS2
      iexists _; iexact HS3
    iexact Hb
  isplitl [Hg]; · iexact Hg
  isplitl [Hq]; · iexact Hq
  iexact Hh

/-- The last grid point. -/
def lastE2 : Fin cfg1.N := ⟨7, by rw [show cfg1.N = 8 from N_1]; decide⟩

/-- What the region leaves in its result array: the state after the last point. -/
theorem arrAt_E2 : (datE2 W c).arrAt 3 cfg1.N = stE2 W c 8 :=
  (datE2 W c).arrAt_eq_of_cover 3 (stE2 W c 8) (fun t hf => by
    have h7 : t.val = 7 := by have := (flush1_3 t).mp hf; have := t.isLt; have : cfg1.N = 8 := N_1; omega
    show (cfg1.win 3).cut (grid1.coords t) ((datE2 W c).after 3 t) = _
    rw [after_E2_3, h7]
    have hz' : (fun a => win1_3.index t a * main_v12.ty.shape.size a) = fun _ => 0 := funext fun a => by
      fin_cases a <;> rfl
    exact (Memref.read_access_unit_zero (Elt F) main_v12 hz' (fun a => by rw [congrFun hz' a]; simp) (stE2 W c 8)).symm) fun i =>
    ⟨lastE2, (flush1_3 lastE2).mpr rfl, by
      show i ∈ ((View.whole main_v12).slice (win1_3.rect lastE2)).set
      rw [View.set_slice_whole, Rect.mem_set_unit]
      intro a
      have h0 : (i 0 : Nat) < 1 := (i 0).isLt
      have h1 : (i 1 : Nat) < 1024 := (i 1).isLt
      fin_cases a
      · exact ⟨Nat.zero_le _, h0⟩
      · exact ⟨Nat.zero_le _, h1⟩⟩

end

end Cert.KernelIdeal.Gru

end
-- ==== Proof.LoopD1.lean ====
/- The counted loop of the third call (`gru_d1`): 512 steps of the recurrence, every step with the same projected input.
   Besides the state buffer, each step overwrites one row of the output block with the new state. -/
module

public import proofs.«01_k».proof.Proof.Common

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem tripsD1 : k2_t1_loop.trips = 512 := by decide

/-- The state after `k` steps, from `h`. -/
def itD1 (bhh : Vec F S1x3072 .f32) (whh : Vec F S1024x3072 .bf16) (xg : Vec F S1x3072 .f32) (h : Vec F S1x1024 .f32) :
    ℕ → Vec F S1x1024 .f32
  | 0 => h
  | k + 1 => if hk : k < k2_t1_loop.trips then k2_pay3 (itD1 bhh whh xg h k) whh bhh xg (itD1 bhh whh xg h k) else itD1 bhh whh xg h k

theorem itD1_succ (bhh : Vec F S1x3072 .f32) (whh : Vec F S1024x3072 .bf16) (xg : Vec F S1x3072 .f32) (h : Vec F S1x1024 .f32) (k : Fin k2_t1_loop.trips) :
    itD1 bhh whh xg h (k.val + 1) = k2_pay3 (itD1 bhh whh xg h k.val) whh bhh xg (itD1 bhh whh xg h k.val) := by
  rw [itD1]; exact dif_pos k.isLt

section
variable (arg3 : Memref sig .tc .vmem S1x3072 .f32)
  (arg8 : Memref sig .tc .vmem S1024x3072 .bf16)
  (arg9 : Memref sig .tc .vmem S1x3072 .f32)
  (arg6 : Memref sig .tc .vmem S512x1024 .f32)
  (arg10 : Memref sig .tc .vmem S1x1024 .f32)
  (X3 : BufTy.Contents (Elt F) arg3.view.ty) (X8 : BufTy.Contents (Elt F) arg8.view.ty) (X9 : BufTy.Contents (Elt F) arg9.view.ty)
  (G6 : BufTy.Contents (Elt F) arg6.view.ty) (G10 : BufTy.Contents (Elt F) arg10.view.ty)

/-- The value step `k` computes from state buffer contents `f`. -/
abbrev valD1 (f : BufTy.Contents (Elt F) arg10.view.ty) (k : Fin k2_t1_loop.trips) : Vec F S1x1024 .f32 :=
  k2_pay3 (arg10.view.readAt (Elt F) (Rect.unit (s := S1x1024) ![0, 0] S1x1024.size inb_S1x1024_S1x1024_0_0).toLoadRect f) (arg8.view.readAt (Elt F) (Rect.unit (s := S1024x3072) ![0, 0] S1024x3072.size inb_S1024x3072_S1024x3072_0_0).toLoadRect X8) (arg3.view.readAt (Elt F) (Rect.unit (s := S1x3072) ![0, 0] S1x3072.size inb_S1x3072_S1x3072_0_0).toLoadRect X3) (arg9.view.readAt (Elt F) (Rect.unit (s := S1x3072) ![0, 0] S1x3072.size inb_S1x3072_S1x3072_0_0).toLoadRect X9) (arg10.view.readAt (Elt F) (Rect.unit (s := S1x1024) ![0, 0] S1x1024.size inb_S1x1024_S1x1024_0_0).toLoadRect f)
/-- The state buffer's contents before step `k`. -/
def bufD1 : ℕ → BufTy.Contents (Elt F) arg10.view.ty
  | 0 => G10
  | k + 1 => if hk : k < k2_t1_loop.trips then
      arg10.view.writes (Elt F) (bufD1 k) [⟨Rect.unit (s := S1x1024) ![0, 0] S1x1024.size inb_S1x1024_S1x1024_0_0, k2_pay4 (arg10.view.readAt (Elt F) (Rect.unit (s := S1x1024) ![0, 0] S1x1024.size inb_S1x1024_S1x1024_0_0).toLoadRect (bufD1 k)) (arg8.view.readAt (Elt F) (Rect.unit (s := S1024x3072) ![0, 0] S1024x3072.size inb_S1024x3072_S1024x3072_0_0).toLoadRect X8) (arg3.view.readAt (Elt F) (Rect.unit (s := S1x3072) ![0, 0] S1x3072.size inb_S1x3072_S1x3072_0_0).toLoadRect X3) (arg9.view.readAt (Elt F) (Rect.unit (s := S1x3072) ![0, 0] S1x3072.size inb_S1x3072_S1x3072_0_0).toLoadRect X9) (arg10.view.readAt (Elt F) (Rect.unit (s := S1x1024) ![0, 0] S1x1024.size inb_S1x1024_S1x1024_0_0).toLoadRect (bufD1 k))⟩]
      else bufD1 k
/-- The row buffer's contents before step `k`. -/
def rowsD1 : ℕ → BufTy.Contents (Elt F) arg6.view.ty
  | 0 => G6
  | k + 1 => if hk : k < k2_t1_loop.trips then
      arg6.view.writes (Elt F) (rowsD1 k) [⟨Rect.unit (s := S512x1024) (k2_off1 ⟨k, hk⟩) S1x1024.size (k2_off1_inb ⟨k, hk⟩), k2_pay3 (arg10.view.readAt (Elt F) (Rect.unit (s := S1x1024) ![0, 0] S1x1024.size inb_S1x1024_S1x1024_0_0).toLoadRect (bufD1 arg3 arg8 arg9 arg10 X3 X8 X9 G10 k)) (arg8.view.readAt (Elt F) (Rect.unit (s := S1024x3072) ![0, 0] S1024x3072.size inb_S1024x3072_S1024x3072_0_0).toLoadRect X8) (arg3.view.readAt (Elt F) (Rect.unit (s := S1x3072) ![0, 0] S1x3072.size inb_S1x3072_S1x3072_0_0).toLoadRect X3) (arg9.view.readAt (Elt F) (Rect.unit (s := S1x3072) ![0, 0] S1x3072.size inb_S1x3072_S1x3072_0_0).toLoadRect X9) (arg10.view.readAt (Elt F) (Rect.unit (s := S1x1024) ![0, 0] S1x1024.size inb_S1x1024_S1x1024_0_0).toLoadRect (bufD1 arg3 arg8 arg9 arg10 X3 X8 X9 G10 k))⟩]
      else rowsD1 k

theorem bufD1_succ (k : Fin k2_t1_loop.trips) : bufD1 arg3 arg8 arg9 arg10 X3 X8 X9 G10 (k.val + 1) =
    arg10.view.writes (Elt F) (bufD1 arg3 arg8 arg9 arg10 X3 X8 X9 G10 k.val) [⟨Rect.unit (s := S1x1024) ![0, 0] S1x1024.size inb_S1x1024_S1x1024_0_0, k2_pay4 (arg10.view.readAt (Elt F) (Rect.unit (s := S1x1024) ![0, 0] S1x1024.size inb_S1x1024_S1x1024_0_0).toLoadRect (bufD1 arg3 arg8 arg9 arg10 X3 X8 X9 G10 k.val)) (arg8.view.readAt (Elt F) (Rect.unit (s := S1024x3072) ![0, 0] S1024x3072.size inb_S1024x3072_S1024x3072_0_0).toLoadRect X8) (arg3.view.readAt (Elt F) (Rect.unit (s := S1x3072) ![0, 0] S1x3072.size inb_S1x3072_S1x3072_0_0).toLoadRect X3) (arg9.view.readAt (Elt F) (Rect.unit (s := S1x3072) ![0, 0] S1x3072.size inb_S1x3072_S1x3072_0_0).toLoadRect X9) (arg10.view.readAt (Elt F) (Rect.unit (s := S1x1024) ![0, 0] S1x1024.size inb_S1x1024_S1x1024_0_0).toLoadRect (bufD1 arg3 arg8 arg9 arg10 X3 X8 X9 G10 k.val))⟩] := by
  rw [bufD1]; exact dif_pos k.isLt
theorem rowsD1_succ (k : Fin k2_t1_loop.trips) : rowsD1 arg3 arg8 arg9 arg6 arg10 X3 X8 X9 G6 G10 (k.val + 1) =
    arg6.view.writes (Elt F) (rowsD1 arg3 arg8 arg9 arg6 arg10 X3 X8 X9 G6 G10 k.val) [⟨Rect.unit (s := S512x1024) (k2_off1 k) S1x1024.size (k2_off1_inb k), k2_pay3 (arg10.view.readAt (Elt F) (Rect.unit (s := S1x1024) ![0, 0] S1x1024.size inb_S1x1024_S1x1024_0_0).toLoadRect (bufD1 arg3 arg8 arg9 arg10 X3 X8 X9 G10 k.val)) (arg8.view.readAt (Elt F) (Rect.unit (s := S1024x3072) ![0, 0] S1024x3072.size inb_S1024x3072_S1024x3072_0_0).toLoadRect X8) (arg3.view.readAt (Elt F) (Rect.unit (s := S1x3072) ![0, 0] S1x3072.size inb_S1x3072_S1x3072_0_0).toLoadRect X3) (arg9.view.readAt (Elt F) (Rect.unit (s := S1x3072) ![0, 0] S1x3072.size inb_S1x3072_S1x3072_0_0).toLoadRect X9) (arg10.view.readAt (Elt F) (Rect.unit (s := S1x1024) ![0, 0] S1x1024.size inb_S1x1024_S1x1024_0_0).toLoadRect (bufD1 arg3 arg8 arg9 arg10 X3 X8 X9 G10 k.val))⟩] := by
  rw [rowsD1]; exact dif_pos k.isLt

/-- Read as a vector, the state buffer holds the iterate of the step, -/
theorem read_bufD1 (k : ℕ) : arg10.view.read (Elt F) (bufD1 arg3 arg8 arg9 arg10 X3 X8 X9 G10 k) = itD1 (arg3.view.read (Elt F) X3) (arg8.view.read (Elt F) X8) (arg9.view.read (Elt F) X9) (arg10.view.read (Elt F) G10) k := by
  induction k with
  | zero => rfl
  | succ k ih =>
    rw [bufD1, itD1]
    split
    · rw [View.read_writes_full]
      simp only [View.readAt_eq_ld, ih, ld_full, k2_pay4]
      exact shapeCast_self _ _
    · exact ih
/-- the value a step computes is the next iterate, -/
theorem valD1_eq (k : Fin k2_t1_loop.trips) : valD1 arg3 arg8 arg9 arg10 X3 X8 X9 (bufD1 arg3 arg8 arg9 arg10 X3 X8 X9 G10 k.val) k = itD1 (arg3.view.read (Elt F) X3) (arg8.view.read (Elt F) X8) (arg9.view.read (Elt F) X9) (arg10.view.read (Elt F) G10) (k.val + 1) := by
  rw [itD1_succ]; unfold valD1
  simp only [View.readAt_eq_ld, read_bufD1, ld_full]
  skip
/-- and the row buffer holds the iterates, one to a row. -/
theorem read_rowsD1 (k : ℕ) (hk : k ≤ k2_t1_loop.trips) : arg6.view.read (Elt F) (rowsD1 arg3 arg8 arg9 arg6 arg10 X3 X8 X9 G6 G10 k)
    = fillRows (fun r j => itD1 (arg3.view.read (Elt F) X3) (arg8.view.read (Elt F) X8) (arg9.view.read (Elt F) X9) (arg10.view.read (Elt F) G10) (r + 1) (ValueIdx.ix2 0 j)) (arg6.view.read (Elt F) G6) k := by
  induction k with
  | zero => exact (fillRows_zero _ _).symm
  | succ k ih =>
    have e := rowsD1_succ arg3 arg8 arg9 arg6 arg10 X3 X8 X9 G6 G10 ⟨k, hk⟩
    dsimp only at e
    rw [e]
    refine read_row_store _ _ _ _ _ _ k (k2_off1_eq ⟨k, hk⟩) (ih (Nat.le_of_succ_le hk)) fun j => ?_
    refine congrFun (Eq.trans ?_ (valD1_eq arg3 arg8 arg9 arg10 X3 X8 X9 G10 ⟨k, hk⟩)) _
    rfl
end

set_option warn.classDefReducibility false in
/-- The loop's invariant: what it reads stays; the row and the state buffer hold `rowsD1` and `bufD1` before step `k`. -/
@[sl_loop] def loopD1 (𝒱 : Variants) (c : Dev nD) (bd : Option 𝒱.V) (E : Set ℕ) (i : grid2.Coords)
    (arg1 : Memref sig .tc .vmem S1x1024 .f32) (harg1 : arg1.IsWhole)
    (arg2 : Memref sig .tc .vmem S1x3072 .f32) (harg2 : arg2.IsWhole)
    (arg3 : Memref sig .tc .vmem S1x3072 .f32) (harg3 : arg3.IsWhole)
    (arg4 : Memref sig .tc .hbm S1024x3072 .bf16) (harg4 : arg4.IsWhole)
    (arg5 : Memref sig .tc .hbm S1024x3072 .bf16) (harg5 : arg5.IsWhole)
    (arg6 : Memref sig .tc .vmem S512x1024 .f32) (harg6 : arg6.IsWhole)
    (arg7 : Memref sig .tc .vmem S1024x3072 .bf16) (harg7 : arg7.IsWhole)
    (arg8 : Memref sig .tc .vmem S1024x3072 .bf16) (harg8 : arg8.IsWhole)
    (arg9 : Memref sig .tc .vmem S1x3072 .f32) (harg9 : arg9.IsWhole)
    (arg10 : Memref sig .tc .vmem S1x1024 .f32) (harg10 : arg10.IsWhole)
    (arg11 : DmaSems sig S_) (arg12 : DmaSems sig S_)
    (X3 : BufTy.Contents (Elt F) arg3.view.ty) (X8 : BufTy.Contents (Elt F) arg8.view.ty) (X9 : BufTy.Contents (Elt F) arg9.view.ty) (G6 : BufTy.Contents (Elt F) arg6.view.ty) (G10 : BufTy.Contents (Elt F) arg10.view.ty) :
    LoopInvTy_k2_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 arg12 where
  inv k _ := iprop((arg3.view.loc (c : Thread nD τ) ↦[arg3.view.set]{fullShare} X3) ∗ (arg8.view.loc (c : Thread nD τ) ↦[arg8.view.set]{fullShare} X8) ∗ (arg9.view.loc (c : Thread nD τ) ↦[arg9.view.set]{fullShare} X9)
    ∗ (∃ f, (arg6.view.loc (c : Thread nD τ) ↦[arg6.view.set]{fullShare} f) ∗ ⌜f = rowsD1 arg3 arg8 arg9 arg6 arg10 X3 X8 X9 G6 G10 k⌝)
    ∗ (∃ f, (arg10.view.loc (c : Thread nD τ) ↦[arg10.view.set]{fullShare} f) ∗ ⌜f = bufD1 arg3 arg8 arg9 arg10 X3 X8 X9 G10 k⌝))
  step k acc := by
    have hk : k.val < 512 := Nat.lt_of_lt_of_le k.isLt k2_t1_abs.2.1
    unfold k2_t1_body
    iintro ⟨H3, H8, H9, ⟨%f, Ho, %hf⟩, ⟨%g, Hs, %hg⟩⟩
    subst hf; subst hg
    sl_exec
    sl_step
    isplitl [H3]; · iexact H3
    isplitl [H8]; · iexact H8
    isplitl [H9]; · iexact H9
    isplitl [Ho]
    · iexists _
      isplitl [Ho]; · iexact Ho
      ipureintro
      exact (rowsD1_succ _ _ _ _ _ _ _ _ _ _ k).symm
    iexists _
    isplitl [Hs]; · iexact Hs
    ipureintro
    exact (bufD1_succ _ _ _ _ _ _ _ _ k).symm

end Cert.KernelIdeal.Gru

end
-- ==== Proof.BodyD1.lean ====
/- The body of the third call (`gru_d1`) at one grid point, run twice: at the first point, where it copies the weights
   from HBM and clears the state, and at a later point, where the weights and the state are those the point before
   left. Each triple states what every buffer holds afterwards.  -/
module

public import proofs.«01_k».proof.Proof.LoopD1

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The state after one grid point. -/
def ptD1 (bhh : Vec F S1x3072 .f32) (whh : Vec F S1024x3072 .bf16) (xg : Vec F S1x3072 .f32) (h : Vec F S1x1024 .f32) : Vec F S1x1024 .f32 :=
  itD1 bhh whh xg h k2_t1_loop.trips
/-- The states one grid point goes through, one to a row. -/
def ysD1 (bhh : Vec F S1x3072 .f32) (whh : Vec F S1024x3072 .bf16) (xg : Vec F S1x3072 .f32) (h : Vec F S1x1024 .f32) : Vec F S512x1024 .f32 :=
  fun y => itD1 bhh whh xg h ((y 0).val + 1) (ValueIdx.ix2 0 (y 1))
theorem read_allD1 (arg3 : Memref sig .tc .vmem S1x3072 .f32) (arg8 : Memref sig .tc .vmem S1024x3072 .bf16) (arg9 : Memref sig .tc .vmem S1x3072 .f32)
    (arg6 : Memref sig .tc .vmem S512x1024 .f32) (arg10 : Memref sig .tc .vmem S1x1024 .f32) (X3 X8 X9 G6 G10) :
    arg6.view.read (Elt F) (rowsD1 arg3 arg8 arg9 arg6 arg10 X3 X8 X9 G6 G10 (Scf.trips 0#32 (Scalar.addi 0#32 512#32) 1#32))
      = ysD1 (arg3.view.read (Elt F) X3) (arg8.view.read (Elt F) X8) (arg9.view.read (Elt F) X9) (arg10.view.read (Elt F) G10) := by
  refine Eq.trans (congrArg (arg6.view.read (Elt F)) (show _ = rowsD1 arg3 arg8 arg9 arg6 arg10 X3 X8 X9 G6 G10 k2_t1_loop.trips from rfl)) ?_
  rw [read_rowsD1 _ _ _ _ _ _ _ _ _ _ _ le_rfl, fillRows_all _ _ (le_of_eq tripsD1.symm)]; rfl

/-- The branch taken at the first grid point. -/
abbrev condD1 (i : grid2.Coords) : Prop := (Scalar.cmpi .ne (Scalar.extui (Scalar.cmpi .eq (BitVec.ofNat 32 (i 0).val) 0#32)) 0#32) = 1#1
theorem hcondD1 : ∀ t : Fin cfg2.N, condD1 (grid2.coords t) ↔ t.val % 8 = 0 :=
  (fun t => by
    have ht : t.val < 8 := Nat.lt_of_lt_of_eq t.isLt N_2
    have e0 : (grid2.coords t 0).val = t.val / 1 % 8 := Pipeline.Grid.coords_val t 0 (by decide) rfl
    simp only [condD1, e0]
    word_cmp
   : ∀ t : Fin grid2.N, condD1 (grid2.coords t) ↔ t.val % 8 = 0)

section
variable (c : Dev nD) (i : grid2.Coords)
    (arg1 : Memref sig .tc .vmem S1x1024 .f32) (harg1 : arg1.IsWhole)
    (arg2 : Memref sig .tc .vmem S1x3072 .f32) (harg2 : arg2.IsWhole)
    (arg3 : Memref sig .tc .vmem S1x3072 .f32) (harg3 : arg3.IsWhole)
    (arg6 : Memref sig .tc .vmem S512x1024 .f32) (harg6 : arg6.IsWhole)
    (arg7 : Memref sig .tc .vmem S1024x3072 .bf16) (harg7 : arg7.IsWhole)
    (arg8 : Memref sig .tc .vmem S1024x3072 .bf16) (harg8 : arg8.IsWhole)
    (arg9 : Memref sig .tc .vmem S1x3072 .f32) (harg9 : arg9.IsWhole)
    (arg10 : Memref sig .tc .vmem S1x1024 .f32) (harg10 : arg10.IsWhole)
    (x : Vec F S1x1024 .f32) (bih : Vec F S1x3072 .f32) (bhh : Vec F S1x3072 .f32)
    (fh0 : HbBuf (F := F) c (Memref.whole main_v16)) (fh1 : HbBuf (F := F) c (Memref.whole main_v18))

set_option maxHeartbeats 1000000 in
/-- The first point. -/
theorem firstD1 (hc : condD1 i) (W : Waits sig Unit) (K : PUnit → sProp 𝕄) :
    iprop(owns (c : Thread nD τ) arg1 fullShare x ∗ owns (c : Thread nD τ) arg2 fullShare bih ∗ owns (c : Thread nD τ) arg3 fullShare bhh ∗ (∃ d, owns (c : Thread nD τ) arg6 fullShare d)
        ∗ (∃ d, owns (c : Thread nD τ) arg7 fullShare d) ∗ (∃ d, owns (c : Thread nD τ) arg8 fullShare d) ∗ (∃ d, owns (c : Thread nD τ) arg9 fullShare d) ∗ (∃ d, owns (c : Thread nD τ) arg10 fullShare d)
        ∗ semVal ((c : Thread nD τ), SemLoc.dma 20) 0 ∗ semVal ((c : Thread nD τ), SemLoc.dma 21) 0 ∗ hbPt c (Memref.whole main_v16) fh0 ∗ hbPt c (Memref.whole main_v18) fh1 ∗ owes (c : Thread nD τ) 0 W
        ∗ (iprop(owns (c : Thread nD τ) arg1 fullShare x ∗ owns (c : Thread nD τ) arg2 fullShare bih ∗ owns (c : Thread nD τ) arg3 fullShare bhh ∗ owns (c : Thread nD τ) arg6 fullShare (ysD1 bhh ((Memref.whole main_v18).view.read (Elt F) fh1) (k2_pay2 x ((Memref.whole main_v16).view.read (Elt F) fh0) bih) k2_pay1)
            ∗ owns (c : Thread nD τ) arg7 fullShare ((Memref.whole main_v16).view.read (Elt F) fh0) ∗ owns (c : Thread nD τ) arg8 fullShare ((Memref.whole main_v18).view.read (Elt F) fh1) ∗ owns (c : Thread nD τ) arg9 fullShare (k2_pay2 x ((Memref.whole main_v16).view.read (Elt F) fh0) bih) ∗ owns (c : Thread nD τ) arg10 fullShare (ptD1 bhh ((Memref.whole main_v18).view.read (Elt F) fh1) (k2_pay2 x ((Memref.whole main_v16).view.read (Elt F) fh0) bih) k2_pay1)
            ∗ semVal ((c : Thread nD τ), SemLoc.dma 20) 0 ∗ semVal ((c : Thread nD τ), SemLoc.dma 21) 0 ∗ hbPt c (Memref.whole main_v16) fh0 ∗ hbPt c (Memref.whole main_v18) fh1 ∗ (∃ W', owes (c : Thread nD τ) 0 W')) -∗ K ⟨⟩))
      ⊢ wp frame (wpE (defs₀ (F := F)) Variants.none c none) Set.univ (cc2_gru_d1 i arg1 harg1 arg2 harg2 arg3 harg3 (Memref.whole main_v16) (Memref.isWhole_whole _) (Memref.whole main_v18) (Memref.isWhole_whole _) arg6 harg6 arg7 harg7 arg8 harg8 arg9 harg9 arg10 harg10 cc2_scratch4 cc2_scratch5) K := by
    simp only [cc2_gru_d1_eq_skeleton]; unfold cc2_gru_d1_skel
    unfold owns
    iintro ⟨⟨%f1, %hf1, H1⟩, ⟨%f2, %hf2, H2⟩, ⟨%f3, %hf3, H3⟩, ⟨%d6, %f6, -, H6⟩, ⟨%d7, %f7, -, H7⟩, ⟨%d8, %f8, -, H8⟩, ⟨%d9, %f9, -, H9⟩, ⟨%d10, %f10, -, H10⟩, Hq20, Hq21, Hh0, Hh1, HW, Hk⟩
    obtain rfl := harg1.eq_unread hf1; obtain rfl := harg2.eq_unread hf2; obtain rfl := harg3.eq_unread hf3
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H6]
    · iexists _; isplitr; swap; · iexact H6
      ipureintro
      sl_unfold_words
      simp only [View.readAt_eq_ld, read_bufD1, read_allD1, ld_full, read_writes_whole, readCov_whole, read_store, ← View.writes_singleton, View.writes_nil, harg1.read_unread, harg2.read_unread, harg3.read_unread]
    isplitl [H7]
    · iexists _; isplitr; swap; · iexact H7
      ipureintro
      rw [read_writes_whole]; sl_unfold_words; rfl
    isplitl [H8]
    · iexists _; isplitr; swap; · iexact H8
      ipureintro
      rw [read_writes_whole]; sl_unfold_words; rfl
    isplitl [H9]
    · iexists _; isplitr; swap; · iexact H9
      ipureintro
      sl_unfold_words
      simp only [View.readAt_eq_ld, read_bufD1, read_allD1, ld_full, read_writes_whole, readCov_whole, read_store, ← View.writes_singleton, View.writes_nil, harg1.read_unread, harg2.read_unread, harg3.read_unread]
    isplitl [H10]
    · iexists _; isplitr; swap; · iexact H10
      ipureintro
      sl_unfold_words
      simp only [View.readAt_eq_ld, read_bufD1, read_allD1, ld_full, read_writes_whole, readCov_whole, read_store, ← View.writes_singleton, View.writes_nil, harg1.read_unread, harg2.read_unread, harg3.read_unread]
      rfl
    isplitl [Hq20]; · iexact Hq20
    isplitl [Hq21]; · iexact Hq21
    isplitl [Hh0]; · iexact Hh0
    isplitl [Hh1]; · iexact Hh1
    iexists _; iexact HW

set_option maxHeartbeats 1000000 in
/-- A later point. -/
theorem laterD1 (hc : ¬condD1 i) (w7 : Vec F S1024x3072 .bf16) (w8 : Vec F S1024x3072 .bf16) (xg : Vec F S1x3072 .f32) (h : Vec F S1x1024 .f32) (W : Waits sig Unit) (K : PUnit → sProp 𝕄) :
    iprop(owns (c : Thread nD τ) arg1 fullShare x ∗ owns (c : Thread nD τ) arg2 fullShare bih ∗ owns (c : Thread nD τ) arg3 fullShare bhh ∗ (∃ d, owns (c : Thread nD τ) arg6 fullShare d)
        ∗ owns (c : Thread nD τ) arg7 fullShare w7 ∗ owns (c : Thread nD τ) arg8 fullShare w8 ∗ owns (c : Thread nD τ) arg9 fullShare xg ∗ owns (c : Thread nD τ) arg10 fullShare h
        ∗ semVal ((c : Thread nD τ), SemLoc.dma 20) 0 ∗ semVal ((c : Thread nD τ), SemLoc.dma 21) 0 ∗ hbPt c (Memref.whole main_v16) fh0 ∗ hbPt c (Memref.whole main_v18) fh1 ∗ owes (c : Thread nD τ) 0 W
        ∗ (iprop(owns (c : Thread nD τ) arg1 fullShare x ∗ owns (c : Thread nD τ) arg2 fullShare bih ∗ owns (c : Thread nD τ) arg3 fullShare bhh ∗ owns (c : Thread nD τ) arg6 fullShare (ysD1 bhh w8 xg h)
            ∗ owns (c : Thread nD τ) arg7 fullShare w7 ∗ owns (c : Thread nD τ) arg8 fullShare w8 ∗ owns (c : Thread nD τ) arg9 fullShare xg ∗ owns (c : Thread nD τ) arg10 fullShare (ptD1 bhh w8 xg h)
            ∗ semVal ((c : Thread nD τ), SemLoc.dma 20) 0 ∗ semVal ((c : Thread nD τ), SemLoc.dma 21) 0 ∗ hbPt c (Memref.whole main_v16) fh0 ∗ hbPt c (Memref.whole main_v18) fh1 ∗ (∃ W', owes (c : Thread nD τ) 0 W')) -∗ K ⟨⟩))
      ⊢ wp frame (wpE (defs₀ (F := F)) Variants.none c none) Set.univ (cc2_gru_d1 i arg1 harg1 arg2 harg2 arg3 harg3 (Memref.whole main_v16) (Memref.isWhole_whole _) (Memref.whole main_v18) (Memref.isWhole_whole _) arg6 harg6 arg7 harg7 arg8 harg8 arg9 harg9 arg10 harg10 cc2_scratch4 cc2_scratch5) K := by
    simp only [cc2_gru_d1_eq_skeleton]; unfold cc2_gru_d1_skel
    unfold owns
    iintro ⟨⟨%f1, %hf1, H1⟩, ⟨%f2, %hf2, H2⟩, ⟨%f3, %hf3, H3⟩, ⟨%d6, %f6, -, H6⟩, ⟨%f7, %hs7, H7⟩, ⟨%f8, %hs8, H8⟩, ⟨%f9, %hs9, H9⟩, ⟨%f10, %hs10, H10⟩, Hq20, Hq21, Hh0, Hh1, HW, Hk⟩
    obtain rfl := harg1.eq_unread hf1; obtain rfl := harg2.eq_unread hf2; obtain rfl := harg3.eq_unread hf3
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H6]
    · iexists _; isplitr; swap; · iexact H6
      ipureintro
      sl_unfold_words
      simp only [View.readAt_eq_ld, read_bufD1, read_allD1, ld_full, read_writes_whole, readCov_whole, read_store, ← View.writes_singleton, View.writes_nil, harg1.read_unread, harg2.read_unread, harg3.read_unread, hs7, hs8, hs9, hs10]
    isplitl [H7]
    · iexists _; isplitr; swap; · iexact H7
      ipureintro
      exact hs7
    isplitl [H8]
    · iexists _; isplitr; swap; · iexact H8
      ipureintro
      exact hs8
    isplitl [H9]
    · iexists _; isplitr; swap; · iexact H9
      ipureintro
      exact hs9
    isplitl [H10]
    · iexists _; isplitr; swap; · iexact H10
      ipureintro
      sl_unfold_words
      simp only [View.readAt_eq_ld, read_bufD1, read_allD1, ld_full, read_writes_whole, readCov_whole, read_store, ← View.writes_singleton, View.writes_nil, harg1.read_unread, harg2.read_unread, harg3.read_unread, hs7, hs8, hs9, hs10]
      rfl
    isplitl [Hq20]; · iexact Hq20
    isplitl [Hq21]; · iexact Hq21
    isplitl [Hh0]; · iexact Hh0
    isplitl [Hh1]; · iexact Hh1
    iexists _; iexact HW
end

end Cert.KernelIdeal.Gru

end
-- ==== Proof.RegD1.lean ====
/- The third call (`gru_d1`) as a region of the program: the contents its windows and its scratch have at every
   grid point, from the contents `W` the buffers have when the region is entered.  -/
module

public import proofs.«01_k».proof.Proof.BodyD1
public import Idealize.ShloMosaic.Lib.Pipeline.Value
public import Idealize.ShloMosaic.Lib.Pipeline.ValueKit

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The semaphores the body's own transfers complete on. -/
abbrev osemD1 : Fin 2 → SemLoc sig := fun j => (![SemLoc.dma 20, SemLoc.dma 21] : Fin 2 → SemLoc sig) j
theorem ownSemFactsD1 : Pipeline.OwnSemFacts spec2 osemD1 := by decide
/-- The HBM operands the body copies from. -/
def HD1 : Finset (Ref sig .tc) := {main_v16, main_v18}

theorem ownSemsD1_eq (c : Dev nD) :
    (Pipeline.ownSems0 (Ix := Unit) (Name := ℕ) (U := Pipeline.UD sig nD τ) (Lvl := ℕ) (Val := Elt F) (τ := τ) osemD1 c : sProp 𝕄)
      = iprop(semVal ((c : Thread nD τ), SemLoc.dma 20) 0 ∗ semVal ((c : Thread nD τ), SemLoc.dma 21) 0) := by
  rw [Pipeline.ownSems0_eq_of_list c osemD1 [0, 1] (by decide) (by decide)]; rfl

section
variable (W : Dev nD → Valuation τ sig (Elt F)) (c : Dev nD)

/-- The block of window `w` at point `t`, read off its array as the region finds it. -/
def iblkD1 (w : Fin cfg2.W) (t : Fin cfg2.N) : ((cfg2.win w).xblock (cfg2.grid.coords t)).Idx → Elt F (cfg2.win w).elt :=
  ((cfg2.win w).blk t).view.read (Elt F) (W c (Proc.devRef .tc (Pipeline.arrRef spec2 w)))

/-- The input weights as the region finds them. -/
abbrev wihD1 : Vec F S1024x3072 .bf16 := W c (Proc.devRef .tc main_v16)
/-- The recurrent weights as the region finds them. -/
abbrev whhD1 : Vec F S1024x3072 .bf16 := W c (Proc.devRef .tc main_v18)
/-- The first grid point. -/
def zeroD1 : Fin cfg2.N := ⟨0, by rw [show cfg2.N = 8 from N_2]; decide⟩
/-- The projected input, computed at the first point. -/
def xgD1 : Vec F S1x3072 .f32 := k2_pay2 (iblkD1 W c 0 zeroD1) (wihD1 W c) (iblkD1 W c 1 zeroD1)

/-- The state after `n` grid points. -/
def stD1 : ℕ → Vec F S1x1024 .f32
  | 0 => k2_pay1
  | n + 1 => if hn : n < cfg2.N then
      ptD1 (iblkD1 W c 2 ⟨n, hn⟩) (whhD1 W c) (xgD1 W c) (stD1 n) else stD1 n
theorem stD1_succ (t : Fin cfg2.N) : stD1 W c (t.val + 1) =
    ptD1 (iblkD1 W c 2 t) (whhD1 W c) (xgD1 W c) (stD1 W c t.val) := by
  rw [stD1]; exact dif_pos t.isLt

/-- What point `t` writes. -/
def outD1At (t : Fin cfg2.N) : Vec F S512x1024 .f32 := ysD1 (iblkD1 W c 2 t) (whhD1 W c) (xgD1 W c) (stD1 W c t.val)

theorem hbmD1_eq : (bigSep HD1 (fun b => ((c.tc : Thread nD τ).loc b) ↦{fullShare} W c (Proc.devRef .tc b)) : sProp 𝕄)
    = iprop(hbPt c (Memref.whole main_v16) (W c (Proc.devRef .tc main_v16)) ∗ hbPt c (Memref.whole main_v18) (W c (Proc.devRef .tc main_v18))) := by
  unfold HD1; rw [BI.bigSep_eq_bigSepL_of_eq [main_v16, main_v18] (by decide) (by decide)]; rfl

/-- What the invariant carries unchanged: the other calls' scoped buffers, the generator register, the
    semaphores at zero, the HBM operands. -/
def restD1 : sProp 𝕄 :=
  iprop(Pipeline.scopedRestBut (Ix := Unit) (Name := ℕ) (U := Pipeline.UD sig nD τ) (Lvl := ℕ) (Val := Elt F) spec2 c [cc2_scratch0, cc2_scratch1, cc2_scratch2, cc2_scratch3]
    ∗ (∃ r, prngReg c r) ∗ iprop(semVal ((c : Thread nD τ), SemLoc.dma 20) 0 ∗ semVal ((c : Thread nD τ), SemLoc.dma 21) 0)
    ∗ iprop(hbPt c (Memref.whole main_v16) (W c (Proc.devRef .tc main_v16)) ∗ hbPt c (Memref.whole main_v18) (W c (Proc.devRef .tc main_v18))))

/-- The region's invariant before point `n`: before the first, the scratch at anything; later the weights copied and
    the state so far. -/
def PhiD1 : ℕ → sProp 𝕄
  | 0 => iprop(iprop((∃ d, owns (c : Thread nD τ) (Memref.whole cc2_scratch0) fullShare d) ∗ (∃ d, owns (c : Thread nD τ) (Memref.whole cc2_scratch1) fullShare d) ∗ (∃ d, owns (c : Thread nD τ) (Memref.whole cc2_scratch2) fullShare d) ∗ (∃ d, owns (c : Thread nD τ) (Memref.whole cc2_scratch3) fullShare d)) ∗ restD1 W c)
  | n + 1 => iprop(iprop(owns (c : Thread nD τ) (Memref.whole cc2_scratch0) fullShare (wihD1 W c) ∗ owns (c : Thread nD τ) (Memref.whole cc2_scratch1) fullShare (whhD1 W c) ∗ owns (c : Thread nD τ) (Memref.whole cc2_scratch2) fullShare (xgD1 W c) ∗ owns (c : Thread nD τ) (Memref.whole cc2_scratch3) fullShare (stD1 W c (n + 1))) ∗ restD1 W c)

/-- The region's proof data. -/
def datD1 : Dat τ (Elt F) Unit ℕ (Pipeline.UD sig nD τ) ℕ cfg2 c where
  A w := W c (Proc.devRef .tc (Pipeline.arrRef spec2 w))
  after w t := match w with
    | ⟨0, _⟩ => iblkD1 W c 0 t
    | ⟨1, _⟩ => iblkD1 W c 1 t
    | ⟨2, _⟩ => iblkD1 W c 2 t
    | ⟨3, _⟩ => outD1At W c t
  Φ t := PhiD1 W c t.val
  q _ := fullShare
  owed _ := 0

theorem A_D1 (w : Fin cfg2.W) : (datD1 W c).A w = W c (Proc.devRef .tc (Pipeline.arrRef spec2 w)) := by dsimp only [datD1]
theorem after_D1_0 (t : Fin cfg2.N) : (datD1 W c).after 0 t = iblkD1 W c 0 t := by dsimp only [datD1]
theorem after_D1_1 (t : Fin cfg2.N) : (datD1 W c).after 1 t = iblkD1 W c 1 t := by dsimp only [datD1]
theorem after_D1_2 (t : Fin cfg2.N) : (datD1 W c).after 2 t = iblkD1 W c 2 t := by dsimp only [datD1]
theorem after_D1_3 (t : Fin cfg2.N) : (datD1 W c).after 3 t = outD1At W c t := by dsimp only [datD1]

/-- An input window's staging buffer holds its block at every point. -/
theorem before_D1_0 (t : Fin cfg2.N) (d) : (datD1 W c).before 0 t d = iblkD1 W c 0 t :=
  ((datD1 W c).before_in_eq_fetched 0 rfl (fun _ => rfl) (fun _ _ _ => rfl) (fun t => by rw [after_D1_0]; unfold Dat.blockOf iblkD1; rw [A_D1]; try rfl) t d).trans
    (by unfold Dat.fetched Dat.blockOf iblkD1; rw [A_D1]; try rfl)
theorem before_D1_1 (t : Fin cfg2.N) (d) : (datD1 W c).before 1 t d = iblkD1 W c 1 t :=
  ((datD1 W c).before_in_eq_fetched 1 rfl (fun _ => rfl) (fun _ _ _ => rfl) (fun t => by rw [after_D1_1]; unfold Dat.blockOf iblkD1; rw [A_D1]; try rfl) t d).trans
    (by unfold Dat.fetched Dat.blockOf iblkD1; rw [A_D1]; try rfl)
theorem before_D1_2 (t : Fin cfg2.N) (d) : (datD1 W c).before 2 t d = iblkD1 W c 2 t :=
  ((datD1 W c).before_in_eq_fetched 2 rfl (fun _ => rfl) (fun _ _ _ => rfl) (fun t => by rw [after_D1_2]; unfold Dat.blockOf iblkD1; rw [A_D1]; try rfl) t d).trans
    (by unfold Dat.fetched Dat.blockOf iblkD1; rw [A_D1]; try rfl)

/-- What the body is called with at point `t`, window by window, -/
def preD1 (t : Fin cfg2.N) : sProp 𝕄 :=
  iprop((datD1 W c).Φ t.castSucc ∗ (datD1 W c).owesAt () t.castSucc
    ∗ (∃ d, owns (c : Thread nD τ) (st2_0 t) fullShare ((datD1 W c).before 0 t d))
    ∗ (∃ d, owns (c : Thread nD τ) (st2_1 t) fullShare ((datD1 W c).before 1 t d))
    ∗ (∃ d, owns (c : Thread nD τ) (st2_2 t) fullShare ((datD1 W c).before 2 t d))
    ∗ (∃ d, owns (c : Thread nD τ) (st2_3 t) fullShare ((datD1 W c).before 3 t d)))
/-- and what it returns. -/
def postD1 (t : Fin cfg2.N) : sProp 𝕄 :=
  iprop((datD1 W c).Φ t.succ ∗ (datD1 W c).owesAt () t.succ
    ∗ owns (c : Thread nD τ) (st2_0 t) fullShare ((datD1 W c).after 0 t)
    ∗ owns (c : Thread nD τ) (st2_1 t) fullShare ((datD1 W c).after 1 t)
    ∗ owns (c : Thread nD τ) (st2_2 t) fullShare ((datD1 W c).after 2 t)
    ∗ owns (c : Thread nD τ) (st2_3 t) fullShare ((datD1 W c).after 3 t))

set_option maxHeartbeats 1600000 in
/-- The body at any point takes the invariant to the next point's. -/
theorem soundD1 (t : Fin cfg2.N) :
    preD1 W c t ⊢ wp frame (wpE (defs₀ (F := F)) Variants.none c none) Set.univ (bodyAt2 t) (fun _ => postD1 W c t) := by
  unfold preD1 postD1 bodyAt2
  simp only [before_D1_0, before_D1_1, before_D1_2]
  rw [show (datD1 W c).Φ t.succ = PhiD1 W c (t.val + 1) from rfl, show (datD1 W c).Φ t.castSucc = PhiD1 W c t.val from rfl,
    after_D1_0, after_D1_1, after_D1_2, after_D1_3]
  unfold Dat.owesAt Pipeline.owesWithin
  rw [show (datD1 W c).owed t.castSucc = 0 from rfl, show (datD1 W c).owed t.succ = 0 from rfl]
  have hN : t.val < 8 := lt_of_lt_of_eq t.isLt (show cfg2.N = 8 from N_2)
  rw [PhiD1, stD1_succ]
  by_cases hz : t.val = 0
  · obtain rfl : t = zeroD1 := Fin.ext hz
    unfold outD1At
    rw [hz, PhiD1]; unfold restD1; rw [show stD1 W c 0 = k2_pay1 from rfl]
    iintro ⟨⟨⟨HS0, HS1, HS2, HS3⟩, Hb, Hg, ⟨Hq0, Hq1⟩, ⟨Hh0, Hh1⟩⟩, ⟨%Wt, -, HW⟩, ⟨%d0, H0⟩, ⟨%d1, H1⟩, ⟨%d2, H2⟩, ⟨%d3, H3⟩⟩
    iapply (firstD1 c (grid2.coords zeroD1) _ _ _ _ _ _ _ _ _ _ _ _ _ _ _ _ (iblkD1 W c 0 zeroD1) (iblkD1 W c 1 zeroD1) (iblkD1 W c 2 zeroD1) (W c (Proc.devRef .tc main_v16)) (W c (Proc.devRef .tc main_v18)) ((hcondD1 zeroD1).mpr (by omega)) Wt _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    iintro ⟨H0, H1, H2, H3, HS0, HS1, HS2, HS3, Hq0, Hq1, Hh0, Hh1, ⟨%W', HW'⟩⟩
    isplitl [HS0 HS1 HS2 HS3 Hb Hg Hq0 Hq1 Hh0 Hh1]
    · isplitl [HS0 HS1 HS2 HS3]
      · isplitl [HS0]; · iexact HS0
        isplitl [HS1]; · iexact HS1
        isplitl [HS2]; · iexact HS2
        iexact HS3
      isplitl [Hb]; · iexact Hb
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3
  · obtain ⟨n, hn⟩ := Nat.exists_eq_succ_of_ne_zero hz
    rw [show PhiD1 W c t.val = PhiD1 W c (n + 1) from by rw [hn], PhiD1, show stD1 W c (n + 1) = stD1 W c t.val from by rw [hn]]
    unfold restD1
    iintro ⟨⟨⟨HS0, HS1, HS2, HS3⟩, Hb, Hg, ⟨Hq0, Hq1⟩, ⟨Hh0, Hh1⟩⟩, ⟨%Wt, -, HW⟩, ⟨%d0, H0⟩, ⟨%d1, H1⟩, ⟨%d2, H2⟩, ⟨%d3, H3⟩⟩
    iapply (laterD1 c (grid2.coords t) _ _ _ _ _ _ _ _ _ _ _ _ _ _ _ _ (iblkD1 W c 0 t) (iblkD1 W c 1 t) (iblkD1 W c 2 t) (W c (Proc.devRef .tc main_v16)) (W c (Proc.devRef .tc main_v18)) (fun h => hz (by have := (hcondD1 t).mp h; omega)) (wihD1 W c) (whhD1 W c) (xgD1 W c) (stD1 W c t.val) Wt _)
    isplitl [H0]; · iexact H0
    isplitl [H1]; · iexact H1
    isplitl [H2]; · iexact H2
    isplitl [H3]; · iexists _; iexact H3
    isplitl [HS0]; · iexact HS0
    isplitl [HS1]; · iexact HS1
    isplitl [HS2]; · iexact HS2
    isplitl [HS3]; · iexact HS3
    isplitl [Hq0]; · iexact Hq0
    isplitl [Hq1]; · iexact Hq1
    isplitl [Hh0]; · iexact Hh0
    isplitl [Hh1]; · iexact Hh1
    isplitl [HW]; · iexact HW
    iintro ⟨H0, H1, H2, H3, HS0, HS1, HS2, HS3, Hq0, Hq1, Hh0, Hh1, ⟨%W', HW'⟩⟩
    isplitl [HS0 HS1 HS2 HS3 Hb Hg Hq0 Hq1 Hh0 Hh1]
    · isplitl [HS0 HS1 HS2 HS3]
      · isplitl [HS0]; · iexact HS0
        isplitl [HS1]; · iexact HS1
        isplitl [HS2]; · iexact HS2
        iexact HS3
      isplitl [Hb]; · iexact Hb
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    iexact H3

theorem rowD1_eq (t : Fin cfg2.N) : defs₀ (F := F) .tc cfg2.body (cfg2.bodyArgs t (cfg2.slots t)) = bodyAt2 t := by
  unfold defs₀; rw [Defs.onTc_tc]

/-- The body's obligation at every point. -/
theorem oblD1 : BodyObligation (datD1 W c) (defs₀ (F := F)) Variants.none () Set.univ := fun t => by
  rw [bigSep_W2, bigSep_W2, rowD1_eq]
  exact triple_restated (soundD1 W c t) rfl .rfl fun _ => .rfl

/-- What the region is entered with is the invariant before the first point, -/
theorem hinD1 : iprop(Pipeline.scopedRest spec2 c ∗ (∃ r, prngReg c r) ∗ Pipeline.ownSems0 osemD1 c
        ∗ (bigSep HD1 fun b => ((c.tc : Thread nD τ).loc b) ↦{fullShare} W c (Proc.devRef .tc b)) ∗ Transfers.MayWaits (c : Thread nD τ) (default : Unit) 0) ⊢ (datD1 W c).Φ 0 := by
  rw [show (datD1 W c).Φ 0 = PhiD1 W c 0 from rfl, PhiD1, scopedRest2_split]
  rw [ownSemsD1_eq, hbmD1_eq]; unfold restD1
  simp only [owns_whole]
  iintro ⟨⟨HS, Hb⟩, Hg, Hq, Hh, -⟩
  isplitl [HS]; · iexact HS
  isplitl [Hb]; · iexact Hb
  isplitl [Hg]; · iexact Hg
  isplitl [Hq]; · iexact Hq
  iexact Hh

/-- and the invariant after the last point gives it back. -/
theorem houtD1 : (datD1 W c).Φ (Fin.last cfg2.N) ⊢ iprop(Pipeline.scopedRest spec2 c ∗ (∃ r, prngReg c r) ∗ Pipeline.ownSems0 osemD1 c
        ∗ (bigSep HD1 fun b => ((c.tc : Thread nD τ).loc b) ↦{fullShare} W c (Proc.devRef .tc b))) := by
  rw [show (datD1 W c).Φ (Fin.last cfg2.N) = PhiD1 W c 8 from congrArg (PhiD1 W c) N_2, PhiD1, scopedRest2_split]
  rw [ownSemsD1_eq, hbmD1_eq]; unfold restD1
  simp only [owns_whole]
  iintro ⟨⟨HS0, HS1, HS2, HS3⟩, Hb, Hg, Hq, Hh⟩
  isplitl [HS0 HS1 HS2 HS3 Hb]
  · isplitl [HS0 HS1 HS2 HS3]
    · isplitl [HS0]; · iexists _; iexact HS0
      isplitl [HS1]; · iexists _; iexact HS1
      isplitl [HS2]; · iexists _; iexact HS2
      iexists _; iexact HS3
    iexact Hb
  isplitl [Hg]; · iexact Hg
  isplitl [Hq]; · iexact Hq
  iexact Hh

/-- The result array: row `r` is row `r % 512` of what point `r / 512` writes. -/
def arrD1 : Vec F S4096x1024 .f32 := fun y =>
  outD1At W c ⟨(y 0).val / 512, by have h : (y 0).val < 4096 := (y 0).isLt; have := N_2; show _ < grid2.N; omega⟩
    (ValueIdx.ix2 ⟨(y 0).val % 512, Nat.mod_lt _ (by decide)⟩ (y 1))

/-- What the region leaves in its result array. -/
theorem arrAt_D1 : (datD1 W c).arrAt 3 cfg2.N = arrD1 W c := by
  refine (datD1 W c).arrAt_eq_of_covers 3 _ (by decide +kernel) fun t hf y => ?_
  have ht : t.val < 8 := lt_of_lt_of_eq t.isLt N_2
  have hy0 : (y 0).val < 512 := (y 0).isLt
  show (datD1 W c).after 3 t _ = _
  rw [after_D1_3]
  unfold arrD1
  have i0 : win2_3.index t 0 = t.val := (by decide +kernel : ∀ t : Fin grid2.N, win2_3.index t 0 = t.val) t
  have i1 : win2_3.index t 1 = 0 := (by decide +kernel : ∀ t : Fin grid2.N, win2_3.index t 1 = 0) t
  have e0 : ((((cfg2.win 3).blk t).view.emb y) 0).val = t.val * 512 + (y 0).val := by blk_simp; rw [i0]
  have e1 : ((((cfg2.win 3).blk t).view.emb y) 1).val = (y 1).val := by blk_simp; rw [i1] ; simp
  have et : (⟨((((cfg2.win 3).blk t).view.emb y) 0).val / 512, by rw [e0]; have := N_2; show _ < grid2.N; omega⟩ : Fin cfg2.N) = t :=
    Fin.ext (by show _ / 512 = t.val; rw [e0]; omega)
  refine Eq.trans ?_ (congrArg (fun s => outD1At W c s _) et.symm)
  refine congrArg (outD1At W c t) (funext fun a => Fin.ext ?_)
  match a with
  | ⟨0, _⟩ => show (y 0).val = _ % 512; rw [e0]; omega
  | ⟨1, _⟩ => exact e1.symm

end

end Cert.KernelIdeal.Gru

end
-- ==== Proof.LoopD2.lean ====
/- The counted loop of the fourth call (`gru_d2`): 256 steps of the recurrence over one block of projected input rows.
   Besides the state buffer, each step overwrites one row of a scratch block with the new state. -/
module

public import proofs.«01_k».proof.Proof.Common

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (Pipeline.UD sig nD τ) ℕ

theorem tripsD2 : k3_t1_loop.trips = 256 := by decide

/-- The row of the block that step `k` reads. -/
def rowD2 (xs : Vec F S256x6144 .f32) (k : Fin k3_t1_loop.trips) : Vec F S1x6144 .f32 :=
  View.ld xs (Rect.unit (s := S256x6144) (k3_off1 k) S1x6144.size (k3_off1_inb k))

/-- The state after `k` steps, from `h`. -/
def itD2 (bhh : Vec F S1x6144 .f32) (whh : Vec F S2048x6144 .bf16) (xs : Vec F S256x6144 .f32) (h : Vec F S1x2048 .f32) :
    ℕ → Vec F S1x2048 .f32
  | 0 => h
  | k + 1 => if hk : k < k3_t1_loop.trips then k3_pay3 (itD2 bhh whh xs h k) whh bhh (rowD2 xs ⟨k, hk⟩) (itD2 bhh whh xs h k) else itD2 bhh whh xs h k

theorem itD2_succ (bhh : Vec F S1x6144 .f32) (whh : Vec F S2048x6144 .bf16) (xs : Vec F S256x6144 .f32) (h : Vec F S1x2048 .f32) (k : Fin k3_t1_loop.trips) :
    itD2 bhh whh xs h (k.val + 1) = k3_pay3 (itD2 bhh whh xs h k.val) whh bhh (rowD2 xs k) (itD2 bhh whh xs h k.val) := by
  rw [itD2]; exact dif_pos k.isLt

section
variable (arg3 : Memref sig .tc .vmem S1x6144 .f32)
  (arg10 : Memref sig .tc .vmem S2048x6144 .bf16)
  (arg11 : Memref sig .tc .vmem S256x6144 .f32)
  (arg12 : Memref sig .tc .vmem S256x2048 .f32)
  (arg13 : Memref sig .tc .vmem S1x2048 .f32)
  (X3 : BufTy.Contents (Elt F) arg3.view.ty) (X10 : BufTy.Contents (Elt F) arg10.view.ty) (X11 : BufTy.Contents (Elt F) arg11.view.ty)
  (G12 : BufTy.Contents (Elt F) arg12.view.ty) (G13 : BufTy.Contents (Elt F) arg13.view.ty)

/-- The value step `k` computes from state buffer contents `f`. -/
abbrev valD2 (f : BufTy.Contents (Elt F) arg13.view.ty) (k : Fin k3_t1_loop.trips) : Vec F S1x2048 .f32 :=
  k3_pay3 (arg13.view.readAt (Elt F) (Rect.unit (s := S1x2048) ![0, 0] S1x2048.size inb_S1x2048_S1x2048_0_0).toLoadRect f) (arg10.view.readAt (Elt F) (Rect.unit (s := S2048x6144) ![0, 0] S2048x6144.size inb_S2048x6144_S2048x6144_0_0).toLoadRect X10) (arg3.view.readAt (Elt F) (Rect.unit (s := S1x6144) ![0, 0] S1x6144.size inb_S1x6144_S1x6144_0_0).toLoadRect X3) (arg11.view.readAt (Elt F) (Rect.unit (s := S256x6144) (k3_off1 k) S1x6144.size (k3_off1_inb k)).toLoadRect X11) (arg13.view.readAt (Elt F) (Rect.unit (s := S1x2048) ![0, 0] S1x2048.size inb_S1x2048_S1x2048_0_0).toLoadRect f)
/-- The state buffer's contents before step `k`. -/
def bufD2 : ℕ → BufTy.Contents (Elt F) arg13.view.ty
  | 0 => G13
  | k + 1 => if hk : k < k3_t1_loop.trips then
      arg13.view.writes (Elt F) (bufD2 k) [⟨Rect.unit (s := S1x2048) ![0, 0] S1x2048.size inb_S1x2048_S1x2048_0_0, k3_pay4 (arg13.view.readAt (Elt F) (Rect.unit (s := S1x2048) ![0, 0] S1x2048.size inb_S1x2048_S1x2048_0_0).toLoadRect (bufD2 k)) (arg10.view.readAt (Elt F) (Rect.unit (s := S2048x6144) ![0, 0] S2048x6144.size inb_S2048x6144_S2048x6144_0_0).toLoadRect X10) (arg3.view.readAt (Elt F) (Rect.unit (s := S1x6144) ![0, 0] S1x6144.size inb_S1x6144_S1x6144_0_0).toLoadRect X3) (arg11.view.readAt (Elt F) (Rect.unit (s := S256x6144) (k3_off1 ⟨k, hk⟩) S1x6144.size (k3_off1_inb ⟨k, hk⟩)).toLoadRect X11) (arg13.view.readAt (Elt F) (Rect.unit (s := S1x2048) ![0, 0] S1x2048.size inb_S1x2048_S1x2048_0_0).toLoadRect (bufD2 k))⟩]
      else bufD2 k
/-- The row buffer's contents before step `k`. -/
def rowsD2 : ℕ → BufTy.Contents (Elt F) arg12.view.ty
  | 0 => G12
  | k + 1 => if hk : k < k3_t1_loop.trips then
      arg12.view.writes (Elt F) (rowsD2 k) [⟨Rect.unit (s := S256x2048) (k3_off2 ⟨k, hk⟩) S1x2048.size (k3_off2_inb ⟨k, hk⟩), k3_pay5 (arg13.view.readAt (Elt F) (Rect.unit (s := S1x2048) ![0, 0] S1x2048.size inb_S1x2048_S1x2048_0_0).toLoadRect (bufD2 arg3 arg10 arg11 arg13 X3 X10 X11 G13 k)) (arg10.view.readAt (Elt F) (Rect.unit (s := S2048x6144) ![0, 0] S2048x6144.size inb_S2048x6144_S2048x6144_0_0).toLoadRect X10) (arg3.view.readAt (Elt F) (Rect.unit (s := S1x6144) ![0, 0] S1x6144.size inb_S1x6144_S1x6144_0_0).toLoadRect X3) (arg11.view.readAt (Elt F) (Rect.unit (s := S256x6144) (k3_off1 ⟨k, hk⟩) S1x6144.size (k3_off1_inb ⟨k, hk⟩)).toLoadRect X11) (arg13.view.readAt (Elt F) (Rect.unit (s := S1x2048) ![0, 0] S1x2048.size inb_S1x2048_S1x2048_0_0).toLoadRect (bufD2 arg3 arg10 arg11 arg13 X3 X10 X11 G13 k))⟩]
      else rowsD2 k

theorem bufD2_succ (k : Fin k3_t1_loop.trips) : bufD2 arg3 arg10 arg11 arg13 X3 X10 X11 G13 (k.val + 1) =
    arg13.view.writes (Elt F) (bufD2 arg3 arg10 arg11 arg13 X3 X10 X11 G13 k.val) [⟨Rect.unit (s := S1x2048) ![0, 0] S1x2048.size inb_S1x2048_S1x2048_0_0, k3_pay4 (arg13.view.readAt (Elt F) (Rect.unit (s := S1x2048) ![0, 0] S1x2048.size inb_S1x2048_S1x2048_0_0).toLoadRect (bufD2 arg3 arg10 arg11 arg13 X3 X10 X11 G13 k.val)) (arg10.view.readAt (Elt F) (Rect.unit (s := S2048x6144) ![0, 0] S2048x6144.size inb_S2048x6144_S2048x6144_0_0).toLoadRect X10) (arg3.view.readAt (Elt F) (Rect.unit (s := S1x6144) ![0, 0] S1x6144.size inb_S1x6144_S1x6144_0_0).toLoadRect X3) (arg11.view.readAt (Elt F) (Rect.unit (s := S256x6144) (k3_off1 k) S1x6144.size (k3_off1_inb k)).toLoadRect X11) (arg13.view.readAt (Elt F) (Rect.unit (s := S1x2048) ![0, 0] S1x2048.size inb_S1x2048_S1x2048_0_0).toLoadRect (bufD2 arg3 arg10 arg11 arg13 X3 X10 X11 G13 k.val))⟩] := by
  rw [bufD2]; exact dif_pos k.isLt
theorem rowsD2_succ (k : Fin k3_t1_loop.trips) : rowsD2 arg3 arg10 arg11 arg12 arg13 X3 X10 X11 G12 G13 (k.val + 1) =
    arg12.view.writes (Elt F) (rowsD2 arg3 arg10 arg11 arg12 arg13 X3 X10 X11 G12 G13 k.val) [⟨Rect.unit (s := S256x2048) (k3_off2 k) S1x2048.size (k3_off2_inb k), k3_pay5 (arg13.view.readAt (Elt F) (Rect.unit (s := S1x2048) ![0, 0] S1x2048.size inb_S1x2048_S1x2048_0_0).toLoadRect (bufD2 arg3 arg10 arg11 arg13 X3 X10 X11 G13 k.val)) (arg10.view.readAt (Elt F) (Rect.unit (s := S2048x6144) ![0, 0] S2048x6144.size inb_S2048x6144_S2048x6144_0_0).toLoadRect X10) (arg3.view.readAt (Elt F) (Rect.unit (s := S1x6144) ![0, 0] S1x6144.size inb_S1x6144_S1x6144_0_0).toLoadRect X3) (arg11.view.readAt (Elt F) (Rect.unit (s := S256x6144) (k3_off1 k) S1x6144.size (k3_off1_inb k)).toLoadRect X11) (arg13.view.readAt (Elt F) (Rect.unit (s := S1x2048) ![0, 0] S1x2048.size inb_S1x2048_S1x2048_0_0).toLoadRect (bufD2 arg3 arg10 arg11 arg13 X3 X10 X11 G13 k.val))⟩] := by
  rw [rowsD2]; exact dif_pos k.isLt

/-- Read as a vector, the state buffer holds the iterate of the step, -/
theorem read_bufD2 (k : ℕ) : arg13.view.read (Elt F) (bufD2 arg3 arg10 arg11 arg13 X3 X10 X11 G13 k) = itD2 (arg3.view.read (Elt F) X3) (arg10.view.read (Elt F) X10) (arg11.view.read (Elt F) X11) (arg13.view.read (Elt F) G13) k := by
  induction k with
  | zero => rfl
  | succ k ih =>
    rw [bufD2, itD2]
    split
    · rw [View.read_writes_full]
      simp only [View.readAt_eq_ld, ih, ld_full, k3_pay4]
      exact shapeCast_self _ _
    · exact ih
/-- the value a step computes is the next iterate, -/
theorem valD2_eq (k : Fin k3_t1_loop.trips) : valD2 arg3 arg10 arg11 arg13 X3 X10 X11 (bufD2 arg3 arg10 arg11 arg13 X3 X10 X11 G13 k.val) k = itD2 (arg3.view.read (Elt F) X3) (arg10.view.read (Elt F) X10) (arg11.view.read (Elt F) X11) (arg13.view.read (Elt F) G13) (k.val + 1) := by
  rw [itD2_succ]; unfold valD2
  simp only [View.readAt_eq_ld, read_bufD2, ld_full]
  rfl
/-- and the row buffer holds the iterates, one to a row. -/
theorem read_rowsD2 (k : ℕ) (hk : k ≤ k3_t1_loop.trips) : arg12.view.read (Elt F) (rowsD2 arg3 arg10 arg11 arg12 arg13 X3 X10 X11 G12 G13 k)
    = fillRows (fun r j => itD2 (arg3.view.read (Elt F) X3) (arg10.view.read (Elt F) X10) (arg11.view.read (Elt F) X11) (arg13.view.read (Elt F) G13) (r + 1) (ValueIdx.ix2 0 j)) (arg12.view.read (Elt F) G12) k := by
  induction k with
  | zero => exact (fillRows_zero _ _).symm
  | succ k ih =>
    have e := rowsD2_succ arg3 arg10 arg11 arg12 arg13 X3 X10 X11 G12 G13 ⟨k, hk⟩
    dsimp only at e
    rw [e]
    refine read_row_store _ _ _ _ _ _ k (k3_off2_eq ⟨k, hk⟩) (ih (Nat.le_of_succ_le hk)) fun j => ?_
    refine congrFun (Eq.trans ?_ (valD2_eq arg3 arg10 arg11 arg13 X3 X10 X11 G13 ⟨k, hk⟩)) _
    unfold k3_pay5; exact shapeCast_self _ _
end

set_option warn.classDefReducibility false in
/-- The loop's invariant: what it reads stays; the row and the state buffer hold `rowsD2` and `bufD2` before step `k`. -/
@[sl_loop] def loopD2 (𝒱 : Variants) (c : Dev nD) (bd : Option 𝒱.V) (E : Set ℕ) (i : grid3.Coords)
    (arg1 : Memref sig .tc .vmem S256x1024 .f32) (harg1 : arg1.IsWhole)
    (arg2 : Memref sig .tc .vmem S1x6144 .f32) (harg2 : arg2.IsWhole)
    (arg3 : Memref sig .tc .vmem S1x6144 .f32) (harg3 : arg3.IsWhole)
    (arg4 : Memref sig .tc .vmem S2048x1 .bf16) (harg4 : arg4.IsWhole)
    (arg5 : Memref sig .tc .vmem S1x1 .f32) (harg5 : arg5.IsWhole)
    (arg6 : Memref sig .tc .hbm S1024x6144 .bf16) (harg6 : arg6.IsWhole)
    (arg7 : Memref sig .tc .hbm S2048x6144 .bf16) (harg7 : arg7.IsWhole)
    (arg8 : Memref sig .tc .vmem S256x1 .f32) (harg8 : arg8.IsWhole)
    (arg9 : Memref sig .tc .vmem S1024x6144 .bf16) (harg9 : arg9.IsWhole)
    (arg10 : Memref sig .tc .vmem S2048x6144 .bf16) (harg10 : arg10.IsWhole)
    (arg11 : Memref sig .tc .vmem S256x6144 .f32) (harg11 : arg11.IsWhole)
    (arg12 : Memref sig .tc .vmem S256x2048 .f32) (harg12 : arg12.IsWhole)
    (arg13 : Memref sig .tc .vmem S1x2048 .f32) (harg13 : arg13.IsWhole)
    (arg14 : DmaSems sig S_) (arg15 : DmaSems sig S_)
    (X3 : BufTy.Contents (Elt F) arg3.view.ty) (X10 : BufTy.Contents (Elt F) arg10.view.ty) (X11 : BufTy.Contents (Elt F) arg11.view.ty) (G12 : BufTy.Contents (Elt F) arg12.view.ty) (G13 : BufTy.Contents (Elt F) arg13.view.ty) :
    LoopInvTy_k3_t1 (F := F) Unit ℕ (Pipeline.UD sig nD τ) ℕ 𝒱 c bd E i arg1 harg1 arg2 harg2 arg3 harg3 arg4 harg4 arg5 harg5 arg6 harg6 arg7 harg7 arg8 harg8 arg9 harg9 arg10 harg10 arg11 harg11 arg12 harg12 arg13 harg13 arg14 arg15 where
  inv k _ := iprop((arg3.view.loc (c : Thread nD τ) ↦[arg3.view.set]{fullShare} X3) ∗ (arg10.view.loc (c : Thread nD τ) ↦[arg10.view.set]{fullShare} X10) ∗ (arg11.view.loc (c : Thread nD τ) ↦[arg11.view.set]{fullShare} X11)
    ∗ (∃ f, (arg12.view.loc (c : Thread nD τ) ↦[arg12.view.set]{fullShare} f) ∗ ⌜f = rowsD2 arg3 arg10 arg11 arg12 arg13 X3 X10 X11 G12 G13 k⌝)
    ∗ (∃ f, (arg13.view.loc (c : Thread nD τ) ↦[arg13.view.set]{fullShare} f) ∗ ⌜f = bufD2 arg3 arg10 arg11 arg13 X3 X10 X11 G13 k⌝))
  step k acc := by
    have hk : k.val < 256 := Nat.lt_of_lt_of_le k.isLt k3_t1_abs.2.1
    unfold k3_t1_body
    iintro ⟨H3, H10, H11, ⟨%f, Ho, %hf⟩, ⟨%g, Hs, %hg⟩⟩
    subst hf; subst hg
    sl_exec
    sl_step
    isplitl [H3]; · iexact H3
    isplitl [H10]; · iexact H10
    isplitl [H11]; · iexact H11
    isplitl [Ho]
    · iexists _
      isplitl [Ho]; · iexact Ho
      ipureintro
      exact (rowsD2_succ _ _ _ _ _ _ _ _ _ _ k).symm
    iexists _
    isplitl [Hs]; · iexact Hs
    ipureintro
    exact (bufD2_succ _ _ _ _ _ _ _ _ k).symm

end Cert.KernelIdeal.Gru

end
-- ==== Proof.BodyD2.lean ====
/- The body of the fourth call (`gru_d2`) at one grid point, run twice: at the first point, where it copies the weights
   from HBM and clears the state, and at a later point, where the weights and the state are those the point before
   left. Each triple states what every buffer holds afterwards.  -/
module

public import proofs.«01_k».proof.Proof.LoopD2

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig Unit (Elt F) ℕ (Pipeline.UD sig nD τ) ℕ

/-- The state after one grid point. -/
def ptD2 (bih bhh : Vec F S1x6144 .f32) (wih : Vec F S1024x6144 .bf16) (whh : Vec F S2048x6144 .bf16) (x : Vec F S256x1024 .f32) (h : Vec F S1x2048 .f32) : Vec F S1x2048 .f32 :=
  itD2 bhh whh (k3_pay2 x wih bih) h k3_t1_loop.trips
/-- The states of the recurrence over one block, one to a row. -/
def ysD2 (bhh : Vec F S1x6144 .f32) (whh : Vec F S2048x6144 .bf16) (xg : Vec F S256x6144 .f32) (h : Vec F S1x2048 .f32) : Vec F S256x2048 .f32 :=
  fun y => itD2 bhh whh xg h ((y 0).val + 1) (ValueIdx.ix2 0 (y 1))
/-- What one grid point writes: the states, each projected to one number. -/
def outD2 (bih bhh : Vec F S1x6144 .f32) (ow : Vec F S2048x1 .bf16) (ob : Vec F S1x1 .f32) (wih : Vec F S1024x6144 .bf16) (whh : Vec F S2048x6144 .bf16) (x : Vec F S256x1024 .f32) (h : Vec F S1x2048 .f32) : Vec F S256x1 .f32 :=
  k3_pay6 (ysD2 bhh whh (k3_pay2 x wih bih) h) ow ob
theorem read_allD2 (arg3 : Memref sig .tc .vmem S1x6144 .f32) (arg10 : Memref sig .tc .vmem S2048x6144 .bf16) (arg11 : Memref sig .tc .vmem S256x6144 .f32)
    (arg12 : Memref sig .tc .vmem S256x2048 .f32) (arg13 : Memref sig .tc .vmem S1x2048 .f32) (X3 X10 X11 G12 G13) :
    arg12.view.read (Elt F) (rowsD2 arg3 arg10 arg11 arg12 arg13 X3 X10 X11 G12 G13 (Scf.trips 0#32 (Scalar.addi 0#32 256#32) 1#32))
      = ysD2 (arg3.view.read (Elt F) X3) (arg10.view.read (Elt F) X10) (arg11.view.read (Elt F) X11) (arg13.view.read (Elt F) G13) := by
  refine Eq.trans (congrArg (arg12.view.read (Elt F)) (show _ = rowsD2 arg3 arg10 arg11 arg12 arg13 X3 X10 X11 G12 G13 k3_t1_loop.trips from rfl)) ?_
  rw [read_rowsD2 _ _ _ _ _ _ _ _ _ _ _ le_rfl, fillRows_all _ _ (le_of_eq tripsD2.symm)]; rfl

/-- The branch taken at the first grid point. -/
abbrev condD2 (i : grid3.Coords) : Prop := (Scalar.cmpi .ne (Scalar.extui (Scalar.cmpi .eq (BitVec.ofNat 32 (i 0).val) 0#32)) 0#32) = 1#1
theorem hcondD2 : ∀ t : Fin cfg3.N, condD2 (grid3.coords t) ↔ t.val % 16 = 0 :=
  (fun t => by
    have ht : t.val < 16 := Nat.lt_of_lt_of_eq t.isLt N_3
    have e0 : (grid3.coords t 0).val = t.val / 1 % 16 := Pipeline.Grid.coords_val t 0 (by decide) rfl
    simp only [condD2, e0]
    word_cmp
   : ∀ t : Fin grid3.N, condD2 (grid3.coords t) ↔ t.val % 16 = 0)

section
variable (c : Dev nD) (i : grid3.Coords)
    (arg1 : Memref sig .tc .vmem S256x1024 .f32) (harg1 : arg1.IsWhole)
    (arg2 : Memref sig .tc .vmem S1x6144 .f32) (harg2 : arg2.IsWhole)
    (arg3 : Memref sig .tc .vmem S1x6144 .f32) (harg3 : arg3.IsWhole)
    (arg4 : Memref sig .tc .vmem S2048x1 .bf16) (harg4 : arg4.IsWhole)
    (arg5 : Memref sig .tc .vmem S1x1 .f32) (harg5 : arg5.IsWhole)
    (arg8 : Memref sig .tc .vmem S256x1 .f32) (harg8 : arg8.IsWhole)
    (arg9 : Memref sig .tc .vmem S1024x6144 .bf16) (harg9 : arg9.IsWhole)
    (arg10 : Memref sig .tc .vmem S2048x6144 .bf16) (harg10 : arg10.IsWhole)
    (arg11 : Memref sig .tc .vmem S256x6144 .f32) (harg11 : arg11.IsWhole)
    (arg12 : Memref sig .tc .vmem S256x2048 .f32) (harg12 : arg12.IsWhole)
    (arg13 : Memref sig .tc .vmem S1x2048 .f32) (harg13 : arg13.IsWhole)
    (x : Vec F S256x1024 .f32) (bih : Vec F S1x6144 .f32) (bhh : Vec F S1x6144 .f32) (ow : Vec F S2048x1 .bf16) (ob : Vec F S1x1 .f32)
    (fh0 : HbBuf (F := F) c (Memref.whole main_v26)) (fh1 : HbBuf (F := F) c (Memref.whole main_v28))

set_option maxHeartbeats 1000000 in
/-- The first point. -/
theorem firstD2 (hc : condD2 i) (W : Waits sig Unit) (K : PUnit → sProp 𝕄) :
    iprop(owns (c : Thread nD τ) arg1 fullShare x ∗ owns (c : Thread nD τ) arg2 fullShare bih ∗ owns (c : Thread nD τ) arg3 fullShare bhh ∗ owns (c : Thread nD τ) arg4 fullShare ow ∗ owns (c : Thread nD τ) arg5 fullShare ob ∗ (∃ d, owns (c : Thread nD τ) arg8 fullShare d)
        ∗ (∃ d, owns (c : Thread nD τ) arg9 fullShare d) ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d)
        ∗ semVal ((c : Thread nD τ), SemLoc.dma 30) 0 ∗ semVal ((c : Thread nD τ), SemLoc.dma 31) 0 ∗ hbPt c (Memref.whole main_v26) fh0 ∗ hbPt c (Memref.whole main_v28) fh1 ∗ owes (c : Thread nD τ) 0 W
        ∗ (iprop(owns (c : Thread nD τ) arg1 fullShare x ∗ owns (c : Thread nD τ) arg2 fullShare bih ∗ owns (c : Thread nD τ) arg3 fullShare bhh ∗ owns (c : Thread nD τ) arg4 fullShare ow ∗ owns (c : Thread nD τ) arg5 fullShare ob ∗ owns (c : Thread nD τ) arg8 fullShare (outD2 bih bhh ow ob ((Memref.whole main_v26).view.read (Elt F) fh0) ((Memref.whole main_v28).view.read (Elt F) fh1) x k3_pay1)
            ∗ owns (c : Thread nD τ) arg9 fullShare ((Memref.whole main_v26).view.read (Elt F) fh0) ∗ owns (c : Thread nD τ) arg10 fullShare ((Memref.whole main_v28).view.read (Elt F) fh1) ∗ (∃ d, owns (c : Thread nD τ) arg11 fullShare d) ∗ (∃ d, owns (c : Thread nD τ) arg12 fullShare d) ∗ owns (c : Thread nD τ) arg13 fullShare (ptD2 bih bhh ((Memref.whole main_v26).view.read (Elt F) fh0) ((Memref.whole main_v28).view.read (Elt F) fh1) x k3_pay1)
            ∗ semVal ((c : Thread nD τ), SemLoc.dma 30) 0 ∗ semVal ((c : Thread nD τ), SemLoc.dma 31) 0 ∗ hbPt c (Memref.whole main_v26) fh0 ∗ hbPt c (Memref.whole main_v28) fh1 ∗ (∃ W', owes (c : Thread nD τ) 0 W')) -∗ K ⟨⟩))
      ⊢ wp frame (wpE (defs₀ (F := F)) Variants.none c none) Set.univ (cc3_gru_d2 i arg1 harg1 arg2 harg2 arg3 harg3 arg4 harg4 arg5 harg5 (Memref.whole main_v26) (Memref.isWhole_whole _) (Memref.whole main_v28) (Memref.isWhole_whole _) arg8 harg8 arg9 harg9 arg10 harg10 arg11 harg11 arg12 harg12 arg13 harg13 cc3_scratch5 cc3_scratch6) K := by
    simp only [cc3_gru_d2_eq_skeleton]; unfold cc3_gru_d2_skel
    unfold owns
    iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%d9, %f9, -, H9⟩, ⟨%d10, %f10, -, H10⟩, ⟨%d11, %f11, -, H11⟩, ⟨%d12, %f12, -, H12⟩, ⟨%d13, %f13, -, H13⟩, Hq30, Hq31, Hh0, Hh1, HW, Hk⟩
    obtain rfl := harg1.eq_unread hf1; obtain rfl := harg2.eq_unread hf2; obtain rfl := harg3.eq_unread hf3; obtain rfl := harg4.eq_unread hf4; obtain rfl := harg5.eq_unread hf5
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H8]
    · iexists _; isplitr; swap; · iexact H8
      ipureintro
      rw [View.read_writes_full]
      sl_unfold_words
      simp only [View.readAt_eq_ld, read_bufD2, read_allD2, ld_full, read_writes_whole, readCov_whole, read_store, ← View.writes_singleton, View.writes_nil, harg1.read_unread, harg2.read_unread, harg3.read_unread, harg4.read_unread, harg5.read_unread]
      rfl
    isplitl [H9]
    · iexists _; isplitr; swap; · iexact H9
      ipureintro
      rw [read_writes_whole]; sl_unfold_words; rfl
    isplitl [H10]
    · iexists _; isplitr; swap; · iexact H10
      ipureintro
      rw [read_writes_whole]; sl_unfold_words; rfl
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro
      sl_unfold_words
      simp only [View.readAt_eq_ld, read_bufD2, read_allD2, ld_full, read_writes_whole, readCov_whole, read_store, ← View.writes_singleton, View.writes_nil, harg1.read_unread, harg2.read_unread, harg3.read_unread, harg4.read_unread, harg5.read_unread]
      rfl
    isplitl [Hq30]; · iexact Hq30
    isplitl [Hq31]; · iexact Hq31
    isplitl [Hh0]; · iexact Hh0
    isplitl [Hh1]; · iexact Hh1
    iexists _; iexact HW

set_option maxHeartbeats 1000000 in
/-- A later point. -/
theorem laterD2 (hc : ¬condD2 i) (w9 : Vec F S1024x6144 .bf16) (w10 : Vec F S2048x6144 .bf16) (h : Vec F S1x2048 .f32) (W : Waits sig Unit) (K : PUnit → sProp 𝕄) :
    iprop(owns (c : Thread nD τ) arg1 fullShare x ∗ owns (c : Thread nD τ) arg2 fullShare bih ∗ owns (c : Thread nD τ) arg3 fullShare bhh ∗ owns (c : Thread nD τ) arg4 fullShare ow ∗ owns (c : Thread nD τ) arg5 fullShare ob ∗ (∃ d, owns (c : Thread nD τ) arg8 fullShare d)
        ∗ owns (c : Thread nD τ) arg9 fullShare w9 ∗ owns (c : Thread nD τ) arg10 fullShare w10 ∗ (∃ d, owns (c : Thread nD τ) arg11 fullShare d) ∗ (∃ d, owns (c : Thread nD τ) arg12 fullShare d) ∗ owns (c : Thread nD τ) arg13 fullShare h
        ∗ semVal ((c : Thread nD τ), SemLoc.dma 30) 0 ∗ semVal ((c : Thread nD τ), SemLoc.dma 31) 0 ∗ hbPt c (Memref.whole main_v26) fh0 ∗ hbPt c (Memref.whole main_v28) fh1 ∗ owes (c : Thread nD τ) 0 W
        ∗ (iprop(owns (c : Thread nD τ) arg1 fullShare x ∗ owns (c : Thread nD τ) arg2 fullShare bih ∗ owns (c : Thread nD τ) arg3 fullShare bhh ∗ owns (c : Thread nD τ) arg4 fullShare ow ∗ owns (c : Thread nD τ) arg5 fullShare ob ∗ owns (c : Thread nD τ) arg8 fullShare (outD2 bih bhh ow ob w9 w10 x h)
            ∗ owns (c : Thread nD τ) arg9 fullShare w9 ∗ owns (c : Thread nD τ) arg10 fullShare w10 ∗ (∃ d, owns (c : Thread nD τ) arg11 fullShare d) ∗ (∃ d, owns (c : Thread nD τ) arg12 fullShare d) ∗ owns (c : Thread nD τ) arg13 fullShare (ptD2 bih bhh w9 w10 x h)
            ∗ semVal ((c : Thread nD τ), SemLoc.dma 30) 0 ∗ semVal ((c : Thread nD τ), SemLoc.dma 31) 0 ∗ hbPt c (Memref.whole main_v26) fh0 ∗ hbPt c (Memref.whole main_v28) fh1 ∗ (∃ W', owes (c : Thread nD τ) 0 W')) -∗ K ⟨⟩))
      ⊢ wp frame (wpE (defs₀ (F := F)) Variants.none c none) Set.univ (cc3_gru_d2 i arg1 harg1 arg2 harg2 arg3 harg3 arg4 harg4 arg5 harg5 (Memref.whole main_v26) (Memref.isWhole_whole _) (Memref.whole main_v28) (Memref.isWhole_whole _) arg8 harg8 arg9 harg9 arg10 harg10 arg11 harg11 arg12 harg12 arg13 harg13 cc3_scratch5 cc3_scratch6) K := by
    simp only [cc3_gru_d2_eq_skeleton]; unfold cc3_gru_d2_skel
    unfold owns
    iintro ⟨⟨%f1, %hf1, H1⟩, ⟨%f2, %hf2, H2⟩, ⟨%f3, %hf3, H3⟩, ⟨%f4, %hf4, H4⟩, ⟨%f5, %hf5, H5⟩, ⟨%d8, %f8, -, H8⟩, ⟨%f9, %hs9, H9⟩, ⟨%f10, %hs10, H10⟩, ⟨%d11, %f11, -, H11⟩, ⟨%d12, %f12, -, H12⟩, ⟨%f13, %hs13, H13⟩, Hq30, Hq31, Hh0, Hh1, HW, Hk⟩
    obtain rfl := harg1.eq_unread hf1; obtain rfl := harg2.eq_unread hf2; obtain rfl := harg3.eq_unread hf3; obtain rfl := harg4.eq_unread hf4; obtain rfl := harg5.eq_unread hf5
    sl_exec (disch := first | sl_exact hc)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H8]
    · iexists _; isplitr; swap; · iexact H8
      ipureintro
      rw [View.read_writes_full]
      sl_unfold_words
      simp only [View.readAt_eq_ld, read_bufD2, read_allD2, ld_full, read_writes_whole, readCov_whole, read_store, ← View.writes_singleton, View.writes_nil, harg1.read_unread, harg2.read_unread, harg3.read_unread, harg4.read_unread, harg5.read_unread, hs9, hs10, hs13]
      rfl
    isplitl [H9]
    · iexists _; isplitr; swap; · iexact H9
      ipureintro
      exact hs9
    isplitl [H10]
    · iexists _; isplitr; swap; · iexact H10
      ipureintro
      exact hs10
    isplitl [H11]
    · iexists _, _; isplitr; swap; · iexact H11
      ipureintro; rfl
    isplitl [H12]
    · iexists _, _; isplitr; swap; · iexact H12
      ipureintro; rfl
    isplitl [H13]
    · iexists _; isplitr; swap; · iexact H13
      ipureintro
      sl_unfold_words
      simp only [View.readAt_eq_ld, read_bufD2, read_allD2, ld_full, read_writes_whole, readCov_whole, read_store, ← View.writes_singleton, View.writes_nil, harg1.read_unread, harg2.read_unread, harg3.read_unread, harg4.read_unread, harg5.read_unread, hs9, hs10, hs13]
      rfl
    isplitl [Hq30]; · iexact Hq30
    isplitl [Hq31]; · iexact Hq31
    isplitl [Hh0]; · iexact Hh0
    isplitl [Hh1]; · iexact Hh1
    iexists _; iexact HW
end

end Cert.KernelIdeal.Gru

end
-- ==== Proof.RegD2.lean ====
/- The fourth call (`gru_d2`) as a region of the program: the contents its windows and its scratch have at every
   grid point, from the contents `W` the buffers have when the region is entered.  -/
module

public import proofs.«01_k».proof.Proof.BodyD2
public import Idealize.ShloMosaic.Lib.Pipeline.Value
public import Idealize.ShloMosaic.Lib.Pipeline.ValueKit

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (Pipeline.UD sig nD τ) ℕ

/-- The semaphores the body's own transfers complete on. -/
abbrev osemD2 : Fin 2 → SemLoc sig := fun j => (![SemLoc.dma 30, SemLoc.dma 31] : Fin 2 → SemLoc sig) j
theorem ownSemFactsD2 : Pipeline.OwnSemFacts spec3 osemD2 := by decide
/-- The HBM operands the body copies from. -/
def HD2 : Finset (Ref sig .tc) := {main_v26, main_v28}

theorem ownSemsD2_eq (c : Dev nD) :
    (Pipeline.ownSems0 (Ix := Unit) (Name := ℕ) (U := Pipeline.UD sig nD τ) (Lvl := ℕ) (Val := Elt F) (τ := τ) osemD2 c : sProp 𝕄)
      = iprop(semVal ((c : Thread nD τ), SemLoc.dma 30) 0 ∗ semVal ((c : Thread nD τ), SemLoc.dma 31) 0) := by
  rw [Pipeline.ownSems0_eq_of_list c osemD2 [0, 1] (by decide) (by decide)]; rfl

section
variable (W : Dev nD → Valuation τ sig (Elt F)) (c : Dev nD)

/-- The block of window `w` at point `t`, read off its array as the region finds it. -/
def iblkD2 (w : Fin cfg3.W) (t : Fin cfg3.N) : ((cfg3.win w).xblock (cfg3.grid.coords t)).Idx → Elt F (cfg3.win w).elt :=
  ((cfg3.win w).blk t).view.read (Elt F) (W c (Proc.devRef .tc (Pipeline.arrRef spec3 w)))

/-- The input weights as the region finds them. -/
abbrev wihD2 : Vec F S1024x6144 .bf16 := W c (Proc.devRef .tc main_v26)
/-- The recurrent weights as the region finds them. -/
abbrev whhD2 : Vec F S2048x6144 .bf16 := W c (Proc.devRef .tc main_v28)

/-- The state after `n` grid points. -/
def stD2 : ℕ → Vec F S1x2048 .f32
  | 0 => k3_pay1
  | n + 1 => if hn : n < cfg3.N then
      ptD2 (iblkD2 W c 1 ⟨n, hn⟩) (iblkD2 W c 2 ⟨n, hn⟩) (wihD2 W c) (whhD2 W c) (iblkD2 W c 0 ⟨n, hn⟩) (stD2 n) else stD2 n
theorem stD2_succ (t : Fin cfg3.N) : stD2 W c (t.val + 1) =
    ptD2 (iblkD2 W c 1 t) (iblkD2 W c 2 t) (wihD2 W c) (whhD2 W c) (iblkD2 W c 0 t) (stD2 W c t.val) := by
  rw [stD2]; exact dif_pos t.isLt

/-- What point `t` writes. -/
def outD2At (t : Fin cfg3.N) : Vec F S256x1 .f32 := outD2 (iblkD2 W c 1 t) (iblkD2 W c 2 t) (iblkD2 W c 3 t) (iblkD2 W c 4 t) (wihD2 W c) (whhD2 W c) (iblkD2 W c 0 t) (stD2 W c t.val)

theorem hbmD2_eq : (bigSep HD2 (fun b => ((c.tc : Thread nD τ).loc b) ↦{fullShare} W c (Proc.devRef .tc b)) : sProp 𝕄)
    = iprop(hbPt c (Memref.whole main_v26) (W c (Proc.devRef .tc main_v26)) ∗ hbPt c (Memref.whole main_v28) (W c (Proc.devRef .tc main_v28))) := by
  unfold HD2; rw [BI.bigSep_eq_bigSepL_of_eq [main_v26, main_v28] (by decide) (by decide)]; rfl

/-- What the invariant carries unchanged: the other calls' scoped buffers, the generator register, the
    semaphores at zero, the HBM operands. -/
def restD2 : sProp 𝕄 :=
  iprop(Pipeline.scopedRestBut (Ix := Unit) (Name := ℕ) (U := Pipeline.UD sig nD τ) (Lvl := ℕ) (Val := Elt F) spec3 c [cc3_scratch0, cc3_scratch1, cc3_scratch2, cc3_scratch3, cc3_scratch4]
    ∗ (∃ r, prngReg c r) ∗ iprop(semVal ((c : Thread nD τ), SemLoc.dma 30) 0 ∗ semVal ((c : Thread nD τ), SemLoc.dma 31) 0)
    ∗ iprop(hbPt c (Memref.whole main_v26) (W c (Proc.devRef .tc main_v26)) ∗ hbPt c (Memref.whole main_v28) (W c (Proc.devRef .tc main_v28))))

/-- The region's invariant before point `n`: before the first, the scratch at anything; later the weights copied and
    the state so far. -/
def PhiD2 : ℕ → sProp 𝕄
  | 0 => iprop(iprop((∃ d, owns (c : Thread nD τ) (Memref.whole cc3_scratch0) fullShare d) ∗ (∃ d, owns (c : Thread nD τ) (Memref.whole cc3_scratch1) fullShare d) ∗ (∃ d, owns (c : Thread nD τ) (Memref.whole cc3_scratch2) fullShare d) ∗ (∃ d, owns (c : Thread nD τ) (Memref.whole cc3_scratch3) fullShare d) ∗ (∃ d, owns (c : Thread nD τ) (Memref.whole cc3_scratch4) fullShare d)) ∗ restD2 W c)
  | n + 1 => iprop(iprop(owns (c : Thread nD τ) (Memref.whole cc3_scratch0) fullShare (wihD2 W c) ∗ owns (c : Thread nD τ) (Memref.whole cc3_scratch1) fullShare (whhD2 W c) ∗ (∃ d, owns (c : Thread nD τ) (Memref.whole cc3_scratch2) fullShare d) ∗ (∃ d, owns (c : Thread nD τ) (Memref.whole cc3_scratch3) fullShare d) ∗ owns (c : Thread nD τ) (Memref.whole cc3_scratch4) fullShare (stD2 W c (n + 1))) ∗ restD2 W c)

/-- The region's proof data. -/
def datD2 : Dat τ (Elt F) Unit ℕ (Pipeline.UD sig nD τ) ℕ cfg3 c where
  A w := W c (Proc.devRef .tc (Pipeline.arrRef spec3 w))
  after w t := match w with
    | ⟨0, _⟩ => iblkD2 W c 0 t
    | ⟨1, _⟩ => iblkD2 W c 1 t
    | ⟨2, _⟩ => iblkD2 W c 2 t
    | ⟨3, _⟩ => iblkD2 W c 3 t
    | ⟨4, _⟩ => iblkD2 W c 4 t
    | ⟨5, _⟩ => outD2At W c t
  Φ t := PhiD2 W c t.val
  q _ := fullShare
  owed _ := 0

theorem A_D2 (w : Fin cfg3.W) : (datD2 W c).A w = W c (Proc.devRef .tc (Pipeline.arrRef spec3 w)) := by dsimp only [datD2]
theorem after_D2_0 (t : Fin cfg3.N) : (datD2 W c).after 0 t = iblkD2 W c 0 t := by dsimp only [datD2]
theorem after_D2_1 (t : Fin cfg3.N) : (datD2 W c).after 1 t = iblkD2 W c 1 t := by dsimp only [datD2]
theorem after_D2_2 (t : Fin cfg3.N) : (datD2 W c).after 2 t = iblkD2 W c 2 t := by dsimp only [datD2]
theorem after_D2_3 (t : Fin cfg3.N) : (datD2 W c).after 3 t = iblkD2 W c 3 t := by dsimp only [datD2]
theorem after_D2_4 (t : Fin cfg3.N) : (datD2 W c).after 4 t = iblkD2 W c 4 t := by dsimp only [datD2]
theorem after_D2_5 (t : Fin cfg3.N) : (datD2 W c).after 5 t = outD2At W c t := by dsimp only [datD2]

/-- An input window's staging buffer holds its block at every point. -/
theorem before_D2_0 (t : Fin cfg3.N) (d) : (datD2 W c).before 0 t d = iblkD2 W c 0 t :=
  ((datD2 W c).before_in_eq_fetched 0 rfl (fun _ => rfl) (fun _ _ _ => rfl) (fun t => by rw [after_D2_0]; unfold Dat.blockOf iblkD2; rw [A_D2]; try rfl) t d).trans
    (by unfold Dat.fetched Dat.blockOf iblkD2; rw [A_D2]; try rfl)
theorem before_D2_1 (t : Fin cfg3.N) (d) : (datD2 W c).before 1 t d = iblkD2 W c 1 t :=
  ((datD2 W c).before_in_eq_fetched 1 rfl (fun _ => rfl) (fun _ _ _ => rfl) (fun t => by rw [after_D2_1]; unfold Dat.blockOf iblkD2; rw [A_D2]; try rfl) t d).trans
    (by unfold Dat.fetched Dat.blockOf iblkD2; rw [A_D2]; try rfl)
theorem before_D2_2 (t : Fin cfg3.N) (d) : (datD2 W c).before 2 t d = iblkD2 W c 2 t :=
  ((datD2 W c).before_in_eq_fetched 2 rfl (fun _ => rfl) (fun _ _ _ => rfl) (fun t => by rw [after_D2_2]; unfold Dat.blockOf iblkD2; rw [A_D2]; try rfl) t d).trans
    (by unfold Dat.fetched Dat.blockOf iblkD2; rw [A_D2]; try rfl)
theorem before_D2_3 (t : Fin cfg3.N) (d) : (datD2 W c).before 3 t d = iblkD2 W c 3 t :=
  ((datD2 W c).before_in_eq_fetched 3 rfl (fun _ => rfl) (fun _ _ _ => rfl) (fun t => by rw [after_D2_3]; unfold Dat.blockOf iblkD2; rw [A_D2]; try rfl) t d).trans
    (by unfold Dat.fetched Dat.blockOf iblkD2; rw [A_D2]; try rfl)
theorem before_D2_4 (t : Fin cfg3.N) (d) : (datD2 W c).before 4 t d = iblkD2 W c 4 t :=
  ((datD2 W c).before_in_eq_fetched 4 rfl (fun _ => rfl) (fun _ _ _ => rfl) (fun t => by rw [after_D2_4]; unfold Dat.blockOf iblkD2; rw [A_D2]; try rfl) t d).trans
    (by unfold Dat.fetched Dat.blockOf iblkD2; rw [A_D2]; try rfl)

/-- What the body is called with at point `t`, window by window, -/
def preD2 (t : Fin cfg3.N) : sProp 𝕄 :=
  iprop((datD2 W c).Φ t.castSucc ∗ (datD2 W c).owesAt () t.castSucc
    ∗ (∃ d, owns (c : Thread nD τ) (st3_0 t) fullShare ((datD2 W c).before 0 t d))
    ∗ (∃ d, owns (c : Thread nD τ) (st3_1 t) fullShare ((datD2 W c).before 1 t d))
    ∗ (∃ d, owns (c : Thread nD τ) (st3_2 t) fullShare ((datD2 W c).before 2 t d))
    ∗ (∃ d, owns (c : Thread nD τ) (st3_3 t) fullShare ((datD2 W c).before 3 t d))
    ∗ (∃ d, owns (c : Thread nD τ) (st3_4 t) fullShare ((datD2 W c).before 4 t d))
    ∗ (∃ d, owns (c : Thread nD τ) (st3_5 t) fullShare ((datD2 W c).before 5 t d)))
/-- and what it returns. -/
def postD2 (t : Fin cfg3.N) : sProp 𝕄 :=
  iprop((datD2 W c).Φ t.succ ∗ (datD2 W c).owesAt () t.succ
    ∗ owns (c : Thread nD τ) (st3_0 t) fullShare ((datD2 W c).after 0 t)
    ∗ owns (c : Thread nD τ) (st3_1 t) fullShare ((datD2 W c).after 1 t)
    ∗ owns (c : Thread nD τ) (st3_2 t) fullShare ((datD2 W c).after 2 t)
    ∗ owns (c : Thread nD τ) (st3_3 t) fullShare ((datD2 W c).after 3 t)
    ∗ owns (c : Thread nD τ) (st3_4 t) fullShare ((datD2 W c).after 4 t)
    ∗ owns (c : Thread nD τ) (st3_5 t) fullShare ((datD2 W c).after 5 t))

set_option maxHeartbeats 1600000 in
/-- The body at any point takes the invariant to the next point's. -/
theorem soundD2 (t : Fin cfg3.N) :
    preD2 W c t ⊢ wp frame (wpE (defs₀ (F := F)) Variants.none c none) Set.univ (bodyAt3 t) (fun _ => postD2 W c t) := by
  unfold preD2 postD2 bodyAt3
  simp only [before_D2_0, before_D2_1, before_D2_2, before_D2_3, before_D2_4]
  rw [show (datD2 W c).Φ t.succ = PhiD2 W c (t.val + 1) from rfl, show (datD2 W c).Φ t.castSucc = PhiD2 W c t.val from rfl,
    after_D2_0, after_D2_1, after_D2_2, after_D2_3, after_D2_4, after_D2_5]
  unfold Dat.owesAt Pipeline.owesWithin
  rw [show (datD2 W c).owed t.castSucc = 0 from rfl, show (datD2 W c).owed t.succ = 0 from rfl]
  have hN : t.val < 16 := lt_of_lt_of_eq t.isLt (show cfg3.N = 16 from N_3)
  rw [PhiD2, stD2_succ]
  by_cases hz : t.val = 0
  · unfold outD2At
    rw [hz, PhiD2]; unfold restD2; rw [show stD2 W c 0 = k3_pay1 from rfl]
    iintro ⟨⟨⟨HS0, HS1, HS2, HS3, HS4⟩, Hb, Hg, ⟨Hq0, Hq1⟩, ⟨Hh0, Hh1⟩⟩, ⟨%Wt, -, HW⟩, ⟨%d0, H0⟩, ⟨%d1, H1⟩, ⟨%d2, H2⟩, ⟨%d3, H3⟩, ⟨%d4, H4⟩, ⟨%d5, H5⟩⟩
    iapply (firstD2 c (grid3.coords t) _ _ _ _ _ _ _ _ _ _ _ _ _ _ _ _ _ _ _ _ _ _ (iblkD2 W c 0 t) (iblkD2 W c 1 t) (iblkD2 W c 2 t) (iblkD2 W c 3 t) (iblkD2 W c 4 t) (W c (Proc.devRef .tc main_v26)) (W c (Proc.devRef .tc main_v28)) ((hcondD2 t).mpr (by omega)) Wt _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, HS0, HS1, HS2, HS3, HS4, Hq0, Hq1, Hh0, Hh1, ⟨%W', HW'⟩⟩
    isplitl [HS0 HS1 HS2 HS3 HS4 Hb Hg Hq0 Hq1 Hh0 Hh1]
    · isplitl [HS0 HS1 HS2 HS3 HS4]
      · isplitl [HS0]; · iexact HS0
        isplitl [HS1]; · iexact HS1
        isplitl [HS2]; · iexact HS2
        isplitl [HS3]; · iexact HS3
        iexact HS4
      isplitl [Hb]; · iexact Hb
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5
  · obtain ⟨n, hn⟩ := Nat.exists_eq_succ_of_ne_zero hz
    rw [show PhiD2 W c t.val = PhiD2 W c (n + 1) from by rw [hn], PhiD2, show stD2 W c (n + 1) = stD2 W c t.val from by rw [hn]]
    unfold restD2
    iintro ⟨⟨⟨HS0, HS1, HS2, HS3, HS4⟩, Hb, Hg, ⟨Hq0, Hq1⟩, ⟨Hh0, Hh1⟩⟩, ⟨%Wt, -, HW⟩, ⟨%d0, H0⟩, ⟨%d1, H1⟩, ⟨%d2, H2⟩, ⟨%d3, H3⟩, ⟨%d4, H4⟩, ⟨%d5, H5⟩⟩
    iapply (laterD2 c (grid3.coords t) _ _ _ _ _ _ _ _ _ _ _ _ _ _ _ _ _ _ _ _ _ _ (iblkD2 W c 0 t) (iblkD2 W c 1 t) (iblkD2 W c 2 t) (iblkD2 W c 3 t) (iblkD2 W c 4 t) (W c (Proc.devRef .tc main_v26)) (W c (Proc.devRef .tc main_v28)) (fun h => hz (by have := (hcondD2 t).mp h; omega)) (wihD2 W c) (whhD2 W c) (stD2 W c t.val) Wt _)
    isplitl [H0]; · iexact H0
    isplitl [H1]; · iexact H1
    isplitl [H2]; · iexact H2
    isplitl [H3]; · iexact H3
    isplitl [H4]; · iexact H4
    isplitl [H5]; · iexists _; iexact H5
    isplitl [HS0]; · iexact HS0
    isplitl [HS1]; · iexact HS1
    isplitl [HS2]; · iexact HS2
    isplitl [HS3]; · iexact HS3
    isplitl [HS4]; · iexact HS4
    isplitl [Hq0]; · iexact Hq0
    isplitl [Hq1]; · iexact Hq1
    isplitl [Hh0]; · iexact Hh0
    isplitl [Hh1]; · iexact Hh1
    isplitl [HW]; · iexact HW
    iintro ⟨H0, H1, H2, H3, H4, H5, HS0, HS1, HS2, HS3, HS4, Hq0, Hq1, Hh0, Hh1, ⟨%W', HW'⟩⟩
    isplitl [HS0 HS1 HS2 HS3 HS4 Hb Hg Hq0 Hq1 Hh0 Hh1]
    · isplitl [HS0 HS1 HS2 HS3 HS4]
      · isplitl [HS0]; · iexact HS0
        isplitl [HS1]; · iexact HS1
        isplitl [HS2]; · iexact HS2
        isplitl [HS3]; · iexact HS3
        iexact HS4
      isplitl [Hb]; · iexact Hb
      isplitl [Hg]; · iexact Hg
      isplitl [Hq0 Hq1]
      · isplitl [Hq0]; · iexact Hq0
        iexact Hq1
      isplitl [Hh0]; · iexact Hh0
      iexact Hh1
    isplitl [HW']
    · iexists W'; isplitr; · ipureintro; exact fun _ _ => Or.inl trivial
      iexact HW'
    isplitl [H0]; · iexact H0
    isplitl [H1]; · iexact H1
    isplitl [H2]; · iexact H2
    isplitl [H3]; · iexact H3
    isplitl [H4]; · iexact H4
    iexact H5

theorem rowD2_eq (t : Fin cfg3.N) : defs₀ (F := F) .tc cfg3.body (cfg3.bodyArgs t (cfg3.slots t)) = bodyAt3 t := by
  unfold defs₀; rw [Defs.onTc_tc]

/-- The body's obligation at every point. -/
theorem oblD2 : BodyObligation (datD2 W c) (defs₀ (F := F)) Variants.none () Set.univ := fun t => by
  rw [bigSep_W3, bigSep_W3, rowD2_eq]
  exact triple_restated (soundD2 W c t) rfl .rfl fun _ => .rfl

/-- What the region is entered with is the invariant before the first point, -/
theorem hinD2 : iprop(Pipeline.scopedRest spec3 c ∗ (∃ r, prngReg c r) ∗ Pipeline.ownSems0 osemD2 c
        ∗ (bigSep HD2 fun b => ((c.tc : Thread nD τ).loc b) ↦{fullShare} W c (Proc.devRef .tc b)) ∗ Transfers.MayWaits (c : Thread nD τ) (default : Unit) 0) ⊢ (datD2 W c).Φ 0 := by
  rw [show (datD2 W c).Φ 0 = PhiD2 W c 0 from rfl, PhiD2, scopedRest3_split]
  rw [ownSemsD2_eq, hbmD2_eq]; unfold restD2
  simp only [owns_whole]
  iintro ⟨⟨HS, Hb⟩, Hg, Hq, Hh, -⟩
  isplitl [HS]; · iexact HS
  isplitl [Hb]; · iexact Hb
  isplitl [Hg]; · iexact Hg
  isplitl [Hq]; · iexact Hq
  iexact Hh

/-- and the invariant after the last point gives it back. -/
theorem houtD2 : (datD2 W c).Φ (Fin.last cfg3.N) ⊢ iprop(Pipeline.scopedRest spec3 c ∗ (∃ r, prngReg c r) ∗ Pipeline.ownSems0 osemD2 c
        ∗ (bigSep HD2 fun b => ((c.tc : Thread nD τ).loc b) ↦{fullShare} W c (Proc.devRef .tc b))) := by
  rw [show (datD2 W c).Φ (Fin.last cfg3.N) = PhiD2 W c 16 from congrArg (PhiD2 W c) N_3, PhiD2, scopedRest3_split]
  rw [ownSemsD2_eq, hbmD2_eq]; unfold restD2
  simp only [owns_whole]
  iintro ⟨⟨HS0, HS1, HS2, HS3, HS4⟩, Hb, Hg, Hq, Hh⟩
  isplitl [HS0 HS1 HS2 HS3 HS4 Hb]
  · isplitl [HS0 HS1 HS2 HS3 HS4]
    · isplitl [HS0]; · iexists _; iexact HS0
      isplitl [HS1]; · iexists _; iexact HS1
      isplitl [HS2]; · iexact HS2
      isplitl [HS3]; · iexact HS3
      iexists _; iexact HS4
    iexact Hb
  isplitl [Hg]; · iexact Hg
  isplitl [Hq]; · iexact Hq
  iexact Hh

/-- The result array: row `r` is row `r % 256` of what point `r / 256` writes. -/
def arrD2 : Vec F S4096x1 .f32 := fun y =>
  outD2At W c ⟨(y 0).val / 256, by have h : (y 0).val < 4096 := (y 0).isLt; have := N_3; show _ < grid3.N; omega⟩
    (ValueIdx.ix2 ⟨(y 0).val % 256, Nat.mod_lt _ (by decide)⟩ (y 1))

/-- What the region leaves in its result array. -/
theorem arrAt_D2 : (datD2 W c).arrAt 5 cfg3.N = arrD2 W c := by
  refine (datD2 W c).arrAt_eq_of_covers 5 _ (by decide +kernel) fun t hf y => ?_
  have ht : t.val < 16 := lt_of_lt_of_eq t.isLt N_3
  have hy0 : (y 0).val < 256 := (y 0).isLt
  show (datD2 W c).after 5 t _ = _
  rw [after_D2_5]
  unfold arrD2
  have i0 : win3_5.index t 0 = t.val := (by decide +kernel : ∀ t : Fin grid3.N, win3_5.index t 0 = t.val) t
  have i1 : win3_5.index t 1 = 0 := (by decide +kernel : ∀ t : Fin grid3.N, win3_5.index t 1 = 0) t
  have e0 : ((((cfg3.win 5).blk t).view.emb y) 0).val = t.val * 256 + (y 0).val := by blk_simp; rw [i0]
  have e1 : ((((cfg3.win 5).blk t).view.emb y) 1).val = (y 1).val := by blk_simp; rw [i1]
  have et : (⟨((((cfg3.win 5).blk t).view.emb y) 0).val / 256, by rw [e0]; have := N_3; show _ < grid3.N; omega⟩ : Fin cfg3.N) = t :=
    Fin.ext (by show _ / 256 = t.val; rw [e0]; omega)
  refine Eq.trans ?_ (congrArg (fun s => outD2At W c s _) et.symm)
  refine congrArg (outD2At W c t) (funext fun a => Fin.ext ?_)
  match a with
  | ⟨0, _⟩ => show (y 0).val = _ % 256; rw [e0]; omega
  | ⟨1, _⟩ => exact e1.symm

end

end Cert.KernelIdeal.Gru

end
-- ==== Proof.Run.lean ====
/- The whole program: its host operations and its four calls in order, run from any memory, and what every buffer holds
   at the end. -/
module

public import proofs.«01_k».proof.Proof.RegE1
public import proofs.«01_k».proof.Proof.RegE2
public import proofs.«01_k».proof.Proof.RegD1
public import proofs.«01_k».proof.Proof.RegD2
public import proofs.«01_k».proof.Proof.Gen.KernelIdeal.Regions
public import Idealize.ShloMosaic.Lib.Pipeline.FrameTail
public import Idealize.ShloMosaic.Lib.Pipeline.RegionArraysD
public import Idealize.ShloMosaic.Lib.Pipeline.RegionArraysS

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg BodyObligation ucRefs arrRefs arrRef afterRegion hbmRefs)

variable {F : FTy → Type} [FloatOps F]

local notation "𝕄" => MT nD τ sig Unit (Elt F) ℕ (Pipeline.UD sig nD τ) ℕ

/-! ## The contents of the buffers between the items of the program -/

section Vals
variable (m : (ℓ : Loc nD τ sig) → Buf (Elt F) ℓ)

/-- At the launch, -/
def U0 (c : Dev nD) : Valuation τ sig (Elt F) := fun b => m (c, b)
/-- after the first stretch of host operations, -/
def U1 (c : Dev nD) : Valuation τ sig (Elt F) := StableHlo.after hostOps0 (U0 m c)
/-- after the first call, -/
def U2 (c : Dev nD) : Valuation τ sig (Elt F) := afterRegion (datE1 (U1 m) c) (U1 m c)
/-- after the second stretch, -/
def U3 (c : Dev nD) : Valuation τ sig (Elt F) := StableHlo.after hostOps1 (U2 m c)
/-- after the second call, -/
def U4 (c : Dev nD) : Valuation τ sig (Elt F) := afterRegion (datE2 (U3 m) c) (U3 m c)
/-- after the third stretch, -/
def U5 (c : Dev nD) : Valuation τ sig (Elt F) := StableHlo.after hostOps2 (U4 m c)
/-- after the third call, -/
def U6 (c : Dev nD) : Valuation τ sig (Elt F) := afterRegion (datD1 (U5 m) c) (U5 m c)
/-- after the fourth stretch, -/
def U7 (c : Dev nD) : Valuation τ sig (Elt F) := StableHlo.after hostOps3 (U6 m c)
/-- and at the end. -/
def U8 (c : Dev nD) : Valuation τ sig (Elt F) := afterRegion (datD2 (U7 m) c) (U7 m c)

/-- The proof data of the four calls. -/
def pdats : (p : Fin 4) → (c : Dev nD) → Dat τ (Elt F) Unit ℕ (Pipeline.UD sig nD τ) ℕ (cfgs p) c := fun p c => match p with
  | ⟨0, _⟩ => datE1 (U1 m) c
  | ⟨1, _⟩ => datE2 (U3 m) c
  | ⟨2, _⟩ => datD1 (U5 m) c
  | ⟨3, _⟩ => datD2 (U7 m) c

/-- Every semaphore of a TensorCore has one index, -/
def Lix : GSem nD τ sig → Finset Unit := fun g => if g.1.2 = .tc then {()} else ∅
/-- at level zero. -/
def lvl : GSem nD τ sig → Unit → ℕ := fun _ _ => 0

/-- Nothing is owed, so every wait is allowed. -/
theorem cut0 (p : Fin 4) : Pipeline.LevelCut (pcfgs (F := F)) adm () Lix lvl p (fun _ => 0) (fun _ => 0) :=
  ⟨fun c _ _ => by unfold Lix; rw [if_pos rfl]; exact Finset.mem_singleton.mpr rfl, fun _ _ _ => le_rfl, fun c g i h => absurd h (lt_irrefl _)⟩

/-- What rides along between the items: the generator register, and the core owing nothing. -/
def ride (c : Dev nD) : sProp 𝕄 := iprop((∃ r, prngReg c r) ∗ ∃ Wd, owes (c : Thread nD τ) (0 : CellTallies nD τ sig Unit) Wd)

/-- A stretch of host operations from the contents `V`. -/
def hostSeg (ops : List (HloOp τ sig (Elt F))) (hs : ops.Forall fun op => op.bufs ⊆ StableHlo.tcRefs τ sig)
    (hf : ops.Forall fun op => op.fresh = ∅) (V : Dev nD → Valuation τ sig (Elt F)) :
    HostSeg (Ix := Unit) (Name := ℕ) (U := Pipeline.UD sig nD τ) (Lvl := ℕ) (pcfgs (F := F)) defs₀ Variants.none Lix lvl :=
  HostSeg.ofOps _ _ _ _ _ (ucRefs τ sig) ops
    (fun op h => Pipeline.sub_ucRefs op ((List.forall_iff_forall_mem.mp hs) op h))
    (fun op h => (List.forall_iff_forall_mem.mp hf) op h) V ride

/-- A call over the contents `W`: entered from every unscoped buffer at `W`, left with its arrays at what the proof data
    say and every other buffer as it was. -/
def callSeg (p : Fin 4) {K : Type} [Fintype K] (osem : K → SemLoc sig) (ho : Pipeline.OwnSemFacts (cfgs p).spec osem)
    (H : Finset (Ref sig .tc)) (W : Dev nD → Valuation τ sig (Elt F)) (hH : hbmRefs (τ := τ) H ⊆ ucRefs τ sig \ arrRefs (cfgs p).spec)
    (kit : Pipeline.LaunchFacts (nD := nD) (τ := τ) cfgs p)
    (hb : ∀ c, BodyObligation (pdats m p c) (defs₀ (F := F)) Variants.none () Set.univ)
    (howed : ∀ c t, (pdats m p c).owed t = 0) (hrec : ∀ c, (pdats m p c).recorded 0 = Set.univ)
    (hq : ∀ c w, (pdats m p c).share w = fullShare)
    (hin : ∀ c : Dev nD, iprop(Pipeline.scopedRest (cfgs p).spec c ∗ (∃ r, prngReg c r) ∗ Pipeline.ownSems0 osem c
        ∗ (bigSep H fun b => ((c.tc : Thread nD τ).loc b) ↦{fullShare} W c (Proc.devRef .tc b)) ∗ Transfers.MayWaits (c : Thread nD τ) (default : Unit) 0) ⊢ (pdats m p c).Φ 0)
    (hout : ∀ c : Dev nD, (pdats m p c).Φ (Fin.last (cfgs p).N) ⊢ iprop(Pipeline.scopedRest (cfgs p).spec c ∗ (∃ r, prngReg c r) ∗ Pipeline.ownSems0 osem c
        ∗ (bigSep H fun b => ((c.tc : Thread nD τ).loc b) ↦{fullShare} W c (Proc.devRef .tc b))))
    (hA : ∀ c w, (pdats m p c).A w = W c (Proc.devRef .tc (arrRef (cfgs p).spec w))) :
    RegionSeg (pcfgs (F := F)) adm (pdats m) () defs₀ Variants.none Lix lvl p :=
  (RegionSeg.ofHeldDH (pcfgs (F := F)) adm (pdats m) () defs₀ Variants.none Lix lvl p (fun _ => 0) (default : Unit) osem ho H
    (ucRefs τ sig \ arrRefs (cfgs p).spec) hH kit.toP rfl (fun c => (hb c).loose) howed hrec hq
    (fun c => Entails.trans (by iintro -; iempintro) (Transfers.MayWaits.zero (c : Thread nD τ) (default : Unit)))
    W (fun c => afterRegion (pdats m p c) (W c)) hin hout (fun _ => 0) (cut0 p) (fun _ => iprop(emp)) hA
    (fun c w => (Pipeline.afterRegion_arr (pdats m p c) (W c) kit.win.arr_inj w).symm)).conseq
    (fun c => iprop(StableHlo.held (c : Thread nD τ) (ucRefs τ sig) (W c) ∗ ride c))
    (fun c => iprop(StableHlo.held (c : Thread nD τ) (ucRefs τ sig) (afterRegion (pdats m p c) (W c)) ∗ ride c))
    (fun c => by
      dsimp only [RegionSeg.ofHeldDH, RegionSeg.conseq]
      unfold ride
      rw [StableHlo.held_sub_split (c.tc : Thread nD τ) (Pipeline.arrRefs_sub_ucRefs (cfgs p).spec kit.win.arr_unscoped) (W c)]
      iintro ⟨⟨Ha, Hr⟩, Hp, HO⟩
      isplitl [Ha]; · iexact Ha
      isplitl [Hp]; · iexact Hp
      isplitl [Hr]
      · isplitl [Hr]; · iexact Hr
        iempintro
      iexact HO)
    (fun c => by
      dsimp only [RegionSeg.ofHeldDH, RegionSeg.conseq]
      unfold ride
      rw [StableHlo.held_sub_split (c.tc : Thread nD τ) (Pipeline.arrRefs_sub_ucRefs (cfgs p).spec kit.win.arr_unscoped) (afterRegion (pdats m p c) (W c)),
        StableHlo.held_congr (c.tc : Thread nD τ) (S := ucRefs τ sig \ arrRefs (cfgs p).spec) (Pipeline.afterRegion_off (pdats m p c) (W c) (ucRefs τ sig))]
      iintro ⟨Ha, Hp, ⟨Hr, -⟩, HO⟩
      isplitl [Ha Hr]
      · isplitl [Ha]; · iexact Ha
        iexact Hr
      isplitl [Hp]; · iexact Hp
      iexact HO)

/-- The first call. -/
def callE1 : RegionSeg (pcfgs (F := F)) adm (pdats m) () defs₀ Variants.none Lix lvl 0 :=
  callSeg m 0 osemE1 ownSemFactsE1 HE1 (U1 m) (by decide) launch0 (oblE1 (U1 m)) (fun _ _ => rfl) (fun _ => rfl)
    (fun c w => Dat.share_full _ (fun _ => rfl) w) (hinE1 (U1 m)) (houtE1 (U1 m)) (fun c w => A_E1 (U1 m) c w)

/-- The second call. -/
def callE2 : RegionSeg (pcfgs (F := F)) adm (pdats m) () defs₀ Variants.none Lix lvl 1 :=
  callSeg m 1 osemE2 ownSemFactsE2 HE2 (U3 m) (by decide) launch1 (oblE2 (U3 m)) (fun _ _ => rfl) (fun _ => rfl)
    (fun c w => Dat.share_full _ (fun _ => rfl) w) (hinE2 (U3 m)) (houtE2 (U3 m)) (fun c w => A_E2 (U3 m) c w)

/-- The third call. -/
def callD1 : RegionSeg (pcfgs (F := F)) adm (pdats m) () defs₀ Variants.none Lix lvl 2 :=
  callSeg m 2 osemD1 ownSemFactsD1 HD1 (U5 m) (by decide) launch2 (oblD1 (U5 m)) (fun _ _ => rfl) (fun _ => rfl)
    (fun c w => Dat.share_full _ (fun _ => rfl) w) (hinD1 (U5 m)) (houtD1 (U5 m)) (fun c w => A_D1 (U5 m) c w)

/-- The fourth call. -/
def callD2 : RegionSeg (pcfgs (F := F)) adm (pdats m) () defs₀ Variants.none Lix lvl 3 :=
  callSeg m 3 osemD2 ownSemFactsD2 HD2 (U7 m) (by decide) launch3 (oblD2 (U7 m)) (fun _ _ => rfl) (fun _ => rfl)
    (fun c w => Dat.share_full _ (fun _ => rfl) w) (hinD2 (U7 m)) (houtD2 (U7 m)) (fun c w => A_D2 (U7 m) c w)

/-- The program as its items. -/
def items : List (Seg (pcfgs (F := F)) adm (pdats m) () defs₀ Variants.none Lix lvl) :=
  [.host (hostSeg hostOps0 hostOps0_sub hostOps0_fresh (U0 m)), .region (callE1 m),
   .host (hostSeg hostOps1 hostOps1_sub hostOps1_fresh (U2 m)), .region (callE2 m),
   .host (hostSeg hostOps2 hostOps2_sub hostOps2_fresh (U4 m)), .region (callD1 m),
   .host (hostSeg hostOps3 hostOps3_sub hostOps3_fresh (U6 m)), .region (callD2 m)]

set_option backward.isDefEq.respectTransparency.types false in
/-- Every run of the program from the memory `m` ends, with every unscoped buffer at `U8 m` and every semaphore
    counter at zero. -/
theorem run_main (ρ : Dev nD → PrngReg) :
    θ_run defs (onTc (τ := τ) (main (F := F))) ⟨m, fun _ => 0, ρ⟩ (fun r =>
      (∀ c : Dev nD, ∀ b ∈ ucRefs τ sig, r.2.mem ((c.tc : Thread nD τ).1, b) = U8 m c b) ∧ r.2.sem = fun _ => 0) := by
  refine Pipeline.θ_run_regions_kit_dev_sems (pcfgs (F := F)) adm (pdats m) () cellOf_inj embL defs₀ Variants.none Lix lvl m ρ main
    (fun _ => items m)
    (fun c Q => by
      rewrite [main_chain c, Seg.run_eq_chain,
        show (items m).map Seg.prog = [
          StableHlo.seq hostOps0,
          Prog.lift (.customCall (Pipeline.entry 0) ()),
          StableHlo.seq hostOps1,
          Prog.lift (.customCall (Pipeline.entry 1) ()),
          StableHlo.seq hostOps2,
          Prog.lift (.customCall (Pipeline.entry 2) ()),
          StableHlo.seq hostOps3,
          Prog.lift (.customCall (Pipeline.entry 3) ()) ] from rfl]
      dsimp (config := { failIfUnchanged := false }) only
      exact .rfl)
    (fun c => by simp only [items, Seg.pipes_host, Seg.pipes_region, Seg.pipes_nil]; decide) (fun _ => 0)
    (fun g h => if_neg h) (fun _ => iprop(emp))
    (initOf (Pipeline.cells cfgs cellOf_inj) (Pipeline.launchToks cfgs cellOf_inj), 1) ?_
    (T₀ := fun c => iprop(StableHlo.held (c : Thread nD τ) (ucRefs τ sig) (U0 m c) ∗ ride c))
    (Tₙ := fun c => StableHlo.held (c : Thread nD τ) (ucRefs τ sig) (U8 m c))
    (hch := fun c => ⟨.rfl, .rfl, .rfl, .rfl, .rfl, .rfl, .rfl, .rfl, ?_⟩)
    (hinit := ?_) (QY := fun c s => ∀ b ∈ ucRefs τ sig, s.mem ((c.tc : Thread nD τ).1, b) = U8 m c b)
    (hfin := fun c s' => ?_) (hQ := fun _ h hz => ⟨h, funext fun g => hz g (.inr (regions_no_unscoped g.2))⟩)
  · iintro Hu
    ihave H' := (ownU_pair _ _) $$ Hu
    icases H' with ⟨HP, -⟩
    imodintro
    isplitl [HP]; · iexact HP
    iapply (show (BI.emp : sProp 𝕄) ⊢ bigSep Finset.univ (fun _ : Dev nD => (BI.emp : sProp 𝕄)) from by rw [BI.bigSep_emp_const])
    iempintro
  · show iprop(StableHlo.held (c : Thread nD τ) (ucRefs τ sig) (U8 m c) ∗ ride c) ⊢ _
    unfold ride
    iintro ⟨Hh, -, HO⟩
    isplitl [Hh] <;> iassumption
  · refine Pipeline.initEach Lix lvl fun c => ?_
    rw [show unscopedBufs c (fun b => m ((c.tc : Thread nD τ).loc b)) = StableHlo.held (c.tc : Thread nD τ) (ucRefs τ sig) (U0 m c)
        from Pipeline.unscopedBufs_held (Ix := Unit) (Name := ℕ) (U := Pipeline.UD sig nD τ) (Lvl := ℕ) c (U0 m c)]
    unfold ride
    iintro ⟨⟨Hh, -, HO, -, Hp, -⟩, -⟩
    imodintro
    isplitl [Hh]; · iexact Hh
    isplitl [Hp]
    · iexists _; iexact Hp
    · iexists _; iexact HO
  · unfold StableHlo.held
    iintro ⟨Hh, HSI⟩
    ihave Hr := (pointsTo_read_all (ucRefs τ sig) (fun b => ((c.tc : Thread nD τ).1, b)) (U8 m c) s') $$ [Hh HSI]
    · isplitl [Hh] <;> iassumption
    imodintro; iexact Hr

end Vals

end Cert.KernelIdeal.Gru

end
-- ==== Proof.Keeps.lean ====
/- The arguments of the program end as they were launched. -/
module

public import proofs.«01_k».proof.Proof.Run

@[expose] public section

set_option maxRecDepth 16384

noncomputable section

namespace Cert.KernelIdeal.Gru

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Seg HostSeg RegionSeg BodyObligation ucRefs arrRefs arrRef afterRegion hbmRefs)

variable {F : FTy → Type} [FloatOps F]

local notation "𝕄" => MT nD τ sig Unit (Elt F) ℕ (Pipeline.UD sig nD τ) ℕ

section
variable (m : (ℓ : Loc nD τ sig) → Buf (Elt F) ℓ) (c : Dev nD)

/-- A buffer that is no result of this call is unchanged by it. -/
theorem U2_of (r : Ref sig .tc) (h : ∀ w, arrRef (cfg0).spec w = r → (cfg0.win w).isOut = false) : U2 m c r = U1 m c r :=
  Pipeline.afterRegion_keeps (datE1 (U1 m) c) (U1 m c) (launch0).win.arr_inj (fun w => A_E1 (U1 m) c w) r h
/-- A buffer that is no result of this call is unchanged by it. -/
theorem U4_of (r : Ref sig .tc) (h : ∀ w, arrRef (cfg1).spec w = r → (cfg1.win w).isOut = false) : U4 m c r = U3 m c r :=
  Pipeline.afterRegion_keeps (datE2 (U3 m) c) (U3 m c) (launch1).win.arr_inj (fun w => A_E2 (U3 m) c w) r h
/-- A buffer that is no result of this call is unchanged by it. -/
theorem U6_of (r : Ref sig .tc) (h : ∀ w, arrRef (cfg2).spec w = r → (cfg2.win w).isOut = false) : U6 m c r = U5 m c r :=
  Pipeline.afterRegion_keeps (datD1 (U5 m) c) (U5 m c) (launch2).win.arr_inj (fun w => A_D1 (U5 m) c w) r h
/-- A buffer that is no result of this call is unchanged by it. -/
theorem U8_of (r : Ref sig .tc) (h : ∀ w, arrRef (cfg3).spec w = r → (cfg3.win w).isOut = false) : U8 m c r = U7 m c r :=
  Pipeline.afterRegion_keeps (datD2 (U7 m) c) (U7 m c) (launch3).win.arr_inj (fun w => A_D2 (U7 m) c w) r h
/-- A buffer no operation of this stretch writes is unchanged by it. -/
theorem U1_of (r : Ref sig .tc) (h : r ∉ hostOps0_W) : U1 m c r = U0 m c r :=
  StableHlo.after_of_writes_sub hostOps0 _ hostOps0_writes h
/-- A buffer no operation of this stretch writes is unchanged by it. -/
theorem U3_of (r : Ref sig .tc) (h : r ∉ hostOps1_W) : U3 m c r = U2 m c r :=
  StableHlo.after_of_writes_sub hostOps1 _ hostOps1_writes h
/-- A buffer no operation of this stretch writes is unchanged by it. -/
theorem U5_of (r : Ref sig .tc) (h : r ∉ hostOps2_W) : U5 m c r = U4 m c r :=
  StableHlo.after_of_writes_sub hostOps2 _ hostOps2_writes h
/-- A buffer no operation of this stretch writes is unchanged by it. -/
theorem U7_of (r : Ref sig .tc) (h : r ∉ hostOps3_W) : U7 m c r = U6 m c r :=
  StableHlo.after_of_writes_sub hostOps3 _ hostOps3_writes h

/-- A buffer that neither a host operation nor a call writes ends as launched. -/
theorem U8_keeps (r : Ref sig .tc) (h0 : r ∉ hostOps0_W) (h1 : r ∉ hostOps1_W) (h2 : r ∉ hostOps2_W) (h3 : r ∉ hostOps3_W)
    (c0 : ∀ w, arrRef (cfg0).spec w = r → (cfg0.win w).isOut = false) (c1 : ∀ w, arrRef (cfg1).spec w = r → (cfg1.win w).isOut = false)
    (c2 : ∀ w, arrRef (cfg2).spec w = r → (cfg2.win w).isOut = false) (c3 : ∀ w, arrRef (cfg3).spec w = r → (cfg3.win w).isOut = false) :
    U8 m c r = m ((c : Thread nD τ).loc r) :=
  (U8_of m c r c3).trans <| (U7_of m c r h3).trans <| (U6_of m c r c2).trans <| (U5_of m c r h2).trans <|
    (U4_of m c r c1).trans <| (U3_of m c r h1).trans <| (U2_of m c r c0).trans <| (U1_of m c r h0).trans rfl

end

/-- The arguments of the program. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- A buffer of the program's own is one the run's end speaks of. -/
theorem args_mem : ∀ r ∈ argRefs, (Proc.devRef .tc r : DevRef τ sig) ∈ ucRefs τ sig := fun r h =>
  Finset.mem_filter.mpr ⟨StableHlo.devRef_mem_tcRefs r, (by decide : ∀ r ∈ argRefs, ¬ (Proc.devRef .tc r : DevRef τ sig).isScoped = true) r h⟩

theorem mem_main_v29 : (Proc.devRef .tc main_v29 : DevRef τ sig) ∈ ucRefs τ sig :=
  Finset.mem_filter.mpr ⟨StableHlo.devRef_mem_tcRefs main_v29, by decide⟩

/-- No argument is written. -/
theorem args_not_written : ∀ r ∈ argRefs, (r ∉ hostOps0_W ∧ r ∉ hostOps1_W ∧ r ∉ hostOps2_W ∧ r ∉ hostOps3_W)
    ∧ (∀ w, arrRef (cfg0).spec w = r → (cfg0.win w).isOut = false) ∧ (∀ w, arrRef (cfg1).spec w = r → (cfg1.win w).isOut = false)
    ∧ (∀ w, arrRef (cfg2).spec w = r → (cfg2.win w).isOut = false) ∧ (∀ w, arrRef (cfg3).spec w = r → (cfg3.win w).isOut = false) := by decide

/-- Every run ends with the result as computed, the arguments as launched and every semaphore counter at zero. -/
theorem run_ends (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v29) = U8 m c main_v29
      ∧ argRefs.Forall fun b => r.2.mem ((c.tc : Thread nD τ).loc b) = m ((c.tc : Thread nD τ).loc b)) ∧ r.2.sem = fun _ => 0) :=
  (θ_run defs _ _).mono (fun r h => ⟨fun c => ⟨h.1 c _ mem_main_v29, List.forall_iff_forall_mem.mpr fun b hb =>
    have ⟨⟨h0, h1, h2, h3⟩, c0, c1, c2, c3⟩ := args_not_written b hb
    (h.1 c _ (args_mem b hb)).trans (U8_keeps m c b h0 h1 h2 h3 c0 c1 c2 c3)⟩, h.2⟩) (run_main m ρ)

end Cert.KernelIdeal.Gru

end
-- ==== Proof.RefMain.lean ====
module

public import proofs.«01_k».proof.Proof.Gen.ReferenceIdeal
public import Idealize.ShloMosaic.Lib.StableHlo.RunLoop

/-!
The reference's host operations as literal lists: the five stretches of its main function, and of each
of its four counted loops the condition's two operations and the body's four stretches; with each, the
equation that says the printed program is the chain of those stretches.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Stretch 0 of the main function. -/
abbrev mainOps0 : List (HloOp τ sig (Elt F)) :=
  [ StableHlo.unary main_arg1 main_v0 ((transpose S1x6144 [1, 0] · transposes_S6144x1_S1x6144_1_0) : (⟨S6144x1, .f32⟩ : BufTy).Contents (Elt F) → (⟨S1x6144, .f32⟩ : BufTy).Contents (Elt F)),
    StableHlo.binary main_arg0 main_v0 main_v1 ((fun l r => Host.dotGeneral dot_S4096x1_S1x6144_S4096x6144_1_0_0_1_n_n none l r) : (⟨S4096x1, .f32⟩ : BufTy).Contents (Elt F) → (⟨S1x6144, .f32⟩ : BufTy).Contents (Elt F) → (⟨S4096x6144, .f32⟩ : BufTy).Contents (Elt F)),
    StableHlo.unary main_arg3 main_v2 (broadcastInDim S1x6144 ![1] bcast_S6144_S1x6144_1 : (⟨S6144, .f32⟩ : BufTy).Contents (Elt F) → (⟨S1x6144, .f32⟩ : BufTy).Contents (Elt F)),
    StableHlo.unary main_v2 main_v3 (broadcastInDim S4096x6144 ![0, 1] bcast_S1x6144_S4096x6144_0_1 : (⟨S1x6144, .f32⟩ : BufTy).Contents (Elt F) → (⟨S4096x6144, .f32⟩ : BufTy).Contents (Elt F)),
    StableHlo.binary main_v1 main_v3 main_v4 (addf : (⟨S4096x6144, .f32⟩ : BufTy).Contents (Elt F) → (⟨S4096x6144, .f32⟩ : BufTy).Contents (Elt F) → (⟨S4096x6144, .f32⟩ : BufTy).Contents (Elt F)),
    StableHlo.nullary main_cst (constant S_ .f32 0x00000000#32),
    StableHlo.unary main_cst main_v5 (broadcastInDim S2048 ![] bcast_S_S2048 : (⟨S_, .f32⟩ : BufTy).Contents (Elt F) → (⟨S2048, .f32⟩ : BufTy).Contents (Elt F)),
    StableHlo.nullary main_cst_0 (constant S_ .f32 0x00000000#32),
    StableHlo.unary main_cst_0 main_v6 (broadcastInDim S4096x2048 ![] bcast_S_S4096x2048 : (⟨S_, .f32⟩ : BufTy).Contents (Elt F) → (⟨S4096x2048, .f32⟩ : BufTy).Contents (Elt F)),
    StableHlo.nullary main_c (constantI S_ 32 0#32),
    StableHlo.unary main_v4 main_v7_0 id,
    StableHlo.unary main_arg2 main_v7_1 id,
    StableHlo.unary main_arg4 main_v7_2 id,
    StableHlo.unary main_c main_v7_3 id,
    StableHlo.unary main_v5 main_v7_4 id,
    StableHlo.unary main_v6 main_v7_5 id ]

/-- The operations of `mainOps0` touch TensorCore references only. -/
theorem mainOps0_sub : (mainOps0 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Stretch 1 of the main function. -/
abbrev mainOps1 : List (HloOp τ sig (Elt F)) :=
  [ StableHlo.unary main_arg5 main_v8 ((transpose S2048x3072 [1, 0] · transposes_S3072x2048_S2048x3072_1_0) : (⟨S3072x2048, .f32⟩ : BufTy).Contents (Elt F) → (⟨S2048x3072, .f32⟩ : BufTy).Contents (Elt F)),
    StableHlo.binary main_v7_5 main_v8 main_v9 ((fun l r => Host.dotGeneral dot_S4096x2048_S2048x3072_S4096x3072_1_0_0_1_n_n none l r) : (⟨S4096x2048, .f32⟩ : BufTy).Contents (Elt F) → (⟨S2048x3072, .f32⟩ : BufTy).Contents (Elt F) → (⟨S4096x3072, .f32⟩ : BufTy).Contents (Elt F)),
    StableHlo.unary main_arg7 main_v10 (broadcastInDim S1x3072 ![1] bcast_S3072_S1x3072_1 : (⟨S3072, .f32⟩ : BufTy).Contents (Elt F) → (⟨S1x3072, .f32⟩ : BufTy).Contents (Elt F)),
    StableHlo.unary main_v10 main_v11 (broadcastInDim S4096x3072 ![0, 1] bcast_S1x3072_S4096x3072_0_1 : (⟨S1x3072, .f32⟩ : BufTy).Contents (Elt F) → (⟨S4096x3072, .f32⟩ : BufTy).Contents (Elt F)),
    StableHlo.binary main_v9 main_v11 main_v12 (addf : (⟨S4096x3072, .f32⟩ : BufTy).Contents (Elt F) → (⟨S4096x3072, .f32⟩ : BufTy).Contents (Elt F) → (⟨S4096x3072, .f32⟩ : BufTy).Contents (Elt F)),
    StableHlo.nullary main_cst_1 (constant S_ .f32 0x00000000#32),
    StableHlo.unary main_cst_1 main_v13 (broadcastInDim S1024 ![] bcast_S_S1024 : (⟨S_, .f32⟩ : BufTy).Contents (Elt F) → (⟨S1024, .f32⟩ : BufTy).Contents (Elt F)),
    StableHlo.nullary main_cst_2 (constant S_ .f32 0x00000000#32),
    StableHlo.unary main_cst_2 main_v14 (broadcastInDim S4096x1024 ![] bcast_S_S4096x1024 : (⟨S_, .f32⟩ : BufTy).Contents (Elt F) → (⟨S4096x1024, .f32⟩ : BufTy).Contents (Elt F)),
    StableHlo.nullary main_c_3 (constantI S_ 32 0#32),
    StableHlo.unary main_v12 main_v15_0 id,
    StableHlo.unary main_arg6 main_v15_1 id,
    StableHlo.unary main_arg8 main_v15_2 id,
    StableHlo.unary main_c_3 main_v15_3 id,
    StableHlo.unary main_v13 main_v15_4 id,
    StableHlo.unary main_v14 main_v15_5 id ]

/-- The operations of `mainOps1` touch TensorCore references only. -/
theorem mainOps1_sub : (mainOps1 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Stretch 2 of the main function. -/
abbrev mainOps2 : List (HloOp τ sig (Elt F)) :=
  [ StableHlo.reshape main_v15_4 main_v16 (rfl : (.f32 : EltTy) = .f32) shapeCasts_S1024_S1x1024,
    StableHlo.unary main_v16 main_v17 (broadcastInDim S4096x1024 ![0, 1] bcast_S1x1024_S4096x1024_0_1 : (⟨S1x1024, .f32⟩ : BufTy).Contents (Elt F) → (⟨S4096x1024, .f32⟩ : BufTy).Contents (Elt F)),
    StableHlo.unary main_arg9 main_v18 ((transpose S1024x3072 [1, 0] · transposes_S3072x1024_S1024x3072_1_0) : (⟨S3072x1024, .f32⟩ : BufTy).Contents (Elt F) → (⟨S1024x3072, .f32⟩ : BufTy).Contents (Elt F)),
    StableHlo.binary main_v17 main_v18 main_v19 ((fun l r => Host.dotGeneral dot_S4096x1024_S1024x3072_S4096x3072_1_0_0_1_n_n none l r) : (⟨S4096x1024, .f32⟩ : BufTy).Contents (Elt F) → (⟨S1024x3072, .f32⟩ : BufTy).Contents (Elt F) → (⟨S4096x3072, .f32⟩ : BufTy).Contents (Elt F)),
    StableHlo.unary main_arg11 main_v20 (broadcastInDim S1x3072 ![1] bcast_S3072_S1x3072_1 : (⟨S3072, .f32⟩ : BufTy).Contents (Elt F) → (⟨S1x3072, .f32⟩ : BufTy).Contents (Elt F)),
    StableHlo.unary main_v20 main_v21 (broadcastInDim S4096x3072 ![0, 1] bcast_S1x3072_S4096x3072_0_1 : (⟨S1x3072, .f32⟩ : BufTy).Contents (Elt F) → (⟨S4096x3072, .f32⟩ : BufTy).Contents (Elt F)),
    StableHlo.binary main_v19 main_v21 main_v22 (addf : (⟨S4096x3072, .f32⟩ : BufTy).Contents (Elt F) → (⟨S4096x3072, .f32⟩ : BufTy).Contents (Elt F) → (⟨S4096x3072, .f32⟩ : BufTy).Contents (Elt F)),
    StableHlo.nullary main_cst_4 (constant S_ .f32 0x00000000#32),
    StableHlo.unary main_cst_4 main_v23 (broadcastInDim S1024 ![] bcast_S_S1024 : (⟨S_, .f32⟩ : BufTy).Contents (Elt F) → (⟨S1024, .f32⟩ : BufTy).Contents (Elt F)),
    StableHlo.nullary main_cst_5 (constant S_ .f32 0x00000000#32),
    StableHlo.unary main_cst_5 main_v24 (broadcastInDim S4096x1024 ![] bcast_S_S4096x1024 : (⟨S_, .f32⟩ : BufTy).Contents (Elt F) → (⟨S4096x1024, .f32⟩ : BufTy).Contents (Elt F)),
    StableHlo.nullary main_c_6 (constantI S_ 32 0#32),
    StableHlo.unary main_v22 main_v25_0 id,
    StableHlo.unary main_arg10 main_v25_1 id,
    StableHlo.unary main_arg12 main_v25_2 id,
    StableHlo.unary main_c_6 main_v25_3 id,
    StableHlo.unary main_v23 main_v25_4 id,
    StableHlo.unary main_v24 main_v25_5 id ]

/-- The operations of `mainOps2` touch TensorCore references only. -/
theorem mainOps2_sub : (mainOps2 : List (HloOp τ sig (Elt F))).Forall fun op => op.bufs ⊆ StableHlo.tcRefs τ sig :=
  ⟨StableHlo.reshape_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Stretch 3 of the main function, its first part. -/
abbrev mainOps3a : List (HloOp τ sig (Elt F)) :=
  [ StableHlo.unary main_arg13 main_v26 ((transpose S1024x6144 [1, 0] · transposes_S6144x1024_S1024x6144_1_0) : (⟨S6144x1024, .f32⟩ : BufTy).Contents (Elt F) → (⟨S1024x6144, .f32⟩ : BufTy).Contents (Elt F)),
    StableHlo.binary main_v25_5 main_v26 main_v27 ((fun l r => Host.dotGeneral dot_S4096x1024_S1024x6144_S4096x6144_1_0_0_1_n_n none l r) : (⟨S4096x1024, .f32⟩ : BufTy).Contents (Elt F) → (⟨S1024x6144, .f32⟩ : BufTy).Contents (Elt F) → (⟨S4096x6144, .f32⟩ : BufTy).Contents (Elt F)),
    StableHlo.unary main_arg15 main_v28 (broadcastInDim S1x6144 ![1] bcast_S6144_S1x6144_1 : (⟨S6144, .f32⟩ : BufTy).Contents (Elt F) → (⟨S1x6144, .f32⟩ : BufTy).Contents (Elt F)),
    StableHlo.unary main_v28 main_v29 (broadcastInDim S4096x6144 ![0, 1] bcast_S1x6144_S4096x6144_0_1 : (⟨S1x6144, .f32⟩ : BufTy).Contents (Elt F) → (⟨S4096x6144, .f32⟩ : BufTy).Contents (Elt F)),
    StableHlo.binary main_v27 main_v29 main_v30 (addf : (⟨S4096x6144, .f32⟩ : BufTy).Contents (Elt F) → (⟨S4096x6144, .f32⟩ : BufTy).Contents (Elt F) → (⟨S4096x6144, .f32⟩ : BufTy).Contents (Elt F)),
    StableHlo.nullary main_cst_7 (constant S_ .f32 0x00000000#32),
    StableHlo.unary main_cst_7 main_v31 (broadcastInDim S2048 ![] bcast_S_S2048 : (⟨S_, .f32⟩ : BufTy).Contents (Elt F) → (⟨S2048, .f32⟩ : BufTy).Contents (Elt F)) ]

/-- The operations of `mainOps3a` touch TensorCore references only. -/
theorem mainOps3a_sub : (mainOps3a : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub .., StableHlo.nullary_bufs_sub .., StableHlo.unary_bufs_sub ..⟩

/-- Stretch 3 of the main function, its second part. -/
abbrev mainOps3b : List (HloOp τ sig (Elt F)) :=
  [ StableHlo.nullary main_cst_8 (constant S_ .f32 0x00000000#32),
    StableHlo.unary main_cst_8 main_v32 (broadcastInDim S4096x2048 ![] bcast_S_S4096x2048 : (⟨S_, .f32⟩ : BufTy).Contents (Elt F) → (⟨S4096x2048, .f32⟩ : BufTy).Contents (Elt F)),
    StableHlo.nullary main_c_9 (constantI S_ 32 0#32),
    StableHlo.unary main_v30 main_v33_0 id,
    StableHlo.unary main_arg14 main_v33_1 id,
    StableHlo.unary main_arg16 main_v33_2 id,
    StableHlo.unary main_c_9 main_v33_3 id,
    StableHlo.unary main_v31 main_v33_4 id,
    StableHlo.unary main_v32 main_v33_5 id ]

/-- The operations of `mainOps3b` touch TensorCore references only. -/
theorem mainOps3b_sub : (mainOps3b : List (HloOp τ sig (Elt F))).Forall fun op => op.bufs ⊆ StableHlo.tcRefs τ sig :=
  ⟨StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub ..⟩

/-- Stretch 4 of the main function: the linear layer. -/
abbrev mainOps4 : List (HloOp τ sig (Elt F)) :=
  [ StableHlo.unary main_arg17 main_v34 ((transpose S2048x1 [1, 0] · transposes_S1x2048_S2048x1_1_0) : (⟨S1x2048, .f32⟩ : BufTy).Contents (Elt F) → (⟨S2048x1, .f32⟩ : BufTy).Contents (Elt F)),
    StableHlo.binary main_v33_5 main_v34 main_v35 ((fun l r => Host.dotGeneral dot_S4096x2048_S2048x1_S4096x1_1_0_0_1_n_n none l r) : (⟨S4096x2048, .f32⟩ : BufTy).Contents (Elt F) → (⟨S2048x1, .f32⟩ : BufTy).Contents (Elt F) → (⟨S4096x1, .f32⟩ : BufTy).Contents (Elt F)),
    StableHlo.unary main_arg18 main_v36 (broadcastInDim S1x1 ![1] bcast_S1_S1x1_1 : (⟨S1, .f32⟩ : BufTy).Contents (Elt F) → (⟨S1x1, .f32⟩ : BufTy).Contents (Elt F)),
    StableHlo.unary main_v36 main_v37 (broadcastInDim S4096x1 ![0, 1] bcast_S1x1_S4096x1_0_1 : (⟨S1x1, .f32⟩ : BufTy).Contents (Elt F) → (⟨S4096x1, .f32⟩ : BufTy).Contents (Elt F)),
    StableHlo.binary main_v35 main_v37 main_v38 (addf : (⟨S4096x1, .f32⟩ : BufTy).Contents (Elt F) → (⟨S4096x1, .f32⟩ : BufTy).Contents (Elt F) → (⟨S4096x1, .f32⟩ : BufTy).Contents (Elt F)) ]

/-- The operations of `mainOps4` touch TensorCore references only. -/
theorem mainOps4_sub : (mainOps4 : List (HloOp τ sig (Elt F))).Forall fun op => op.bufs ⊆ StableHlo.tcRefs τ sig :=
  ⟨StableHlo.unary_bufs_sub .., StableHlo.binary_bufs_sub .., StableHlo.unary_bufs_sub .., StableHlo.unary_bufs_sub .., StableHlo.binary_bufs_sub ..⟩

set_option maxRecDepth 100000 in
/-- The first window of the main function, item by item. -/
theorem main_part0_chain (c : Dev nD) : main_part0 (F := F) c =
    (Pipeline.chainK
  [ StableHlo.seq mainOps0,
    HostLoop.enter 0,
    StableHlo.seq mainOps1,
    HostLoop.enter 1,
    StableHlo.seq mainOps2,
    HostLoop.enter 2 ] (StableHlo.seq mainOps3a) : Prog (TpuEff nD τ sig (Elt F) (HostLoop.Sig (Pipeline.Sig Λ₀ (Fin 0) fun p => (pcfgs (F := F) p).Adm) 4) .tc) PUnit) := by
  rewrite [StableHlo.chainK_seq_cons, Pipeline.chainK_cons, StableHlo.chainK_seq_cons, Pipeline.chainK_cons, StableHlo.chainK_seq_cons, Pipeline.chainK_cons]
  chain_rfl

set_option maxRecDepth 100000 in
/-- The second window of the main function, item by item. -/
theorem main_part1_chain (c : Dev nD) : main_part1 (F := F) c =
    (Pipeline.chain
  [ StableHlo.seq mainOps3b,
    HostLoop.enter 3,
    StableHlo.seq mainOps4 ] : Prog (TpuEff nD τ sig (Elt F) (HostLoop.Sig (Pipeline.Sig Λ₀ (Fin 0) fun p => (pcfgs (F := F) p).Adm) 4) .tc) PUnit) := by
  rewrite [StableHlo.chain_seq_cons, Pipeline.chain_cons, StableHlo.chain_seq_cons]
  chain_rfl

/-- The main function, item by item. -/
theorem main_chain (c : Dev nD) : main (F := F) c =
    (Pipeline.chain
  [ StableHlo.seq mainOps0,
    HostLoop.enter 0,
    StableHlo.seq mainOps1,
    HostLoop.enter 1,
    StableHlo.seq mainOps2,
    HostLoop.enter 2,
    StableHlo.seq mainOps3a,
    StableHlo.seq mainOps3b,
    HostLoop.enter 3,
    StableHlo.seq mainOps4 ] : Prog (TpuEff nD τ sig (Elt F) (HostLoop.Sig (Pipeline.Sig Λ₀ (Fin 0) fun p => (pcfgs (F := F) p).Adm) 4) .tc) PUnit) :=
  Pipeline.chain_of_window (main_part0_chain c) (main_part1_chain c)

end Cert.ReferenceIdeal.Gru

end
-- ==== Proof.RefCell.lean ====
module

public import proofs.«01_k».proof.Proof.Gen.ReferenceIdeal
public import Idealize.ShloMosaic.Lib.StableHlo.RunLoop

/-!
The reference's recurrent step and its rows as functions of whole arrays, for the two widths of the state
(2048 and 1024).
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- One gate's sigmoid over a state of width 2048: one over one plus the exponential of the negated argument. -/
def sigA (x : (⟨S2048, .f32⟩ : BufTy).Contents (Elt F)) : (⟨S2048, .f32⟩ : BufTy).Contents (Elt F) :=
  Host.divf (broadcastInDim S2048 ![] bcast_S_S2048 (constant S_ .f32 0x3F800000#32))
    (addf (broadcastInDim S2048 ![] bcast_S_S2048 (constant S_ .f32 0x3F800000#32)) (Host.exp (Host.negf x)))

/-- The state's projection: the state times the transposed recurrent weights, plus their bias. -/
def projA (w : (⟨S6144x2048, .f32⟩ : BufTy).Contents (Elt F)) (b : (⟨S6144, .f32⟩ : BufTy).Contents (Elt F)) (h : (⟨S2048, .f32⟩ : BufTy).Contents (Elt F)) : (⟨S6144, .f32⟩ : BufTy).Contents (Elt F) :=
  addf (Host.dotGeneral dot_S2048_S2048x6144_S6144_0_0_n_1_n_n none h (transpose S2048x6144 [1, 0] w transposes_S6144x2048_S2048x6144_1_0)) b

/-- The new state from the input's and the state's projections and the old state. -/
def gateA (x g : (⟨S6144, .f32⟩ : BufTy).Contents (Elt F)) (h : (⟨S2048, .f32⟩ : BufTy).Contents (Elt F)) : (⟨S2048, .f32⟩ : BufTy).Contents (Elt F) :=
  addf
    (mulf (subf (broadcastInDim S2048 ![] bcast_S_S2048 (constant S_ .f32 0x3F800000#32))
        (sigA (addf (extractStridedSlice S2048 ![2048] x slices_S6144_S2048_2048) (extractStridedSlice S2048 ![2048] g slices_S6144_S2048_2048))))
      (Host.tanh (addf (extractStridedSlice S2048 ![4096] x slices_S6144_S2048_4096)
        (mulf (sigA (addf (extractStridedSlice S2048 ![0] x slices_S6144_S2048_0) (extractStridedSlice S2048 ![0] g slices_S6144_S2048_0)))
          (extractStridedSlice S2048 ![4096] g slices_S6144_S2048_4096)))))
    (mulf (sigA (addf (extractStridedSlice S2048 ![2048] x slices_S6144_S2048_2048) (extractStridedSlice S2048 ![2048] g slices_S6144_S2048_2048))) h)

/-- Row `k` of the projected inputs. -/
def rowA (x : (⟨S4096x6144, .f32⟩ : BufTy).Contents (Elt F)) (k : (⟨S_, .i32⟩ : BufTy).Contents (Elt F)) : (⟨S6144, .f32⟩ : BufTy).Contents (Elt F) :=
  shapeCast S6144 (Host.dynamicSlice S1x6144 x (fun j => ((![k, constantI S_ 32 0#32] : Fin 2 → (⟨S_, .i32⟩ : BufTy).Contents (Elt F)) j (Shape.Idx.first h_S_)).toInt) sliceFits_S4096x6144_S1x6144) shapeCasts_S1x6144_S6144

/-- The states with row `k` replaced by `h`. -/
def putA (x : (⟨S4096x2048, .f32⟩ : BufTy).Contents (Elt F)) (h : (⟨S2048, .f32⟩ : BufTy).Contents (Elt F)) (k : (⟨S_, .i32⟩ : BufTy).Contents (Elt F)) : (⟨S4096x2048, .f32⟩ : BufTy).Contents (Elt F) :=
  Host.dynamicUpdateSlice x (broadcastInDim S1x2048 ![1] bcast_S2048_S1x2048_1 h) (fun j => ((![k, constantI S_ 32 0#32] : Fin 2 → (⟨S_, .i32⟩ : BufTy).Contents (Elt F)) j (Shape.Idx.first h_S_)).toInt) updateFits_S4096x2048_S1x2048

/-- One gate's sigmoid over a state of width 1024: one over one plus the exponential of the negated argument. -/
def sigB (x : (⟨S1024, .f32⟩ : BufTy).Contents (Elt F)) : (⟨S1024, .f32⟩ : BufTy).Contents (Elt F) :=
  Host.divf (broadcastInDim S1024 ![] bcast_S_S1024 (constant S_ .f32 0x3F800000#32))
    (addf (broadcastInDim S1024 ![] bcast_S_S1024 (constant S_ .f32 0x3F800000#32)) (Host.exp (Host.negf x)))

/-- The state's projection: the state times the transposed recurrent weights, plus their bias. -/
def projB (w : (⟨S3072x1024, .f32⟩ : BufTy).Contents (Elt F)) (b : (⟨S3072, .f32⟩ : BufTy).Contents (Elt F)) (h : (⟨S1024, .f32⟩ : BufTy).Contents (Elt F)) : (⟨S3072, .f32⟩ : BufTy).Contents (Elt F) :=
  addf (Host.dotGeneral dot_S1024_S1024x3072_S3072_0_0_n_1_n_n none h (transpose S1024x3072 [1, 0] w transposes_S3072x1024_S1024x3072_1_0)) b

/-- The new state from the input's and the state's projections and the old state. -/
def gateB (x g : (⟨S3072, .f32⟩ : BufTy).Contents (Elt F)) (h : (⟨S1024, .f32⟩ : BufTy).Contents (Elt F)) : (⟨S1024, .f32⟩ : BufTy).Contents (Elt F) :=
  addf
    (mulf (subf (broadcastInDim S1024 ![] bcast_S_S1024 (constant S_ .f32 0x3F800000#32))
        (sigB (addf (extractStridedSlice S1024 ![1024] x slices_S3072_S1024_1024) (extractStridedSlice S1024 ![1024] g slices_S3072_S1024_1024))))
      (Host.tanh (addf (extractStridedSlice S1024 ![2048] x slices_S3072_S1024_2048)
        (mulf (sigB (addf (extractStridedSlice S1024 ![0] x slices_S3072_S1024_0) (extractStridedSlice S1024 ![0] g slices_S3072_S1024_0)))
          (extractStridedSlice S1024 ![2048] g slices_S3072_S1024_2048)))))
    (mulf (sigB (addf (extractStridedSlice S1024 ![1024] x slices_S3072_S1024_1024) (extractStridedSlice S1024 ![1024] g slices_S3072_S1024_1024))) h)

/-- Row `k` of the projected inputs. -/
def rowB (x : (⟨S4096x3072, .f32⟩ : BufTy).Contents (Elt F)) (k : (⟨S_, .i32⟩ : BufTy).Contents (Elt F)) : (⟨S3072, .f32⟩ : BufTy).Contents (Elt F) :=
  shapeCast S3072 (Host.dynamicSlice S1x3072 x (fun j => ((![k, constantI S_ 32 0#32] : Fin 2 → (⟨S_, .i32⟩ : BufTy).Contents (Elt F)) j (Shape.Idx.first h_S_)).toInt) sliceFits_S4096x3072_S1x3072) shapeCasts_S1x3072_S3072

/-- The states with row `k` replaced by `h`. -/
def putB (x : (⟨S4096x1024, .f32⟩ : BufTy).Contents (Elt F)) (h : (⟨S1024, .f32⟩ : BufTy).Contents (Elt F)) (k : (⟨S_, .i32⟩ : BufTy).Contents (Elt F)) : (⟨S4096x1024, .f32⟩ : BufTy).Contents (Elt F) :=
  Host.dynamicUpdateSlice x (broadcastInDim S1x1024 ![1] bcast_S1024_S1x1024_1 h) (fun j => ((![k, constantI S_ 32 0#32] : Fin 2 → (⟨S_, .i32⟩ : BufTy).Contents (Elt F)) j (Shape.Idx.first h_S_)).toInt) updateFits_S4096x1024_S1x1024

end Cert.ReferenceIdeal.Gru

end
-- ==== Proof.RefLoop0.lean ====
module

public import proofs.«01_k».proof.Proof.Gen.ReferenceIdeal
public import Idealize.ShloMosaic.Lib.StableHlo.RunLoop

/-!
The reference's counted loop 0, the first layer of the encoder: its operations as literal lists, and the equation that
says its printed body is the chain of them.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The condition of loop 0: the bound, and the counter compared with it. -/
abbrev condOps0 : List (HloOp τ sig (Elt F)) :=
  [ StableHlo.nullary main_while0c_c_15 (constantI S_ 32 4096#32),
    StableHlo.binary main_v7_3 main_while0c_c_15 main_while0c_v39 (cmpi .slt : (⟨S_, .i32⟩ : BufTy).Contents (Elt F) → (⟨S_, .i32⟩ : BufTy).Contents (Elt F) → (⟨S_, .i1⟩ : BufTy).Contents (Elt F)) ]

/-- The operations of `condOps0` touch TensorCore references only. -/
theorem condOps0_sub : (condOps0 : List (HloOp τ sig (Elt F))).Forall fun op => op.bufs ⊆ StableHlo.tcRefs τ sig :=
  ⟨StableHlo.nullary_bufs_sub .., StableHlo.binary_bufs_sub ..⟩

/-- The body of loop 0: reading the row of the projected input. -/
abbrev bodyOps0_0 : List (HloOp τ sig (Elt F)) :=
  [ StableHlo.TRef.nullary (.of main_while0b_call0_c : StableHlo.TRef sig ⟨S_, .i32⟩) (constantI S_ 32 0#32),
    StableHlo.TRef.unaryIndexed (.of main_v7_0 : StableHlo.TRef sig ⟨S4096x6144, .f32⟩) ![(.of main_v7_3 : StableHlo.TRef sig ⟨S_, .i32⟩), (.of main_while0b_call0_c : StableHlo.TRef sig ⟨S_, .i32⟩)] (.of main_while0b_call0_v0 : StableHlo.TRef sig ⟨S1x6144, .f32⟩) (fun x i => Host.dynamicSlice S1x6144 x (fun k => (i k (Shape.Idx.first h_S_)).toInt) sliceFits_S4096x6144_S1x6144),
    StableHlo.TRef.reshape (.of main_while0b_call0_v0 : StableHlo.TRef sig ⟨S1x6144, .f32⟩) (.of main_while0b_v39 : StableHlo.TRef sig ⟨S6144, .f32⟩) (rfl : (.f32 : EltTy) = .f32) shapeCasts_S1x6144_S6144 ]

/-- The operations of `bodyOps0_0` touch TensorCore references only. -/
theorem bodyOps0_0_sub : (bodyOps0_0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- The body of loop 0: the step. -/
abbrev bodyOps0_1 : List (HloOp τ sig (Elt F)) :=
  [ StableHlo.unary main_v7_1 main_while0b_v40 ((transpose S2048x6144 [1, 0] · transposes_S6144x2048_S2048x6144_1_0) : (⟨S6144x2048, .f32⟩ : BufTy).Contents (Elt F) → (⟨S2048x6144, .f32⟩ : BufTy).Contents (Elt F)),
    StableHlo.binary main_v7_4 main_while0b_v40 main_while0b_v41 ((fun l r => Host.dotGeneral dot_S2048_S2048x6144_S6144_0_0_n_1_n_n none l r) : (⟨S2048, .f32⟩ : BufTy).Contents (Elt F) → (⟨S2048x6144, .f32⟩ : BufTy).Contents (Elt F) → (⟨S6144, .f32⟩ : BufTy).Contents (Elt F)),
    StableHlo.binary main_while0b_v41 main_v7_2 main_while0b_v42 (addf : (⟨S6144, .f32⟩ : BufTy).Contents (Elt F) → (⟨S6144, .f32⟩ : BufTy).Contents (Elt F) → (⟨S6144, .f32⟩ : BufTy).Contents (Elt F)),
    StableHlo.unary main_while0b_v39 main_while0b_v43 ((extractStridedSlice S2048 ![0] · slices_S6144_S2048_0) : (⟨S6144, .f32⟩ : BufTy).Contents (Elt F) → (⟨S2048, .f32⟩ : BufTy).Contents (Elt F)),
    StableHlo.unary main_while0b_v39 main_while0b_v44 ((extractStridedSlice S2048 ![2048] · slices_S6144_S2048_2048) : (⟨S6144, .f32⟩ : BufTy).Contents (Elt F) → (⟨S2048, .f32⟩ : BufTy).Contents (Elt F)),
    StableHlo.unary main_while0b_v39 main_while0b_v45 ((extractStridedSlice S2048 ![4096] · slices_S6144_S2048_4096) : (⟨S6144, .f32⟩ : BufTy).Contents (Elt F) → (⟨S2048, .f32⟩ : BufTy).Contents (Elt F)),
    StableHlo.unary main_while0b_v42 main_while0b_v46 ((extractStridedSlice S2048 ![0] · slices_S6144_S2048_0) : (⟨S6144, .f32⟩ : BufTy).Contents (Elt F) → (⟨S2048, .f32⟩ : BufTy).Contents (Elt F)),
    StableHlo.unary main_while0b_v42 main_while0b_v47 ((extractStridedSlice S2048 ![2048] · slices_S6144_S2048_2048) : (⟨S6144, .f32⟩ : BufTy).Contents (Elt F) → (⟨S2048, .f32⟩ : BufTy).Contents (Elt F)),
    StableHlo.unary main_while0b_v42 main_while0b_v48 ((extractStridedSlice S2048 ![4096] · slices_S6144_S2048_4096) : (⟨S6144, .f32⟩ : BufTy).Contents (Elt F) → (⟨S2048, .f32⟩ : BufTy).Contents (Elt F)),
    StableHlo.binary main_while0b_v43 main_while0b_v46 main_while0b_v49 (addf : (⟨S2048, .f32⟩ : BufTy).Contents (Elt F) → (⟨S2048, .f32⟩ : BufTy).Contents (Elt F) → (⟨S2048, .f32⟩ : BufTy).Contents (Elt F)),
    StableHlo.unary main_while0b_v49 main_while0b_v50 (Host.negf : (⟨S2048, .f32⟩ : BufTy).Contents (Elt F) → (⟨S2048, .f32⟩ : BufTy).Contents (Elt F)),
    StableHlo.unary main_while0b_v50 main_while0b_v51 (Host.exp : (⟨S2048, .f32⟩ : BufTy).Contents (Elt F) → (⟨S2048, .f32⟩ : BufTy).Contents (Elt F)),
    StableHlo.nullary main_while0b_cst_15 (constant S_ .f32 0x3F800000#32),
    StableHlo.unary main_while0b_cst_15 main_while0b_v52 (broadcastInDim S2048 ![] bcast_S_S2048 : (⟨S_, .f32⟩ : BufTy).Contents (Elt F) → (⟨S2048, .f32⟩ : BufTy).Contents (Elt F)),
    StableHlo.binary main_while0b_v52 main_while0b_v51 main_while0b_v53 (addf : (⟨S2048, .f32⟩ : BufTy).Contents (Elt F) → (⟨S2048, .f32⟩ : BufTy).Contents (Elt F) → (⟨S2048, .f32⟩ : BufTy).Contents (Elt F)),
    StableHlo.nullary main_while0b_cst_16 (constant S_ .f32 0x3F800000#32),
    StableHlo.unary main_while0b_cst_16 main_while0b_v54 (broadcastInDim S2048 ![] bcast_S_S2048 : (⟨S_, .f32⟩ : BufTy).Contents (Elt F) → (⟨S2048, .f32⟩ : BufTy).Contents (Elt F)),
    StableHlo.binary main_while0b_v54 main_while0b_v53 main_while0b_v55 (Host.divf : (⟨S2048, .f32⟩ : BufTy).Contents (Elt F) → (⟨S2048, .f32⟩ : BufTy).Contents (Elt F) → (⟨S2048, .f32⟩ : BufTy).Contents (Elt F)),
    StableHlo.binary main_while0b_v44 main_while0b_v47 main_while0b_v56 (addf : (⟨S2048, .f32⟩ : BufTy).Contents (Elt F) → (⟨S2048, .f32⟩ : BufTy).Contents (Elt F) → (⟨S2048, .f32⟩ : BufTy).Contents (Elt F)),
    StableHlo.unary main_while0b_v56 main_while0b_v57 (Host.negf : (⟨S2048, .f32⟩ : BufTy).Contents (Elt F) → (⟨S2048, .f32⟩ : BufTy).Contents (Elt F)),
    StableHlo.unary main_while0b_v57 main_while0b_v58 (Host.exp : (⟨S2048, .f32⟩ : BufTy).Contents (Elt F) → (⟨S2048, .f32⟩ : BufTy).Contents (Elt F)),
    StableHlo.nullary main_while0b_cst_17 (constant S_ .f32 0x3F800000#32),
    StableHlo.unary main_while0b_cst_17 main_while0b_v59 (broadcastInDim S2048 ![] bcast_S_S2048 : (⟨S_, .f32⟩ : BufTy).Contents (Elt F) → (⟨S2048, .f32⟩ : BufTy).Contents (Elt F)),
    StableHlo.binary main_while0b_v59 main_while0b_v58 main_while0b_v60 (addf : (⟨S2048, .f32⟩ : BufTy).Contents (Elt F) → (⟨S2048, .f32⟩ : BufTy).Contents (Elt F) → (⟨S2048, .f32⟩ : BufTy).Contents (Elt F)),
    StableHlo.nullary main_while0b_cst_18 (constant S_ .f32 0x3F800000#32),
    StableHlo.unary main_while0b_cst_18 main_while0b_v61 (broadcastInDim S2048 ![] bcast_S_S2048 : (⟨S_, .f32⟩ : BufTy).Contents (Elt F) → (⟨S2048, .f32⟩ : BufTy).Contents (Elt F)),
    StableHlo.binary main_while0b_v61 main_while0b_v60 main_while0b_v62 (Host.divf : (⟨S2048, .f32⟩ : BufTy).Contents (Elt F) → (⟨S2048, .f32⟩ : BufTy).Contents (Elt F) → (⟨S2048, .f32⟩ : BufTy).Contents (Elt F)),
    StableHlo.binary main_while0b_v55 main_while0b_v48 main_while0b_v63 (mulf : (⟨S2048, .f32⟩ : BufTy).Contents (Elt F) → (⟨S2048, .f32⟩ : BufTy).Contents (Elt F) → (⟨S2048, .f32⟩ : BufTy).Contents (Elt F)),
    StableHlo.binary main_while0b_v45 main_while0b_v63 main_while0b_v64 (addf : (⟨S2048, .f32⟩ : BufTy).Contents (Elt F) → (⟨S2048, .f32⟩ : BufTy).Contents (Elt F) → (⟨S2048, .f32⟩ : BufTy).Contents (Elt F)),
    StableHlo.unary main_while0b_v64 main_while0b_v65 (Host.tanh : (⟨S2048, .f32⟩ : BufTy).Contents (Elt F) → (⟨S2048, .f32⟩ : BufTy).Contents (Elt F)),
    StableHlo.nullary main_while0b_cst_19 (constant S_ .f32 0x3F800000#32),
    StableHlo.unary main_while0b_cst_19 main_while0b_v66 (broadcastInDim S2048 ![] bcast_S_S2048 : (⟨S_, .f32⟩ : BufTy).Contents (Elt F) → (⟨S2048, .f32⟩ : BufTy).Contents (Elt F)),
    StableHlo.binary main_while0b_v66 main_while0b_v62 main_while0b_v67 (subf : (⟨S2048, .f32⟩ : BufTy).Contents (Elt F) → (⟨S2048, .f32⟩ : BufTy).Contents (Elt F) → (⟨S2048, .f32⟩ : BufTy).Contents (Elt F)),
    StableHlo.binary main_while0b_v67 main_while0b_v65 main_while0b_v68 (mulf : (⟨S2048, .f32⟩ : BufTy).Contents (Elt F) → (⟨S2048, .f32⟩ : BufTy).Contents (Elt F) → (⟨S2048, .f32⟩ : BufTy).Contents (Elt F)),
    StableHlo.binary main_while0b_v62 main_v7_4 main_while0b_v69 (mulf : (⟨S2048, .f32⟩ : BufTy).Contents (Elt F) → (⟨S2048, .f32⟩ : BufTy).Contents (Elt F) → (⟨S2048, .f32⟩ : BufTy).Contents (Elt F)),
    StableHlo.binary main_while0b_v68 main_while0b_v69 main_while0b_v70 (addf : (⟨S2048, .f32⟩ : BufTy).Contents (Elt F) → (⟨S2048, .f32⟩ : BufTy).Contents (Elt F) → (⟨S2048, .f32⟩ : BufTy).Contents (Elt F)) ]

/-- The operations of `bodyOps0_1` touch TensorCore references only. -/
theorem bodyOps0_1_sub : (bodyOps0_1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- The body of loop 0: writing the row of the states. -/
abbrev bodyOps0_2 : List (HloOp τ sig (Elt F)) :=
  [ StableHlo.TRef.unary (.of main_while0b_v70 : StableHlo.TRef sig ⟨S2048, .f32⟩) (.of main_while0b_call1_v0 : StableHlo.TRef sig ⟨S1x2048, .f32⟩) (broadcastInDim S1x2048 ![1] bcast_S2048_S1x2048_1),
    StableHlo.TRef.nullary (.of main_while0b_call1_c : StableHlo.TRef sig ⟨S_, .i32⟩) (constantI S_ 32 0#32),
    StableHlo.TRef.binaryIndexed (.of main_v7_5 : StableHlo.TRef sig ⟨S4096x2048, .f32⟩) (.of main_while0b_call1_v0 : StableHlo.TRef sig ⟨S1x2048, .f32⟩) ![(.of main_v7_3 : StableHlo.TRef sig ⟨S_, .i32⟩), (.of main_while0b_call1_c : StableHlo.TRef sig ⟨S_, .i32⟩)] (.of main_while0b_v71 : StableHlo.TRef sig ⟨S4096x2048, .f32⟩) (fun x u i => Host.dynamicUpdateSlice x u (fun k => (i k (Shape.Idx.first h_S_)).toInt) updateFits_S4096x2048_S1x2048) ]

/-- The operations of `bodyOps0_2` touch TensorCore references only. -/
theorem bodyOps0_2_sub : (bodyOps0_2 : List (HloOp τ sig (Elt F))).Forall fun op => op.bufs ⊆ StableHlo.tcRefs τ sig :=
  ⟨StableHlo.unary_bufs_sub .., StableHlo.nullary_bufs_sub .., StableHlo.binaryIndexed_bufs_sub ..⟩

/-- The body of loop 0: the counter and the carried values. -/
abbrev bodyOps0_3 : List (HloOp τ sig (Elt F)) :=
  [ StableHlo.nullary main_while0b_c_20 (constantI S_ 32 1#32),
    StableHlo.binary main_v7_3 main_while0b_c_20 main_while0b_v72 (addi : (⟨S_, .i32⟩ : BufTy).Contents (Elt F) → (⟨S_, .i32⟩ : BufTy).Contents (Elt F) → (⟨S_, .i32⟩ : BufTy).Contents (Elt F)),
    StableHlo.unary main_while0b_v72 main_v7_3 id,
    StableHlo.unary main_while0b_v70 main_v7_4 id,
    StableHlo.unary main_while0b_v71 main_v7_5 id ]

/-- The operations of `bodyOps0_3` touch TensorCore references only. -/
theorem bodyOps0_3_sub : (bodyOps0_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

set_option maxRecDepth 100000 in
/-- The body of loop 0, stretch by stretch. -/
theorem body0_chain : main_while0_body (F := F) =
    (Pipeline.chain ([bodyOps0_0, bodyOps0_1, bodyOps0_2, bodyOps0_3].map fun ops => StableHlo.seq ops) : Prog (TpuEff nD τ sig (Elt F) (HostLoop.Sig (Pipeline.Sig Λ₀ (Fin 0) fun p => (pcfgs (F := F) p).Adm) 4) .tc) PUnit) := by
  rewrite [List.map_cons, List.map_cons, List.map_cons, List.map_cons, List.map_nil,
    StableHlo.chain_seq_cons, StableHlo.chain_seq_cons, StableHlo.chain_seq_cons, StableHlo.chain_seq_cons]
  chain_rfl

end Cert.ReferenceIdeal.Gru

end
-- ==== Proof.RefTrip0.lean ====
module

public import proofs.«01_k».proof.Proof.RefCell
public import proofs.«01_k».proof.Proof.RefLoop0
public import Idealize.ShloMosaic.Lib.StableHlo.RunRead

/-!
What one trip of the reference's loop 0 does to the six carried buffers.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Loop 0's body, stretch by stretch. -/
abbrev body0 : List (List (HloOp τ sig (Elt F))) := [bodyOps0_0, bodyOps0_1, bodyOps0_2, bodyOps0_3]

/-- Every buffer's contents after the condition and one body. -/
abbrev trip0 (X : Valuation τ sig (Elt F)) : Valuation τ sig (Elt F) := StableHlo.afterL body0 (StableHlo.after condOps0 X)

variable (X : Valuation τ sig (Elt F))

/-- The first stretch of loop 0's body reads the row of the projected inputs at the counter. -/
theorem stretch0_0 : StableHlo.after bodyOps0_0 X main_while0b_v39 = rowA (X main_v7_0) (X main_v7_3) := by
  after_reads_simp [StableHlo.unaryIndexed_result_read, StableHlo.binaryIndexed_result_read, StableHlo.indexContents_tref_cons, StableHlo.indexContents_tref_empty]
  rfl

/-- The second stretch computes the new state. -/
theorem stretch0_1 : StableHlo.after bodyOps0_1 X main_while0b_v70 =
    gateA (X main_while0b_v39) (projA (X main_v7_1) (X main_v7_2) (X main_v7_4)) (X main_v7_4) := by
  after_reads_simp
  rfl

/-- The third stretch writes the new state into the row at the counter. -/
theorem stretch0_2 : StableHlo.after bodyOps0_2 X main_while0b_v71 = putA (X main_v7_5) (X main_while0b_v70) (X main_v7_3) := by
  after_reads_simp [StableHlo.unaryIndexed_result_read, StableHlo.binaryIndexed_result_read, StableHlo.indexContents_tref_cons, StableHlo.indexContents_tref_empty]
  rfl

/-- Over one trip the projected inputs are kept. -/
theorem trip0_0 : trip0 X main_v7_0 = X main_v7_0 := by
  simp only [trip0, StableHlo.afterL_cons, StableHlo.afterL_nil]
  after_reads_simp

/-- Over one trip the recurrent weights are kept. -/
theorem trip0_1 : trip0 X main_v7_1 = X main_v7_1 := by
  simp only [trip0, StableHlo.afterL_cons, StableHlo.afterL_nil]
  after_reads_simp

/-- Over one trip the bias is kept. -/
theorem trip0_2 : trip0 X main_v7_2 = X main_v7_2 := by
  simp only [trip0, StableHlo.afterL_cons, StableHlo.afterL_nil]
  after_reads_simp

/-- Over one trip the counter goes up by one. -/
theorem trip0_3 : trip0 X main_v7_3 = addi (X main_v7_3) (constantI S_ 32 1#32) := by
  simp only [trip0, StableHlo.afterL_cons, StableHlo.afterL_nil]
  after_reads_simp
  rfl

/-- What the second stretch reads, it finds as the trip began. -/
theorem carry0 : StableHlo.after bodyOps0_1 (StableHlo.after bodyOps0_0 (StableHlo.after condOps0 X)) main_while0b_v70 =
    gateA (rowA (X main_v7_0) (X main_v7_3)) (projA (X main_v7_1) (X main_v7_2) (X main_v7_4)) (X main_v7_4) := by
  rw [stretch0_1, stretch0_0]
  after_reads_simp

/-- Over one trip the state takes its step. -/
theorem trip0_4 : trip0 X main_v7_4 = gateA (rowA (X main_v7_0) (X main_v7_3)) (projA (X main_v7_1) (X main_v7_2) (X main_v7_4)) (X main_v7_4) := by
  rw [← carry0]
  simp only [trip0, StableHlo.afterL_cons, StableHlo.afterL_nil]
  generalize StableHlo.after bodyOps0_1 (StableHlo.after bodyOps0_0 (StableHlo.after condOps0 X)) = Y
  after_reads_simp
  rfl

/-- Over one trip the row of the states at the counter takes the new state. -/
theorem trip0_5 : trip0 X main_v7_5 = putA (X main_v7_5) (gateA (rowA (X main_v7_0) (X main_v7_3)) (projA (X main_v7_1) (X main_v7_2) (X main_v7_4)) (X main_v7_4)) (X main_v7_3) := by
  rw [← carry0]
  have h5 : StableHlo.after bodyOps0_1 (StableHlo.after bodyOps0_0 (StableHlo.after condOps0 X)) main_v7_5 = X main_v7_5 := by
    after_reads_simp
  have h3 : StableHlo.after bodyOps0_1 (StableHlo.after bodyOps0_0 (StableHlo.after condOps0 X)) main_v7_3 = X main_v7_3 := by
    after_reads_simp
  rw [← h5, ← h3]
  simp only [trip0, StableHlo.afterL_cons, StableHlo.afterL_nil]
  generalize StableHlo.after bodyOps0_1 (StableHlo.after bodyOps0_0 (StableHlo.after condOps0 X)) = Y
  rw [← stretch0_2]
  generalize StableHlo.after bodyOps0_2 Y = Z
  after_reads_simp
  rfl

end Cert.ReferenceIdeal.Gru

end
-- ==== Proof.RefLoop1.lean ====
module

public import proofs.«01_k».proof.Proof.Gen.ReferenceIdeal
public import Idealize.ShloMosaic.Lib.StableHlo.RunLoop

/-!
The reference's counted loop 1, the second layer of the encoder: its operations as literal lists, and the equation that
says its printed body is the chain of them.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The condition of loop 1: the bound, and the counter compared with it. -/
abbrev condOps1 : List (HloOp τ sig (Elt F)) :=
  [ StableHlo.nullary main_while1c_c_15 (constantI S_ 32 4096#32),
    StableHlo.binary main_v15_3 main_while1c_c_15 main_while1c_v39 (cmpi .slt : (⟨S_, .i32⟩ : BufTy).Contents (Elt F) → (⟨S_, .i32⟩ : BufTy).Contents (Elt F) → (⟨S_, .i1⟩ : BufTy).Contents (Elt F)) ]

/-- The operations of `condOps1` touch TensorCore references only. -/
theorem condOps1_sub : (condOps1 : List (HloOp τ sig (Elt F))).Forall fun op => op.bufs ⊆ StableHlo.tcRefs τ sig :=
  ⟨StableHlo.nullary_bufs_sub .., StableHlo.binary_bufs_sub ..⟩

/-- The body of loop 1: reading the row of the projected input. -/
abbrev bodyOps1_0 : List (HloOp τ sig (Elt F)) :=
  [ StableHlo.TRef.nullary (.of main_while1b_call2_c : StableHlo.TRef sig ⟨S_, .i32⟩) (constantI S_ 32 0#32),
    StableHlo.TRef.unaryIndexed (.of main_v15_0 : StableHlo.TRef sig ⟨S4096x3072, .f32⟩) ![(.of main_v15_3 : StableHlo.TRef sig ⟨S_, .i32⟩), (.of main_while1b_call2_c : StableHlo.TRef sig ⟨S_, .i32⟩)] (.of main_while1b_call2_v0 : StableHlo.TRef sig ⟨S1x3072, .f32⟩) (fun x i => Host.dynamicSlice S1x3072 x (fun k => (i k (Shape.Idx.first h_S_)).toInt) sliceFits_S4096x3072_S1x3072),
    StableHlo.TRef.reshape (.of main_while1b_call2_v0 : StableHlo.TRef sig ⟨S1x3072, .f32⟩) (.of main_while1b_v39 : StableHlo.TRef sig ⟨S3072, .f32⟩) (rfl : (.f32 : EltTy) = .f32) shapeCasts_S1x3072_S3072 ]

/-- The operations of `bodyOps1_0` touch TensorCore references only. -/
theorem bodyOps1_0_sub : (bodyOps1_0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- The body of loop 1: the step. -/
abbrev bodyOps1_1 : List (HloOp τ sig (Elt F)) :=
  [ StableHlo.unary main_v15_1 main_while1b_v40 ((transpose S1024x3072 [1, 0] · transposes_S3072x1024_S1024x3072_1_0) : (⟨S3072x1024, .f32⟩ : BufTy).Contents (Elt F) → (⟨S1024x3072, .f32⟩ : BufTy).Contents (Elt F)),
    StableHlo.binary main_v15_4 main_while1b_v40 main_while1b_v41 ((fun l r => Host.dotGeneral dot_S1024_S1024x3072_S3072_0_0_n_1_n_n none l r) : (⟨S1024, .f32⟩ : BufTy).Contents (Elt F) → (⟨S1024x3072, .f32⟩ : BufTy).Contents (Elt F) → (⟨S3072, .f32⟩ : BufTy).Contents (Elt F)),
    StableHlo.binary main_while1b_v41 main_v15_2 main_while1b_v42 (addf : (⟨S3072, .f32⟩ : BufTy).Contents (Elt F) → (⟨S3072, .f32⟩ : BufTy).Contents (Elt F) → (⟨S3072, .f32⟩ : BufTy).Contents (Elt F)),
    StableHlo.unary main_while1b_v39 main_while1b_v43 ((extractStridedSlice S1024 ![0] · slices_S3072_S1024_0) : (⟨S3072, .f32⟩ : BufTy).Contents (Elt F) → (⟨S1024, .f32⟩ : BufTy).Contents (Elt F)),
    StableHlo.unary main_while1b_v39 main_while1b_v44 ((extractStridedSlice S1024 ![1024] · slices_S3072_S1024_1024) : (⟨S3072, .f32⟩ : BufTy).Contents (Elt F) → (⟨S1024, .f32⟩ : BufTy).Contents (Elt F)),
    StableHlo.unary main_while1b_v39 main_while1b_v45 ((extractStridedSlice S1024 ![2048] · slices_S3072_S1024_2048) : (⟨S3072, .f32⟩ : BufTy).Contents (Elt F) → (⟨S1024, .f32⟩ : BufTy).Contents (Elt F)),
    StableHlo.unary main_while1b_v42 main_while1b_v46 ((extractStridedSlice S1024 ![0] · slices_S3072_S1024_0) : (⟨S3072, .f32⟩ : BufTy).Contents (Elt F) → (⟨S1024, .f32⟩ : BufTy).Contents (Elt F)),
    StableHlo.unary main_while1b_v42 main_while1b_v47 ((extractStridedSlice S1024 ![1024] · slices_S3072_S1024_1024) : (⟨S3072, .f32⟩ : BufTy).Contents (Elt F) → (⟨S1024, .f32⟩ : BufTy).Contents (Elt F)),
    StableHlo.unary main_while1b_v42 main_while1b_v48 ((extractStridedSlice S1024 ![2048] · slices_S3072_S1024_2048) : (⟨S3072, .f32⟩ : BufTy).Contents (Elt F) → (⟨S1024, .f32⟩ : BufTy).Contents (Elt F)),
    StableHlo.binary main_while1b_v43 main_while1b_v46 main_while1b_v49 (addf : (⟨S1024, .f32⟩ : BufTy).Contents (Elt F) → (⟨S1024, .f32⟩ : BufTy).Contents (Elt F) → (⟨S1024, .f32⟩ : BufTy).Contents (Elt F)),
    StableHlo.unary main_while1b_v49 main_while1b_v50 (Host.negf : (⟨S1024, .f32⟩ : BufTy).Contents (Elt F) → (⟨S1024, .f32⟩ : BufTy).Contents (Elt F)),
    StableHlo.unary main_while1b_v50 main_while1b_v51 (Host.exp : (⟨S1024, .f32⟩ : BufTy).Contents (Elt F) → (⟨S1024, .f32⟩ : BufTy).Contents (Elt F)),
    StableHlo.nullary main_while1b_cst_15 (constant S_ .f32 0x3F800000#32),
    StableHlo.unary main_while1b_cst_15 main_while1b_v52 (broadcastInDim S1024 ![] bcast_S_S1024 : (⟨S_, .f32⟩ : BufTy).Contents (Elt F) → (⟨S1024, .f32⟩ : BufTy).Contents (Elt F)),
    StableHlo.binary main_while1b_v52 main_while1b_v51 main_while1b_v53 (addf : (⟨S1024, .f32⟩ : BufTy).Contents (Elt F) → (⟨S1024, .f32⟩ : BufTy).Contents (Elt F) → (⟨S1024, .f32⟩ : BufTy).Contents (Elt F)),
    StableHlo.nullary main_while1b_cst_16 (constant S_ .f32 0x3F800000#32),
    StableHlo.unary main_while1b_cst_16 main_while1b_v54 (broadcastInDim S1024 ![] bcast_S_S1024 : (⟨S_, .f32⟩ : BufTy).Contents (Elt F) → (⟨S1024, .f32⟩ : BufTy).Contents (Elt F)),
    StableHlo.binary main_while1b_v54 main_while1b_v53 main_while1b_v55 (Host.divf : (⟨S1024, .f32⟩ : BufTy).Contents (Elt F) → (⟨S1024, .f32⟩ : BufTy).Contents (Elt F) → (⟨S1024, .f32⟩ : BufTy).Contents (Elt F)),
    StableHlo.binary main_while1b_v44 main_while1b_v47 main_while1b_v56 (addf : (⟨S1024, .f32⟩ : BufTy).Contents (Elt F) → (⟨S1024, .f32⟩ : BufTy).Contents (Elt F) → (⟨S1024, .f32⟩ : BufTy).Contents (Elt F)),
    StableHlo.unary main_while1b_v56 main_while1b_v57 (Host.negf : (⟨S1024, .f32⟩ : BufTy).Contents (Elt F) → (⟨S1024, .f32⟩ : BufTy).Contents (Elt F)),
    StableHlo.unary main_while1b_v57 main_while1b_v58 (Host.exp : (⟨S1024, .f32⟩ : BufTy).Contents (Elt F) → (⟨S1024, .f32⟩ : BufTy).Contents (Elt F)),
    StableHlo.nullary main_while1b_cst_17 (constant S_ .f32 0x3F800000#32),
    StableHlo.unary main_while1b_cst_17 main_while1b_v59 (broadcastInDim S1024 ![] bcast_S_S1024 : (⟨S_, .f32⟩ : BufTy).Contents (Elt F) → (⟨S1024, .f32⟩ : BufTy).Contents (Elt F)),
    StableHlo.binary main_while1b_v59 main_while1b_v58 main_while1b_v60 (addf : (⟨S1024, .f32⟩ : BufTy).Contents (Elt F) → (⟨S1024, .f32⟩ : BufTy).Contents (Elt F) → (⟨S1024, .f32⟩ : BufTy).Contents (Elt F)),
    StableHlo.nullary main_while1b_cst_18 (constant S_ .f32 0x3F800000#32),
    StableHlo.unary main_while1b_cst_18 main_while1b_v61 (broadcastInDim S1024 ![] bcast_S_S1024 : (⟨S_, .f32⟩ : BufTy).Contents (Elt F) → (⟨S1024, .f32⟩ : BufTy).Contents (Elt F)),
    StableHlo.binary main_while1b_v61 main_while1b_v60 main_while1b_v62 (Host.divf : (⟨S1024, .f32⟩ : BufTy).Contents (Elt F) → (⟨S1024, .f32⟩ : BufTy).Contents (Elt F) → (⟨S1024, .f32⟩ : BufTy).Contents (Elt F)),
    StableHlo.binary main_while1b_v55 main_while1b_v48 main_while1b_v63 (mulf : (⟨S1024, .f32⟩ : BufTy).Contents (Elt F) → (⟨S1024, .f32⟩ : BufTy).Contents (Elt F) → (⟨S1024, .f32⟩ : BufTy).Contents (Elt F)),
    StableHlo.binary main_while1b_v45 main_while1b_v63 main_while1b_v64 (addf : (⟨S1024, .f32⟩ : BufTy).Contents (Elt F) → (⟨S1024, .f32⟩ : BufTy).Contents (Elt F) → (⟨S1024, .f32⟩ : BufTy).Contents (Elt F)),
    StableHlo.unary main_while1b_v64 main_while1b_v65 (Host.tanh : (⟨S1024, .f32⟩ : BufTy).Contents (Elt F) → (⟨S1024, .f32⟩ : BufTy).Contents (Elt F)),
    StableHlo.nullary main_while1b_cst_19 (constant S_ .f32 0x3F800000#32),
    StableHlo.unary main_while1b_cst_19 main_while1b_v66 (broadcastInDim S1024 ![] bcast_S_S1024 : (⟨S_, .f32⟩ : BufTy).Contents (Elt F) → (⟨S1024, .f32⟩ : BufTy).Contents (Elt F)),
    StableHlo.binary main_while1b_v66 main_while1b_v62 main_while1b_v67 (subf : (⟨S1024, .f32⟩ : BufTy).Contents (Elt F) → (⟨S1024, .f32⟩ : BufTy).Contents (Elt F) → (⟨S1024, .f32⟩ : BufTy).Contents (Elt F)),
    StableHlo.binary main_while1b_v67 main_while1b_v65 main_while1b_v68 (mulf : (⟨S1024, .f32⟩ : BufTy).Contents (Elt F) → (⟨S1024, .f32⟩ : BufTy).Contents (Elt F) → (⟨S1024, .f32⟩ : BufTy).Contents (Elt F)),
    StableHlo.binary main_while1b_v62 main_v15_4 main_while1b_v69 (mulf : (⟨S1024, .f32⟩ : BufTy).Contents (Elt F) → (⟨S1024, .f32⟩ : BufTy).Contents (Elt F) → (⟨S1024, .f32⟩ : BufTy).Contents (Elt F)),
    StableHlo.binary main_while1b_v68 main_while1b_v69 main_while1b_v70 (addf : (⟨S1024, .f32⟩ : BufTy).Contents (Elt F) → (⟨S1024, .f32⟩ : BufTy).Contents (Elt F) → (⟨S1024, .f32⟩ : BufTy).Contents (Elt F)) ]

/-- The operations of `bodyOps1_1` touch TensorCore references only. -/
theorem bodyOps1_1_sub : (bodyOps1_1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- The body of loop 1: writing the row of the states. -/
abbrev bodyOps1_2 : List (HloOp τ sig (Elt F)) :=
  [ StableHlo.TRef.unary (.of main_while1b_v70 : StableHlo.TRef sig ⟨S1024, .f32⟩) (.of main_while1b_call3_v0 : StableHlo.TRef sig ⟨S1x1024, .f32⟩) (broadcastInDim S1x1024 ![1] bcast_S1024_S1x1024_1),
    StableHlo.TRef.nullary (.of main_while1b_call3_c : StableHlo.TRef sig ⟨S_, .i32⟩) (constantI S_ 32 0#32),
    StableHlo.TRef.binaryIndexed (.of main_v15_5 : StableHlo.TRef sig ⟨S4096x1024, .f32⟩) (.of main_while1b_call3_v0 : StableHlo.TRef sig ⟨S1x1024, .f32⟩) ![(.of main_v15_3 : StableHlo.TRef sig ⟨S_, .i32⟩), (.of main_while1b_call3_c : StableHlo.TRef sig ⟨S_, .i32⟩)] (.of main_while1b_v71 : StableHlo.TRef sig ⟨S4096x1024, .f32⟩) (fun x u i => Host.dynamicUpdateSlice x u (fun k => (i k (Shape.Idx.first h_S_)).toInt) updateFits_S4096x1024_S1x1024) ]

/-- The operations of `bodyOps1_2` touch TensorCore references only. -/
theorem bodyOps1_2_sub : (bodyOps1_2 : List (HloOp τ sig (Elt F))).Forall fun op => op.bufs ⊆ StableHlo.tcRefs τ sig :=
  ⟨StableHlo.unary_bufs_sub .., StableHlo.nullary_bufs_sub .., StableHlo.binaryIndexed_bufs_sub ..⟩

/-- The body of loop 1: the counter and the carried values. -/
abbrev bodyOps1_3 : List (HloOp τ sig (Elt F)) :=
  [ StableHlo.nullary main_while1b_c_20 (constantI S_ 32 1#32),
    StableHlo.binary main_v15_3 main_while1b_c_20 main_while1b_v72 (addi : (⟨S_, .i32⟩ : BufTy).Contents (Elt F) → (⟨S_, .i32⟩ : BufTy).Contents (Elt F) → (⟨S_, .i32⟩ : BufTy).Contents (Elt F)),
    StableHlo.unary main_while1b_v72 main_v15_3 id,
    StableHlo.unary main_while1b_v70 main_v15_4 id,
    StableHlo.unary main_while1b_v71 main_v15_5 id ]

/-- The operations of `bodyOps1_3` touch TensorCore references only. -/
theorem bodyOps1_3_sub : (bodyOps1_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

set_option maxRecDepth 100000 in
/-- The body of loop 1, stretch by stretch. -/
theorem body1_chain : main_while1_body (F := F) =
    (Pipeline.chain ([bodyOps1_0, bodyOps1_1, bodyOps1_2, bodyOps1_3].map fun ops => StableHlo.seq ops) : Prog (TpuEff nD τ sig (Elt F) (HostLoop.Sig (Pipeline.Sig Λ₀ (Fin 0) fun p => (pcfgs (F := F) p).Adm) 4) .tc) PUnit) := by
  rewrite [List.map_cons, List.map_cons, List.map_cons, List.map_cons, List.map_nil,
    StableHlo.chain_seq_cons, StableHlo.chain_seq_cons, StableHlo.chain_seq_cons, StableHlo.chain_seq_cons]
  chain_rfl

end Cert.ReferenceIdeal.Gru

end
-- ==== Proof.RefTrip1.lean ====
module

public import proofs.«01_k».proof.Proof.RefCell
public import proofs.«01_k».proof.Proof.RefLoop1
public import Idealize.ShloMosaic.Lib.StableHlo.RunRead

/-!
What one trip of the reference's loop 1 does to the six carried buffers.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Loop 1's body, stretch by stretch. -/
abbrev body1 : List (List (HloOp τ sig (Elt F))) := [bodyOps1_0, bodyOps1_1, bodyOps1_2, bodyOps1_3]

/-- Every buffer's contents after the condition and one body. -/
abbrev trip1 (X : Valuation τ sig (Elt F)) : Valuation τ sig (Elt F) := StableHlo.afterL body1 (StableHlo.after condOps1 X)

variable (X : Valuation τ sig (Elt F))

/-- The first stretch of loop 1's body reads the row of the projected inputs at the counter. -/
theorem stretch1_0 : StableHlo.after bodyOps1_0 X main_while1b_v39 = rowB (X main_v15_0) (X main_v15_3) := by
  after_reads_simp [StableHlo.unaryIndexed_result_read, StableHlo.binaryIndexed_result_read, StableHlo.indexContents_tref_cons, StableHlo.indexContents_tref_empty]
  rfl

/-- The second stretch computes the new state. -/
theorem stretch1_1 : StableHlo.after bodyOps1_1 X main_while1b_v70 =
    gateB (X main_while1b_v39) (projB (X main_v15_1) (X main_v15_2) (X main_v15_4)) (X main_v15_4) := by
  after_reads_simp
  rfl

/-- The third stretch writes the new state into the row at the counter. -/
theorem stretch1_2 : StableHlo.after bodyOps1_2 X main_while1b_v71 = putB (X main_v15_5) (X main_while1b_v70) (X main_v15_3) := by
  after_reads_simp [StableHlo.unaryIndexed_result_read, StableHlo.binaryIndexed_result_read, StableHlo.indexContents_tref_cons, StableHlo.indexContents_tref_empty]
  rfl

/-- Over one trip the projected inputs are kept. -/
theorem trip1_0 : trip1 X main_v15_0 = X main_v15_0 := by
  simp only [trip1, StableHlo.afterL_cons, StableHlo.afterL_nil]
  after_reads_simp

/-- Over one trip the recurrent weights are kept. -/
theorem trip1_1 : trip1 X main_v15_1 = X main_v15_1 := by
  simp only [trip1, StableHlo.afterL_cons, StableHlo.afterL_nil]
  after_reads_simp

/-- Over one trip the bias is kept. -/
theorem trip1_2 : trip1 X main_v15_2 = X main_v15_2 := by
  simp only [trip1, StableHlo.afterL_cons, StableHlo.afterL_nil]
  after_reads_simp

/-- Over one trip the counter goes up by one. -/
theorem trip1_3 : trip1 X main_v15_3 = addi (X main_v15_3) (constantI S_ 32 1#32) := by
  simp only [trip1, StableHlo.afterL_cons, StableHlo.afterL_nil]
  after_reads_simp
  rfl

/-- What the second stretch reads, it finds as the trip began. -/
theorem carry1 : StableHlo.after bodyOps1_1 (StableHlo.after bodyOps1_0 (StableHlo.after condOps1 X)) main_while1b_v70 =
    gateB (rowB (X main_v15_0) (X main_v15_3)) (projB (X main_v15_1) (X main_v15_2) (X main_v15_4)) (X main_v15_4) := by
  rw [stretch1_1, stretch1_0]
  after_reads_simp

/-- Over one trip the state takes its step. -/
theorem trip1_4 : trip1 X main_v15_4 = gateB (rowB (X main_v15_0) (X main_v15_3)) (projB (X main_v15_1) (X main_v15_2) (X main_v15_4)) (X main_v15_4) := by
  rw [← carry1]
  simp only [trip1, StableHlo.afterL_cons, StableHlo.afterL_nil]
  generalize StableHlo.after bodyOps1_1 (StableHlo.after bodyOps1_0 (StableHlo.after condOps1 X)) = Y
  after_reads_simp
  rfl

/-- Over one trip the row of the states at the counter takes the new state. -/
theorem trip1_5 : trip1 X main_v15_5 = putB (X main_v15_5) (gateB (rowB (X main_v15_0) (X main_v15_3)) (projB (X main_v15_1) (X main_v15_2) (X main_v15_4)) (X main_v15_4)) (X main_v15_3) := by
  rw [← carry1]
  have h5 : StableHlo.after bodyOps1_1 (StableHlo.after bodyOps1_0 (StableHlo.after condOps1 X)) main_v15_5 = X main_v15_5 := by
    after_reads_simp
  have h3 : StableHlo.after bodyOps1_1 (StableHlo.after bodyOps1_0 (StableHlo.after condOps1 X)) main_v15_3 = X main_v15_3 := by
    after_reads_simp
  rw [← h5, ← h3]
  simp only [trip1, StableHlo.afterL_cons, StableHlo.afterL_nil]
  generalize StableHlo.after bodyOps1_1 (StableHlo.after bodyOps1_0 (StableHlo.after condOps1 X)) = Y
  rw [← stretch1_2]
  generalize StableHlo.after bodyOps1_2 Y = Z
  after_reads_simp
  rfl

end Cert.ReferenceIdeal.Gru

end
-- ==== Proof.RefLoop2.lean ====
module

public import proofs.«01_k».proof.Proof.Gen.ReferenceIdeal
public import Idealize.ShloMosaic.Lib.StableHlo.RunLoop

/-!
The reference's counted loop 2, the first layer of the decoder: its operations as literal lists, and the equation that
says its printed body is the chain of them.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The condition of loop 2: the bound, and the counter compared with it. -/
abbrev condOps2 : List (HloOp τ sig (Elt F)) :=
  [ StableHlo.nullary main_while2c_c_15 (constantI S_ 32 4096#32),
    StableHlo.binary main_v25_3 main_while2c_c_15 main_while2c_v39 (cmpi .slt : (⟨S_, .i32⟩ : BufTy).Contents (Elt F) → (⟨S_, .i32⟩ : BufTy).Contents (Elt F) → (⟨S_, .i1⟩ : BufTy).Contents (Elt F)) ]

/-- The operations of `condOps2` touch TensorCore references only. -/
theorem condOps2_sub : (condOps2 : List (HloOp τ sig (Elt F))).Forall fun op => op.bufs ⊆ StableHlo.tcRefs τ sig :=
  ⟨StableHlo.nullary_bufs_sub .., StableHlo.binary_bufs_sub ..⟩

/-- The body of loop 2: reading the row of the projected input. -/
abbrev bodyOps2_0 : List (HloOp τ sig (Elt F)) :=
  [ StableHlo.TRef.nullary (.of main_while2b_call4_c : StableHlo.TRef sig ⟨S_, .i32⟩) (constantI S_ 32 0#32),
    StableHlo.TRef.unaryIndexed (.of main_v25_0 : StableHlo.TRef sig ⟨S4096x3072, .f32⟩) ![(.of main_v25_3 : StableHlo.TRef sig ⟨S_, .i32⟩), (.of main_while2b_call4_c : StableHlo.TRef sig ⟨S_, .i32⟩)] (.of main_while2b_call4_v0 : StableHlo.TRef sig ⟨S1x3072, .f32⟩) (fun x i => Host.dynamicSlice S1x3072 x (fun k => (i k (Shape.Idx.first h_S_)).toInt) sliceFits_S4096x3072_S1x3072),
    StableHlo.TRef.reshape (.of main_while2b_call4_v0 : StableHlo.TRef sig ⟨S1x3072, .f32⟩) (.of main_while2b_v39 : StableHlo.TRef sig ⟨S3072, .f32⟩) (rfl : (.f32 : EltTy) = .f32) shapeCasts_S1x3072_S3072 ]

/-- The operations of `bodyOps2_0` touch TensorCore references only. -/
theorem bodyOps2_0_sub : (bodyOps2_0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- The body of loop 2: the step. -/
abbrev bodyOps2_1 : List (HloOp τ sig (Elt F)) :=
  [ StableHlo.unary main_v25_1 main_while2b_v40 ((transpose S1024x3072 [1, 0] · transposes_S3072x1024_S1024x3072_1_0) : (⟨S3072x1024, .f32⟩ : BufTy).Contents (Elt F) → (⟨S1024x3072, .f32⟩ : BufTy).Contents (Elt F)),
    StableHlo.binary main_v25_4 main_while2b_v40 main_while2b_v41 ((fun l r => Host.dotGeneral dot_S1024_S1024x3072_S3072_0_0_n_1_n_n none l r) : (⟨S1024, .f32⟩ : BufTy).Contents (Elt F) → (⟨S1024x3072, .f32⟩ : BufTy).Contents (Elt F) → (⟨S3072, .f32⟩ : BufTy).Contents (Elt F)),
    StableHlo.binary main_while2b_v41 main_v25_2 main_while2b_v42 (addf : (⟨S3072, .f32⟩ : BufTy).Contents (Elt F) → (⟨S3072, .f32⟩ : BufTy).Contents (Elt F) → (⟨S3072, .f32⟩ : BufTy).Contents (Elt F)),
    StableHlo.unary main_while2b_v39 main_while2b_v43 ((extractStridedSlice S1024 ![0] · slices_S3072_S1024_0) : (⟨S3072, .f32⟩ : BufTy).Contents (Elt F) → (⟨S1024, .f32⟩ : BufTy).Contents (Elt F)),
    StableHlo.unary main_while2b_v39 main_while2b_v44 ((extractStridedSlice S1024 ![1024] · slices_S3072_S1024_1024) : (⟨S3072, .f32⟩ : BufTy).Contents (Elt F) → (⟨S1024, .f32⟩ : BufTy).Contents (Elt F)),
    StableHlo.unary main_while2b_v39 main_while2b_v45 ((extractStridedSlice S1024 ![2048] · slices_S3072_S1024_2048) : (⟨S3072, .f32⟩ : BufTy).Contents (Elt F) → (⟨S1024, .f32⟩ : BufTy).Contents (Elt F)),
    StableHlo.unary main_while2b_v42 main_while2b_v46 ((extractStridedSlice S1024 ![0] · slices_S3072_S1024_0) : (⟨S3072, .f32⟩ : BufTy).Contents (Elt F) → (⟨S1024, .f32⟩ : BufTy).Contents (Elt F)),
    StableHlo.unary main_while2b_v42 main_while2b_v47 ((extractStridedSlice S1024 ![1024] · slices_S3072_S1024_1024) : (⟨S3072, .f32⟩ : BufTy).Contents (Elt F) → (⟨S1024, .f32⟩ : BufTy).Contents (Elt F)),
    StableHlo.unary main_while2b_v42 main_while2b_v48 ((extractStridedSlice S1024 ![2048] · slices_S3072_S1024_2048) : (⟨S3072, .f32⟩ : BufTy).Contents (Elt F) → (⟨S1024, .f32⟩ : BufTy).Contents (Elt F)),
    StableHlo.binary main_while2b_v43 main_while2b_v46 main_while2b_v49 (addf : (⟨S1024, .f32⟩ : BufTy).Contents (Elt F) → (⟨S1024, .f32⟩ : BufTy).Contents (Elt F) → (⟨S1024, .f32⟩ : BufTy).Contents (Elt F)),
    StableHlo.unary main_while2b_v49 main_while2b_v50 (Host.negf : (⟨S1024, .f32⟩ : BufTy).Contents (Elt F) → (⟨S1024, .f32⟩ : BufTy).Contents (Elt F)),
    StableHlo.unary main_while2b_v50 main_while2b_v51 (Host.exp : (⟨S1024, .f32⟩ : BufTy).Contents (Elt F) → (⟨S1024, .f32⟩ : BufTy).Contents (Elt F)),
    StableHlo.nullary main_while2b_cst_15 (constant S_ .f32 0x3F800000#32),
    StableHlo.unary main_while2b_cst_15 main_while2b_v52 (broadcastInDim S1024 ![] bcast_S_S1024 : (⟨S_, .f32⟩ : BufTy).Contents (Elt F) → (⟨S1024, .f32⟩ : BufTy).Contents (Elt F)),
    StableHlo.binary main_while2b_v52 main_while2b_v51 main_while2b_v53 (addf : (⟨S1024, .f32⟩ : BufTy).Contents (Elt F) → (⟨S1024, .f32⟩ : BufTy).Contents (Elt F) → (⟨S1024, .f32⟩ : BufTy).Contents (Elt F)),
    StableHlo.nullary main_while2b_cst_16 (constant S_ .f32 0x3F800000#32),
    StableHlo.unary main_while2b_cst_16 main_while2b_v54 (broadcastInDim S1024 ![] bcast_S_S1024 : (⟨S_, .f32⟩ : BufTy).Contents (Elt F) → (⟨S1024, .f32⟩ : BufTy).Contents (Elt F)),
    StableHlo.binary main_while2b_v54 main_while2b_v53 main_while2b_v55 (Host.divf : (⟨S1024, .f32⟩ : BufTy).Contents (Elt F) → (⟨S1024, .f32⟩ : BufTy).Contents (Elt F) → (⟨S1024, .f32⟩ : BufTy).Contents (Elt F)),
    StableHlo.binary main_while2b_v44 main_while2b_v47 main_while2b_v56 (addf : (⟨S1024, .f32⟩ : BufTy).Contents (Elt F) → (⟨S1024, .f32⟩ : BufTy).Contents (Elt F) → (⟨S1024, .f32⟩ : BufTy).Contents (Elt F)),
    StableHlo.unary main_while2b_v56 main_while2b_v57 (Host.negf : (⟨S1024, .f32⟩ : BufTy).Contents (Elt F) → (⟨S1024, .f32⟩ : BufTy).Contents (Elt F)),
    StableHlo.unary main_while2b_v57 main_while2b_v58 (Host.exp : (⟨S1024, .f32⟩ : BufTy).Contents (Elt F) → (⟨S1024, .f32⟩ : BufTy).Contents (Elt F)),
    StableHlo.nullary main_while2b_cst_17 (constant S_ .f32 0x3F800000#32),
    StableHlo.unary main_while2b_cst_17 main_while2b_v59 (broadcastInDim S1024 ![] bcast_S_S1024 : (⟨S_, .f32⟩ : BufTy).Contents (Elt F) → (⟨S1024, .f32⟩ : BufTy).Contents (Elt F)),
    StableHlo.binary main_while2b_v59 main_while2b_v58 main_while2b_v60 (addf : (⟨S1024, .f32⟩ : BufTy).Contents (Elt F) → (⟨S1024, .f32⟩ : BufTy).Contents (Elt F) → (⟨S1024, .f32⟩ : BufTy).Contents (Elt F)),
    StableHlo.nullary main_while2b_cst_18 (constant S_ .f32 0x3F800000#32),
    StableHlo.unary main_while2b_cst_18 main_while2b_v61 (broadcastInDim S1024 ![] bcast_S_S1024 : (⟨S_, .f32⟩ : BufTy).Contents (Elt F) → (⟨S1024, .f32⟩ : BufTy).Contents (Elt F)),
    StableHlo.binary main_while2b_v61 main_while2b_v60 main_while2b_v62 (Host.divf : (⟨S1024, .f32⟩ : BufTy).Contents (Elt F) → (⟨S1024, .f32⟩ : BufTy).Contents (Elt F) → (⟨S1024, .f32⟩ : BufTy).Contents (Elt F)),
    StableHlo.binary main_while2b_v55 main_while2b_v48 main_while2b_v63 (mulf : (⟨S1024, .f32⟩ : BufTy).Contents (Elt F) → (⟨S1024, .f32⟩ : BufTy).Contents (Elt F) → (⟨S1024, .f32⟩ : BufTy).Contents (Elt F)),
    StableHlo.binary main_while2b_v45 main_while2b_v63 main_while2b_v64 (addf : (⟨S1024, .f32⟩ : BufTy).Contents (Elt F) → (⟨S1024, .f32⟩ : BufTy).Contents (Elt F) → (⟨S1024, .f32⟩ : BufTy).Contents (Elt F)),
    StableHlo.unary main_while2b_v64 main_while2b_v65 (Host.tanh : (⟨S1024, .f32⟩ : BufTy).Contents (Elt F) → (⟨S1024, .f32⟩ : BufTy).Contents (Elt F)),
    StableHlo.nullary main_while2b_cst_19 (constant S_ .f32 0x3F800000#32),
    StableHlo.unary main_while2b_cst_19 main_while2b_v66 (broadcastInDim S1024 ![] bcast_S_S1024 : (⟨S_, .f32⟩ : BufTy).Contents (Elt F) → (⟨S1024, .f32⟩ : BufTy).Contents (Elt F)),
    StableHlo.binary main_while2b_v66 main_while2b_v62 main_while2b_v67 (subf : (⟨S1024, .f32⟩ : BufTy).Contents (Elt F) → (⟨S1024, .f32⟩ : BufTy).Contents (Elt F) → (⟨S1024, .f32⟩ : BufTy).Contents (Elt F)),
    StableHlo.binary main_while2b_v67 main_while2b_v65 main_while2b_v68 (mulf : (⟨S1024, .f32⟩ : BufTy).Contents (Elt F) → (⟨S1024, .f32⟩ : BufTy).Contents (Elt F) → (⟨S1024, .f32⟩ : BufTy).Contents (Elt F)),
    StableHlo.binary main_while2b_v62 main_v25_4 main_while2b_v69 (mulf : (⟨S1024, .f32⟩ : BufTy).Contents (Elt F) → (⟨S1024, .f32⟩ : BufTy).Contents (Elt F) → (⟨S1024, .f32⟩ : BufTy).Contents (Elt F)),
    StableHlo.binary main_while2b_v68 main_while2b_v69 main_while2b_v70 (addf : (⟨S1024, .f32⟩ : BufTy).Contents (Elt F) → (⟨S1024, .f32⟩ : BufTy).Contents (Elt F) → (⟨S1024, .f32⟩ : BufTy).Contents (Elt F)) ]

/-- The operations of `bodyOps2_1` touch TensorCore references only. -/
theorem bodyOps2_1_sub : (bodyOps2_1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- The body of loop 2: writing the row of the states. -/
abbrev bodyOps2_2 : List (HloOp τ sig (Elt F)) :=
  [ StableHlo.TRef.unary (.of main_while2b_v70 : StableHlo.TRef sig ⟨S1024, .f32⟩) (.of main_while2b_call5_v0 : StableHlo.TRef sig ⟨S1x1024, .f32⟩) (broadcastInDim S1x1024 ![1] bcast_S1024_S1x1024_1),
    StableHlo.TRef.nullary (.of main_while2b_call5_c : StableHlo.TRef sig ⟨S_, .i32⟩) (constantI S_ 32 0#32),
    StableHlo.TRef.binaryIndexed (.of main_v25_5 : StableHlo.TRef sig ⟨S4096x1024, .f32⟩) (.of main_while2b_call5_v0 : StableHlo.TRef sig ⟨S1x1024, .f32⟩) ![(.of main_v25_3 : StableHlo.TRef sig ⟨S_, .i32⟩), (.of main_while2b_call5_c : StableHlo.TRef sig ⟨S_, .i32⟩)] (.of main_while2b_v71 : StableHlo.TRef sig ⟨S4096x1024, .f32⟩) (fun x u i => Host.dynamicUpdateSlice x u (fun k => (i k (Shape.Idx.first h_S_)).toInt) updateFits_S4096x1024_S1x1024) ]

/-- The operations of `bodyOps2_2` touch TensorCore references only. -/
theorem bodyOps2_2_sub : (bodyOps2_2 : List (HloOp τ sig (Elt F))).Forall fun op => op.bufs ⊆ StableHlo.tcRefs τ sig :=
  ⟨StableHlo.unary_bufs_sub .., StableHlo.nullary_bufs_sub .., StableHlo.binaryIndexed_bufs_sub ..⟩

/-- The body of loop 2: the counter and the carried values. -/
abbrev bodyOps2_3 : List (HloOp τ sig (Elt F)) :=
  [ StableHlo.nullary main_while2b_c_20 (constantI S_ 32 1#32),
    StableHlo.binary main_v25_3 main_while2b_c_20 main_while2b_v72 (addi : (⟨S_, .i32⟩ : BufTy).Contents (Elt F) → (⟨S_, .i32⟩ : BufTy).Contents (Elt F) → (⟨S_, .i32⟩ : BufTy).Contents (Elt F)),
    StableHlo.unary main_while2b_v72 main_v25_3 id,
    StableHlo.unary main_while2b_v70 main_v25_4 id,
    StableHlo.unary main_while2b_v71 main_v25_5 id ]

/-- The operations of `bodyOps2_3` touch TensorCore references only. -/
theorem bodyOps2_3_sub : (bodyOps2_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

set_option maxRecDepth 100000 in
/-- The body of loop 2, stretch by stretch. -/
theorem body2_chain : main_while2_body (F := F) =
    (Pipeline.chain ([bodyOps2_0, bodyOps2_1, bodyOps2_2, bodyOps2_3].map fun ops => StableHlo.seq ops) : Prog (TpuEff nD τ sig (Elt F) (HostLoop.Sig (Pipeline.Sig Λ₀ (Fin 0) fun p => (pcfgs (F := F) p).Adm) 4) .tc) PUnit) := by
  rewrite [List.map_cons, List.map_cons, List.map_cons, List.map_cons, List.map_nil,
    StableHlo.chain_seq_cons, StableHlo.chain_seq_cons, StableHlo.chain_seq_cons, StableHlo.chain_seq_cons]
  chain_rfl

end Cert.ReferenceIdeal.Gru

end
-- ==== Proof.RefTrip2.lean ====
module

public import proofs.«01_k».proof.Proof.RefCell
public import proofs.«01_k».proof.Proof.RefLoop2
public import Idealize.ShloMosaic.Lib.StableHlo.RunRead

/-!
What one trip of the reference's loop 2 does to the six carried buffers.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Loop 2's body, stretch by stretch. -/
abbrev body2 : List (List (HloOp τ sig (Elt F))) := [bodyOps2_0, bodyOps2_1, bodyOps2_2, bodyOps2_3]

/-- Every buffer's contents after the condition and one body. -/
abbrev trip2 (X : Valuation τ sig (Elt F)) : Valuation τ sig (Elt F) := StableHlo.afterL body2 (StableHlo.after condOps2 X)

variable (X : Valuation τ sig (Elt F))

/-- The first stretch of loop 2's body reads the row of the projected inputs at the counter. -/
theorem stretch2_0 : StableHlo.after bodyOps2_0 X main_while2b_v39 = rowB (X main_v25_0) (X main_v25_3) := by
  after_reads_simp [StableHlo.unaryIndexed_result_read, StableHlo.binaryIndexed_result_read, StableHlo.indexContents_tref_cons, StableHlo.indexContents_tref_empty]
  rfl

/-- The second stretch computes the new state. -/
theorem stretch2_1 : StableHlo.after bodyOps2_1 X main_while2b_v70 =
    gateB (X main_while2b_v39) (projB (X main_v25_1) (X main_v25_2) (X main_v25_4)) (X main_v25_4) := by
  after_reads_simp
  rfl

/-- The third stretch writes the new state into the row at the counter. -/
theorem stretch2_2 : StableHlo.after bodyOps2_2 X main_while2b_v71 = putB (X main_v25_5) (X main_while2b_v70) (X main_v25_3) := by
  after_reads_simp [StableHlo.unaryIndexed_result_read, StableHlo.binaryIndexed_result_read, StableHlo.indexContents_tref_cons, StableHlo.indexContents_tref_empty]
  rfl

/-- Over one trip the projected inputs are kept. -/
theorem trip2_0 : trip2 X main_v25_0 = X main_v25_0 := by
  simp only [trip2, StableHlo.afterL_cons, StableHlo.afterL_nil]
  after_reads_simp

/-- Over one trip the recurrent weights are kept. -/
theorem trip2_1 : trip2 X main_v25_1 = X main_v25_1 := by
  simp only [trip2, StableHlo.afterL_cons, StableHlo.afterL_nil]
  after_reads_simp

/-- Over one trip the bias is kept. -/
theorem trip2_2 : trip2 X main_v25_2 = X main_v25_2 := by
  simp only [trip2, StableHlo.afterL_cons, StableHlo.afterL_nil]
  after_reads_simp

/-- Over one trip the counter goes up by one. -/
theorem trip2_3 : trip2 X main_v25_3 = addi (X main_v25_3) (constantI S_ 32 1#32) := by
  simp only [trip2, StableHlo.afterL_cons, StableHlo.afterL_nil]
  after_reads_simp
  rfl

/-- What the second stretch reads, it finds as the trip began. -/
theorem carry2 : StableHlo.after bodyOps2_1 (StableHlo.after bodyOps2_0 (StableHlo.after condOps2 X)) main_while2b_v70 =
    gateB (rowB (X main_v25_0) (X main_v25_3)) (projB (X main_v25_1) (X main_v25_2) (X main_v25_4)) (X main_v25_4) := by
  rw [stretch2_1, stretch2_0]
  after_reads_simp

/-- Over one trip the state takes its step. -/
theorem trip2_4 : trip2 X main_v25_4 = gateB (rowB (X main_v25_0) (X main_v25_3)) (projB (X main_v25_1) (X main_v25_2) (X main_v25_4)) (X main_v25_4) := by
  rw [← carry2]
  simp only [trip2, StableHlo.afterL_cons, StableHlo.afterL_nil]
  generalize StableHlo.after bodyOps2_1 (StableHlo.after bodyOps2_0 (StableHlo.after condOps2 X)) = Y
  after_reads_simp
  rfl

/-- Over one trip the row of the states at the counter takes the new state. -/
theorem trip2_5 : trip2 X main_v25_5 = putB (X main_v25_5) (gateB (rowB (X main_v25_0) (X main_v25_3)) (projB (X main_v25_1) (X main_v25_2) (X main_v25_4)) (X main_v25_4)) (X main_v25_3) := by
  rw [← carry2]
  have h5 : StableHlo.after bodyOps2_1 (StableHlo.after bodyOps2_0 (StableHlo.after condOps2 X)) main_v25_5 = X main_v25_5 := by
    after_reads_simp
  have h3 : StableHlo.after bodyOps2_1 (StableHlo.after bodyOps2_0 (StableHlo.after condOps2 X)) main_v25_3 = X main_v25_3 := by
    after_reads_simp
  rw [← h5, ← h3]
  simp only [trip2, StableHlo.afterL_cons, StableHlo.afterL_nil]
  generalize StableHlo.after bodyOps2_1 (StableHlo.after bodyOps2_0 (StableHlo.after condOps2 X)) = Y
  rw [← stretch2_2]
  generalize StableHlo.after bodyOps2_2 Y = Z
  after_reads_simp
  rfl

end Cert.ReferenceIdeal.Gru

end
-- ==== Proof.RefLoop3.lean ====
module

public import proofs.«01_k».proof.Proof.Gen.ReferenceIdeal
public import Idealize.ShloMosaic.Lib.StableHlo.RunLoop

/-!
The reference's counted loop 3, the second layer of the decoder: its operations as literal lists, and the equation that
says its printed body is the chain of them.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- The condition of loop 3: the bound, and the counter compared with it. -/
abbrev condOps3 : List (HloOp τ sig (Elt F)) :=
  [ StableHlo.nullary main_while3c_c_15 (constantI S_ 32 4096#32),
    StableHlo.binary main_v33_3 main_while3c_c_15 main_while3c_v39 (cmpi .slt : (⟨S_, .i32⟩ : BufTy).Contents (Elt F) → (⟨S_, .i32⟩ : BufTy).Contents (Elt F) → (⟨S_, .i1⟩ : BufTy).Contents (Elt F)) ]

/-- The operations of `condOps3` touch TensorCore references only. -/
theorem condOps3_sub : (condOps3 : List (HloOp τ sig (Elt F))).Forall fun op => op.bufs ⊆ StableHlo.tcRefs τ sig :=
  ⟨StableHlo.nullary_bufs_sub .., StableHlo.binary_bufs_sub ..⟩

/-- The body of loop 3: reading the row of the projected input. -/
abbrev bodyOps3_0 : List (HloOp τ sig (Elt F)) :=
  [ StableHlo.TRef.nullary (.of main_while3b_call6_c : StableHlo.TRef sig ⟨S_, .i32⟩) (constantI S_ 32 0#32),
    StableHlo.TRef.unaryIndexed (.of main_v33_0 : StableHlo.TRef sig ⟨S4096x6144, .f32⟩) ![(.of main_v33_3 : StableHlo.TRef sig ⟨S_, .i32⟩), (.of main_while3b_call6_c : StableHlo.TRef sig ⟨S_, .i32⟩)] (.of main_while3b_call6_v0 : StableHlo.TRef sig ⟨S1x6144, .f32⟩) (fun x i => Host.dynamicSlice S1x6144 x (fun k => (i k (Shape.Idx.first h_S_)).toInt) sliceFits_S4096x6144_S1x6144),
    StableHlo.TRef.reshape (.of main_while3b_call6_v0 : StableHlo.TRef sig ⟨S1x6144, .f32⟩) (.of main_while3b_v39 : StableHlo.TRef sig ⟨S6144, .f32⟩) (rfl : (.f32 : EltTy) = .f32) shapeCasts_S1x6144_S6144 ]

/-- The operations of `bodyOps3_0` touch TensorCore references only. -/
theorem bodyOps3_0_sub : (bodyOps3_0 : List (HloOp τ sig (Elt F))).Forall fun op => op.bufs ⊆ StableHlo.tcRefs τ sig :=
  ⟨StableHlo.nullary_bufs_sub .., StableHlo.unaryIndexed_bufs_sub .., StableHlo.reshape_bufs_sub ..⟩

/-- The body of loop 3: the step. -/
abbrev bodyOps3_1 : List (HloOp τ sig (Elt F)) :=
  [ StableHlo.unary main_v33_1 main_while3b_v40 ((transpose S2048x6144 [1, 0] · transposes_S6144x2048_S2048x6144_1_0) : (⟨S6144x2048, .f32⟩ : BufTy).Contents (Elt F) → (⟨S2048x6144, .f32⟩ : BufTy).Contents (Elt F)),
    StableHlo.binary main_v33_4 main_while3b_v40 main_while3b_v41 ((fun l r => Host.dotGeneral dot_S2048_S2048x6144_S6144_0_0_n_1_n_n none l r) : (⟨S2048, .f32⟩ : BufTy).Contents (Elt F) → (⟨S2048x6144, .f32⟩ : BufTy).Contents (Elt F) → (⟨S6144, .f32⟩ : BufTy).Contents (Elt F)),
    StableHlo.binary main_while3b_v41 main_v33_2 main_while3b_v42 (addf : (⟨S6144, .f32⟩ : BufTy).Contents (Elt F) → (⟨S6144, .f32⟩ : BufTy).Contents (Elt F) → (⟨S6144, .f32⟩ : BufTy).Contents (Elt F)),
    StableHlo.unary main_while3b_v39 main_while3b_v43 ((extractStridedSlice S2048 ![0] · slices_S6144_S2048_0) : (⟨S6144, .f32⟩ : BufTy).Contents (Elt F) → (⟨S2048, .f32⟩ : BufTy).Contents (Elt F)),
    StableHlo.unary main_while3b_v39 main_while3b_v44 ((extractStridedSlice S2048 ![2048] · slices_S6144_S2048_2048) : (⟨S6144, .f32⟩ : BufTy).Contents (Elt F) → (⟨S2048, .f32⟩ : BufTy).Contents (Elt F)),
    StableHlo.unary main_while3b_v39 main_while3b_v45 ((extractStridedSlice S2048 ![4096] · slices_S6144_S2048_4096) : (⟨S6144, .f32⟩ : BufTy).Contents (Elt F) → (⟨S2048, .f32⟩ : BufTy).Contents (Elt F)),
    StableHlo.unary main_while3b_v42 main_while3b_v46 ((extractStridedSlice S2048 ![0] · slices_S6144_S2048_0) : (⟨S6144, .f32⟩ : BufTy).Contents (Elt F) → (⟨S2048, .f32⟩ : BufTy).Contents (Elt F)),
    StableHlo.unary main_while3b_v42 main_while3b_v47 ((extractStridedSlice S2048 ![2048] · slices_S6144_S2048_2048) : (⟨S6144, .f32⟩ : BufTy).Contents (Elt F) → (⟨S2048, .f32⟩ : BufTy).Contents (Elt F)),
    StableHlo.unary main_while3b_v42 main_while3b_v48 ((extractStridedSlice S2048 ![4096] · slices_S6144_S2048_4096) : (⟨S6144, .f32⟩ : BufTy).Contents (Elt F) → (⟨S2048, .f32⟩ : BufTy).Contents (Elt F)),
    StableHlo.binary main_while3b_v43 main_while3b_v46 main_while3b_v49 (addf : (⟨S2048, .f32⟩ : BufTy).Contents (Elt F) → (⟨S2048, .f32⟩ : BufTy).Contents (Elt F) → (⟨S2048, .f32⟩ : BufTy).Contents (Elt F)),
    StableHlo.unary main_while3b_v49 main_while3b_v50 (Host.negf : (⟨S2048, .f32⟩ : BufTy).Contents (Elt F) → (⟨S2048, .f32⟩ : BufTy).Contents (Elt F)),
    StableHlo.unary main_while3b_v50 main_while3b_v51 (Host.exp : (⟨S2048, .f32⟩ : BufTy).Contents (Elt F) → (⟨S2048, .f32⟩ : BufTy).Contents (Elt F)),
    StableHlo.nullary main_while3b_cst_15 (constant S_ .f32 0x3F800000#32),
    StableHlo.unary main_while3b_cst_15 main_while3b_v52 (broadcastInDim S2048 ![] bcast_S_S2048 : (⟨S_, .f32⟩ : BufTy).Contents (Elt F) → (⟨S2048, .f32⟩ : BufTy).Contents (Elt F)),
    StableHlo.binary main_while3b_v52 main_while3b_v51 main_while3b_v53 (addf : (⟨S2048, .f32⟩ : BufTy).Contents (Elt F) → (⟨S2048, .f32⟩ : BufTy).Contents (Elt F) → (⟨S2048, .f32⟩ : BufTy).Contents (Elt F)),
    StableHlo.nullary main_while3b_cst_16 (constant S_ .f32 0x3F800000#32),
    StableHlo.unary main_while3b_cst_16 main_while3b_v54 (broadcastInDim S2048 ![] bcast_S_S2048 : (⟨S_, .f32⟩ : BufTy).Contents (Elt F) → (⟨S2048, .f32⟩ : BufTy).Contents (Elt F)),
    StableHlo.binary main_while3b_v54 main_while3b_v53 main_while3b_v55 (Host.divf : (⟨S2048, .f32⟩ : BufTy).Contents (Elt F) → (⟨S2048, .f32⟩ : BufTy).Contents (Elt F) → (⟨S2048, .f32⟩ : BufTy).Contents (Elt F)),
    StableHlo.binary main_while3b_v44 main_while3b_v47 main_while3b_v56 (addf : (⟨S2048, .f32⟩ : BufTy).Contents (Elt F) → (⟨S2048, .f32⟩ : BufTy).Contents (Elt F) → (⟨S2048, .f32⟩ : BufTy).Contents (Elt F)),
    StableHlo.unary main_while3b_v56 main_while3b_v57 (Host.negf : (⟨S2048, .f32⟩ : BufTy).Contents (Elt F) → (⟨S2048, .f32⟩ : BufTy).Contents (Elt F)),
    StableHlo.unary main_while3b_v57 main_while3b_v58 (Host.exp : (⟨S2048, .f32⟩ : BufTy).Contents (Elt F) → (⟨S2048, .f32⟩ : BufTy).Contents (Elt F)),
    StableHlo.nullary main_while3b_cst_17 (constant S_ .f32 0x3F800000#32),
    StableHlo.unary main_while3b_cst_17 main_while3b_v59 (broadcastInDim S2048 ![] bcast_S_S2048 : (⟨S_, .f32⟩ : BufTy).Contents (Elt F) → (⟨S2048, .f32⟩ : BufTy).Contents (Elt F)),
    StableHlo.binary main_while3b_v59 main_while3b_v58 main_while3b_v60 (addf : (⟨S2048, .f32⟩ : BufTy).Contents (Elt F) → (⟨S2048, .f32⟩ : BufTy).Contents (Elt F) → (⟨S2048, .f32⟩ : BufTy).Contents (Elt F)),
    StableHlo.nullary main_while3b_cst_18 (constant S_ .f32 0x3F800000#32),
    StableHlo.unary main_while3b_cst_18 main_while3b_v61 (broadcastInDim S2048 ![] bcast_S_S2048 : (⟨S_, .f32⟩ : BufTy).Contents (Elt F) → (⟨S2048, .f32⟩ : BufTy).Contents (Elt F)),
    StableHlo.binary main_while3b_v61 main_while3b_v60 main_while3b_v62 (Host.divf : (⟨S2048, .f32⟩ : BufTy).Contents (Elt F) → (⟨S2048, .f32⟩ : BufTy).Contents (Elt F) → (⟨S2048, .f32⟩ : BufTy).Contents (Elt F)),
    StableHlo.binary main_while3b_v55 main_while3b_v48 main_while3b_v63 (mulf : (⟨S2048, .f32⟩ : BufTy).Contents (Elt F) → (⟨S2048, .f32⟩ : BufTy).Contents (Elt F) → (⟨S2048, .f32⟩ : BufTy).Contents (Elt F)),
    StableHlo.binary main_while3b_v45 main_while3b_v63 main_while3b_v64 (addf : (⟨S2048, .f32⟩ : BufTy).Contents (Elt F) → (⟨S2048, .f32⟩ : BufTy).Contents (Elt F) → (⟨S2048, .f32⟩ : BufTy).Contents (Elt F)),
    StableHlo.unary main_while3b_v64 main_while3b_v65 (Host.tanh : (⟨S2048, .f32⟩ : BufTy).Contents (Elt F) → (⟨S2048, .f32⟩ : BufTy).Contents (Elt F)),
    StableHlo.nullary main_while3b_cst_19 (constant S_ .f32 0x3F800000#32),
    StableHlo.unary main_while3b_cst_19 main_while3b_v66 (broadcastInDim S2048 ![] bcast_S_S2048 : (⟨S_, .f32⟩ : BufTy).Contents (Elt F) → (⟨S2048, .f32⟩ : BufTy).Contents (Elt F)),
    StableHlo.binary main_while3b_v66 main_while3b_v62 main_while3b_v67 (subf : (⟨S2048, .f32⟩ : BufTy).Contents (Elt F) → (⟨S2048, .f32⟩ : BufTy).Contents (Elt F) → (⟨S2048, .f32⟩ : BufTy).Contents (Elt F)),
    StableHlo.binary main_while3b_v67 main_while3b_v65 main_while3b_v68 (mulf : (⟨S2048, .f32⟩ : BufTy).Contents (Elt F) → (⟨S2048, .f32⟩ : BufTy).Contents (Elt F) → (⟨S2048, .f32⟩ : BufTy).Contents (Elt F)),
    StableHlo.binary main_while3b_v62 main_v33_4 main_while3b_v69 (mulf : (⟨S2048, .f32⟩ : BufTy).Contents (Elt F) → (⟨S2048, .f32⟩ : BufTy).Contents (Elt F) → (⟨S2048, .f32⟩ : BufTy).Contents (Elt F)),
    StableHlo.binary main_while3b_v68 main_while3b_v69 main_while3b_v70 (addf : (⟨S2048, .f32⟩ : BufTy).Contents (Elt F) → (⟨S2048, .f32⟩ : BufTy).Contents (Elt F) → (⟨S2048, .f32⟩ : BufTy).Contents (Elt F)) ]

/-- The operations of `bodyOps3_1` touch TensorCore references only. -/
theorem bodyOps3_1_sub : (bodyOps3_1 : List (HloOp τ sig (Elt F))).Forall fun op => op.bufs ⊆ StableHlo.tcRefs τ sig :=
  ⟨StableHlo.unary_bufs_sub .., StableHlo.binary_bufs_sub .., StableHlo.binary_bufs_sub .., StableHlo.unary_bufs_sub .., StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.unary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.binary_bufs_sub .., StableHlo.unary_bufs_sub .., StableHlo.nullary_bufs_sub .., StableHlo.unary_bufs_sub .., StableHlo.binary_bufs_sub .., StableHlo.binary_bufs_sub .., StableHlo.binary_bufs_sub .., StableHlo.binary_bufs_sub ..⟩

/-- The body of loop 3: writing the row of the states. -/
abbrev bodyOps3_2 : List (HloOp τ sig (Elt F)) :=
  [ StableHlo.TRef.unary (.of main_while3b_v70 : StableHlo.TRef sig ⟨S2048, .f32⟩) (.of main_while3b_call7_v0 : StableHlo.TRef sig ⟨S1x2048, .f32⟩) (broadcastInDim S1x2048 ![1] bcast_S2048_S1x2048_1),
    StableHlo.TRef.nullary (.of main_while3b_call7_c : StableHlo.TRef sig ⟨S_, .i32⟩) (constantI S_ 32 0#32),
    StableHlo.TRef.binaryIndexed (.of main_v33_5 : StableHlo.TRef sig ⟨S4096x2048, .f32⟩) (.of main_while3b_call7_v0 : StableHlo.TRef sig ⟨S1x2048, .f32⟩) ![(.of main_v33_3 : StableHlo.TRef sig ⟨S_, .i32⟩), (.of main_while3b_call7_c : StableHlo.TRef sig ⟨S_, .i32⟩)] (.of main_while3b_v71 : StableHlo.TRef sig ⟨S4096x2048, .f32⟩) (fun x u i => Host.dynamicUpdateSlice x u (fun k => (i k (Shape.Idx.first h_S_)).toInt) updateFits_S4096x2048_S1x2048) ]

/-- The operations of `bodyOps3_2` touch TensorCore references only. -/
theorem bodyOps3_2_sub : (bodyOps3_2 : List (HloOp τ sig (Elt F))).Forall fun op => op.bufs ⊆ StableHlo.tcRefs τ sig :=
  ⟨StableHlo.unary_bufs_sub .., StableHlo.nullary_bufs_sub .., StableHlo.binaryIndexed_bufs_sub ..⟩

/-- The body of loop 3: the counter and the carried values. -/
abbrev bodyOps3_3 : List (HloOp τ sig (Elt F)) :=
  [ StableHlo.nullary main_while3b_c_20 (constantI S_ 32 1#32),
    StableHlo.binary main_v33_3 main_while3b_c_20 main_while3b_v72 (addi : (⟨S_, .i32⟩ : BufTy).Contents (Elt F) → (⟨S_, .i32⟩ : BufTy).Contents (Elt F) → (⟨S_, .i32⟩ : BufTy).Contents (Elt F)),
    StableHlo.unary main_while3b_v72 main_v33_3 id,
    StableHlo.unary main_while3b_v70 main_v33_4 id,
    StableHlo.unary main_while3b_v71 main_v33_5 id ]

/-- The operations of `bodyOps3_3` touch TensorCore references only. -/
theorem bodyOps3_3_sub : (bodyOps3_3 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩

set_option maxRecDepth 100000 in
/-- The body of loop 3, stretch by stretch. -/
theorem body3_chain : main_while3_body (F := F) =
    (Pipeline.chain ([bodyOps3_0, bodyOps3_1, bodyOps3_2, bodyOps3_3].map fun ops => StableHlo.seq ops) : Prog (TpuEff nD τ sig (Elt F) (HostLoop.Sig (Pipeline.Sig Λ₀ (Fin 0) fun p => (pcfgs (F := F) p).Adm) 4) .tc) PUnit) := by
  rewrite [List.map_cons, List.map_cons, List.map_cons, List.map_cons, List.map_nil,
    StableHlo.chain_seq_cons, StableHlo.chain_seq_cons, StableHlo.chain_seq_cons, StableHlo.chain_seq_cons]
  chain_rfl

end Cert.ReferenceIdeal.Gru

end
-- ==== Proof.RefTrip3.lean ====
module

public import proofs.«01_k».proof.Proof.RefCell
public import proofs.«01_k».proof.Proof.RefLoop3
public import Idealize.ShloMosaic.Lib.StableHlo.RunRead

/-!
What one trip of the reference's loop 3 does to the six carried buffers.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.Sem

variable {F : FTy → Type} [FloatOps F]

/-- Loop 3's body, stretch by stretch. -/
abbrev body3 : List (List (HloOp τ sig (Elt F))) := [bodyOps3_0, bodyOps3_1, bodyOps3_2, bodyOps3_3]

/-- Every buffer's contents after the condition and one body. -/
abbrev trip3 (X : Valuation τ sig (Elt F)) : Valuation τ sig (Elt F) := StableHlo.afterL body3 (StableHlo.after condOps3 X)

variable (X : Valuation τ sig (Elt F))

/-- The first stretch of loop 3's body reads the row of the projected inputs at the counter. -/
theorem stretch3_0 : StableHlo.after bodyOps3_0 X main_while3b_v39 = rowA (X main_v33_0) (X main_v33_3) := by
  after_reads_simp [StableHlo.unaryIndexed_result_read, StableHlo.binaryIndexed_result_read, StableHlo.indexContents_tref_cons, StableHlo.indexContents_tref_empty]
  rfl

/-- The second stretch computes the new state. -/
theorem stretch3_1 : StableHlo.after bodyOps3_1 X main_while3b_v70 =
    gateA (X main_while3b_v39) (projA (X main_v33_1) (X main_v33_2) (X main_v33_4)) (X main_v33_4) := by
  after_reads_simp
  rfl

/-- The third stretch writes the new state into the row at the counter. -/
theorem stretch3_2 : StableHlo.after bodyOps3_2 X main_while3b_v71 = putA (X main_v33_5) (X main_while3b_v70) (X main_v33_3) := by
  after_reads_simp [StableHlo.unaryIndexed_result_read, StableHlo.binaryIndexed_result_read, StableHlo.indexContents_tref_cons, StableHlo.indexContents_tref_empty]
  rfl

/-- Over one trip the projected inputs are kept. -/
theorem trip3_0 : trip3 X main_v33_0 = X main_v33_0 := by
  simp only [trip3, StableHlo.afterL_cons, StableHlo.afterL_nil]
  after_reads_simp

/-- Over one trip the recurrent weights are kept. -/
theorem trip3_1 : trip3 X main_v33_1 = X main_v33_1 := by
  simp only [trip3, StableHlo.afterL_cons, StableHlo.afterL_nil]
  after_reads_simp

/-- Over one trip the bias is kept. -/
theorem trip3_2 : trip3 X main_v33_2 = X main_v33_2 := by
  simp only [trip3, StableHlo.afterL_cons, StableHlo.afterL_nil]
  after_reads_simp

/-- Over one trip the counter goes up by one. -/
theorem trip3_3 : trip3 X main_v33_3 = addi (X main_v33_3) (constantI S_ 32 1#32) := by
  simp only [trip3, StableHlo.afterL_cons, StableHlo.afterL_nil]
  after_reads_simp
  rfl

/-- What the second stretch reads, it finds as the trip began. -/
theorem carry3 : StableHlo.after bodyOps3_1 (StableHlo.after bodyOps3_0 (StableHlo.after condOps3 X)) main_while3b_v70 =
    gateA (rowA (X main_v33_0) (X main_v33_3)) (projA (X main_v33_1) (X main_v33_2) (X main_v33_4)) (X main_v33_4) := by
  rw [stretch3_1, stretch3_0]
  after_reads_simp

/-- Over one trip the state takes its step. -/
theorem trip3_4 : trip3 X main_v33_4 = gateA (rowA (X main_v33_0) (X main_v33_3)) (projA (X main_v33_1) (X main_v33_2) (X main_v33_4)) (X main_v33_4) := by
  rw [← carry3]
  simp only [trip3, StableHlo.afterL_cons, StableHlo.afterL_nil]
  generalize StableHlo.after bodyOps3_1 (StableHlo.after bodyOps3_0 (StableHlo.after condOps3 X)) = Y
  after_reads_simp
  rfl

/-- Over one trip the row of the states at the counter takes the new state. -/
theorem trip3_5 : trip3 X main_v33_5 = putA (X main_v33_5) (gateA (rowA (X main_v33_0) (X main_v33_3)) (projA (X main_v33_1) (X main_v33_2) (X main_v33_4)) (X main_v33_4)) (X main_v33_3) := by
  rw [← carry3]
  have h5 : StableHlo.after bodyOps3_1 (StableHlo.after bodyOps3_0 (StableHlo.after condOps3 X)) main_v33_5 = X main_v33_5 := by
    after_reads_simp
  have h3 : StableHlo.after bodyOps3_1 (StableHlo.after bodyOps3_0 (StableHlo.after condOps3 X)) main_v33_3 = X main_v33_3 := by
    after_reads_simp
  rw [← h5, ← h3]
  simp only [trip3, StableHlo.afterL_cons, StableHlo.afterL_nil]
  generalize StableHlo.after bodyOps3_1 (StableHlo.after bodyOps3_0 (StableHlo.after condOps3 X)) = Y
  rw [← stretch3_2]
  generalize StableHlo.after bodyOps3_2 Y = Z
  after_reads_simp
  rfl

end Cert.ReferenceIdeal.Gru

end
-- ==== Proof.RefCond.lean ====
module

public import proofs.«01_k».proof.Proof.RefMain
public import proofs.«01_k».proof.Proof.RefTrip0
public import proofs.«01_k».proof.Proof.RefTrip1
public import proofs.«01_k».proof.Proof.RefTrip2
public import proofs.«01_k».proof.Proof.RefTrip3
public import Idealize.ShloMosaic.Lib.Scf.ExitTest

/-!
The four counted loops of the reference: the counter before each trip, and the specification of each condition.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

/-- Nothing is admitted, as there is no pipeline. -/
abbrev adm : (p : Fin 0) → (pcfgs (F := F) p).Adm := fun p => p.elim0

/-- The one resource the heap is extended by is not used. -/
local notation "𝕄" => MT nD τ sig Unit (Elt F) ℕ (Option PUnit) ℕ

/-- What is carried beside the buffers: the core owes nothing. -/
abbrev Rw (c : Dev nD) : sProp 𝕄 := iprop(∃ W, owes (c : Thread nD τ) (0 : CellTallies nD τ sig Unit) W)

/-- The counter after `k` trips. -/
def count (k : ℕ) : BitVec 32 := Scf.iv 0#32 1#32 k

theorem count_zero : count 0 = 0#32 := Scf.iv_zero ..

theorem count_succ (k : ℕ) : count (k + 1) = count k + 1#32 := Scf.iv_succ ..

/-- The counter compared with the bound says whether a trip is left. -/
theorem pred_iff (k : ℕ) (hk : k ≤ 4096) : (IntOp.cmpi .slt (count k) (4096#32) = 1#1) ↔ k < 4096 := by
  exact Scf.cmpi_slt_iv_ub_iff (lb := 0#32) (ub := 4096#32) (st := 1#32) Gen.main_while0_ok (k := k) hk

section Loop0

variable (W : Dev nD → Valuation τ sig (Elt F))

/-- Every buffer's contents before trip `k` of loop 0. -/
abbrev at0 (k : ℕ) (c : Dev nD) : Valuation τ sig (Elt F) := StableHlo.atTrip condOps0 body0 W k c

theorem at0_succ (k : ℕ) (c : Dev nD) : at0 W (k + 1) c = trip0 (at0 W k c) := rfl

/-- Before trip `k` of loop 0 the counter is `k`. -/
theorem ctr0 (h : ∀ c, W c main_v7_3 = fun _ => (0#32 : BitVec 32)) (c : Dev nD) (k : ℕ) : at0 W k c main_v7_3 = fun _ => count k := by
  induction k with
  | zero => rw [count_zero]; exact h c
  | succ k ih => rw [at0_succ, trip0_3, ih, count_succ]; rfl

set_option backward.isDefEq.respectTransparency.types false in
/-- The condition of loop 0, run before trip `k`, returns 1 exactly where `k` is below the number of trips. -/
theorem cond0 (h : ∀ c, W c main_v7_3 = fun _ => (0#32 : BitVec 32)) :
    StableHlo.LoopCond (pcfgs (F := F)) defs₀ Variants.none loops (Rw (F := F)) main_while0_cond condOps0 body0 W 4096 := by
  intro k hk c bd
  have hctr := ctr0 W h c k
  unfold main_while0_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at0 W k c) main_v7_3 HostLoop.idx0)
        (HloOp.result _ (at0 W k c) main_while0c_c_15 HostLoop.idx0) = 1#1) (k < 4096)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

end Loop0

section Loop1

variable (W : Dev nD → Valuation τ sig (Elt F))

/-- Every buffer's contents before trip `k` of loop 1. -/
abbrev at1 (k : ℕ) (c : Dev nD) : Valuation τ sig (Elt F) := StableHlo.atTrip condOps1 body1 W k c

theorem at1_succ (k : ℕ) (c : Dev nD) : at1 W (k + 1) c = trip1 (at1 W k c) := rfl

/-- Before trip `k` of loop 1 the counter is `k`. -/
theorem ctr1 (h : ∀ c, W c main_v15_3 = fun _ => (0#32 : BitVec 32)) (c : Dev nD) (k : ℕ) : at1 W k c main_v15_3 = fun _ => count k := by
  induction k with
  | zero => rw [count_zero]; exact h c
  | succ k ih => rw [at1_succ, trip1_3, ih, count_succ]; rfl

set_option backward.isDefEq.respectTransparency.types false in
/-- The condition of loop 1, run before trip `k`, returns 1 exactly where `k` is below the number of trips. -/
theorem cond1 (h : ∀ c, W c main_v15_3 = fun _ => (0#32 : BitVec 32)) :
    StableHlo.LoopCond (pcfgs (F := F)) defs₀ Variants.none loops (Rw (F := F)) main_while1_cond condOps1 body1 W 4096 := by
  intro k hk c bd
  have hctr := ctr1 W h c k
  unfold main_while1_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at1 W k c) main_v15_3 HostLoop.idx0)
        (HloOp.result _ (at1 W k c) main_while1c_c_15 HostLoop.idx0) = 1#1) (k < 4096)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

end Loop1

section Loop2

variable (W : Dev nD → Valuation τ sig (Elt F))

/-- Every buffer's contents before trip `k` of loop 2. -/
abbrev at2 (k : ℕ) (c : Dev nD) : Valuation τ sig (Elt F) := StableHlo.atTrip condOps2 body2 W k c

theorem at2_succ (k : ℕ) (c : Dev nD) : at2 W (k + 1) c = trip2 (at2 W k c) := rfl

/-- Before trip `k` of loop 2 the counter is `k`. -/
theorem ctr2 (h : ∀ c, W c main_v25_3 = fun _ => (0#32 : BitVec 32)) (c : Dev nD) (k : ℕ) : at2 W k c main_v25_3 = fun _ => count k := by
  induction k with
  | zero => rw [count_zero]; exact h c
  | succ k ih => rw [at2_succ, trip2_3, ih, count_succ]; rfl

set_option backward.isDefEq.respectTransparency.types false in
/-- The condition of loop 2, run before trip `k`, returns 1 exactly where `k` is below the number of trips. -/
theorem cond2 (h : ∀ c, W c main_v25_3 = fun _ => (0#32 : BitVec 32)) :
    StableHlo.LoopCond (pcfgs (F := F)) defs₀ Variants.none loops (Rw (F := F)) main_while2_cond condOps2 body2 W 4096 := by
  intro k hk c bd
  have hctr := ctr2 W h c k
  unfold main_while2_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at2 W k c) main_v25_3 HostLoop.idx0)
        (HloOp.result _ (at2 W k c) main_while2c_c_15 HostLoop.idx0) = 1#1) (k < 4096)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

end Loop2

section Loop3

variable (W : Dev nD → Valuation τ sig (Elt F))

/-- Every buffer's contents before trip `k` of loop 3. -/
abbrev at3 (k : ℕ) (c : Dev nD) : Valuation τ sig (Elt F) := StableHlo.atTrip condOps3 body3 W k c

theorem at3_succ (k : ℕ) (c : Dev nD) : at3 W (k + 1) c = trip3 (at3 W k c) := rfl

/-- Before trip `k` of loop 3 the counter is `k`. -/
theorem ctr3 (h : ∀ c, W c main_v33_3 = fun _ => (0#32 : BitVec 32)) (c : Dev nD) (k : ℕ) : at3 W k c main_v33_3 = fun _ => count k := by
  induction k with
  | zero => rw [count_zero]; exact h c
  | succ k ih => rw [at3_succ, trip3_3, ih, count_succ]; rfl

set_option backward.isDefEq.respectTransparency.types false in
/-- The condition of loop 3, run before trip `k`, returns 1 exactly where `k` is below the number of trips. -/
theorem cond3 (h : ∀ c, W c main_v33_3 = fun _ => (0#32 : BitVec 32)) :
    StableHlo.LoopCond (pcfgs (F := F)) defs₀ Variants.none loops (Rw (F := F)) main_while3_cond condOps3 body3 W 4096 := by
  intro k hk c bd
  have hctr := ctr3 W h c k
  unfold main_while3_cond
  rw [wp_bind]
  iintro ⟨Hb, Hh, HR⟩
  iapply (StableHlo.wp_hlo_within (Variants.lift Variants.none) (c : Thread nD τ) bd Set.univ (sub_ucRefs _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_ucRefs _ (StableHlo.binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (at3 W k c) main_v33_3 HostLoop.idx0)
        (HloOp.result _ (at3 W k c) main_while3c_c_15 HostLoop.idx0) = 1#1) (k < 4096)
    rw [StableHlo.nullary_result_ne _ _ _ _ (by decide), StableHlo.nullary_result, hctr]
    exact pred_iff k hk
  isplitl [Hb]; · iexact Hb
  isplitl [Hh]; · rw [StableHlo.after_cons, StableHlo.after_cons, StableHlo.after_nil]; iexact Hh
  iexact HR

end Loop3

end Cert.ReferenceIdeal.Gru

end
-- ==== Proof.RefRun.lean ====
module

public import proofs.«01_k».proof.Proof.RefCond
public import Idealize.ShloMosaic.Lib.StableHlo.RunRead

/-!
The run of the reference: its stretches and its four counted loops as one chain of segments, from the launch contents to the
contents at the end.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

local notation "𝕄" => MT nD τ sig Unit (Elt F) ℕ (Option PUnit) ℕ

variable (m : (ℓ : Loc nD τ sig) → Buf (Elt F) ℓ)

/-- Every buffer's contents at launch. -/
def start (c : Dev nD) : Valuation τ sig (Elt F) := StableHlo.launchContents m c

/-- Every buffer's contents as loop 0 begins. -/
def enter0 (c : Dev nD) : Valuation τ sig (Elt F) := StableHlo.after mainOps0 (start m c)

/-- Every buffer's contents as loop 0 ends. -/
def leave0 (c : Dev nD) : Valuation τ sig (Elt F) := StableHlo.after condOps0 (at0 (enter0 m) 4096 c)

/-- Every buffer's contents as loop 1 begins. -/
def enter1 (c : Dev nD) : Valuation τ sig (Elt F) := StableHlo.after mainOps1 (leave0 m c)

/-- Every buffer's contents as loop 1 ends. -/
def leave1 (c : Dev nD) : Valuation τ sig (Elt F) := StableHlo.after condOps1 (at1 (enter1 m) 4096 c)

/-- Every buffer's contents as loop 2 begins. -/
def enter2 (c : Dev nD) : Valuation τ sig (Elt F) := StableHlo.after mainOps2 (leave1 m c)

/-- Every buffer's contents as loop 2 ends. -/
def leave2 (c : Dev nD) : Valuation τ sig (Elt F) := StableHlo.after condOps2 (at2 (enter2 m) 4096 c)

/-- Every buffer's contents as loop 3 begins. -/
def enter3 (c : Dev nD) : Valuation τ sig (Elt F) := StableHlo.after mainOps3b (StableHlo.after mainOps3a (leave2 m c))

/-- Every buffer's contents as loop 3 ends. -/
def leave3 (c : Dev nD) : Valuation τ sig (Elt F) := StableHlo.after condOps3 (at3 (enter3 m) 4096 c)

/-- Every buffer's contents at the end of the run. -/
def final (c : Dev nD) : Valuation τ sig (Elt F) := StableHlo.after mainOps4 (leave3 m c)

/-- Loop 0 begins with its counter at zero. -/
theorem enter0_ctr (c : Dev nD) : enter0 m c main_v7_3 = fun _ => (0#32 : BitVec 32) := by
  unfold enter0
  after_reads_simp
  rfl

/-- Loop 1 begins with its counter at zero. -/
theorem enter1_ctr (c : Dev nD) : enter1 m c main_v15_3 = fun _ => (0#32 : BitVec 32) := by
  unfold enter1
  after_reads_simp
  rfl

/-- Loop 2 begins with its counter at zero. -/
theorem enter2_ctr (c : Dev nD) : enter2 m c main_v25_3 = fun _ => (0#32 : BitVec 32) := by
  unfold enter2
  after_reads_simp
  rfl

/-- Loop 3 begins with its counter at zero. -/
theorem enter3_ctr (c : Dev nD) : enter3 m c main_v33_3 = fun _ => (0#32 : BitVec 32) := by
  unfold enter3
  after_reads_simp
  rfl

/-- No ticket. -/
abbrev tk : Fin 0 → Ticket (Ix := Unit) (Name := ℕ) (U := Option PUnit) (Lvl := ℕ) (nD := nD) (τ := τ) (pcfgs (F := F)) adm := fun j => j.elim0

/-- No semaphore carries a level. -/
abbrev Lix : GSem nD τ sig → Finset Unit := fun _ => ∅
/-- The levels, all zero. -/
abbrev lvl : GSem nD τ sig → Unit → ℕ := fun _ _ => 0

/-- The kind of segment the reference is made of. -/
abbrev SegR : Type 1 := CSeg (pcfgs (F := F)) adm defs₀ Variants.none Lix lvl loops (tk (F := F))

/-- A stretch of host operations as a segment. -/
abbrev stretch (ops : List (HloOp τ sig (Elt F))) (hs : ops.Forall fun op => op.bufs ⊆ StableHlo.tcRefs τ sig)
    (hf : ∀ op ∈ ops, op.fresh = ∅) (V : Dev nD → Valuation τ sig (Elt F)) : SegR (F := F) :=
  CSeg.ofOps _ _ _ _ _ _ _ _ (ucRefs τ sig) ops (fun op hop => sub_ucRefs op (List.forall_iff_forall_mem.mp hs op hop)) hf V Rw

theorem mainOps0_fresh : ∀ op ∈ (mainOps0 : List (HloOp τ sig (Elt F))), op.fresh = ∅ := by
  intro _ h; (repeat (cases h with | head => rfl | tail _ h => ?_)); exact nomatch h

theorem mainOps1_fresh : ∀ op ∈ (mainOps1 : List (HloOp τ sig (Elt F))), op.fresh = ∅ := by
  intro _ h; (repeat (cases h with | head => rfl | tail _ h => ?_)); exact nomatch h

theorem mainOps2_fresh : ∀ op ∈ (mainOps2 : List (HloOp τ sig (Elt F))), op.fresh = ∅ := by
  intro _ h; (repeat (cases h with | head => rfl | tail _ h => ?_)); exact nomatch h

theorem mainOps3a_fresh : ∀ op ∈ (mainOps3a : List (HloOp τ sig (Elt F))), op.fresh = ∅ := by
  intro _ h; (repeat (cases h with | head => rfl | tail _ h => ?_)); exact nomatch h

theorem mainOps3b_fresh : ∀ op ∈ (mainOps3b : List (HloOp τ sig (Elt F))), op.fresh = ∅ := by
  intro _ h; (repeat (cases h with | head => rfl | tail _ h => ?_)); exact nomatch h

theorem mainOps4_fresh : ∀ op ∈ (mainOps4 : List (HloOp τ sig (Elt F))), op.fresh = ∅ := by
  intro _ h; (repeat (cases h with | head => rfl | tail _ h => ?_)); exact nomatch h

/-- The stretches of loop 0's body touch TensorCore references only, and none of their operations allocates. -/
theorem plain0 : StableHlo.Plain (body0 : List (List (HloOp τ sig (Elt F)))) :=
  .cons bodyOps0_0_sub (.cons bodyOps0_1_sub (.cons bodyOps0_2_sub (.cons bodyOps0_3_sub .nil)))

/-- Loop 0 as a segment. -/
abbrev looped0 : SegR (F := F) :=
  StableHlo.loopSeg _ _ _ _ _ _ _ _ 0 main_while0_cond main_while0_body rfl condOps0 body0 plain0 body0_chain 4096 (enter0 m) Rw
    (cond0 (enter0 m) (enter0_ctr m))

/-- The stretches of loop 1's body touch TensorCore references only, and none of their operations allocates. -/
theorem plain1 : StableHlo.Plain (body1 : List (List (HloOp τ sig (Elt F)))) :=
  .cons bodyOps1_0_sub (.cons bodyOps1_1_sub (.cons bodyOps1_2_sub (.cons bodyOps1_3_sub .nil)))

/-- Loop 1 as a segment. -/
abbrev looped1 : SegR (F := F) :=
  StableHlo.loopSeg _ _ _ _ _ _ _ _ 1 main_while1_cond main_while1_body rfl condOps1 body1 plain1 body1_chain 4096 (enter1 m) Rw
    (cond1 (enter1 m) (enter1_ctr m))

/-- The stretches of loop 2's body touch TensorCore references only, and none of their operations allocates. -/
theorem plain2 : StableHlo.Plain (body2 : List (List (HloOp τ sig (Elt F)))) :=
  .cons bodyOps2_0_sub (.cons bodyOps2_1_sub (.cons bodyOps2_2_sub (.cons bodyOps2_3_sub .nil)))

/-- Loop 2 as a segment. -/
abbrev looped2 : SegR (F := F) :=
  StableHlo.loopSeg _ _ _ _ _ _ _ _ 2 main_while2_cond main_while2_body rfl condOps2 body2 plain2 body2_chain 4096 (enter2 m) Rw
    (cond2 (enter2 m) (enter2_ctr m))

/-- The stretches of loop 3's body touch TensorCore references only, and none of their operations allocates. -/
theorem plain3 : StableHlo.Plain (body3 : List (List (HloOp τ sig (Elt F)))) :=
  .cons bodyOps3_0_sub (.cons bodyOps3_1_sub (.cons bodyOps3_2_sub (.cons bodyOps3_3_sub .nil)))

/-- Loop 3 as a segment. -/
abbrev looped3 : SegR (F := F) :=
  StableHlo.loopSeg _ _ _ _ _ _ _ _ 3 main_while3_cond main_while3_body rfl condOps3 body3 plain3 body3_chain 4096 (enter3 m) Rw
    (cond3 (enter3 m) (enter3_ctr m))

/-- The reference as its segments. -/
def segs : List (SegR (F := F)) :=
  [stretch mainOps0 mainOps0_sub mainOps0_fresh (start m), looped0 m,
   stretch mainOps1 mainOps1_sub mainOps1_fresh (leave0 m), looped1 m,
   stretch mainOps2 mainOps2_sub mainOps2_fresh (leave1 m), looped2 m,
   stretch mainOps3a mainOps3a_sub mainOps3a_fresh (leave2 m),
   stretch mainOps3b mainOps3b_sub mainOps3b_fresh (fun c => StableHlo.after mainOps3a (leave2 m c)), looped3 m,
   stretch mainOps4 mainOps4_sub mainOps4_fresh (leave3 m)]

/-- The segments chain from the launch contents to the contents at the end. -/
theorem segs_chains : CSeg.Chains (fun c => iprop(StableHlo.held (c : Thread nD τ) (ucRefs τ sig) (start m c) ∗ Rw c)) (segs m)
    (fun c => iprop(iprop(StableHlo.held (c : Thread nD τ) (ucRefs τ sig) (final m c)) ∗ ∃ W, owes (c : Thread nD τ) (0 : CellTallies nD τ sig Unit) W)) :=
  ⟨fun _ => .rfl, fun _ => .rfl, fun _ => .rfl, fun _ => .rfl, fun _ => .rfl, fun _ => .rfl, fun _ => .rfl, fun _ => .rfl, fun _ => .rfl,
    fun _ => .rfl, fun _ => .rfl⟩

/-- The segments' programs, in order. -/
theorem segs_prog : (segs (F := F) m).map CSeg.prog =
    [StableHlo.seq mainOps0, HostLoop.enter 0, StableHlo.seq mainOps1, HostLoop.enter 1, StableHlo.seq mainOps2, HostLoop.enter 2,
      StableHlo.seq mainOps3a, StableHlo.seq mainOps3b, HostLoop.enter 3, StableHlo.seq mainOps4] := rfl

set_option backward.isDefEq.respectTransparency.types false in
/-- Every run of the reference from the memory `m` ends, with every unscoped buffer at `final m` and every semaphore
    counter at zero. -/
theorem run_main (ρ : Dev nD → PrngReg) :
    θ_run defs (onTc (τ := τ) (main (F := F))) ⟨m, fun _ => 0, ρ⟩ (fun r =>
      (∀ c : Dev nD, ∀ b ∈ ucRefs τ sig, r.2.mem ((c.tc : Thread nD τ).1, b) = final m c b) ∧ r.2.sem = fun _ => 0) := by
  refine Pipeline.θ_run_regions_loop_kit_sems (Ix := Unit) (Name := ℕ) (U := Option PUnit) (Lvl := ℕ) (J := Fin 0) (P := Fin 0) (Val := Elt F)
    (pcfgs (F := F)) adm (fun k => k.1.elim0) defs₀ Variants.none Lix lvl loops tk m ρ main (segs m)
    (fun c Q => by
      rw [main_chain c, ← segs_prog m]
      exact .rfl)
    (CSeg.pairwise_disjoint_of_T_empty _ fun s _ => Finset.eq_empty_of_isEmpty s.T)
    (O₀ := 0) (hL := fun _ _ => rfl) (G := fun _ => iprop(emp)) (u₀ := 1) ?_
    (T₀ := fun c => iprop(StableHlo.held (c : Thread nD τ) (ucRefs τ sig) (start m c) ∗ Rw c))
    (Tₙ := fun c => iprop(StableHlo.held (c : Thread nD τ) (ucRefs τ sig) (final m c)))
    (hch := segs_chains m) (hinit := ?_)
    (QY := fun c s => ∀ b ∈ ucRefs τ sig, s.mem ((c.tc : Thread nD τ).1, b) = final m c b)
    (hfin := fun c s' => ?_)
    (hQ := fun _ h hz => ⟨h, funext fun g => hz g (.inr ?_)⟩)
  · iintro -
    imodintro
    isplitl []
    · rw [Finset.univ_eq_empty, BI.bigSep_empty]; iempintro
    · iapply (show (BI.emp : sProp 𝕄) ⊢ bigSep Finset.univ (fun _ : Dev nD => (BI.emp : sProp 𝕄)) from by rw [BI.bigSep_emp_const])
      iempintro
  · refine Pipeline.initEach Lix lvl fun c => ?_
    rw [show unscopedBufs c (fun b => m ((c : Thread nD τ).loc b)) = StableHlo.held (c : Thread nD τ) (ucRefs τ sig) (start m c)
        from Pipeline.unscopedBufs_held (Ix := Unit) (Name := ℕ) (U := Option PUnit) (Lvl := ℕ) c (start m c)]
    iintro ⟨⟨Hh, -, HO, -, -, -⟩, -⟩
    imodintro
    isplitl [Hh]; · iexact Hh
    iexists ∅; iexact HO
  · unfold StableHlo.held
    iintro ⟨Hh, HSI⟩
    ihave Hr := (pointsTo_read_all (ucRefs τ sig) (fun b => ((c : Dev nD), b)) (fun b => final m c b) s') $$ [Hh HSI]
    · isplitl [Hh] <;> iassumption
    icases Hr with ⟨%h, HSI⟩
    imodintro
    isplitr; · ipureintro; exact h
    iexact HSI
  · obtain ⟨⟨d, p⟩, s⟩ := g
    cases p <;> cases s <;> rename_i i <;> exact i.elim0

end Cert.ReferenceIdeal.Gru

end
-- ==== Proof.RefKeeps.lean ====
module

public import proofs.«01_k».proof.Proof.RefRun

/-!
What the reference leaves unchanged: its arguments, through every stretch and every loop.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

variable {F : FTy → Type} [FloatOps F]

/-- The references the operations of `mainOps0` write, in order. -/
abbrev mainOps0_W : List (Ref sig .tc) := [main_v0, main_v1, main_v2, main_v3, main_v4, main_cst, main_v5, main_cst_0, main_v6, main_c, main_v7_0, main_v7_1, main_v7_2, main_v7_3, main_v7_4, main_v7_5]
theorem mainOps0_writes : (mainOps0 : List (HloOp τ sig (Elt F))).Forall fun op => op.writes ⊆ (mainOps0_W.map (Proc.devRef (τ := τ) .tc)).toFinset :=
  StableHlo.forall_writes_sub_of_map rfl

/-- The references the operations of `mainOps1` write, in order. -/
abbrev mainOps1_W : List (Ref sig .tc) := [main_v8, main_v9, main_v10, main_v11, main_v12, main_cst_1, main_v13, main_cst_2, main_v14, main_c_3, main_v15_0, main_v15_1, main_v15_2, main_v15_3, main_v15_4, main_v15_5]
theorem mainOps1_writes : (mainOps1 : List (HloOp τ sig (Elt F))).Forall fun op => op.writes ⊆ (mainOps1_W.map (Proc.devRef (τ := τ) .tc)).toFinset :=
  StableHlo.forall_writes_sub_of_map rfl

/-- The references the operations of `mainOps2` write, in order. -/
abbrev mainOps2_W : List (Ref sig .tc) := [main_v16, main_v17, main_v18, main_v19, main_v20, main_v21, main_v22, main_cst_4, main_v23, main_cst_5, main_v24, main_c_6, main_v25_0, main_v25_1, main_v25_2, main_v25_3, main_v25_4, main_v25_5]
theorem mainOps2_writes : (mainOps2 : List (HloOp τ sig (Elt F))).Forall fun op => op.writes ⊆ (mainOps2_W.map (Proc.devRef (τ := τ) .tc)).toFinset :=
  StableHlo.forall_writes_sub_of_map rfl

/-- The references the operations of `mainOps3a` write, in order. -/
abbrev mainOps3a_W : List (Ref sig .tc) := [main_v26, main_v27, main_v28, main_v29, main_v30, main_cst_7, main_v31]
theorem mainOps3a_writes : (mainOps3a : List (HloOp τ sig (Elt F))).Forall fun op => op.writes ⊆ (mainOps3a_W.map (Proc.devRef (τ := τ) .tc)).toFinset :=
  StableHlo.forall_writes_sub_of_map rfl

/-- The references the operations of `mainOps3b` write, in order. -/
abbrev mainOps3b_W : List (Ref sig .tc) := [main_cst_8, main_v32, main_c_9, main_v33_0, main_v33_1, main_v33_2, main_v33_3, main_v33_4, main_v33_5]
theorem mainOps3b_writes : (mainOps3b : List (HloOp τ sig (Elt F))).Forall fun op => op.writes ⊆ (mainOps3b_W.map (Proc.devRef (τ := τ) .tc)).toFinset :=
  StableHlo.forall_writes_sub_of_map rfl

/-- The references the operations of `mainOps4` write, in order. -/
abbrev mainOps4_W : List (Ref sig .tc) := [main_v34, main_v35, main_v36, main_v37, main_v38]
theorem mainOps4_writes : (mainOps4 : List (HloOp τ sig (Elt F))).Forall fun op => op.writes ⊆ (mainOps4_W.map (Proc.devRef (τ := τ) .tc)).toFinset :=
  StableHlo.forall_writes_sub_of_map rfl

/-- The references the operations of `condOps0` write, in order. -/
abbrev condOps0_W : List (Ref sig .tc) := [main_while0c_c_15, main_while0c_v39]
theorem condOps0_writes : (condOps0 : List (HloOp τ sig (Elt F))).Forall fun op => op.writes ⊆ (condOps0_W.map (Proc.devRef (τ := τ) .tc)).toFinset :=
  StableHlo.forall_writes_sub_of_map rfl

/-- The references the operations of `bodyOps0_0` write, in order. -/
abbrev bodyOps0_0_W : List (Ref sig .tc) := [main_while0b_call0_c, main_while0b_call0_v0, main_while0b_v39]
theorem bodyOps0_0_writes : (bodyOps0_0 : List (HloOp τ sig (Elt F))).Forall fun op => op.writes ⊆ (bodyOps0_0_W.map (Proc.devRef (τ := τ) .tc)).toFinset :=
  StableHlo.forall_writes_sub_of_map rfl

/-- The references the operations of `bodyOps0_1` write, in order. -/
abbrev bodyOps0_1_W : List (Ref sig .tc) := [main_while0b_v40, main_while0b_v41, main_while0b_v42, main_while0b_v43, main_while0b_v44, main_while0b_v45, main_while0b_v46, main_while0b_v47, main_while0b_v48, main_while0b_v49, main_while0b_v50, main_while0b_v51, main_while0b_cst_15, main_while0b_v52, main_while0b_v53, main_while0b_cst_16, main_while0b_v54, main_while0b_v55, main_while0b_v56, main_while0b_v57, main_while0b_v58, main_while0b_cst_17, main_while0b_v59, main_while0b_v60, main_while0b_cst_18, main_while0b_v61, main_while0b_v62, main_while0b_v63, main_while0b_v64, main_while0b_v65, main_while0b_cst_19, main_while0b_v66, main_while0b_v67, main_while0b_v68, main_while0b_v69, main_while0b_v70]
theorem bodyOps0_1_writes : (bodyOps0_1 : List (HloOp τ sig (Elt F))).Forall fun op => op.writes ⊆ (bodyOps0_1_W.map (Proc.devRef (τ := τ) .tc)).toFinset :=
  StableHlo.forall_writes_sub_of_map rfl

/-- The references the operations of `bodyOps0_2` write, in order. -/
abbrev bodyOps0_2_W : List (Ref sig .tc) := [main_while0b_call1_v0, main_while0b_call1_c, main_while0b_v71]
theorem bodyOps0_2_writes : (bodyOps0_2 : List (HloOp τ sig (Elt F))).Forall fun op => op.writes ⊆ (bodyOps0_2_W.map (Proc.devRef (τ := τ) .tc)).toFinset :=
  StableHlo.forall_writes_sub_of_map rfl

/-- The references the operations of `bodyOps0_3` write, in order. -/
abbrev bodyOps0_3_W : List (Ref sig .tc) := [main_while0b_c_20, main_while0b_v72, main_v7_3, main_v7_4, main_v7_5]
theorem bodyOps0_3_writes : (bodyOps0_3 : List (HloOp τ sig (Elt F))).Forall fun op => op.writes ⊆ (bodyOps0_3_W.map (Proc.devRef (τ := τ) .tc)).toFinset :=
  StableHlo.forall_writes_sub_of_map rfl

/-- The references the operations of `condOps1` write, in order. -/
abbrev condOps1_W : List (Ref sig .tc) := [main_while1c_c_15, main_while1c_v39]
theorem condOps1_writes : (condOps1 : List (HloOp τ sig (Elt F))).Forall fun op => op.writes ⊆ (condOps1_W.map (Proc.devRef (τ := τ) .tc)).toFinset :=
  StableHlo.forall_writes_sub_of_map rfl

/-- The references the operations of `bodyOps1_0` write, in order. -/
abbrev bodyOps1_0_W : List (Ref sig .tc) := [main_while1b_call2_c, main_while1b_call2_v0, main_while1b_v39]
theorem bodyOps1_0_writes : (bodyOps1_0 : List (HloOp τ sig (Elt F))).Forall fun op => op.writes ⊆ (bodyOps1_0_W.map (Proc.devRef (τ := τ) .tc)).toFinset :=
  StableHlo.forall_writes_sub_of_map rfl

/-- The references the operations of `bodyOps1_1` write, in order. -/
abbrev bodyOps1_1_W : List (Ref sig .tc) := [main_while1b_v40, main_while1b_v41, main_while1b_v42, main_while1b_v43, main_while1b_v44, main_while1b_v45, main_while1b_v46, main_while1b_v47, main_while1b_v48, main_while1b_v49, main_while1b_v50, main_while1b_v51, main_while1b_cst_15, main_while1b_v52, main_while1b_v53, main_while1b_cst_16, main_while1b_v54, main_while1b_v55, main_while1b_v56, main_while1b_v57, main_while1b_v58, main_while1b_cst_17, main_while1b_v59, main_while1b_v60, main_while1b_cst_18, main_while1b_v61, main_while1b_v62, main_while1b_v63, main_while1b_v64, main_while1b_v65, main_while1b_cst_19, main_while1b_v66, main_while1b_v67, main_while1b_v68, main_while1b_v69, main_while1b_v70]
theorem bodyOps1_1_writes : (bodyOps1_1 : List (HloOp τ sig (Elt F))).Forall fun op => op.writes ⊆ (bodyOps1_1_W.map (Proc.devRef (τ := τ) .tc)).toFinset :=
  StableHlo.forall_writes_sub_of_map rfl

/-- The references the operations of `bodyOps1_2` write, in order. -/
abbrev bodyOps1_2_W : List (Ref sig .tc) := [main_while1b_call3_v0, main_while1b_call3_c, main_while1b_v71]
theorem bodyOps1_2_writes : (bodyOps1_2 : List (HloOp τ sig (Elt F))).Forall fun op => op.writes ⊆ (bodyOps1_2_W.map (Proc.devRef (τ := τ) .tc)).toFinset :=
  StableHlo.forall_writes_sub_of_map rfl

/-- The references the operations of `bodyOps1_3` write, in order. -/
abbrev bodyOps1_3_W : List (Ref sig .tc) := [main_while1b_c_20, main_while1b_v72, main_v15_3, main_v15_4, main_v15_5]
theorem bodyOps1_3_writes : (bodyOps1_3 : List (HloOp τ sig (Elt F))).Forall fun op => op.writes ⊆ (bodyOps1_3_W.map (Proc.devRef (τ := τ) .tc)).toFinset :=
  StableHlo.forall_writes_sub_of_map rfl

/-- The references the operations of `condOps2` write, in order. -/
abbrev condOps2_W : List (Ref sig .tc) := [main_while2c_c_15, main_while2c_v39]
theorem condOps2_writes : (condOps2 : List (HloOp τ sig (Elt F))).Forall fun op => op.writes ⊆ (condOps2_W.map (Proc.devRef (τ := τ) .tc)).toFinset :=
  StableHlo.forall_writes_sub_of_map rfl

/-- The references the operations of `bodyOps2_0` write, in order. -/
abbrev bodyOps2_0_W : List (Ref sig .tc) := [main_while2b_call4_c, main_while2b_call4_v0, main_while2b_v39]
theorem bodyOps2_0_writes : (bodyOps2_0 : List (HloOp τ sig (Elt F))).Forall fun op => op.writes ⊆ (bodyOps2_0_W.map (Proc.devRef (τ := τ) .tc)).toFinset :=
  StableHlo.forall_writes_sub_of_map rfl

/-- The references the operations of `bodyOps2_1` write, in order. -/
abbrev bodyOps2_1_W : List (Ref sig .tc) := [main_while2b_v40, main_while2b_v41, main_while2b_v42, main_while2b_v43, main_while2b_v44, main_while2b_v45, main_while2b_v46, main_while2b_v47, main_while2b_v48, main_while2b_v49, main_while2b_v50, main_while2b_v51, main_while2b_cst_15, main_while2b_v52, main_while2b_v53, main_while2b_cst_16, main_while2b_v54, main_while2b_v55, main_while2b_v56, main_while2b_v57, main_while2b_v58, main_while2b_cst_17, main_while2b_v59, main_while2b_v60, main_while2b_cst_18, main_while2b_v61, main_while2b_v62, main_while2b_v63, main_while2b_v64, main_while2b_v65, main_while2b_cst_19, main_while2b_v66, main_while2b_v67, main_while2b_v68, main_while2b_v69, main_while2b_v70]
theorem bodyOps2_1_writes : (bodyOps2_1 : List (HloOp τ sig (Elt F))).Forall fun op => op.writes ⊆ (bodyOps2_1_W.map (Proc.devRef (τ := τ) .tc)).toFinset :=
  StableHlo.forall_writes_sub_of_map rfl

/-- The references the operations of `bodyOps2_2` write, in order. -/
abbrev bodyOps2_2_W : List (Ref sig .tc) := [main_while2b_call5_v0, main_while2b_call5_c, main_while2b_v71]
theorem bodyOps2_2_writes : (bodyOps2_2 : List (HloOp τ sig (Elt F))).Forall fun op => op.writes ⊆ (bodyOps2_2_W.map (Proc.devRef (τ := τ) .tc)).toFinset :=
  StableHlo.forall_writes_sub_of_map rfl

/-- The references the operations of `bodyOps2_3` write, in order. -/
abbrev bodyOps2_3_W : List (Ref sig .tc) := [main_while2b_c_20, main_while2b_v72, main_v25_3, main_v25_4, main_v25_5]
theorem bodyOps2_3_writes : (bodyOps2_3 : List (HloOp τ sig (Elt F))).Forall fun op => op.writes ⊆ (bodyOps2_3_W.map (Proc.devRef (τ := τ) .tc)).toFinset :=
  StableHlo.forall_writes_sub_of_map rfl

/-- The references the operations of `condOps3` write, in order. -/
abbrev condOps3_W : List (Ref sig .tc) := [main_while3c_c_15, main_while3c_v39]
theorem condOps3_writes : (condOps3 : List (HloOp τ sig (Elt F))).Forall fun op => op.writes ⊆ (condOps3_W.map (Proc.devRef (τ := τ) .tc)).toFinset :=
  StableHlo.forall_writes_sub_of_map rfl

/-- The references the operations of `bodyOps3_0` write, in order. -/
abbrev bodyOps3_0_W : List (Ref sig .tc) := [main_while3b_call6_c, main_while3b_call6_v0, main_while3b_v39]
theorem bodyOps3_0_writes : (bodyOps3_0 : List (HloOp τ sig (Elt F))).Forall fun op => op.writes ⊆ (bodyOps3_0_W.map (Proc.devRef (τ := τ) .tc)).toFinset :=
  StableHlo.forall_writes_sub_of_map rfl

/-- The references the operations of `bodyOps3_1` write, in order. -/
abbrev bodyOps3_1_W : List (Ref sig .tc) := [main_while3b_v40, main_while3b_v41, main_while3b_v42, main_while3b_v43, main_while3b_v44, main_while3b_v45, main_while3b_v46, main_while3b_v47, main_while3b_v48, main_while3b_v49, main_while3b_v50, main_while3b_v51, main_while3b_cst_15, main_while3b_v52, main_while3b_v53, main_while3b_cst_16, main_while3b_v54, main_while3b_v55, main_while3b_v56, main_while3b_v57, main_while3b_v58, main_while3b_cst_17, main_while3b_v59, main_while3b_v60, main_while3b_cst_18, main_while3b_v61, main_while3b_v62, main_while3b_v63, main_while3b_v64, main_while3b_v65, main_while3b_cst_19, main_while3b_v66, main_while3b_v67, main_while3b_v68, main_while3b_v69, main_while3b_v70]
theorem bodyOps3_1_writes : (bodyOps3_1 : List (HloOp τ sig (Elt F))).Forall fun op => op.writes ⊆ (bodyOps3_1_W.map (Proc.devRef (τ := τ) .tc)).toFinset :=
  StableHlo.forall_writes_sub_of_map rfl

/-- The references the operations of `bodyOps3_2` write, in order. -/
abbrev bodyOps3_2_W : List (Ref sig .tc) := [main_while3b_call7_v0, main_while3b_call7_c, main_while3b_v71]
theorem bodyOps3_2_writes : (bodyOps3_2 : List (HloOp τ sig (Elt F))).Forall fun op => op.writes ⊆ (bodyOps3_2_W.map (Proc.devRef (τ := τ) .tc)).toFinset :=
  StableHlo.forall_writes_sub_of_map rfl

/-- The references the operations of `bodyOps3_3` write, in order. -/
abbrev bodyOps3_3_W : List (Ref sig .tc) := [main_while3b_c_20, main_while3b_v72, main_v33_3, main_v33_4, main_v33_5]
theorem bodyOps3_3_writes : (bodyOps3_3 : List (HloOp τ sig (Elt F))).Forall fun op => op.writes ⊆ (bodyOps3_3_W.map (Proc.devRef (τ := τ) .tc)).toFinset :=
  StableHlo.forall_writes_sub_of_map rfl

/-- The references loop 0 writes. -/
abbrev loop0_W : List (Ref sig .tc) := condOps0_W ++ bodyOps0_0_W ++ bodyOps0_1_W ++ bodyOps0_2_W ++ bodyOps0_3_W

/-- One trip of loop 0 keeps what the loop does not write. -/
theorem trip0_keeps (X : Valuation τ sig (Elt F)) (r : Ref sig .tc) (h : r ∉ loop0_W) : trip0 X r = X r := by
  have h' := h
  simp only [loop0_W, List.mem_append, not_or] at h'
  obtain ⟨⟨⟨⟨hc, h0⟩, h1⟩, h2⟩, h3⟩ := h'
  exact (StableHlo.after_of_writes_sub bodyOps0_3 _ bodyOps0_3_writes h3).trans <|
    (StableHlo.after_of_writes_sub bodyOps0_2 _ bodyOps0_2_writes h2).trans <|
    (StableHlo.after_of_writes_sub bodyOps0_1 _ bodyOps0_1_writes h1).trans <|
    (StableHlo.after_of_writes_sub bodyOps0_0 _ bodyOps0_0_writes h0).trans <|
    StableHlo.after_of_writes_sub condOps0 _ condOps0_writes hc

/-- So do any number of trips. -/
theorem at0_keeps (W : Dev nD → Valuation τ sig (Elt F)) (c : Dev nD) (r : Ref sig .tc) (h : r ∉ loop0_W) (k : ℕ) : at0 W k c r = W c r := by
  induction k with
  | zero => rfl
  | succ k ih => rw [at0_succ, trip0_keeps _ r h, ih]

/-- The references loop 1 writes. -/
abbrev loop1_W : List (Ref sig .tc) := condOps1_W ++ bodyOps1_0_W ++ bodyOps1_1_W ++ bodyOps1_2_W ++ bodyOps1_3_W

/-- One trip of loop 1 keeps what the loop does not write. -/
theorem trip1_keeps (X : Valuation τ sig (Elt F)) (r : Ref sig .tc) (h : r ∉ loop1_W) : trip1 X r = X r := by
  have h' := h
  simp only [loop1_W, List.mem_append, not_or] at h'
  obtain ⟨⟨⟨⟨hc, h0⟩, h1⟩, h2⟩, h3⟩ := h'
  exact (StableHlo.after_of_writes_sub bodyOps1_3 _ bodyOps1_3_writes h3).trans <|
    (StableHlo.after_of_writes_sub bodyOps1_2 _ bodyOps1_2_writes h2).trans <|
    (StableHlo.after_of_writes_sub bodyOps1_1 _ bodyOps1_1_writes h1).trans <|
    (StableHlo.after_of_writes_sub bodyOps1_0 _ bodyOps1_0_writes h0).trans <|
    StableHlo.after_of_writes_sub condOps1 _ condOps1_writes hc

/-- So do any number of trips. -/
theorem at1_keeps (W : Dev nD → Valuation τ sig (Elt F)) (c : Dev nD) (r : Ref sig .tc) (h : r ∉ loop1_W) (k : ℕ) : at1 W k c r = W c r := by
  induction k with
  | zero => rfl
  | succ k ih => rw [at1_succ, trip1_keeps _ r h, ih]

/-- The references loop 2 writes. -/
abbrev loop2_W : List (Ref sig .tc) := condOps2_W ++ bodyOps2_0_W ++ bodyOps2_1_W ++ bodyOps2_2_W ++ bodyOps2_3_W

/-- One trip of loop 2 keeps what the loop does not write. -/
theorem trip2_keeps (X : Valuation τ sig (Elt F)) (r : Ref sig .tc) (h : r ∉ loop2_W) : trip2 X r = X r := by
  have h' := h
  simp only [loop2_W, List.mem_append, not_or] at h'
  obtain ⟨⟨⟨⟨hc, h0⟩, h1⟩, h2⟩, h3⟩ := h'
  exact (StableHlo.after_of_writes_sub bodyOps2_3 _ bodyOps2_3_writes h3).trans <|
    (StableHlo.after_of_writes_sub bodyOps2_2 _ bodyOps2_2_writes h2).trans <|
    (StableHlo.after_of_writes_sub bodyOps2_1 _ bodyOps2_1_writes h1).trans <|
    (StableHlo.after_of_writes_sub bodyOps2_0 _ bodyOps2_0_writes h0).trans <|
    StableHlo.after_of_writes_sub condOps2 _ condOps2_writes hc

/-- So do any number of trips. -/
theorem at2_keeps (W : Dev nD → Valuation τ sig (Elt F)) (c : Dev nD) (r : Ref sig .tc) (h : r ∉ loop2_W) (k : ℕ) : at2 W k c r = W c r := by
  induction k with
  | zero => rfl
  | succ k ih => rw [at2_succ, trip2_keeps _ r h, ih]

/-- The references loop 3 writes. -/
abbrev loop3_W : List (Ref sig .tc) := condOps3_W ++ bodyOps3_0_W ++ bodyOps3_1_W ++ bodyOps3_2_W ++ bodyOps3_3_W

/-- One trip of loop 3 keeps what the loop does not write. -/
theorem trip3_keeps (X : Valuation τ sig (Elt F)) (r : Ref sig .tc) (h : r ∉ loop3_W) : trip3 X r = X r := by
  have h' := h
  simp only [loop3_W, List.mem_append, not_or] at h'
  obtain ⟨⟨⟨⟨hc, h0⟩, h1⟩, h2⟩, h3⟩ := h'
  exact (StableHlo.after_of_writes_sub bodyOps3_3 _ bodyOps3_3_writes h3).trans <|
    (StableHlo.after_of_writes_sub bodyOps3_2 _ bodyOps3_2_writes h2).trans <|
    (StableHlo.after_of_writes_sub bodyOps3_1 _ bodyOps3_1_writes h1).trans <|
    (StableHlo.after_of_writes_sub bodyOps3_0 _ bodyOps3_0_writes h0).trans <|
    StableHlo.after_of_writes_sub condOps3 _ condOps3_writes hc

/-- So do any number of trips. -/
theorem at3_keeps (W : Dev nD → Valuation τ sig (Elt F)) (c : Dev nD) (r : Ref sig .tc) (h : r ∉ loop3_W) (k : ℕ) : at3 W k c r = W c r := by
  induction k with
  | zero => rfl
  | succ k ih => rw [at3_succ, trip3_keeps _ r h, ih]

section
variable (m : (ℓ : Loc nD τ sig) → Buf (Elt F) ℓ) (c : Dev nD)

/-- A buffer the stretch before loop 0 does not write is unchanged by it. -/
theorem enter0_of (r : Ref sig .tc) (h : r ∉ mainOps0_W) : enter0 m c r = start m c r :=
  StableHlo.after_of_writes_sub mainOps0 _ mainOps0_writes h

/-- A buffer loop 0's condition does not write is, as the loop ends, what its last trip left. -/
theorem leave0_at (r : Ref sig .tc) (h : r ∉ condOps0_W) : leave0 m c r = at0 (enter0 m) 4096 c r :=
  StableHlo.after_of_writes_sub condOps0 _ condOps0_writes h

/-- A buffer loop 0 does not write is unchanged by it. -/
theorem leave0_of (r : Ref sig .tc) (h : r ∉ loop0_W) : leave0 m c r = enter0 m c r :=
  (leave0_at m c r (by simp only [loop0_W, List.mem_append, not_or] at h; exact h.1.1.1.1)).trans (at0_keeps (enter0 m) c r h 4096)

/-- A buffer the stretch before loop 1 does not write is unchanged by it. -/
theorem enter1_of (r : Ref sig .tc) (h : r ∉ mainOps1_W) : enter1 m c r = leave0 m c r :=
  StableHlo.after_of_writes_sub mainOps1 _ mainOps1_writes h

/-- A buffer loop 1's condition does not write is, as the loop ends, what its last trip left. -/
theorem leave1_at (r : Ref sig .tc) (h : r ∉ condOps1_W) : leave1 m c r = at1 (enter1 m) 4096 c r :=
  StableHlo.after_of_writes_sub condOps1 _ condOps1_writes h

/-- A buffer loop 1 does not write is unchanged by it. -/
theorem leave1_of (r : Ref sig .tc) (h : r ∉ loop1_W) : leave1 m c r = enter1 m c r :=
  (leave1_at m c r (by simp only [loop1_W, List.mem_append, not_or] at h; exact h.1.1.1.1)).trans (at1_keeps (enter1 m) c r h 4096)

/-- A buffer the stretch before loop 2 does not write is unchanged by it. -/
theorem enter2_of (r : Ref sig .tc) (h : r ∉ mainOps2_W) : enter2 m c r = leave1 m c r :=
  StableHlo.after_of_writes_sub mainOps2 _ mainOps2_writes h

/-- A buffer loop 2's condition does not write is, as the loop ends, what its last trip left. -/
theorem leave2_at (r : Ref sig .tc) (h : r ∉ condOps2_W) : leave2 m c r = at2 (enter2 m) 4096 c r :=
  StableHlo.after_of_writes_sub condOps2 _ condOps2_writes h

/-- A buffer loop 2 does not write is unchanged by it. -/
theorem leave2_of (r : Ref sig .tc) (h : r ∉ loop2_W) : leave2 m c r = enter2 m c r :=
  (leave2_at m c r (by simp only [loop2_W, List.mem_append, not_or] at h; exact h.1.1.1.1)).trans (at2_keeps (enter2 m) c r h 4096)

/-- A buffer the stretch before loop 3 does not write is unchanged by it. -/
theorem enter3_of (r : Ref sig .tc) (h : r ∉ mainOps3a_W) (h' : r ∉ mainOps3b_W) : enter3 m c r = leave2 m c r :=
  (StableHlo.after_of_writes_sub mainOps3b _ mainOps3b_writes h').trans (StableHlo.after_of_writes_sub mainOps3a _ mainOps3a_writes h)

/-- A buffer loop 3's condition does not write is, as the loop ends, what its last trip left. -/
theorem leave3_at (r : Ref sig .tc) (h : r ∉ condOps3_W) : leave3 m c r = at3 (enter3 m) 4096 c r :=
  StableHlo.after_of_writes_sub condOps3 _ condOps3_writes h

/-- A buffer loop 3 does not write is unchanged by it. -/
theorem leave3_of (r : Ref sig .tc) (h : r ∉ loop3_W) : leave3 m c r = enter3 m c r :=
  (leave3_at m c r (by simp only [loop3_W, List.mem_append, not_or] at h; exact h.1.1.1.1)).trans (at3_keeps (enter3 m) c r h 4096)

/-- A buffer the last stretch does not write is unchanged by it. -/
theorem final_of (r : Ref sig .tc) (h : r ∉ mainOps4_W) : final m c r = leave3 m c r :=
  StableHlo.after_of_writes_sub mainOps4 _ mainOps4_writes h

/-- The references the reference writes. -/
abbrev all_W : List (Ref sig .tc) :=
  mainOps0_W ++ loop0_W ++ mainOps1_W ++ loop1_W ++ mainOps2_W ++ loop2_W ++ mainOps3a_W ++ mainOps3b_W ++ loop3_W ++ mainOps4_W

/-- The arguments of the reference. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18]

/-- No argument is written. -/
theorem args_not_written : ∀ r ∈ argRefs, r ∉ all_W := by decide +kernel

/-- A buffer that is not written is, before each stretch, as launched. -/
theorem kept (r : Ref sig .tc) (h : r ∉ all_W) :
    (leave0 m c r = m ((c : Thread nD τ).loc r) ∧ leave1 m c r = m ((c : Thread nD τ).loc r) ∧ leave2 m c r = m ((c : Thread nD τ).loc r)
      ∧ leave3 m c r = m ((c : Thread nD τ).loc r)) ∧ final m c r = m ((c : Thread nD τ).loc r) := by
  have split : ∀ {a b : List (Ref sig .tc)}, r ∉ a ++ b → r ∉ a ∧ r ∉ b := fun h => not_or.mp (fun x => h (List.mem_append.mpr x))
  obtain ⟨h, w4⟩ := split h
  obtain ⟨h, l3⟩ := split h
  obtain ⟨h, w3b⟩ := split h
  obtain ⟨h, w3a⟩ := split h
  obtain ⟨h, l2⟩ := split h
  obtain ⟨h, w2⟩ := split h
  obtain ⟨h, l1⟩ := split h
  obtain ⟨h, w1⟩ := split h
  obtain ⟨w0, l0⟩ := split h
  have e0 : leave0 m c r = m ((c : Thread nD τ).loc r) := (leave0_of m c r l0).trans ((enter0_of m c r w0).trans rfl)
  have e1 := (leave1_of m c r l1).trans ((enter1_of m c r w1).trans e0)
  have e2 := (leave2_of m c r l2).trans ((enter2_of m c r w2).trans e1)
  have e3 := (leave3_of m c r l3).trans ((enter3_of m c r w3a w3b).trans e2)
  exact ⟨⟨e0, e1, e2, e3⟩, (final_of m c r w4).trans e3⟩

end

/-- A buffer of the program's own is one the run's end speaks of. -/
theorem args_mem : ∀ r ∈ argRefs, (Proc.devRef .tc r : DevRef τ sig) ∈ ucRefs τ sig := fun r h =>
  Finset.mem_filter.mpr ⟨StableHlo.devRef_mem_tcRefs r, (by decide : ∀ r ∈ argRefs, ¬ (Proc.devRef .tc r : DevRef τ sig).isScoped = true) r h⟩

theorem mem_main_v38 : (Proc.devRef .tc main_v38 : DevRef τ sig) ∈ ucRefs τ sig :=
  Finset.mem_filter.mpr ⟨StableHlo.devRef_mem_tcRefs main_v38, by decide⟩

/-- Every run ends with the result as computed, the arguments as launched and every semaphore counter at zero. -/
theorem run_ends (m : (ℓ : Loc nD τ sig) → Buf (Elt F) ℓ) (ρ : Dev nD → PrngReg) :
    θ_run defs (onTc (τ := τ) (main (F := F))) ⟨m, fun _ => 0, ρ⟩ (fun r => (∀ c : Dev nD,
      r.2.mem ((c.tc : Thread nD τ).loc main_v38) = final m c main_v38
      ∧ argRefs.Forall fun b => r.2.mem ((c.tc : Thread nD τ).loc b) = m ((c.tc : Thread nD τ).loc b)) ∧ r.2.sem = fun _ => 0) :=
  (θ_run defs _ _).mono (fun r h => ⟨fun c => ⟨h.1 c _ mem_main_v38, List.forall_iff_forall_mem.mpr fun b hb =>
    (h.1 c _ (args_mem b hb)).trans (kept m c b (args_not_written b hb)).2⟩, h.2⟩) (run_main m ρ)

end Cert.ReferenceIdeal.Gru

end
-- ==== Proof.Spec.lean ====
module

public import Idealize.ShloMosaic.PureOps.Ideal

/-!
The recurrence that the kernel and the reference are both compared with, over plain functions of indices: one step of a
gated recurrent unit, its iteration from the zero state, and the affine map before and after a layer. All values are
extended reals.
-/

@[expose] public section

noncomputable section

namespace Cert.Value

open Idealize.ShloMosaic

/-- An affine map applied to each row. -/
def lin {T K G : ℕ} (x : Fin T → Fin K → EReal) (w : Fin K → Fin G → EReal) (b : Fin G → EReal) (t : Fin T) (i : Fin G) : EReal :=
  (∑ k, x t k * w k i) + b i

/-- The projection of a state. -/
def proj {H G : ℕ} (w : Fin H → Fin G → EReal) (b : Fin G → EReal) (h : Fin H → EReal) (i : Fin G) : EReal :=
  (∑ k, h k * w k i) + b i

/-- The new value of one component: `xr`, `xz`, `xn` are the input's three projections, `hr`, `hz`, `hn` the state's, and
    `h` is the old value. -/
def mix (xr hr xz hz xn hn h : EReal) : EReal :=
  (1 - Ideal.logistic (xz + hz)) * Ideal.tanh (xn + Ideal.logistic (xr + hr) * hn) + Ideal.logistic (xz + hz) * h

/-- One step of a layer; `p`, `q`, `r` say where the three gates lie among the projections. -/
def step {H G : ℕ} (p q r : Fin H → Fin G) (w : Fin H → Fin G → EReal) (b : Fin G → EReal) (x : Fin G → EReal) (h : Fin H → EReal)
    (j : Fin H) : EReal :=
  mix (x (p j)) (proj w b h (p j)) (x (q j)) (proj w b h (q j)) (x (r j)) (proj w b h (r j)) (h j)

/-- The state of a layer after `n` steps, from the zero state. -/
def run {T H G : ℕ} (p q r : Fin H → Fin G) (w : Fin H → Fin G → EReal) (b : Fin G → EReal) (x : Fin T → Fin G → EReal) : ℕ → Fin H → EReal
  | 0 => fun _ => 0
  | n + 1 => if h : n < T then step p q r w b (x ⟨n, h⟩) (run p q r w b x n) else run p q r w b x n

theorem run_succ {T H G : ℕ} (p q r : Fin H → Fin G) (w : Fin H → Fin G → EReal) (b : Fin G → EReal) (x : Fin T → Fin G → EReal)
    (n : Fin T) : run p q r w b x (n.val + 1) = step p q r w b (x n) (run p q r w b x n.val) := by
  rw [run]; exact dif_pos n.isLt

/-- The gates of a layer of width 2048. -/
abbrev pA (j : Fin 2048) : Fin 6144 := ⟨j.val, by omega⟩
abbrev qA (j : Fin 2048) : Fin 6144 := ⟨2048 + j.val, by omega⟩
abbrev rA (j : Fin 2048) : Fin 6144 := ⟨4096 + j.val, by omega⟩

/-- The gates of a layer of width 1024. -/
abbrev pB (j : Fin 1024) : Fin 3072 := ⟨j.val, by omega⟩
abbrev qB (j : Fin 1024) : Fin 3072 := ⟨1024 + j.val, by omega⟩
abbrev rB (j : Fin 1024) : Fin 3072 := ⟨2048 + j.val, by omega⟩

/-- A layer of width 2048 over 4096 rows of projected inputs. -/
abbrev runA (w : Fin 2048 → Fin 6144 → EReal) (b : Fin 6144 → EReal) (x : Fin 4096 → Fin 6144 → EReal) : ℕ → Fin 2048 → EReal :=
  run pA qA rA w b x

/-- A layer of width 1024 over 4096 rows of projected inputs. -/
abbrev runB (w : Fin 1024 → Fin 3072 → EReal) (b : Fin 3072 → EReal) (x : Fin 4096 → Fin 3072 → EReal) : ℕ → Fin 1024 → EReal :=
  run pB qB rB w b x

/-- The first layer's projected inputs: each input is one number. -/
def inp (x : Fin 4096 → EReal) (w b : Fin 6144 → EReal) (t : Fin 4096) (i : Fin 6144) : EReal := x t * w i + b i

/-- Equal numbers, weights and bias give equal projected inputs. -/
theorem inp_congr {x x' : Fin 4096 → EReal} {w w' b b' : Fin 6144 → EReal} (hx : x = x') (hw : w = w') (hb : b = b') : inp x w b = inp x' w' b' := by
  subst hx hw hb; rfl

/-- The autoencoder: two encoder layers, of which the second gives its last state only; two decoder layers, the first of
    which is given that state at every row; and the output's affine map. Weights are indexed by input, then output. -/
def auto (x : Fin 4096 → EReal)
    (wi1 : Fin 6144 → EReal) (wh1 : Fin 2048 → Fin 6144 → EReal) (bi1 bh1 : Fin 6144 → EReal)
    (wi2 : Fin 2048 → Fin 3072 → EReal) (wh2 : Fin 1024 → Fin 3072 → EReal) (bi2 bh2 : Fin 3072 → EReal)
    (wi3 : Fin 1024 → Fin 3072 → EReal) (wh3 : Fin 1024 → Fin 3072 → EReal) (bi3 bh3 : Fin 3072 → EReal)
    (wi4 : Fin 1024 → Fin 6144 → EReal) (wh4 : Fin 2048 → Fin 6144 → EReal) (bi4 bh4 : Fin 6144 → EReal)
    (wo : Fin 2048 → Fin 1 → EReal) (bo : Fin 1 → EReal) : Fin 4096 → Fin 1 → EReal :=
  let y1 : Fin 4096 → Fin 2048 → EReal := fun t => runA wh1 bh1 (inp x wi1 bi1) (t.val + 1)
  let e : Fin 1024 → EReal := runB wh2 bh2 (lin y1 wi2 bi2) 4096
  let y2 : Fin 4096 → Fin 1024 → EReal := fun t => runB wh3 bh3 (lin (fun _ => e) wi3 bi3) (t.val + 1)
  let y3 : Fin 4096 → Fin 2048 → EReal := fun t => runA wh4 bh4 (lin y2 wi4 bi4) (t.val + 1)
  lin y3 wo bo

/-- Equal weights, bias and inputs give equal states. -/
theorem run_congr {T H G : ℕ} {p q r : Fin H → Fin G} {w w' : Fin H → Fin G → EReal} {b b' : Fin G → EReal} {x x' : Fin T → Fin G → EReal}
    (hw : w = w') (hb : b = b') (hx : x = x') : run p q r w b x = run p q r w' b' x' := by
  subst hw hb hx; rfl

/-- Equal rows, weights and bias give equal affine maps. -/
theorem lin_congr {T K G : ℕ} {x x' : Fin T → Fin K → EReal} {w w' : Fin K → Fin G → EReal} {b b' : Fin G → EReal}
    (hx : x = x') (hw : w = w') (hb : b = b') : lin x w b = lin x' w' b' := by
  subst hw hb hx; rfl

end Cert.Value

end
-- ==== Proof.CellKernel.lean ====
module

public import proofs.«01_k».proof.Proof.Gen.KernelIdeal.Skeleton
public import proofs.«01_k».proof.Proof.Spec
public import Idealize.ShloMosaic.Lib.Pointwise

/-!
What the kernel's payloads compute, at an index and at the extended reals: the zero states, the projected inputs, the
steps and the output.
-/

@[expose] public section

noncomputable section

namespace Cert.KernelIdeal.Gru

open Cert.KernelIdeal Cert.KernelIdeal.Gen Cert.Value
open Idealize.ShloMosaic

/-- A row of a one-row array. -/
abbrev rowOf {n : ℕ} (x : (⟨2, ![1, n]⟩ : Shape).Idx → EReal) (i : Fin n) : EReal := x (ix2 0 i)

/-- A two-axis array as a function of its two coordinates. -/
abbrev matOf {m n : ℕ} (x : (⟨2, ![m, n]⟩ : Shape).Idx → EReal) (k : Fin m) (i : Fin n) : EReal := x (ix2 k i)

theorem k0_pay1_at (j : Fin 2048) : k0_pay1 (F := Ideal) (ix2 0 j) = 0 := by
  unfold k0_pay1; pointwise

theorem k1_pay1_at (j : Fin 1024) : k1_pay1 (F := Ideal) (ix2 0 j) = 0 := by
  unfold k1_pay1; pointwise

theorem k2_pay1_at (j : Fin 1024) : k2_pay1 (F := Ideal) (ix2 0 j) = 0 := by
  unfold k2_pay1; pointwise

theorem k3_pay1_at (j : Fin 2048) : k3_pay1 (F := Ideal) (ix2 0 j) = 0 := by
  unfold k3_pay1; pointwise

theorem k0_pay2_at (x : Vec Ideal S1x1 .f32) (wi bi : Vec Ideal S1x6144 .f32) (h : Vec Ideal S1x2048 .f32) (w : Vec Ideal S2048x6144 .bf16)
    (b : Vec Ideal S1x6144 .f32) (j : Fin 2048) :
    k0_pay2 x wi bi h w b h (ix2 0 j) = step pA qA rA (matOf w) (rowOf b) (fun i => x (ix2 0 0) * rowOf wi i + rowOf bi i) (rowOf h) j := by
  unfold k0_pay2
  pointwise
  rfl

theorem k1_pay3_at (h : Vec Ideal S1x1024 .f32) (w : Vec Ideal S1024x3072 .bf16) (b x : Vec Ideal S1x3072 .f32) (j : Fin 1024) :
    k1_pay3 h w b x h (ix2 0 j) = step pB qB rB (matOf w) (rowOf b) (rowOf x) (rowOf h) j := by
  unfold k1_pay3
  pointwise
  rfl

theorem k2_pay3_at (h : Vec Ideal S1x1024 .f32) (w : Vec Ideal S1024x3072 .bf16) (b x : Vec Ideal S1x3072 .f32) (j : Fin 1024) :
    k2_pay3 h w b x h (ix2 0 j) = step pB qB rB (matOf w) (rowOf b) (rowOf x) (rowOf h) j := by
  unfold k2_pay3
  pointwise
  rfl

theorem k3_pay3_at (h : Vec Ideal S1x2048 .f32) (w : Vec Ideal S2048x6144 .bf16) (b x : Vec Ideal S1x6144 .f32) (j : Fin 2048) :
    k3_pay3 h w b x h (ix2 0 j) = step pA qA rA (matOf w) (rowOf b) (rowOf x) (rowOf h) j := by
  unfold k3_pay3
  pointwise
  rfl

theorem k1_pay2_at (x : Vec Ideal S512x2048 .f32) (w : Vec Ideal S2048x3072 .bf16) (b : Vec Ideal S1x3072 .f32) (t : Fin 512) (i : Fin 3072) :
    k1_pay2 x w b (ix2 t i) = lin (matOf x) (matOf w) (rowOf b) t i := by
  unfold k1_pay2
  pointwise
  rfl

theorem k2_pay2_at (x : Vec Ideal S1x1024 .f32) (w : Vec Ideal S1024x3072 .bf16) (b : Vec Ideal S1x3072 .f32) (i : Fin 3072) :
    k2_pay2 x w b (ix2 0 i) = lin (matOf x) (matOf w) (rowOf b) 0 i := by
  unfold k2_pay2
  pointwise
  rfl

theorem k3_pay2_at (x : Vec Ideal S256x1024 .f32) (w : Vec Ideal S1024x6144 .bf16) (b : Vec Ideal S1x6144 .f32) (t : Fin 256) (i : Fin 6144) :
    k3_pay2 x w b (ix2 t i) = lin (matOf x) (matOf w) (rowOf b) t i := by
  unfold k3_pay2
  pointwise
  rfl

theorem k3_pay6_at (x : Vec Ideal S256x2048 .f32) (w : Vec Ideal S2048x1 .bf16) (b : Vec Ideal S1x1 .f32) (t : Fin 256) (i : Fin 1) :
    k3_pay6 x w b (ix2 t i) = lin (matOf x) (matOf w) (rowOf b) t i := by
  obtain rfl : i = 0 := Subsingleton.elim _ _
  unfold k3_pay6
  pointwise
  rfl

end Cert.KernelIdeal.Gru

end
-- ==== Proof.KerBlocks.lean ====
module

public import proofs.«01_k».proof.Proof.Run
public import proofs.«01_k».proof.Proof.CellKernel

/-!
What the blocks of the four calls' windows hold, at an index, of the arrays they are blocks of.
-/

@[expose] public section

noncomputable section

namespace Cert.KernelIdeal.Gru

open Cert.KernelIdeal Cert.KernelIdeal.Gen Cert.Value
open Idealize.ShloMosaic Idealize.ShloMosaic.TcCoe Idealize.ShloMosaic.Tactic

variable (W : Dev nD → Valuation τ sig (Elt Ideal)) (c : Dev nD)

/-- Where the windows of call 0 stand at each grid point. -/
theorem index0 : ∀ t : Fin grid0.N, (win0_0.index t 0 = t.val ∧ win0_0.index t 1 = 0) ∧ (win0_1.index t 0 = 0 ∧ win0_1.index t 1 = 0) ∧ (win0_2.index t 0 = 0 ∧ win0_2.index t 1 = 0) ∧ (win0_3.index t 0 = 0 ∧ win0_3.index t 1 = 0) := by decide +kernel

theorem iblkE1_0 (t : Fin cfg0.N) (k : Fin 512) (i : Fin 1) (h : t.val * 512 + k.val < 4096) :
    iblkE1 W c 0 t (ix2 k i) = W c main_arg0 (ix2 ⟨t.val * 512 + k.val, h⟩ i) := by
  blk_ext [iblkE1, index0 t]

theorem iblkE1_1 (t : Fin cfg0.N) (k : Fin 1) (i : Fin 6144) : iblkE1 W c 1 t (ix2 k i) = W c main_v0 (ix2 k i) := by
  blk_ext [iblkE1, index0 t]

theorem iblkE1_2 (t : Fin cfg0.N) (k : Fin 1) (i : Fin 6144) : iblkE1 W c 2 t (ix2 k i) = W c main_v1 (ix2 k i) := by
  blk_ext [iblkE1, index0 t]

theorem iblkE1_3 (t : Fin cfg0.N) (k : Fin 1) (i : Fin 6144) : iblkE1 W c 3 t (ix2 k i) = W c main_v2 (ix2 k i) := by
  blk_ext [iblkE1, index0 t]

/-- Where the windows of call 1 stand at each grid point. -/
theorem index1 : ∀ t : Fin grid1.N, (win1_0.index t 0 = t.val ∧ win1_0.index t 1 = 0) ∧ (win1_1.index t 0 = 0 ∧ win1_1.index t 1 = 0) ∧ (win1_2.index t 0 = 0 ∧ win1_2.index t 1 = 0) := by decide +kernel

theorem iblkE2_0 (t : Fin cfg1.N) (k : Fin 512) (i : Fin 2048) (h : t.val * 512 + k.val < 4096) :
    iblkE2 W c 0 t (ix2 k i) = W c main_v5 (ix2 ⟨t.val * 512 + k.val, h⟩ i) := by
  blk_ext [iblkE2, index1 t]

theorem iblkE2_1 (t : Fin cfg1.N) (k : Fin 1) (i : Fin 3072) : iblkE2 W c 1 t (ix2 k i) = W c main_v6 (ix2 k i) := by
  blk_ext [iblkE2, index1 t]

theorem iblkE2_2 (t : Fin cfg1.N) (k : Fin 1) (i : Fin 3072) : iblkE2 W c 2 t (ix2 k i) = W c main_v7 (ix2 k i) := by
  blk_ext [iblkE2, index1 t]

/-- Where the windows of call 2 stand at each grid point. -/
theorem index2 : ∀ t : Fin grid2.N, (win2_0.index t 0 = 0 ∧ win2_0.index t 1 = 0) ∧ (win2_1.index t 0 = 0 ∧ win2_1.index t 1 = 0) ∧ (win2_2.index t 0 = 0 ∧ win2_2.index t 1 = 0) := by decide +kernel

theorem iblkD1_0 (t : Fin cfg2.N) (k : Fin 1) (i : Fin 1024) : iblkD1 W c 0 t (ix2 k i) = W c main_v12 (ix2 k i) := by
  blk_ext [iblkD1, index2 t]

theorem iblkD1_1 (t : Fin cfg2.N) (k : Fin 1) (i : Fin 3072) : iblkD1 W c 1 t (ix2 k i) = W c main_v13 (ix2 k i) := by
  blk_ext [iblkD1, index2 t]

theorem iblkD1_2 (t : Fin cfg2.N) (k : Fin 1) (i : Fin 3072) : iblkD1 W c 2 t (ix2 k i) = W c main_v14 (ix2 k i) := by
  blk_ext [iblkD1, index2 t]

/-- Where the windows of call 3 stand at each grid point. -/
theorem index3 : ∀ t : Fin grid3.N, (win3_0.index t 0 = t.val ∧ win3_0.index t 1 = 0) ∧ (win3_1.index t 0 = 0 ∧ win3_1.index t 1 = 0) ∧ (win3_2.index t 0 = 0 ∧ win3_2.index t 1 = 0) ∧ (win3_3.index t 0 = 0 ∧ win3_3.index t 1 = 0) ∧ (win3_4.index t 0 = 0 ∧ win3_4.index t 1 = 0) := by decide +kernel

theorem iblkD2_0 (t : Fin cfg3.N) (k : Fin 256) (i : Fin 1024) (h : t.val * 256 + k.val < 4096) :
    iblkD2 W c 0 t (ix2 k i) = W c main_v19 (ix2 ⟨t.val * 256 + k.val, h⟩ i) := by
  blk_ext [iblkD2, index3 t]

theorem iblkD2_1 (t : Fin cfg3.N) (k : Fin 1) (i : Fin 6144) : iblkD2 W c 1 t (ix2 k i) = W c main_v20 (ix2 k i) := by
  blk_ext [iblkD2, index3 t]

theorem iblkD2_2 (t : Fin cfg3.N) (k : Fin 1) (i : Fin 6144) : iblkD2 W c 2 t (ix2 k i) = W c main_v21 (ix2 k i) := by
  blk_ext [iblkD2, index3 t]

theorem iblkD2_3 (t : Fin cfg3.N) (k : Fin 2048) (i : Fin 1) : iblkD2 W c 3 t (ix2 k i) = W c main_v23 (ix2 k i) := by
  blk_ext [iblkD2, index3 t]

theorem iblkD2_4 (t : Fin cfg3.N) (k : Fin 1) (i : Fin 1) : iblkD2 W c 4 t (ix2 k i) = W c main_v24 (ix2 k i) := by
  blk_ext [iblkD2, index3 t]

end Cert.KernelIdeal.Gru

end
-- ==== Proof.KerRuns.lean ====
module

public import proofs.«01_k».proof.Proof.Run
public import proofs.«01_k».proof.Proof.CellKernel

/-!
The loop of one grid point, at the extended reals: from the recurrence's state after `n` rows to its state after `n + k`.
-/

@[expose] public section

noncomputable section

namespace Cert.KernelIdeal.Gru

open Cert.KernelIdeal Cert.KernelIdeal.Gen Cert.Value
open Idealize.ShloMosaic Idealize.ShloMosaic.TcCoe Idealize.ShloMosaic.Tactic

theorem rowE1_at (xs : Vec Ideal S512x1 .f32) (k : Fin k0_t1_loop.trips) (h : k.val < 512) : rowE1 xs k (ix2 0 0) = xs (ix2 ⟨k.val, h⟩ 0) := by
  unfold rowE1
  refine congrArg xs (funext fun a => Fin.ext ?_)
  match a with
  | ⟨0, _⟩ => show k0_off1 k 0 + 1 * 0 = k.val; rw [k0_off1_eq]; rfl
  | ⟨1, _⟩ => show k0_off1 k 1 + 1 * 0 = 0; rw [k0_off1_eq]; rfl

/-- The loop of one grid point of call 0. -/
theorem itE1_at (wi bi bh : Vec Ideal S1x6144 .f32) (w : Vec Ideal S2048x6144 .bf16) (xs : Vec Ideal S512x1 .f32) (h : Vec Ideal S1x2048 .f32)
    (b : Fin 6144 → EReal) (X : Fin 4096 → Fin 6144 → EReal) (n : ℕ) (hn : n + 512 ≤ 4096) (hb : rowOf bh = b)
    (hX : ∀ k : Fin 512, (fun i => xs (ix2 k 0) * rowOf wi i + rowOf bi i) = X ⟨n + k.val, by omega⟩)
    (h0 : rowOf h = runA (matOf w) b X n) (k : ℕ) (hk : k ≤ 512) :
    rowOf (itE1 wi bi bh w xs h k) = runA (matOf w) b X (n + k) := by
  subst hb
  induction k with
  | zero => exact h0
  | succ k ih =>
    have hk2 : k < k0_t1_loop.trips := by rw [tripsE1]; exact hk
    have e := itE1_succ wi bi bh w xs h ⟨k, hk2⟩
    dsimp only at e
    funext j
    show (itE1 wi bi bh w xs h (k + 1)) (ix2 0 j) = _
    rw [e]
    refine (k0_pay2_at _ _ _ _ _ _ j).trans ?_
    rw [ih (by omega)]
    have hx : (fun i => rowE1 xs ⟨k, hk2⟩ (ix2 0 0) * rowOf wi i + rowOf bi i) = X ⟨n + k, by omega⟩ := (funext fun i => by rw [rowE1_at xs ⟨k, hk2⟩ hk]).trans (hX ⟨k, hk⟩)
    refine (congrArg (fun x => step pA qA rA (matOf w) (rowOf bh) x (runA (matOf w) (rowOf bh) X (n + k)) j) hx).trans ?_
    exact (congrFun (run_succ pA qA rA (matOf w) (rowOf bh) X (⟨n + k, by omega⟩ : Fin 4096)) j).symm

theorem rowE2_at (xg : Vec Ideal S512x3072 .f32) (k : Fin k1_t1_loop.trips) (h : k.val < 512) (i : Fin 3072) : rowE2 xg k (ix2 0 i) = xg (ix2 ⟨k.val, h⟩ i) := by
  unfold rowE2
  refine congrArg xg (funext fun a => Fin.ext ?_)
  match a with
  | ⟨0, _⟩ => show k1_off1 k 0 + 1 * 0 = k.val; rw [k1_off1_eq]; rfl
  | ⟨1, _⟩ => show k1_off1 k 1 + 1 * i.val = i.val; rw [k1_off1_eq]; show 0 + 1 * i.val = i.val; omega

theorem tripsE2 : k1_t1_loop.trips = 512 := by decide

/-- One step of call 1's loop. -/
theorem itE2_succ (whh : Vec Ideal S1024x3072 .bf16) (bhh : Vec Ideal S1x3072 .f32) (xg : Vec Ideal S512x3072 .f32) (h : Vec Ideal S1x1024 .f32)
    (k : Fin k1_t1_loop.trips) : itE2 whh bhh xg h (k.val + 1) = k1_pay3 (itE2 whh bhh xg h k.val) whh bhh (rowE2 xg k) (itE2 whh bhh xg h k.val) := by
  rw [itE2]; exact dif_pos k.isLt

/-- The loop of one grid point of call 1. -/
theorem itE2_at (bh : Vec Ideal S1x3072 .f32) (w : Vec Ideal S1024x3072 .bf16) (xg : Vec Ideal S512x3072 .f32) (h : Vec Ideal S1x1024 .f32)
    (b : Fin 3072 → EReal) (X : Fin 4096 → Fin 3072 → EReal) (n : ℕ) (hn : n + 512 ≤ 4096) (hb : rowOf bh = b)
    (hX : ∀ k : Fin 512, (fun i => xg (ix2 k i)) = X ⟨n + k.val, by omega⟩)
    (h0 : rowOf h = runB (matOf w) b X n) (k : ℕ) (hk : k ≤ 512) :
    rowOf (itE2 w bh xg h k) = runB (matOf w) b X (n + k) := by
  subst hb
  induction k with
  | zero => exact h0
  | succ k ih =>
    have hk2 : k < k1_t1_loop.trips := by rw [tripsE2]; exact hk
    have e := itE2_succ w bh xg h ⟨k, hk2⟩
    dsimp only at e
    funext j
    show (itE2 w bh xg h (k + 1)) (ix2 0 j) = _
    rw [e]
    refine (k1_pay3_at _ _ _ _ j).trans ?_
    rw [ih (by omega)]
    have hx : (rowOf (n := 3072) (rowE2 xg ⟨k, hk2⟩)) = X ⟨n + k, by omega⟩ := (funext fun i => rowE2_at xg ⟨k, hk2⟩ hk i).trans (hX ⟨k, hk⟩)
    refine (congrArg (fun x => step pB qB rB (matOf w) (rowOf bh) x (runB (matOf w) (rowOf bh) X (n + k)) j) hx).trans ?_
    exact (congrFun (run_succ pB qB rB (matOf w) (rowOf bh) X (⟨n + k, by omega⟩ : Fin 4096)) j).symm

/-- The loop of one grid point of call 2. -/
theorem itD1_at (bh : Vec Ideal S1x3072 .f32) (w : Vec Ideal S1024x3072 .bf16) (xg : Vec Ideal S1x3072 .f32) (h : Vec Ideal S1x1024 .f32)
    (b : Fin 3072 → EReal) (X : Fin 4096 → Fin 3072 → EReal) (n : ℕ) (hn : n + 512 ≤ 4096) (hb : rowOf bh = b)
    (hX : ∀ k : Fin 512, rowOf xg = X ⟨n + k.val, by omega⟩)
    (h0 : rowOf h = runB (matOf w) b X n) (k : ℕ) (hk : k ≤ 512) :
    rowOf (itD1 bh w xg h k) = runB (matOf w) b X (n + k) := by
  subst hb
  induction k with
  | zero => exact h0
  | succ k ih =>
    have hk2 : k < k2_t1_loop.trips := by rw [tripsD1]; exact hk
    have e := itD1_succ bh w xg h ⟨k, hk2⟩
    dsimp only at e
    funext j
    show (itD1 bh w xg h (k + 1)) (ix2 0 j) = _
    rw [e]
    refine (k2_pay3_at _ _ _ _ j).trans ?_
    rw [ih (by omega)]
    have hx : (rowOf xg) = X ⟨n + k, by omega⟩ := hX ⟨k, hk⟩
    refine (congrArg (fun x => step pB qB rB (matOf w) (rowOf bh) x (runB (matOf w) (rowOf bh) X (n + k)) j) hx).trans ?_
    exact (congrFun (run_succ pB qB rB (matOf w) (rowOf bh) X (⟨n + k, by omega⟩ : Fin 4096)) j).symm

theorem rowD2_at (xg : Vec Ideal S256x6144 .f32) (k : Fin k3_t1_loop.trips) (h : k.val < 256) (i : Fin 6144) : rowD2 xg k (ix2 0 i) = xg (ix2 ⟨k.val, h⟩ i) := by
  unfold rowD2
  refine congrArg xg (funext fun a => Fin.ext ?_)
  match a with
  | ⟨0, _⟩ => show k3_off1 k 0 + 1 * 0 = k.val; rw [k3_off1_eq]; rfl
  | ⟨1, _⟩ => show k3_off1 k 1 + 1 * i.val = i.val; rw [k3_off1_eq]; show 0 + 1 * i.val = i.val; omega

/-- The loop of one grid point of call 3. -/
theorem itD2_at (bh : Vec Ideal S1x6144 .f32) (w : Vec Ideal S2048x6144 .bf16) (xg : Vec Ideal S256x6144 .f32) (h : Vec Ideal S1x2048 .f32)
    (b : Fin 6144 → EReal) (X : Fin 4096 → Fin 6144 → EReal) (n : ℕ) (hn : n + 256 ≤ 4096) (hb : rowOf bh = b)
    (hX : ∀ k : Fin 256, (fun i => xg (ix2 k i)) = X ⟨n + k.val, by omega⟩)
    (h0 : rowOf h = runA (matOf w) b X n) (k : ℕ) (hk : k ≤ 256) :
    rowOf (itD2 bh w xg h k) = runA (matOf w) b X (n + k) := by
  subst hb
  induction k with
  | zero => exact h0
  | succ k ih =>
    have hk2 : k < k3_t1_loop.trips := by rw [tripsD2]; exact hk
    have e := itD2_succ bh w xg h ⟨k, hk2⟩
    dsimp only at e
    funext j
    show (itD2 bh w xg h (k + 1)) (ix2 0 j) = _
    rw [e]
    refine (k3_pay3_at _ _ _ _ j).trans ?_
    rw [ih (by omega)]
    have hx : (rowOf (n := 6144) (rowD2 xg ⟨k, hk2⟩)) = X ⟨n + k, by omega⟩ := (funext fun i => rowD2_at xg ⟨k, hk2⟩ hk i).trans (hX ⟨k, hk⟩)
    refine (congrArg (fun x => step pA qA rA (matOf w) (rowOf bh) x (runA (matOf w) (rowOf bh) X (n + k)) j) hx).trans ?_
    exact (congrFun (run_succ pA qA rA (matOf w) (rowOf bh) X (⟨n + k, by omega⟩ : Fin 4096)) j).symm

end Cert.KernelIdeal.Gru

end
-- ==== Proof.KerStates.lean ====
module

public import proofs.«01_k».proof.Proof.KerBlocks
public import proofs.«01_k».proof.Proof.KerRuns

/-!
The states of the four calls at the extended reals, and the arrays they leave, from what the buffers hold as each call is
entered.
-/

@[expose] public section

noncomputable section

namespace Cert.KernelIdeal.Gru

open Cert.KernelIdeal Cert.KernelIdeal.Gen Cert.Value
open Idealize.ShloMosaic Idealize.ShloMosaic.TcCoe Idealize.ShloMosaic.Tactic

variable (W : Dev nD → Valuation τ sig (Elt Ideal)) (c : Dev nD)

/-- The projected inputs of call 0. -/
abbrev xE1 : Fin 4096 → Fin 6144 → EReal := inp (fun t => matOf (m := 4096) (n := 1) (W c main_arg0) t 0) (rowOf (n := 6144) (W c main_v0)) (rowOf (n := 6144) (W c main_v1))

/-- The states of call 0. -/
abbrev runE1 : ℕ → Fin 2048 → EReal := runA (matOf (m := 2048) (n := 6144) (W c main_v4)) (rowOf (n := 6144) (W c main_v2)) (xE1 W c)

/-- Call 0's states within one grid point. -/
theorem pointE1 (t : Fin cfg0.N) (ht : t.val < 8) (h0 : rowOf (n := 2048) (stE1 W c t.val) = runE1 W c (t.val * 512)) (k : ℕ) (hk : k ≤ 512) :
    rowOf (n := 2048) (itE1 (iblkE1 W c 1 t) (iblkE1 W c 2 t) (iblkE1 W c 3 t) (whhE1 W c) (iblkE1 W c 0 t) (stE1 W c t.val) k) = runE1 W c (t.val * 512 + k) := by
  refine itE1_at _ _ _ _ _ _ (rowOf (n := 6144) (W c main_v2)) (xE1 W c) (t.val * 512) (by omega) (funext fun i => iblkE1_3 W c t 0 i) ?_ h0 k hk
  exact fun k => funext fun i => by
    refine congrArg₂ (· + ·) (congrArg₂ (· * ·) (iblkE1_0 W c t k 0 _) (iblkE1_1 W c t 0 i)) (iblkE1_2 W c t 0 i)

/-- Call 0's state after any number of grid points. -/
theorem stE1_at (n : ℕ) (hn : n ≤ 8) : rowOf (n := 2048) (stE1 W c n) = runE1 W c (n * 512) := by
  induction n with
  | zero => exact funext fun j => k0_pay1_at j
  | succ n ih =>
    have hN : n < cfg0.N := lt_of_lt_of_eq (by omega : n < 8) N_0.symm
    have e := stE1_succ W c ⟨n, hN⟩
    dsimp only at e
    rw [e]
    have h := pointE1 W c ⟨n, hN⟩ (by show n < 8; omega) (ih (by omega)) 512 le_rfl
    rw [show (n + 1) * 512 = n * 512 + 512 from Nat.succ_mul n 512]
    refine Eq.trans ?_ h
    unfold ptE1
    rw [tripsE1]

/-- The array call 0 leaves: the states, one to a row. -/
theorem arrE1_at (t : Fin 4096) (j : Fin 2048) : matOf (m := 4096) (n := 2048) (arrE1 W c) t j = runE1 W c (t.val + 1) j := by
  have hq : t.val / 512 < 8 := by have := t.isLt; omega
  have h := congrFun (pointE1 W c ⟨t.val / 512, lt_of_lt_of_eq hq N_0.symm⟩ hq (stE1_at W c _ hq.le) (t.val % 512 + 1) (by omega)) j
  refine Eq.trans ?_ (h.trans (congrArg (fun n => runE1 W c n j) (by show t.val / 512 * 512 + (t.val % 512 + 1) = t.val + 1; omega)))
  exact congrArg (itE1 (iblkE1 W c 1 ⟨t.val / 512, lt_of_lt_of_eq hq N_0.symm⟩) (iblkE1 W c 2 ⟨t.val / 512, lt_of_lt_of_eq hq N_0.symm⟩) (iblkE1 W c 3 ⟨t.val / 512, lt_of_lt_of_eq hq N_0.symm⟩) (whhE1 W c) (iblkE1 W c 0 ⟨t.val / 512, lt_of_lt_of_eq hq N_0.symm⟩) (stE1 W c (t.val / 512)) (t.val % 512 + 1)) (ix2_eq_valueIdx (0 : Fin 1) j).symm

/-- The projected inputs of call 1. -/
abbrev xE2 : Fin 4096 → Fin 3072 → EReal := lin (matOf (m := 4096) (n := 2048) (W c main_v5)) (matOf (m := 2048) (n := 3072) (W c main_v9)) (rowOf (n := 3072) (W c main_v6))

/-- The states of call 1. -/
abbrev runE2 : ℕ → Fin 1024 → EReal := runB (matOf (m := 1024) (n := 3072) (W c main_v11)) (rowOf (n := 3072) (W c main_v7)) (xE2 W c)

/-- Call 1's states within one grid point. -/
theorem pointE2 (t : Fin cfg1.N) (ht : t.val < 8) (h0 : rowOf (n := 1024) (stE2 W c t.val) = runE2 W c (t.val * 512)) (k : ℕ) (hk : k ≤ 512) :
    rowOf (n := 1024) (itE2 (whhE2 W c) (iblkE2 W c 2 t) (k1_pay2 (iblkE2 W c 0 t) (wihE2 W c) (iblkE2 W c 1 t)) (stE2 W c t.val) k) = runE2 W c (t.val * 512 + k) := by
  refine itE2_at _ _ _ _ (rowOf (n := 3072) (W c main_v7)) (xE2 W c) (t.val * 512) (by omega) (funext fun i => iblkE2_2 W c t 0 i) ?_ h0 k hk
  exact fun k => funext fun i => (k1_pay2_at _ _ _ k i).trans (congrArg₂ (· + ·)
    (Finset.sum_congr rfl fun j _ => congrArg (· * _) (iblkE2_0 W c t k j _)) (iblkE2_1 W c t 0 i))

/-- Call 1's state after any number of grid points. -/
theorem stE2_at (n : ℕ) (hn : n ≤ 8) : rowOf (n := 1024) (stE2 W c n) = runE2 W c (n * 512) := by
  induction n with
  | zero => exact funext fun j => k1_pay1_at j
  | succ n ih =>
    have hN : n < cfg1.N := lt_of_lt_of_eq (by omega : n < 8) N_1.symm
    have e := stE2_succ W c ⟨n, hN⟩
    dsimp only at e
    rw [e]
    have h := pointE2 W c ⟨n, hN⟩ (by show n < 8; omega) (ih (by omega)) 512 le_rfl
    rw [show (n + 1) * 512 = n * 512 + 512 from Nat.succ_mul n 512]
    refine Eq.trans ?_ h
    unfold ptE2
    rw [tripsE2]

/-- The projected inputs of call 2. -/
abbrev xD1 : Fin 4096 → Fin 3072 → EReal := lin (fun _ : Fin 4096 => (rowOf (n := 1024) (W c main_v12))) (matOf (m := 1024) (n := 3072) (W c main_v16)) (rowOf (n := 3072) (W c main_v13))

/-- The states of call 2. -/
abbrev runD1 : ℕ → Fin 1024 → EReal := runB (matOf (m := 1024) (n := 3072) (W c main_v18)) (rowOf (n := 3072) (W c main_v14)) (xD1 W c)

/-- Call 2's states within one grid point. -/
theorem pointD1 (t : Fin cfg2.N) (ht : t.val < 8) (h0 : rowOf (n := 1024) (stD1 W c t.val) = runD1 W c (t.val * 512)) (k : ℕ) (hk : k ≤ 512) :
    rowOf (n := 1024) (itD1 (iblkD1 W c 2 t) (whhD1 W c) (xgD1 W c) (stD1 W c t.val) k) = runD1 W c (t.val * 512 + k) := by
  refine itD1_at _ _ _ _ (rowOf (n := 3072) (W c main_v14)) (xD1 W c) (t.val * 512) (by omega) (funext fun i => iblkD1_2 W c t 0 i) ?_ h0 k hk
  exact fun k => funext fun i => (k2_pay2_at _ _ _ i).trans (congrArg₂ (· + ·)
    (Finset.sum_congr rfl fun j _ => congrArg (· * _) (iblkD1_0 W c zeroD1 0 j)) (iblkD1_1 W c zeroD1 0 i))

/-- Call 2's state after any number of grid points. -/
theorem stD1_at (n : ℕ) (hn : n ≤ 8) : rowOf (n := 1024) (stD1 W c n) = runD1 W c (n * 512) := by
  induction n with
  | zero => exact funext fun j => k2_pay1_at j
  | succ n ih =>
    have hN : n < cfg2.N := lt_of_lt_of_eq (by omega : n < 8) N_2.symm
    have e := stD1_succ W c ⟨n, hN⟩
    dsimp only at e
    rw [e]
    have h := pointD1 W c ⟨n, hN⟩ (by show n < 8; omega) (ih (by omega)) 512 le_rfl
    rw [show (n + 1) * 512 = n * 512 + 512 from Nat.succ_mul n 512]
    refine Eq.trans ?_ h
    unfold ptD1
    rw [tripsD1]

/-- The array call 2 leaves: the states, one to a row. -/
theorem arrD1_at (t : Fin 4096) (j : Fin 1024) : matOf (m := 4096) (n := 1024) (arrD1 W c) t j = runD1 W c (t.val + 1) j := by
  have hq : t.val / 512 < 8 := by have := t.isLt; omega
  have h := congrFun (pointD1 W c ⟨t.val / 512, lt_of_lt_of_eq hq N_2.symm⟩ hq (stD1_at W c _ hq.le) (t.val % 512 + 1) (by omega)) j
  refine Eq.trans ?_ (h.trans (congrArg (fun n => runD1 W c n j) (by show t.val / 512 * 512 + (t.val % 512 + 1) = t.val + 1; omega)))
  exact congrArg (itD1 (iblkD1 W c 2 ⟨t.val / 512, lt_of_lt_of_eq hq N_2.symm⟩) (whhD1 W c) (xgD1 W c) (stD1 W c (t.val / 512)) (t.val % 512 + 1)) (ix2_eq_valueIdx (0 : Fin 1) j).symm

/-- The projected inputs of call 3. -/
abbrev xD2 : Fin 4096 → Fin 6144 → EReal := lin (matOf (m := 4096) (n := 1024) (W c main_v19)) (matOf (m := 1024) (n := 6144) (W c main_v26)) (rowOf (n := 6144) (W c main_v20))

/-- The states of call 3. -/
abbrev runD2 : ℕ → Fin 2048 → EReal := runA (matOf (m := 2048) (n := 6144) (W c main_v28)) (rowOf (n := 6144) (W c main_v21)) (xD2 W c)

/-- Call 3's states within one grid point. -/
theorem pointD2 (t : Fin cfg3.N) (ht : t.val < 16) (h0 : rowOf (n := 2048) (stD2 W c t.val) = runD2 W c (t.val * 256)) (k : ℕ) (hk : k ≤ 256) :
    rowOf (n := 2048) (itD2 (iblkD2 W c 2 t) (whhD2 W c) (k3_pay2 (iblkD2 W c 0 t) (wihD2 W c) (iblkD2 W c 1 t)) (stD2 W c t.val) k) = runD2 W c (t.val * 256 + k) := by
  refine itD2_at _ _ _ _ (rowOf (n := 6144) (W c main_v21)) (xD2 W c) (t.val * 256) (by omega) (funext fun i => iblkD2_2 W c t 0 i) ?_ h0 k hk
  exact fun k => funext fun i => (k3_pay2_at _ _ _ k i).trans (congrArg₂ (· + ·)
    (Finset.sum_congr rfl fun j _ => congrArg (· * _) (iblkD2_0 W c t k j _)) (iblkD2_1 W c t 0 i))

/-- Call 3's state after any number of grid points. -/
theorem stD2_at (n : ℕ) (hn : n ≤ 16) : rowOf (n := 2048) (stD2 W c n) = runD2 W c (n * 256) := by
  induction n with
  | zero => exact funext fun j => k3_pay1_at j
  | succ n ih =>
    have hN : n < cfg3.N := lt_of_lt_of_eq (by omega : n < 16) N_3.symm
    have e := stD2_succ W c ⟨n, hN⟩
    dsimp only at e
    rw [e]
    have h := pointD2 W c ⟨n, hN⟩ (by show n < 16; omega) (ih (by omega)) 256 le_rfl
    rw [show (n + 1) * 256 = n * 256 + 256 from Nat.succ_mul n 256]
    refine Eq.trans ?_ h
    unfold ptD2
    rw [tripsD2]

/-- The array call 3 leaves: the states, each projected to one number. -/
theorem arrD2_at (t : Fin 4096) (i : Fin 1) : matOf (m := 4096) (n := 1) (arrD2 W c) t i
    = lin (fun t : Fin 4096 => runD2 W c (t.val + 1)) (matOf (m := 2048) (n := 1) (W c main_v23)) (rowOf (n := 1) (W c main_v24)) t i := by
  have hq : t.val / 256 < 16 := by have := t.isLt; omega
  have h := fun j => congrFun (pointD2 W c ⟨t.val / 256, lt_of_lt_of_eq hq N_3.symm⟩ hq (stD2_at W c _ hq.le) (t.val % 256 + 1) (by omega)) j
  have h' := fun j => (h j).trans (congrArg (fun n => runD2 W c n j) (by show t.val / 256 * 256 + (t.val % 256 + 1) = t.val + 1; omega))
  refine (congrArg (outD2At W c ⟨t.val / 256, lt_of_lt_of_eq hq N_3.symm⟩) (ix2_eq_valueIdx (⟨t.val % 256, Nat.mod_lt _ (by decide)⟩ : Fin 256) i).symm).trans ?_
  refine (k3_pay6_at _ _ _ _ i).trans (congrArg₂ (· + ·) (Finset.sum_congr rfl fun j _ => congrArg₂ (· * ·) ?_ (iblkD2_3 W c _ j i)) (iblkD2_4 W c _ 0 i))
  refine Eq.trans ?_ (h' j)
  exact congrArg (itD2 (iblkD2 W c 2 ⟨t.val / 256, lt_of_lt_of_eq hq N_3.symm⟩) (whhD2 W c) (k3_pay2 (iblkD2 W c 0 ⟨t.val / 256, lt_of_lt_of_eq hq N_3.symm⟩) (wihD2 W c) (iblkD2 W c 1 ⟨t.val / 256, lt_of_lt_of_eq hq N_3.symm⟩)) (stD2 W c (t.val / 256)) (t.val % 256 + 1)) (ix2_eq_valueIdx (0 : Fin 1) j).symm

end Cert.KernelIdeal.Gru

end
-- ==== Proof.KerStages.lean ====
module

public import proofs.«01_k».proof.Proof.Run
public import proofs.«01_k».proof.Proof.CellKernel
public import Idealize.ShloMosaic.Lib.StableHlo.RunRead

/-!
What the kernel's host operations compute, at an index and at the extended reals: rows of biases, and transposed weights.
-/

@[expose] public section

noncomputable section

namespace Cert.KernelIdeal.Gru

open Cert.KernelIdeal Cert.KernelIdeal.Gen Cert.Value
open Idealize.ShloMosaic Idealize.ShloMosaic.TcCoe Idealize.ShloMosaic.Tactic

variable (V : Valuation τ sig (Elt Ideal))

theorem stage0_v0 : rowOf (n := 6144) (StableHlo.after (hostOps0 (F := Ideal)) V main_v0) = fun i => matOf (m := 6144) (n := 1) (V main_arg1) i 0 := by
  funext i
  show (StableHlo.after (hostOps0 (F := Ideal)) V main_v0) (ix2 0 i) = _
  after_reads_simp
  pointwise

theorem stage0_v1 : rowOf (n := 6144) (StableHlo.after (hostOps0 (F := Ideal)) V main_v1) = fun i => (V main_arg3 : (⟨1, ![6144]⟩ : Shape).Idx → EReal) (ix1 i) := by
  funext i
  show (StableHlo.after (hostOps0 (F := Ideal)) V main_v1) (ix2 0 i) = _
  after_reads_simp
  pointwise

theorem stage0_v2 : rowOf (n := 6144) (StableHlo.after (hostOps0 (F := Ideal)) V main_v2) = fun i => (V main_arg4 : (⟨1, ![6144]⟩ : Shape).Idx → EReal) (ix1 i) := by
  funext i
  show (StableHlo.after (hostOps0 (F := Ideal)) V main_v2) (ix2 0 i) = _
  after_reads_simp
  pointwise

theorem stage0_v4 : matOf (m := 2048) (n := 6144) (StableHlo.after (hostOps0 (F := Ideal)) V main_v4) = fun k i => matOf (m := 6144) (n := 2048) (V main_arg2) i k := by
  funext k i
  show (StableHlo.after (hostOps0 (F := Ideal)) V main_v4) (ix2 k i) = _
  after_reads_simp
  pointwise

theorem stage1_v6 : rowOf (n := 3072) (StableHlo.after (hostOps1 (F := Ideal)) V main_v6) = fun i => (V main_arg7 : (⟨1, ![3072]⟩ : Shape).Idx → EReal) (ix1 i) := by
  funext i
  show (StableHlo.after (hostOps1 (F := Ideal)) V main_v6) (ix2 0 i) = _
  after_reads_simp
  pointwise

theorem stage1_v7 : rowOf (n := 3072) (StableHlo.after (hostOps1 (F := Ideal)) V main_v7) = fun i => (V main_arg8 : (⟨1, ![3072]⟩ : Shape).Idx → EReal) (ix1 i) := by
  funext i
  show (StableHlo.after (hostOps1 (F := Ideal)) V main_v7) (ix2 0 i) = _
  after_reads_simp
  pointwise

theorem stage1_v9 : matOf (m := 2048) (n := 3072) (StableHlo.after (hostOps1 (F := Ideal)) V main_v9) = fun k i => matOf (m := 3072) (n := 2048) (V main_arg5) i k := by
  funext k i
  show (StableHlo.after (hostOps1 (F := Ideal)) V main_v9) (ix2 k i) = _
  after_reads_simp
  pointwise

theorem stage1_v11 : matOf (m := 1024) (n := 3072) (StableHlo.after (hostOps1 (F := Ideal)) V main_v11) = fun k i => matOf (m := 3072) (n := 1024) (V main_arg6) i k := by
  funext k i
  show (StableHlo.after (hostOps1 (F := Ideal)) V main_v11) (ix2 k i) = _
  after_reads_simp
  pointwise

theorem stage2_v13 : rowOf (n := 3072) (StableHlo.after (hostOps2 (F := Ideal)) V main_v13) = fun i => (V main_arg11 : (⟨1, ![3072]⟩ : Shape).Idx → EReal) (ix1 i) := by
  funext i
  show (StableHlo.after (hostOps2 (F := Ideal)) V main_v13) (ix2 0 i) = _
  after_reads_simp
  pointwise

theorem stage2_v14 : rowOf (n := 3072) (StableHlo.after (hostOps2 (F := Ideal)) V main_v14) = fun i => (V main_arg12 : (⟨1, ![3072]⟩ : Shape).Idx → EReal) (ix1 i) := by
  funext i
  show (StableHlo.after (hostOps2 (F := Ideal)) V main_v14) (ix2 0 i) = _
  after_reads_simp
  pointwise

theorem stage2_v16 : matOf (m := 1024) (n := 3072) (StableHlo.after (hostOps2 (F := Ideal)) V main_v16) = fun k i => matOf (m := 3072) (n := 1024) (V main_arg9) i k := by
  funext k i
  show (StableHlo.after (hostOps2 (F := Ideal)) V main_v16) (ix2 k i) = _
  after_reads_simp
  pointwise

theorem stage2_v18 : matOf (m := 1024) (n := 3072) (StableHlo.after (hostOps2 (F := Ideal)) V main_v18) = fun k i => matOf (m := 3072) (n := 1024) (V main_arg10) i k := by
  funext k i
  show (StableHlo.after (hostOps2 (F := Ideal)) V main_v18) (ix2 k i) = _
  after_reads_simp
  pointwise

theorem stage3_v20 : rowOf (n := 6144) (StableHlo.after (hostOps3 (F := Ideal)) V main_v20) = fun i => (V main_arg15 : (⟨1, ![6144]⟩ : Shape).Idx → EReal) (ix1 i) := by
  funext i
  show (StableHlo.after (hostOps3 (F := Ideal)) V main_v20) (ix2 0 i) = _
  after_reads_simp
  pointwise

theorem stage3_v21 : rowOf (n := 6144) (StableHlo.after (hostOps3 (F := Ideal)) V main_v21) = fun i => (V main_arg16 : (⟨1, ![6144]⟩ : Shape).Idx → EReal) (ix1 i) := by
  funext i
  show (StableHlo.after (hostOps3 (F := Ideal)) V main_v21) (ix2 0 i) = _
  after_reads_simp
  pointwise

theorem stage3_v23 : matOf (m := 2048) (n := 1) (StableHlo.after (hostOps3 (F := Ideal)) V main_v23) = fun k i => matOf (m := 1) (n := 2048) (V main_arg17) i k := by
  funext k i
  show (StableHlo.after (hostOps3 (F := Ideal)) V main_v23) (ix2 k i) = _
  obtain rfl : i = 0 := Subsingleton.elim _ _
  after_reads_simp
  pointwise

theorem stage3_v24 : rowOf (n := 1) (StableHlo.after (hostOps3 (F := Ideal)) V main_v24) = fun i => (V main_arg18 : (⟨1, ![1]⟩ : Shape).Idx → EReal) (ix1 i) := by
  funext i
  show (StableHlo.after (hostOps3 (F := Ideal)) V main_v24) (ix2 0 i) = _
  obtain rfl : i = 0 := Subsingleton.elim _ _
  after_reads_simp
  pointwise

theorem stage3_v26 : matOf (m := 1024) (n := 6144) (StableHlo.after (hostOps3 (F := Ideal)) V main_v26) = fun k i => matOf (m := 6144) (n := 1024) (V main_arg13) i k := by
  funext k i
  show (StableHlo.after (hostOps3 (F := Ideal)) V main_v26) (ix2 k i) = _
  after_reads_simp
  pointwise

theorem stage3_v28 : matOf (m := 2048) (n := 6144) (StableHlo.after (hostOps3 (F := Ideal)) V main_v28) = fun k i => matOf (m := 6144) (n := 2048) (V main_arg14) i k := by
  funext k i
  show (StableHlo.after (hostOps3 (F := Ideal)) V main_v28) (ix2 k i) = _
  after_reads_simp
  pointwise

end Cert.KernelIdeal.Gru

end
-- ==== Proof.ValKernel.lean ====
module

public import proofs.«01_k».proof.Proof.KerStates
public import proofs.«01_k».proof.Proof.KerStages
public import proofs.«01_k».proof.Proof.Keeps

/-!
The kernel's result at the extended reals, from its arguments.
-/

@[expose] public section

noncomputable section

namespace Cert.KernelIdeal.Gru

open Cert.KernelIdeal Cert.KernelIdeal.Gen Cert.Value
open Idealize.ShloMosaic.Pipeline (afterRegion_arr arrRef ucRefs)
open Idealize.ShloMosaic Idealize.ShloMosaic.TcCoe Idealize.ShloMosaic.Tactic

variable (m : (ℓ : Loc nD τ sig) → Buf (Elt Ideal) ℓ) (c : Dev nD)

/-- The first layer's states, of the arguments. -/
abbrev Y1 (t : Fin 4096) : Fin 2048 → EReal := runA (fun k i => matOf (m := 6144) (n := 2048) (m ((c : Thread nD τ).loc main_arg2)) i k) (fun i => (m ((c : Thread nD τ).loc main_arg4) : (⟨1, ![6144]⟩ : Shape).Idx → EReal) (ix1 i))
  (inp (fun t => matOf (m := 4096) (n := 1) (m ((c : Thread nD τ).loc main_arg0)) t 0) (fun i => matOf (m := 6144) (n := 1) (m ((c : Thread nD τ).loc main_arg1)) i 0) (fun i => (m ((c : Thread nD τ).loc main_arg3) : (⟨1, ![6144]⟩ : Shape).Idx → EReal) (ix1 i))) (t.val + 1)
/-- The second layer's last state. -/
abbrev E2 : Fin 1024 → EReal := runB (fun k i => matOf (m := 3072) (n := 1024) (m ((c : Thread nD τ).loc main_arg6)) i k) (fun i => (m ((c : Thread nD τ).loc main_arg8) : (⟨1, ![3072]⟩ : Shape).Idx → EReal) (ix1 i)) (lin (Y1 m c) (fun k i => matOf (m := 3072) (n := 2048) (m ((c : Thread nD τ).loc main_arg5)) i k) (fun i => (m ((c : Thread nD τ).loc main_arg7) : (⟨1, ![3072]⟩ : Shape).Idx → EReal) (ix1 i))) 4096
/-- The third layer's states. -/
abbrev Y2 (t : Fin 4096) : Fin 1024 → EReal := runB (fun k i => matOf (m := 3072) (n := 1024) (m ((c : Thread nD τ).loc main_arg10)) i k) (fun i => (m ((c : Thread nD τ).loc main_arg12) : (⟨1, ![3072]⟩ : Shape).Idx → EReal) (ix1 i)) (lin (fun _ : Fin 4096 => E2 m c) (fun k i => matOf (m := 3072) (n := 1024) (m ((c : Thread nD τ).loc main_arg9)) i k) (fun i => (m ((c : Thread nD τ).loc main_arg11) : (⟨1, ![3072]⟩ : Shape).Idx → EReal) (ix1 i))) (t.val + 1)
/-- The fourth layer's states. -/
abbrev Y3 (t : Fin 4096) : Fin 2048 → EReal := runA (fun k i => matOf (m := 6144) (n := 2048) (m ((c : Thread nD τ).loc main_arg14)) i k) (fun i => (m ((c : Thread nD τ).loc main_arg16) : (⟨1, ![6144]⟩ : Shape).Idx → EReal) (ix1 i)) (lin (Y2 m c) (fun k i => matOf (m := 6144) (n := 1024) (m ((c : Thread nD τ).loc main_arg13)) i k) (fun i => (m ((c : Thread nD τ).loc main_arg15) : (⟨1, ![6144]⟩ : Shape).Idx → EReal) (ix1 i))) (t.val + 1)

theorem found0 : U0 m c main_arg0 = m ((c : Thread nD τ).loc main_arg0) := rfl
theorem found1 : U0 m c main_arg1 = m ((c : Thread nD τ).loc main_arg1) := rfl
theorem found2 : U0 m c main_arg2 = m ((c : Thread nD τ).loc main_arg2) := rfl
theorem found3 : U0 m c main_arg3 = m ((c : Thread nD τ).loc main_arg3) := rfl
theorem found4 : U0 m c main_arg4 = m ((c : Thread nD τ).loc main_arg4) := rfl
theorem found5 : U2 m c main_arg5 = m ((c : Thread nD τ).loc main_arg5) := (U2_of m c main_arg5 (by decide)).trans ((U1_of m c main_arg5 (by decide)).trans (rfl))
theorem found6 : U2 m c main_arg6 = m ((c : Thread nD τ).loc main_arg6) := (U2_of m c main_arg6 (by decide)).trans ((U1_of m c main_arg6 (by decide)).trans (rfl))
theorem found7 : U2 m c main_arg7 = m ((c : Thread nD τ).loc main_arg7) := (U2_of m c main_arg7 (by decide)).trans ((U1_of m c main_arg7 (by decide)).trans (rfl))
theorem found8 : U2 m c main_arg8 = m ((c : Thread nD τ).loc main_arg8) := (U2_of m c main_arg8 (by decide)).trans ((U1_of m c main_arg8 (by decide)).trans (rfl))
theorem found9 : U4 m c main_arg9 = m ((c : Thread nD τ).loc main_arg9) := (U4_of m c main_arg9 (by decide)).trans ((U3_of m c main_arg9 (by decide)).trans ((U2_of m c main_arg9 (by decide)).trans ((U1_of m c main_arg9 (by decide)).trans (rfl))))
theorem found10 : U4 m c main_arg10 = m ((c : Thread nD τ).loc main_arg10) := (U4_of m c main_arg10 (by decide)).trans ((U3_of m c main_arg10 (by decide)).trans ((U2_of m c main_arg10 (by decide)).trans ((U1_of m c main_arg10 (by decide)).trans (rfl))))
theorem found11 : U4 m c main_arg11 = m ((c : Thread nD τ).loc main_arg11) := (U4_of m c main_arg11 (by decide)).trans ((U3_of m c main_arg11 (by decide)).trans ((U2_of m c main_arg11 (by decide)).trans ((U1_of m c main_arg11 (by decide)).trans (rfl))))
theorem found12 : U4 m c main_arg12 = m ((c : Thread nD τ).loc main_arg12) := (U4_of m c main_arg12 (by decide)).trans ((U3_of m c main_arg12 (by decide)).trans ((U2_of m c main_arg12 (by decide)).trans ((U1_of m c main_arg12 (by decide)).trans (rfl))))
theorem found13 : U6 m c main_arg13 = m ((c : Thread nD τ).loc main_arg13) := (U6_of m c main_arg13 (by decide)).trans ((U5_of m c main_arg13 (by decide)).trans ((U4_of m c main_arg13 (by decide)).trans ((U3_of m c main_arg13 (by decide)).trans ((U2_of m c main_arg13 (by decide)).trans ((U1_of m c main_arg13 (by decide)).trans (rfl))))))
theorem found14 : U6 m c main_arg14 = m ((c : Thread nD τ).loc main_arg14) := (U6_of m c main_arg14 (by decide)).trans ((U5_of m c main_arg14 (by decide)).trans ((U4_of m c main_arg14 (by decide)).trans ((U3_of m c main_arg14 (by decide)).trans ((U2_of m c main_arg14 (by decide)).trans ((U1_of m c main_arg14 (by decide)).trans (rfl))))))
theorem found15 : U6 m c main_arg15 = m ((c : Thread nD τ).loc main_arg15) := (U6_of m c main_arg15 (by decide)).trans ((U5_of m c main_arg15 (by decide)).trans ((U4_of m c main_arg15 (by decide)).trans ((U3_of m c main_arg15 (by decide)).trans ((U2_of m c main_arg15 (by decide)).trans ((U1_of m c main_arg15 (by decide)).trans (rfl))))))
theorem found16 : U6 m c main_arg16 = m ((c : Thread nD τ).loc main_arg16) := (U6_of m c main_arg16 (by decide)).trans ((U5_of m c main_arg16 (by decide)).trans ((U4_of m c main_arg16 (by decide)).trans ((U3_of m c main_arg16 (by decide)).trans ((U2_of m c main_arg16 (by decide)).trans ((U1_of m c main_arg16 (by decide)).trans (rfl))))))
theorem found17 : U6 m c main_arg17 = m ((c : Thread nD τ).loc main_arg17) := (U6_of m c main_arg17 (by decide)).trans ((U5_of m c main_arg17 (by decide)).trans ((U4_of m c main_arg17 (by decide)).trans ((U3_of m c main_arg17 (by decide)).trans ((U2_of m c main_arg17 (by decide)).trans ((U1_of m c main_arg17 (by decide)).trans (rfl))))))
theorem found18 : U6 m c main_arg18 = m ((c : Thread nD τ).loc main_arg18) := (U6_of m c main_arg18 (by decide)).trans ((U5_of m c main_arg18 (by decide)).trans ((U4_of m c main_arg18 (by decide)).trans ((U3_of m c main_arg18 (by decide)).trans ((U2_of m c main_arg18 (by decide)).trans ((U1_of m c main_arg18 (by decide)).trans (rfl))))))
theorem found0' : U1 m c main_arg0 = m ((c : Thread nD τ).loc main_arg0) := (U1_of m c main_arg0 (by decide)).trans (found0 m c)

/-- The first call's states. -/
theorem runE1_eq : runE1 (U1 m) c = runA (fun k i => matOf (m := 6144) (n := 2048) (m ((c : Thread nD τ).loc main_arg2)) i k) (fun i => (m ((c : Thread nD τ).loc main_arg4) : (⟨1, ![6144]⟩ : Shape).Idx → EReal) (ix1 i)) (inp (fun t => matOf (m := 4096) (n := 1) (m ((c : Thread nD τ).loc main_arg0)) t 0) (fun i => matOf (m := 6144) (n := 1) (m ((c : Thread nD τ).loc main_arg1)) i 0) (fun i => (m ((c : Thread nD τ).loc main_arg3) : (⟨1, ![6144]⟩ : Shape).Idx → EReal) (ix1 i))) :=
  run_congr ((stage0_v4 (U0 m c)).trans (congrArg (fun x : (⟨2, ![6144, 2048]⟩ : Shape).Idx → EReal => fun k i => x (ix2 i k)) (found2 m c))) ((stage0_v2 (U0 m c)).trans (congrArg (fun x : (⟨1, ![6144]⟩ : Shape).Idx → EReal => fun i => x (ix1 i)) (found4 m c)))
    (inp_congr (congrArg (fun x : (⟨2, ![4096, 1]⟩ : Shape).Idx → EReal => fun t => x (ix2 t 0)) (found0' m c)) ((stage0_v0 (U0 m c)).trans (congrArg (fun x : (⟨2, ![6144, 1]⟩ : Shape).Idx → EReal => fun i => x (ix2 i 0)) (found1 m c)))
      ((stage0_v1 (U0 m c)).trans (congrArg (fun x : (⟨1, ![6144]⟩ : Shape).Idx → EReal => fun i => x (ix1 i)) (found3 m c))))

theorem left_v5 : U3 m c main_v5 = arrE1 (U1 m) c :=
  (U3_of m c main_v5 (by decide)).trans ((afterRegion_arr (datE1 (U1 m) c) (U1 m c) launch0.win.arr_inj 4).trans (arrAt_E1 (U1 m) c))

/-- What the first call leaves. -/
theorem rows_y1 : matOf (m := 4096) (n := 2048) (U3 m c main_v5) = Y1 m c :=
  (congrArg (matOf (m := 4096) (n := 2048)) (left_v5 m c)).trans (funext fun t => funext fun j =>
    (arrE1_at (U1 m) c t j).trans (congrFun (congrFun (runE1_eq m c) (t.val + 1)) j))

/-- The second call's states. -/
theorem runE2_eq : runE2 (U3 m) c = runB (fun k i => matOf (m := 3072) (n := 1024) (m ((c : Thread nD τ).loc main_arg6)) i k) (fun i => (m ((c : Thread nD τ).loc main_arg8) : (⟨1, ![3072]⟩ : Shape).Idx → EReal) (ix1 i)) (lin (Y1 m c) (fun k i => matOf (m := 3072) (n := 2048) (m ((c : Thread nD τ).loc main_arg5)) i k) (fun i => (m ((c : Thread nD τ).loc main_arg7) : (⟨1, ![3072]⟩ : Shape).Idx → EReal) (ix1 i))) :=
  run_congr ((stage1_v11 (U2 m c)).trans (congrArg (fun x : (⟨2, ![3072, 1024]⟩ : Shape).Idx → EReal => fun k i => x (ix2 i k)) (found6 m c))) ((stage1_v7 (U2 m c)).trans (congrArg (fun x : (⟨1, ![3072]⟩ : Shape).Idx → EReal => fun i => x (ix1 i)) (found8 m c)))
    (lin_congr (rows_y1 m c) ((stage1_v9 (U2 m c)).trans (congrArg (fun x : (⟨2, ![3072, 2048]⟩ : Shape).Idx → EReal => fun k i => x (ix2 i k)) (found5 m c))) ((stage1_v6 (U2 m c)).trans (congrArg (fun x : (⟨1, ![3072]⟩ : Shape).Idx → EReal => fun i => x (ix1 i)) (found7 m c))))

theorem left_v12 : U5 m c main_v12 = stE2 (U3 m) c 8 :=
  (U5_of m c main_v12 (by decide)).trans ((afterRegion_arr (datE2 (U3 m) c) (U3 m c) launch1.win.arr_inj 3).trans (arrAt_E2 (U3 m) c))

/-- What the second call leaves. -/
theorem last_e2 : rowOf (n := 1024) (U5 m c main_v12) = E2 m c :=
  (congrArg (rowOf (n := 1024)) (left_v12 m c)).trans ((stE2_at (U3 m) c 8 le_rfl).trans
    ((congrFun (runE2_eq m c) (8 * 512)).trans (congrArg _ (by norm_num : 8 * 512 = 4096))))

/-- The third call's states. -/
theorem runD1_eq : runD1 (U5 m) c = runB (fun k i => matOf (m := 3072) (n := 1024) (m ((c : Thread nD τ).loc main_arg10)) i k) (fun i => (m ((c : Thread nD τ).loc main_arg12) : (⟨1, ![3072]⟩ : Shape).Idx → EReal) (ix1 i)) (lin (fun _ : Fin 4096 => E2 m c) (fun k i => matOf (m := 3072) (n := 1024) (m ((c : Thread nD τ).loc main_arg9)) i k) (fun i => (m ((c : Thread nD τ).loc main_arg11) : (⟨1, ![3072]⟩ : Shape).Idx → EReal) (ix1 i))) :=
  run_congr ((stage2_v18 (U4 m c)).trans (congrArg (fun x : (⟨2, ![3072, 1024]⟩ : Shape).Idx → EReal => fun k i => x (ix2 i k)) (found10 m c))) ((stage2_v14 (U4 m c)).trans (congrArg (fun x : (⟨1, ![3072]⟩ : Shape).Idx → EReal => fun i => x (ix1 i)) (found12 m c)))
    (lin_congr (congrArg (fun e (_ : Fin 4096) => e) (last_e2 m c)) ((stage2_v16 (U4 m c)).trans (congrArg (fun x : (⟨2, ![3072, 1024]⟩ : Shape).Idx → EReal => fun k i => x (ix2 i k)) (found9 m c))) ((stage2_v13 (U4 m c)).trans (congrArg (fun x : (⟨1, ![3072]⟩ : Shape).Idx → EReal => fun i => x (ix1 i)) (found11 m c))))

theorem left_v19 : U7 m c main_v19 = arrD1 (U5 m) c :=
  (U7_of m c main_v19 (by decide)).trans ((afterRegion_arr (datD1 (U5 m) c) (U5 m c) launch2.win.arr_inj 3).trans (arrAt_D1 (U5 m) c))

/-- What the third call leaves. -/
theorem rows_y2 : matOf (m := 4096) (n := 1024) (U7 m c main_v19) = Y2 m c :=
  (congrArg (matOf (m := 4096) (n := 1024)) (left_v19 m c)).trans (funext fun t => funext fun j =>
    (arrD1_at (U5 m) c t j).trans (congrFun (congrFun (runD1_eq m c) (t.val + 1)) j))

/-- The fourth call's states. -/
theorem runD2_eq : runD2 (U7 m) c = runA (fun k i => matOf (m := 6144) (n := 2048) (m ((c : Thread nD τ).loc main_arg14)) i k) (fun i => (m ((c : Thread nD τ).loc main_arg16) : (⟨1, ![6144]⟩ : Shape).Idx → EReal) (ix1 i)) (lin (Y2 m c) (fun k i => matOf (m := 6144) (n := 1024) (m ((c : Thread nD τ).loc main_arg13)) i k) (fun i => (m ((c : Thread nD τ).loc main_arg15) : (⟨1, ![6144]⟩ : Shape).Idx → EReal) (ix1 i))) :=
  run_congr ((stage3_v28 (U6 m c)).trans (congrArg (fun x : (⟨2, ![6144, 2048]⟩ : Shape).Idx → EReal => fun k i => x (ix2 i k)) (found14 m c))) ((stage3_v21 (U6 m c)).trans (congrArg (fun x : (⟨1, ![6144]⟩ : Shape).Idx → EReal => fun i => x (ix1 i)) (found16 m c)))
    (lin_congr (rows_y2 m c) ((stage3_v26 (U6 m c)).trans (congrArg (fun x : (⟨2, ![6144, 1024]⟩ : Shape).Idx → EReal => fun k i => x (ix2 i k)) (found13 m c))) ((stage3_v20 (U6 m c)).trans (congrArg (fun x : (⟨1, ![6144]⟩ : Shape).Idx → EReal => fun i => x (ix1 i)) (found15 m c))))

theorem left_v29 : U8 m c main_v29 = arrD2 (U7 m) c :=
  (afterRegion_arr (datD2 (U7 m) c) (U7 m c) launch3.win.arr_inj 5).trans (arrAt_D2 (U7 m) c)

/-- The kernel's result is the autoencoder of the arguments. -/
theorem result_eq (t : Fin 4096) (i : Fin 1) : matOf (m := 4096) (n := 1) (U8 m c main_v29) t i
    = auto (fun t => matOf (m := 4096) (n := 1) (m ((c : Thread nD τ).loc main_arg0)) t 0)
      (fun i => matOf (m := 6144) (n := 1) (m ((c : Thread nD τ).loc main_arg1)) i 0) (fun k i => matOf (m := 6144) (n := 2048) (m ((c : Thread nD τ).loc main_arg2)) i k) (fun i => (m ((c : Thread nD τ).loc main_arg3) : (⟨1, ![6144]⟩ : Shape).Idx → EReal) (ix1 i)) (fun i => (m ((c : Thread nD τ).loc main_arg4) : (⟨1, ![6144]⟩ : Shape).Idx → EReal) (ix1 i))
      (fun k i => matOf (m := 3072) (n := 2048) (m ((c : Thread nD τ).loc main_arg5)) i k) (fun k i => matOf (m := 3072) (n := 1024) (m ((c : Thread nD τ).loc main_arg6)) i k) (fun i => (m ((c : Thread nD τ).loc main_arg7) : (⟨1, ![3072]⟩ : Shape).Idx → EReal) (ix1 i)) (fun i => (m ((c : Thread nD τ).loc main_arg8) : (⟨1, ![3072]⟩ : Shape).Idx → EReal) (ix1 i))
      (fun k i => matOf (m := 3072) (n := 1024) (m ((c : Thread nD τ).loc main_arg9)) i k) (fun k i => matOf (m := 3072) (n := 1024) (m ((c : Thread nD τ).loc main_arg10)) i k) (fun i => (m ((c : Thread nD τ).loc main_arg11) : (⟨1, ![3072]⟩ : Shape).Idx → EReal) (ix1 i)) (fun i => (m ((c : Thread nD τ).loc main_arg12) : (⟨1, ![3072]⟩ : Shape).Idx → EReal) (ix1 i))
      (fun k i => matOf (m := 6144) (n := 1024) (m ((c : Thread nD τ).loc main_arg13)) i k) (fun k i => matOf (m := 6144) (n := 2048) (m ((c : Thread nD τ).loc main_arg14)) i k) (fun i => (m ((c : Thread nD τ).loc main_arg15) : (⟨1, ![6144]⟩ : Shape).Idx → EReal) (ix1 i)) (fun i => (m ((c : Thread nD τ).loc main_arg16) : (⟨1, ![6144]⟩ : Shape).Idx → EReal) (ix1 i))
      (fun k i => matOf (m := 1) (n := 2048) (m ((c : Thread nD τ).loc main_arg17)) i k) (fun i => (m ((c : Thread nD τ).loc main_arg18) : (⟨1, ![1]⟩ : Shape).Idx → EReal) (ix1 i)) t i :=
  (congrFun (congrFun (congrArg (matOf (m := 4096) (n := 1)) (left_v29 m c)) t) i).trans ((arrD2_at (U7 m) c t i).trans (congrFun (congrFun
    (lin_congr (funext fun t : Fin 4096 => congrFun (runD2_eq m c) (t.val + 1)) ((stage3_v23 (U6 m c)).trans (congrArg (fun x : (⟨2, ![1, 2048]⟩ : Shape).Idx → EReal => fun k i => x (ix2 i k)) (found17 m c)))
      ((stage3_v24 (U6 m c)).trans (congrArg (fun x : (⟨1, ![1]⟩ : Shape).Idx → EReal => fun i => x (ix1 i)) (found18 m c)))) t) i))

end Cert.KernelIdeal.Gru

end
-- ==== Proof.CellRef.lean ====
module

public import proofs.«01_k».proof.Proof.RefCell
public import proofs.«01_k».proof.Proof.RefCond
public import proofs.«01_k».proof.Proof.Spec
public import Idealize.ShloMosaic.Lib.Pointwise

/-!
What one trip of the reference's loops computes, at an index and at the extended reals.
-/

@[expose] public section

noncomputable section

namespace Cert.ReferenceIdeal.Gru

open Cert.ReferenceIdeal Cert.ReferenceIdeal.Gen Cert.Value
open Idealize.ShloMosaic

/-- A one-axis array as a function of its coordinate. -/
abbrev vecOf {n : ℕ} (x : (⟨1, ![n]⟩ : Shape).Idx → EReal) (i : Fin n) : EReal := x (ix1 i)

/-- A two-axis array as a function of its two coordinates. -/
abbrev matOf {m n : ℕ} (x : (⟨2, ![m, n]⟩ : Shape).Idx → EReal) (k : Fin m) (i : Fin n) : EReal := x (ix2 k i)

/-- A two-axis array as a function of its two coordinates, the second first. -/
abbrev turned {m n : ℕ} (x : (⟨2, ![m, n]⟩ : Shape).Idx → EReal) (k : Fin n) (i : Fin m) : EReal := x (ix2 i k)

theorem gateA_at (x : S6144.Idx → EReal) (w : S6144x2048.Idx → EReal) (b : S6144.Idx → EReal) (h : S2048.Idx → EReal) (j : Fin 2048) :
    gateA (F := Ideal) x (projA (F := Ideal) w b h) h (ix1 j) = step pA qA rA (turned w) (vecOf b) (vecOf x) (vecOf h) j := by
  unfold gateA projA sigA
  pointwise
  rfl

theorem gateB_at (x : S3072.Idx → EReal) (w : S3072x1024.Idx → EReal) (b : S3072.Idx → EReal) (h : S1024.Idx → EReal) (j : Fin 1024) :
    gateB (F := Ideal) x (projB (F := Ideal) w b h) h (ix1 j) = step pB qB rB (turned w) (vecOf b) (vecOf x) (vecOf h) j := by
  unfold gateB projB sigB
  pointwise
  rfl

/-- The counter after `k` trips, as an integer. -/
theorem count_toInt (k : ℕ) (hk : k < 4096) : (count k).toInt = k := by
  have h := Scf.toInt_iv (lb := 0#32) (ub := 4096#32) (st := 1#32) Gen.main_while0_ok (k := k) (le_of_lt (lt_of_lt_of_eq hk (by decide +kernel)))
  refine h.trans ?_
  norm_num

/-- Reading a row starts at that row, and at the first column. -/
theorem startA_row (k : Fin 4096) (h : S1x6144.rank = S4096x6144.rank) (a : Fin 2) :
    Host.clampedStart S4096x6144 S1x6144 h
      (fun j => BitVec.toInt ((![fun _ => count k.val, constantI S_ 32 0#32] : Fin 2 → (⟨S_, .i32⟩ : BufTy).Contents (Elt Ideal)) j (Shape.Idx.first h_S_))) a
      = (![k.val, 0] : Fin 2 → ℕ) a := by
  have hk := count_toInt k.val k.isLt
  have hlt := k.isLt
  fin_cases a
  · simp [Host.clampedStart, hk]; omega
  · simp [Host.clampedStart, constantI]

/-- Writing a row starts at that row, and at the first column. -/
theorem startA_put (k : Fin 4096) (h : S1x2048.rank = S4096x2048.rank) (a : Fin 2) :
    Host.clampedStart S4096x2048 S1x2048 h
      (fun j => BitVec.toInt ((![fun _ => count k.val, constantI S_ 32 0#32] : Fin 2 → (⟨S_, .i32⟩ : BufTy).Contents (Elt Ideal)) j (Shape.Idx.first h_S_))) a
      = (![k.val, 0] : Fin 2 → ℕ) a := by
  have hk := count_toInt k.val k.isLt
  have hlt := k.isLt
  fin_cases a
  · simp [Host.clampedStart, hk]; omega
  · simp [Host.clampedStart, constantI]

set_option backward.isDefEq.respectTransparency.types false in
theorem rowA_at (x : S4096x6144.Idx → EReal) (k : Fin 4096) (i : Fin 6144) :
    rowA (F := Ideal) x (fun _ => count k.val) (ix1 i) = x (ix2 k i) := by
  unfold rowA
  pointwise
  exact congrArg x (congrArg₂ ix2 (Fin.ext (startA_row k rfl 0)) (Fin.ext ((congrArg (· + i.val) (startA_row k rfl 1)).trans (Nat.zero_add _))))

set_option backward.isDefEq.respectTransparency.types false in
theorem putA_at (x : S4096x2048.Idx → EReal) (h : S2048.Idx → EReal) (k t : Fin 4096) (j : Fin 2048) :
    putA (F := Ideal) x h (fun _ => count k.val) (ix2 t j) = if t = k then h (ix1 j) else x (ix2 t j) := by
  unfold putA
  pointwise
  simp only [startA_put]
  by_cases e : t = k
  · subst e; simp
  · have e' : t.val ≠ k.val := fun h => e (Fin.ext h)
    rw [if_neg e, dif_neg]
    rintro ⟨⟨h1, h2⟩, -⟩
    simp at h1 h2
    omega

/-- Reading a row starts at that row, and at the first column. -/
theorem startB_row (k : Fin 4096) (h : S1x3072.rank = S4096x3072.rank) (a : Fin 2) :
    Host.clampedStart S4096x3072 S1x3072 h
      (fun j => BitVec.toInt ((![fun _ => count k.val, constantI S_ 32 0#32] : Fin 2 → (⟨S_, .i32⟩ : BufTy).Contents (Elt Ideal)) j (Shape.Idx.first h_S_))) a
      = (![k.val, 0] : Fin 2 → ℕ) a := by
  have hk := count_toInt k.val k.isLt
  have hlt := k.isLt
  fin_cases a
  · simp [Host.clampedStart, hk]; omega
  · simp [Host.clampedStart, constantI]

/-- Writing a row starts at that row, and at the first column. -/
theorem startB_put (k : Fin 4096) (h : S1x1024.rank = S4096x1024.rank) (a : Fin 2) :
    Host.clampedStart S4096x1024 S1x1024 h
      (fun j => BitVec.toInt ((![fun _ => count k.val, constantI S_ 32 0#32] : Fin 2 → (⟨S_, .i32⟩ : BufTy).Contents (Elt Ideal)) j (Shape.Idx.first h_S_))) a
      = (![k.val, 0] : Fin 2 → ℕ) a := by
  have hk := count_toInt k.val k.isLt
  have hlt := k.isLt
  fin_cases a
  · simp [Host.clampedStart, hk]; omega
  · simp [Host.clampedStart, constantI]

set_option backward.isDefEq.respectTransparency.types false in
theorem rowB_at (x : S4096x3072.Idx → EReal) (k : Fin 4096) (i : Fin 3072) :
    rowB (F := Ideal) x (fun _ => count k.val) (ix1 i) = x (ix2 k i) := by
  unfold rowB
  pointwise
  exact congrArg x (congrArg₂ ix2 (Fin.ext (startB_row k rfl 0)) (Fin.ext ((congrArg (· + i.val) (startB_row k rfl 1)).trans (Nat.zero_add _))))

set_option backward.isDefEq.respectTransparency.types false in
theorem putB_at (x : S4096x1024.Idx → EReal) (h : S1024.Idx → EReal) (k t : Fin 4096) (j : Fin 1024) :
    putB (F := Ideal) x h (fun _ => count k.val) (ix2 t j) = if t = k then h (ix1 j) else x (ix2 t j) := by
  unfold putB
  pointwise
  simp only [startB_put]
  by_cases e : t = k
  · subst e; simp
  · have e' : t.val ≠ k.val := fun h => e (Fin.ext h)
    rw [if_neg e, dif_neg]
    rintro ⟨⟨h1, h2⟩, -⟩
    simp at h1 h2
    omega

end Cert.ReferenceIdeal.Gru

end
-- ==== Proof.RefStates.lean ====
module

public import proofs.«01_k».proof.Proof.CellRef
public import proofs.«01_k».proof.Proof.RefKeeps

/-!
The reference's loops at the extended reals: the state after any number of trips, and the rows it has written.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

open Cert.Value

section Loop0

variable (W : Dev nD → Valuation τ sig (Elt Ideal)) (c : Dev nD)

theorem keep0_0 (k : ℕ) : at0 W k c main_v7_0 = W c main_v7_0 := by
  induction k with
  | zero => rfl
  | succ k ih => rw [at0_succ, trip0_0, ih]

theorem keep0_1 (k : ℕ) : at0 W k c main_v7_1 = W c main_v7_1 := by
  induction k with
  | zero => rfl
  | succ k ih => rw [at0_succ, trip0_1, ih]

theorem keep0_2 (k : ℕ) : at0 W k c main_v7_2 = W c main_v7_2 := by
  induction k with
  | zero => rfl
  | succ k ih => rw [at0_succ, trip0_2, ih]

/-- The states of loop 0, of its projected inputs, recurrent weights and bias. -/
abbrev states0 : ℕ → Fin 2048 → EReal := runA (turned (W c main_v7_1)) (vecOf (W c main_v7_2)) (matOf (W c main_v7_0))

variable (h3 : ∀ c, W c main_v7_3 = fun _ => (0#32 : BitVec 32)) (h4 : ∀ j, vecOf (n := 2048) (W c main_v7_4) j = 0)

include h3 h4 in
/-- The state before trip `k` of loop 0. -/
theorem state0 (k : ℕ) (hk : k ≤ 4096) (j : Fin 2048) : vecOf (n := 2048) (at0 W k c main_v7_4) j = states0 W c k j := by
  induction k generalizing j with
  | zero => exact h4 j
  | succ k ih =>
    have e : vecOf (n := 2048) (at0 W k c main_v7_4) = states0 W c k := funext fun j => ih (by omega) j
    have hrow : vecOf (n := 6144) (rowA (F := Ideal) (W c main_v7_0) (fun _ => count k)) = matOf (m := 4096) (n := 6144) (W c main_v7_0) ⟨k, hk⟩ :=
      funext fun i => rowA_at (W c main_v7_0) ⟨k, hk⟩ i
    show (at0 W (k + 1) c main_v7_4) (ix1 j) = _
    rw [at0_succ, trip0_4, ctr0 W h3 c k, keep0_0, keep0_1, keep0_2]
    refine (gateA_at _ _ _ _ j).trans ?_
    rw [e]
    refine (congrArg (fun x => step pA qA rA (turned (W c main_v7_1)) (vecOf (W c main_v7_2)) x (states0 W c k) j) hrow).trans ?_
    exact (congrFun (run_succ _ _ _ _ _ _ (⟨k, hk⟩ : Fin 4096)) j).symm

include h3 h4 in
/-- The rows written before trip `k` of loop 0. -/
theorem rows0 (k : ℕ) (hk : k ≤ 4096) (t : Fin 4096) (ht : t.val < k) (j : Fin 2048) :
    matOf (m := 4096) (n := 2048) (at0 W k c main_v7_5) t j = states0 W c (t.val + 1) j := by
  induction k generalizing j with
  | zero => exact absurd ht (Nat.not_lt_zero _)
  | succ k ih =>
    have hs := state0 W c h3 h4 (k + 1) hk j
    have hs' : (at0 W (k + 1) c main_v7_4) (ix1 j) = states0 W c (k + 1) j := hs
    rw [at0_succ, trip0_4, ctr0 W h3 c k] at hs'
    show (at0 W (k + 1) c main_v7_5) (ix2 t j) = _
    rw [at0_succ, trip0_5, ctr0 W h3 c k]
    refine (putA_at _ _ ⟨k, hk⟩ t j).trans ?_
    by_cases e : t = ⟨k, hk⟩
    · rw [if_pos e, hs', e]
    · rw [if_neg e]
      exact ih (by omega) (by have : t.val ≠ k := fun h => e (Fin.ext h); omega) j

end Loop0

section Loop1

variable (W : Dev nD → Valuation τ sig (Elt Ideal)) (c : Dev nD)

theorem keep1_0 (k : ℕ) : at1 W k c main_v15_0 = W c main_v15_0 := by
  induction k with
  | zero => rfl
  | succ k ih => rw [at1_succ, trip1_0, ih]

theorem keep1_1 (k : ℕ) : at1 W k c main_v15_1 = W c main_v15_1 := by
  induction k with
  | zero => rfl
  | succ k ih => rw [at1_succ, trip1_1, ih]

theorem keep1_2 (k : ℕ) : at1 W k c main_v15_2 = W c main_v15_2 := by
  induction k with
  | zero => rfl
  | succ k ih => rw [at1_succ, trip1_2, ih]

/-- The states of loop 1, of its projected inputs, recurrent weights and bias. -/
abbrev states1 : ℕ → Fin 1024 → EReal := runB (turned (W c main_v15_1)) (vecOf (W c main_v15_2)) (matOf (W c main_v15_0))

variable (h3 : ∀ c, W c main_v15_3 = fun _ => (0#32 : BitVec 32)) (h4 : ∀ j, vecOf (n := 1024) (W c main_v15_4) j = 0)

include h3 h4 in
/-- The state before trip `k` of loop 1. -/
theorem state1 (k : ℕ) (hk : k ≤ 4096) (j : Fin 1024) : vecOf (n := 1024) (at1 W k c main_v15_4) j = states1 W c k j := by
  induction k generalizing j with
  | zero => exact h4 j
  | succ k ih =>
    have e : vecOf (n := 1024) (at1 W k c main_v15_4) = states1 W c k := funext fun j => ih (by omega) j
    have hrow : vecOf (n := 3072) (rowB (F := Ideal) (W c main_v15_0) (fun _ => count k)) = matOf (m := 4096) (n := 3072) (W c main_v15_0) ⟨k, hk⟩ :=
      funext fun i => rowB_at (W c main_v15_0) ⟨k, hk⟩ i
    show (at1 W (k + 1) c main_v15_4) (ix1 j) = _
    rw [at1_succ, trip1_4, ctr1 W h3 c k, keep1_0, keep1_1, keep1_2]
    refine (gateB_at _ _ _ _ j).trans ?_
    rw [e]
    refine (congrArg (fun x => step pB qB rB (turned (W c main_v15_1)) (vecOf (W c main_v15_2)) x (states1 W c k) j) hrow).trans ?_
    exact (congrFun (run_succ _ _ _ _ _ _ (⟨k, hk⟩ : Fin 4096)) j).symm

include h3 h4 in
/-- The rows written before trip `k` of loop 1. -/
theorem rows1 (k : ℕ) (hk : k ≤ 4096) (t : Fin 4096) (ht : t.val < k) (j : Fin 1024) :
    matOf (m := 4096) (n := 1024) (at1 W k c main_v15_5) t j = states1 W c (t.val + 1) j := by
  induction k generalizing j with
  | zero => exact absurd ht (Nat.not_lt_zero _)
  | succ k ih =>
    have hs := state1 W c h3 h4 (k + 1) hk j
    have hs' : (at1 W (k + 1) c main_v15_4) (ix1 j) = states1 W c (k + 1) j := hs
    rw [at1_succ, trip1_4, ctr1 W h3 c k] at hs'
    show (at1 W (k + 1) c main_v15_5) (ix2 t j) = _
    rw [at1_succ, trip1_5, ctr1 W h3 c k]
    refine (putB_at _ _ ⟨k, hk⟩ t j).trans ?_
    by_cases e : t = ⟨k, hk⟩
    · rw [if_pos e, hs', e]
    · rw [if_neg e]
      exact ih (by omega) (by have : t.val ≠ k := fun h => e (Fin.ext h); omega) j

end Loop1

section Loop2

variable (W : Dev nD → Valuation τ sig (Elt Ideal)) (c : Dev nD)

theorem keep2_0 (k : ℕ) : at2 W k c main_v25_0 = W c main_v25_0 := by
  induction k with
  | zero => rfl
  | succ k ih => rw [at2_succ, trip2_0, ih]

theorem keep2_1 (k : ℕ) : at2 W k c main_v25_1 = W c main_v25_1 := by
  induction k with
  | zero => rfl
  | succ k ih => rw [at2_succ, trip2_1, ih]

theorem keep2_2 (k : ℕ) : at2 W k c main_v25_2 = W c main_v25_2 := by
  induction k with
  | zero => rfl
  | succ k ih => rw [at2_succ, trip2_2, ih]

/-- The states of loop 2, of its projected inputs, recurrent weights and bias. -/
abbrev states2 : ℕ → Fin 1024 → EReal := runB (turned (W c main_v25_1)) (vecOf (W c main_v25_2)) (matOf (W c main_v25_0))

variable (h3 : ∀ c, W c main_v25_3 = fun _ => (0#32 : BitVec 32)) (h4 : ∀ j, vecOf (n := 1024) (W c main_v25_4) j = 0)

include h3 h4 in
/-- The state before trip `k` of loop 2. -/
theorem state2 (k : ℕ) (hk : k ≤ 4096) (j : Fin 1024) : vecOf (n := 1024) (at2 W k c main_v25_4) j = states2 W c k j := by
  induction k generalizing j with
  | zero => exact h4 j
  | succ k ih =>
    have e : vecOf (n := 1024) (at2 W k c main_v25_4) = states2 W c k := funext fun j => ih (by omega) j
    have hrow : vecOf (n := 3072) (rowB (F := Ideal) (W c main_v25_0) (fun _ => count k)) = matOf (m := 4096) (n := 3072) (W c main_v25_0) ⟨k, hk⟩ :=
      funext fun i => rowB_at (W c main_v25_0) ⟨k, hk⟩ i
    show (at2 W (k + 1) c main_v25_4) (ix1 j) = _
    rw [at2_succ, trip2_4, ctr2 W h3 c k, keep2_0, keep2_1, keep2_2]
    refine (gateB_at _ _ _ _ j).trans ?_
    rw [e]
    refine (congrArg (fun x => step pB qB rB (turned (W c main_v25_1)) (vecOf (W c main_v25_2)) x (states2 W c k) j) hrow).trans ?_
    exact (congrFun (run_succ _ _ _ _ _ _ (⟨k, hk⟩ : Fin 4096)) j).symm

include h3 h4 in
/-- The rows written before trip `k` of loop 2. -/
theorem rows2 (k : ℕ) (hk : k ≤ 4096) (t : Fin 4096) (ht : t.val < k) (j : Fin 1024) :
    matOf (m := 4096) (n := 1024) (at2 W k c main_v25_5) t j = states2 W c (t.val + 1) j := by
  induction k generalizing j with
  | zero => exact absurd ht (Nat.not_lt_zero _)
  | succ k ih =>
    have hs := state2 W c h3 h4 (k + 1) hk j
    have hs' : (at2 W (k + 1) c main_v25_4) (ix1 j) = states2 W c (k + 1) j := hs
    rw [at2_succ, trip2_4, ctr2 W h3 c k] at hs'
    show (at2 W (k + 1) c main_v25_5) (ix2 t j) = _
    rw [at2_succ, trip2_5, ctr2 W h3 c k]
    refine (putB_at _ _ ⟨k, hk⟩ t j).trans ?_
    by_cases e : t = ⟨k, hk⟩
    · rw [if_pos e, hs', e]
    · rw [if_neg e]
      exact ih (by omega) (by have : t.val ≠ k := fun h => e (Fin.ext h); omega) j

end Loop2

section Loop3

variable (W : Dev nD → Valuation τ sig (Elt Ideal)) (c : Dev nD)

theorem keep3_0 (k : ℕ) : at3 W k c main_v33_0 = W c main_v33_0 := by
  induction k with
  | zero => rfl
  | succ k ih => rw [at3_succ, trip3_0, ih]

theorem keep3_1 (k : ℕ) : at3 W k c main_v33_1 = W c main_v33_1 := by
  induction k with
  | zero => rfl
  | succ k ih => rw [at3_succ, trip3_1, ih]

theorem keep3_2 (k : ℕ) : at3 W k c main_v33_2 = W c main_v33_2 := by
  induction k with
  | zero => rfl
  | succ k ih => rw [at3_succ, trip3_2, ih]

/-- The states of loop 3, of its projected inputs, recurrent weights and bias. -/
abbrev states3 : ℕ → Fin 2048 → EReal := runA (turned (W c main_v33_1)) (vecOf (W c main_v33_2)) (matOf (W c main_v33_0))

variable (h3 : ∀ c, W c main_v33_3 = fun _ => (0#32 : BitVec 32)) (h4 : ∀ j, vecOf (n := 2048) (W c main_v33_4) j = 0)

include h3 h4 in
/-- The state before trip `k` of loop 3. -/
theorem state3 (k : ℕ) (hk : k ≤ 4096) (j : Fin 2048) : vecOf (n := 2048) (at3 W k c main_v33_4) j = states3 W c k j := by
  induction k generalizing j with
  | zero => exact h4 j
  | succ k ih =>
    have e : vecOf (n := 2048) (at3 W k c main_v33_4) = states3 W c k := funext fun j => ih (by omega) j
    have hrow : vecOf (n := 6144) (rowA (F := Ideal) (W c main_v33_0) (fun _ => count k)) = matOf (m := 4096) (n := 6144) (W c main_v33_0) ⟨k, hk⟩ :=
      funext fun i => rowA_at (W c main_v33_0) ⟨k, hk⟩ i
    show (at3 W (k + 1) c main_v33_4) (ix1 j) = _
    rw [at3_succ, trip3_4, ctr3 W h3 c k, keep3_0, keep3_1, keep3_2]
    refine (gateA_at _ _ _ _ j).trans ?_
    rw [e]
    refine (congrArg (fun x => step pA qA rA (turned (W c main_v33_1)) (vecOf (W c main_v33_2)) x (states3 W c k) j) hrow).trans ?_
    exact (congrFun (run_succ _ _ _ _ _ _ (⟨k, hk⟩ : Fin 4096)) j).symm

include h3 h4 in
/-- The rows written before trip `k` of loop 3. -/
theorem rows3 (k : ℕ) (hk : k ≤ 4096) (t : Fin 4096) (ht : t.val < k) (j : Fin 2048) :
    matOf (m := 4096) (n := 2048) (at3 W k c main_v33_5) t j = states3 W c (t.val + 1) j := by
  induction k generalizing j with
  | zero => exact absurd ht (Nat.not_lt_zero _)
  | succ k ih =>
    have hs := state3 W c h3 h4 (k + 1) hk j
    have hs' : (at3 W (k + 1) c main_v33_4) (ix1 j) = states3 W c (k + 1) j := hs
    rw [at3_succ, trip3_4, ctr3 W h3 c k] at hs'
    show (at3 W (k + 1) c main_v33_5) (ix2 t j) = _
    rw [at3_succ, trip3_5, ctr3 W h3 c k]
    refine (putA_at _ _ ⟨k, hk⟩ t j).trans ?_
    by_cases e : t = ⟨k, hk⟩
    · rw [if_pos e, hs', e]
    · rw [if_neg e]
      exact ih (by omega) (by have : t.val ≠ k := fun h => e (Fin.ext h); omega) j

end Loop3

end Cert.ReferenceIdeal.Gru

end
-- ==== Proof.RefStages.lean ====
module

public import proofs.«01_k».proof.Proof.CellRef
public import proofs.«01_k».proof.Proof.RefMain
public import Idealize.ShloMosaic.Lib.StableHlo.RunRead

/-!
What the reference's stretches of host operations compute, at an index and at the extended reals: each layer's projected
inputs, weights, bias and zero state, and the output.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

open Cert.Value

variable (V : Valuation τ sig (Elt Ideal))

/-- Layer 0's projected inputs. -/
theorem stage0_x (t : Fin 4096) (i : Fin 6144) : matOf (m := 4096) (n := 6144) (StableHlo.after (mainOps0 (F := Ideal)) V main_v7_0) t i
    = inp (fun t => matOf (m := 4096) (n := 1) (V main_arg0) t 0) (fun i => matOf (m := 6144) (n := 1) (V main_arg1) i 0) (vecOf (n := 6144) (V main_arg3)) t i := by
  show (StableHlo.after (mainOps0 (F := Ideal)) V main_v7_0) (ix2 t i) = _
  after_reads_simp
  rw [id]
  pointwise
  exact congrArg (· + _) (Fin.sum_univ_one _)

/-- Layer 0's recurrent weights. -/
theorem stage0_w : StableHlo.after (mainOps0 (F := Ideal)) V main_v7_1 = V main_arg2 := by
  after_reads_simp
  rfl

/-- Layer 0's recurrent bias. -/
theorem stage0_b : StableHlo.after (mainOps0 (F := Ideal)) V main_v7_2 = V main_arg4 := by
  after_reads_simp
  rfl

/-- Layer 0 starts from the zero state. -/
theorem stage0_h (j : Fin 2048) : vecOf (n := 2048) (StableHlo.after (mainOps0 (F := Ideal)) V main_v7_4) j = 0 := by
  show (StableHlo.after (mainOps0 (F := Ideal)) V main_v7_4) (ix1 j) = _
  after_reads_simp
  rw [id]
  pointwise

/-- Layer 1's projected inputs. -/
theorem stage1_x (t : Fin 4096) (i : Fin 3072) : matOf (m := 4096) (n := 3072) (StableHlo.after (mainOps1 (F := Ideal)) V main_v15_0) t i
    = lin (matOf (m := 4096) (n := 2048) (V main_v7_5)) (turned (m := 3072) (n := 2048) (V main_arg5)) (vecOf (n := 3072) (V main_arg7)) t i := by
  show (StableHlo.after (mainOps1 (F := Ideal)) V main_v15_0) (ix2 t i) = _
  after_reads_simp
  rw [id]
  pointwise
  rfl

/-- Layer 1's recurrent weights. -/
theorem stage1_w : StableHlo.after (mainOps1 (F := Ideal)) V main_v15_1 = V main_arg6 := by
  after_reads_simp
  rfl

/-- Layer 1's recurrent bias. -/
theorem stage1_b : StableHlo.after (mainOps1 (F := Ideal)) V main_v15_2 = V main_arg8 := by
  after_reads_simp
  rfl

/-- Layer 1 starts from the zero state. -/
theorem stage1_h (j : Fin 1024) : vecOf (n := 1024) (StableHlo.after (mainOps1 (F := Ideal)) V main_v15_4) j = 0 := by
  show (StableHlo.after (mainOps1 (F := Ideal)) V main_v15_4) (ix1 j) = _
  after_reads_simp
  rw [id]
  pointwise

/-- Layer 2's projected inputs. -/
theorem stage2_x (t : Fin 4096) (i : Fin 3072) : matOf (m := 4096) (n := 3072) (StableHlo.after (mainOps2 (F := Ideal)) V main_v25_0) t i
    = lin (fun _ : Fin 4096 => vecOf (n := 1024) (V main_v15_4)) (turned (m := 3072) (n := 1024) (V main_arg9)) (vecOf (n := 3072) (V main_arg11)) t i := by
  show (StableHlo.after (mainOps2 (F := Ideal)) V main_v25_0) (ix2 t i) = _
  after_reads_simp
  rw [id]
  pointwise
  rfl

/-- Layer 2's recurrent weights. -/
theorem stage2_w : StableHlo.after (mainOps2 (F := Ideal)) V main_v25_1 = V main_arg10 := by
  after_reads_simp
  rfl

/-- Layer 2's recurrent bias. -/
theorem stage2_b : StableHlo.after (mainOps2 (F := Ideal)) V main_v25_2 = V main_arg12 := by
  after_reads_simp
  rfl

/-- Layer 2 starts from the zero state. -/
theorem stage2_h (j : Fin 1024) : vecOf (n := 1024) (StableHlo.after (mainOps2 (F := Ideal)) V main_v25_4) j = 0 := by
  show (StableHlo.after (mainOps2 (F := Ideal)) V main_v25_4) (ix1 j) = _
  after_reads_simp
  rw [id]
  pointwise

/-- Layer 3's projected inputs. -/
theorem stage3_x (t : Fin 4096) (i : Fin 6144) : matOf (m := 4096) (n := 6144) (StableHlo.after (mainOps3b (F := Ideal)) (StableHlo.after (mainOps3a (F := Ideal)) V) main_v33_0) t i
    = lin (matOf (m := 4096) (n := 1024) (V main_v25_5)) (turned (m := 6144) (n := 1024) (V main_arg13)) (vecOf (n := 6144) (V main_arg15)) t i := by
  show (StableHlo.after (mainOps3b (F := Ideal)) (StableHlo.after (mainOps3a (F := Ideal)) V) main_v33_0) (ix2 t i) = _
  after_reads_simp
  rw [id]
  pointwise
  rfl

/-- Layer 3's recurrent weights. -/
theorem stage3_w : StableHlo.after (mainOps3b (F := Ideal)) (StableHlo.after (mainOps3a (F := Ideal)) V) main_v33_1 = V main_arg14 := by
  after_reads_simp
  rfl

/-- Layer 3's recurrent bias. -/
theorem stage3_b : StableHlo.after (mainOps3b (F := Ideal)) (StableHlo.after (mainOps3a (F := Ideal)) V) main_v33_2 = V main_arg16 := by
  after_reads_simp
  rfl

/-- Layer 3 starts from the zero state. -/
theorem stage3_h (j : Fin 2048) : vecOf (n := 2048) (StableHlo.after (mainOps3b (F := Ideal)) (StableHlo.after (mainOps3a (F := Ideal)) V) main_v33_4) j = 0 := by
  show (StableHlo.after (mainOps3b (F := Ideal)) (StableHlo.after (mainOps3a (F := Ideal)) V) main_v33_4) (ix1 j) = _
  after_reads_simp
  rw [id]
  pointwise

/-- The output. -/
theorem stage4_x (t : Fin 4096) (i : Fin 1) : matOf (m := 4096) (n := 1) (StableHlo.after (mainOps4 (F := Ideal)) V main_v38) t i
    = lin (matOf (m := 4096) (n := 2048) (V main_v33_5)) (turned (m := 1) (n := 2048) (V main_arg17)) (vecOf (n := 1) (V main_arg18)) t i := by
  show (StableHlo.after (mainOps4 (F := Ideal)) V main_v38) (ix2 t i) = _
  obtain rfl : i = 0 := Subsingleton.elim _ _
  after_reads_simp
  pointwise
  rfl

end Cert.ReferenceIdeal.Gru

end
-- ==== Proof.ValRef.lean ====
module

public import proofs.«01_k».proof.Proof.RefStates
public import proofs.«01_k».proof.Proof.RefStages

/-!
The reference's result at the extended reals, from its arguments.
-/

@[expose] public section

noncomputable section

namespace Cert.ReferenceIdeal.Gru

open Cert.ReferenceIdeal Cert.ReferenceIdeal.Gen
open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Pipeline (CSeg Ticket ucRefs sub_ucRefs)

open Cert.Value

variable (m : (ℓ : Loc nD τ sig) → Buf (Elt Ideal) ℓ) (c : Dev nD)

/-- The first layer's states, of the arguments. -/
abbrev Y1 (t : Fin 4096) : Fin 2048 → EReal := runA (turned (m := 6144) (n := 2048) (m ((c : Thread nD τ).loc main_arg2))) (vecOf (n := 6144) (m ((c : Thread nD τ).loc main_arg4)))
  (inp (fun t => matOf (m := 4096) (n := 1) (m ((c : Thread nD τ).loc main_arg0)) t 0) (fun i => matOf (m := 6144) (n := 1) (m ((c : Thread nD τ).loc main_arg1)) i 0) (vecOf (n := 6144) (m ((c : Thread nD τ).loc main_arg3)))) (t.val + 1)
/-- The second layer's last state. -/
abbrev E2 : Fin 1024 → EReal := runB (turned (m := 3072) (n := 1024) (m ((c : Thread nD τ).loc main_arg6))) (vecOf (n := 3072) (m ((c : Thread nD τ).loc main_arg8))) (lin (Y1 m c) (turned (m := 3072) (n := 2048) (m ((c : Thread nD τ).loc main_arg5))) (vecOf (n := 3072) (m ((c : Thread nD τ).loc main_arg7)))) 4096
/-- The third layer's states. -/
abbrev Y2 (t : Fin 4096) : Fin 1024 → EReal := runB (turned (m := 3072) (n := 1024) (m ((c : Thread nD τ).loc main_arg10))) (vecOf (n := 3072) (m ((c : Thread nD τ).loc main_arg12))) (lin (fun _ : Fin 4096 => E2 m c) (turned (m := 3072) (n := 1024) (m ((c : Thread nD τ).loc main_arg9))) (vecOf (n := 3072) (m ((c : Thread nD τ).loc main_arg11)))) (t.val + 1)
/-- The fourth layer's states. -/
abbrev Y3 (t : Fin 4096) : Fin 2048 → EReal := runA (turned (m := 6144) (n := 2048) (m ((c : Thread nD τ).loc main_arg14))) (vecOf (n := 6144) (m ((c : Thread nD τ).loc main_arg16))) (lin (Y2 m c) (turned (m := 6144) (n := 1024) (m ((c : Thread nD τ).loc main_arg13))) (vecOf (n := 6144) (m ((c : Thread nD τ).loc main_arg15)))) (t.val + 1)

theorem kept0 : (leave0 m c main_arg0 = m ((c : Thread nD τ).loc main_arg0) ∧ leave1 m c main_arg0 = m ((c : Thread nD τ).loc main_arg0) ∧ leave2 m c main_arg0 = m ((c : Thread nD τ).loc main_arg0)
    ∧ leave3 m c main_arg0 = m ((c : Thread nD τ).loc main_arg0)) ∧ final m c main_arg0 = m ((c : Thread nD τ).loc main_arg0) := kept m c main_arg0 (args_not_written _ (by decide))
theorem kept1 : (leave0 m c main_arg1 = m ((c : Thread nD τ).loc main_arg1) ∧ leave1 m c main_arg1 = m ((c : Thread nD τ).loc main_arg1) ∧ leave2 m c main_arg1 = m ((c : Thread nD τ).loc main_arg1)
    ∧ leave3 m c main_arg1 = m ((c : Thread nD τ).loc main_arg1)) ∧ final m c main_arg1 = m ((c : Thread nD τ).loc main_arg1) := kept m c main_arg1 (args_not_written _ (by decide))
theorem kept2 : (leave0 m c main_arg2 = m ((c : Thread nD τ).loc main_arg2) ∧ leave1 m c main_arg2 = m ((c : Thread nD τ).loc main_arg2) ∧ leave2 m c main_arg2 = m ((c : Thread nD τ).loc main_arg2)
    ∧ leave3 m c main_arg2 = m ((c : Thread nD τ).loc main_arg2)) ∧ final m c main_arg2 = m ((c : Thread nD τ).loc main_arg2) := kept m c main_arg2 (args_not_written _ (by decide))
theorem kept3 : (leave0 m c main_arg3 = m ((c : Thread nD τ).loc main_arg3) ∧ leave1 m c main_arg3 = m ((c : Thread nD τ).loc main_arg3) ∧ leave2 m c main_arg3 = m ((c : Thread nD τ).loc main_arg3)
    ∧ leave3 m c main_arg3 = m ((c : Thread nD τ).loc main_arg3)) ∧ final m c main_arg3 = m ((c : Thread nD τ).loc main_arg3) := kept m c main_arg3 (args_not_written _ (by decide))
theorem kept4 : (leave0 m c main_arg4 = m ((c : Thread nD τ).loc main_arg4) ∧ leave1 m c main_arg4 = m ((c : Thread nD τ).loc main_arg4) ∧ leave2 m c main_arg4 = m ((c : Thread nD τ).loc main_arg4)
    ∧ leave3 m c main_arg4 = m ((c : Thread nD τ).loc main_arg4)) ∧ final m c main_arg4 = m ((c : Thread nD τ).loc main_arg4) := kept m c main_arg4 (args_not_written _ (by decide))
theorem kept5 : (leave0 m c main_arg5 = m ((c : Thread nD τ).loc main_arg5) ∧ leave1 m c main_arg5 = m ((c : Thread nD τ).loc main_arg5) ∧ leave2 m c main_arg5 = m ((c : Thread nD τ).loc main_arg5)
    ∧ leave3 m c main_arg5 = m ((c : Thread nD τ).loc main_arg5)) ∧ final m c main_arg5 = m ((c : Thread nD τ).loc main_arg5) := kept m c main_arg5 (args_not_written _ (by decide))
theorem kept6 : (leave0 m c main_arg6 = m ((c : Thread nD τ).loc main_arg6) ∧ leave1 m c main_arg6 = m ((c : Thread nD τ).loc main_arg6) ∧ leave2 m c main_arg6 = m ((c : Thread nD τ).loc main_arg6)
    ∧ leave3 m c main_arg6 = m ((c : Thread nD τ).loc main_arg6)) ∧ final m c main_arg6 = m ((c : Thread nD τ).loc main_arg6) := kept m c main_arg6 (args_not_written _ (by decide))
theorem kept7 : (leave0 m c main_arg7 = m ((c : Thread nD τ).loc main_arg7) ∧ leave1 m c main_arg7 = m ((c : Thread nD τ).loc main_arg7) ∧ leave2 m c main_arg7 = m ((c : Thread nD τ).loc main_arg7)
    ∧ leave3 m c main_arg7 = m ((c : Thread nD τ).loc main_arg7)) ∧ final m c main_arg7 = m ((c : Thread nD τ).loc main_arg7) := kept m c main_arg7 (args_not_written _ (by decide))
theorem kept8 : (leave0 m c main_arg8 = m ((c : Thread nD τ).loc main_arg8) ∧ leave1 m c main_arg8 = m ((c : Thread nD τ).loc main_arg8) ∧ leave2 m c main_arg8 = m ((c : Thread nD τ).loc main_arg8)
    ∧ leave3 m c main_arg8 = m ((c : Thread nD τ).loc main_arg8)) ∧ final m c main_arg8 = m ((c : Thread nD τ).loc main_arg8) := kept m c main_arg8 (args_not_written _ (by decide))
theorem kept9 : (leave0 m c main_arg9 = m ((c : Thread nD τ).loc main_arg9) ∧ leave1 m c main_arg9 = m ((c : Thread nD τ).loc main_arg9) ∧ leave2 m c main_arg9 = m ((c : Thread nD τ).loc main_arg9)
    ∧ leave3 m c main_arg9 = m ((c : Thread nD τ).loc main_arg9)) ∧ final m c main_arg9 = m ((c : Thread nD τ).loc main_arg9) := kept m c main_arg9 (args_not_written _ (by decide))
theorem kept10 : (leave0 m c main_arg10 = m ((c : Thread nD τ).loc main_arg10) ∧ leave1 m c main_arg10 = m ((c : Thread nD τ).loc main_arg10) ∧ leave2 m c main_arg10 = m ((c : Thread nD τ).loc main_arg10)
    ∧ leave3 m c main_arg10 = m ((c : Thread nD τ).loc main_arg10)) ∧ final m c main_arg10 = m ((c : Thread nD τ).loc main_arg10) := kept m c main_arg10 (args_not_written _ (by decide))
theorem kept11 : (leave0 m c main_arg11 = m ((c : Thread nD τ).loc main_arg11) ∧ leave1 m c main_arg11 = m ((c : Thread nD τ).loc main_arg11) ∧ leave2 m c main_arg11 = m ((c : Thread nD τ).loc main_arg11)
    ∧ leave3 m c main_arg11 = m ((c : Thread nD τ).loc main_arg11)) ∧ final m c main_arg11 = m ((c : Thread nD τ).loc main_arg11) := kept m c main_arg11 (args_not_written _ (by decide))
theorem kept12 : (leave0 m c main_arg12 = m ((c : Thread nD τ).loc main_arg12) ∧ leave1 m c main_arg12 = m ((c : Thread nD τ).loc main_arg12) ∧ leave2 m c main_arg12 = m ((c : Thread nD τ).loc main_arg12)
    ∧ leave3 m c main_arg12 = m ((c : Thread nD τ).loc main_arg12)) ∧ final m c main_arg12 = m ((c : Thread nD τ).loc main_arg12) := kept m c main_arg12 (args_not_written _ (by decide))
theorem kept13 : (leave0 m c main_arg13 = m ((c : Thread nD τ).loc main_arg13) ∧ leave1 m c main_arg13 = m ((c : Thread nD τ).loc main_arg13) ∧ leave2 m c main_arg13 = m ((c : Thread nD τ).loc main_arg13)
    ∧ leave3 m c main_arg13 = m ((c : Thread nD τ).loc main_arg13)) ∧ final m c main_arg13 = m ((c : Thread nD τ).loc main_arg13) := kept m c main_arg13 (args_not_written _ (by decide))
theorem kept14 : (leave0 m c main_arg14 = m ((c : Thread nD τ).loc main_arg14) ∧ leave1 m c main_arg14 = m ((c : Thread nD τ).loc main_arg14) ∧ leave2 m c main_arg14 = m ((c : Thread nD τ).loc main_arg14)
    ∧ leave3 m c main_arg14 = m ((c : Thread nD τ).loc main_arg14)) ∧ final m c main_arg14 = m ((c : Thread nD τ).loc main_arg14) := kept m c main_arg14 (args_not_written _ (by decide))
theorem kept15 : (leave0 m c main_arg15 = m ((c : Thread nD τ).loc main_arg15) ∧ leave1 m c main_arg15 = m ((c : Thread nD τ).loc main_arg15) ∧ leave2 m c main_arg15 = m ((c : Thread nD τ).loc main_arg15)
    ∧ leave3 m c main_arg15 = m ((c : Thread nD τ).loc main_arg15)) ∧ final m c main_arg15 = m ((c : Thread nD τ).loc main_arg15) := kept m c main_arg15 (args_not_written _ (by decide))
theorem kept16 : (leave0 m c main_arg16 = m ((c : Thread nD τ).loc main_arg16) ∧ leave1 m c main_arg16 = m ((c : Thread nD τ).loc main_arg16) ∧ leave2 m c main_arg16 = m ((c : Thread nD τ).loc main_arg16)
    ∧ leave3 m c main_arg16 = m ((c : Thread nD τ).loc main_arg16)) ∧ final m c main_arg16 = m ((c : Thread nD τ).loc main_arg16) := kept m c main_arg16 (args_not_written _ (by decide))
theorem kept17 : (leave0 m c main_arg17 = m ((c : Thread nD τ).loc main_arg17) ∧ leave1 m c main_arg17 = m ((c : Thread nD τ).loc main_arg17) ∧ leave2 m c main_arg17 = m ((c : Thread nD τ).loc main_arg17)
    ∧ leave3 m c main_arg17 = m ((c : Thread nD τ).loc main_arg17)) ∧ final m c main_arg17 = m ((c : Thread nD τ).loc main_arg17) := kept m c main_arg17 (args_not_written _ (by decide))
theorem kept18 : (leave0 m c main_arg18 = m ((c : Thread nD τ).loc main_arg18) ∧ leave1 m c main_arg18 = m ((c : Thread nD τ).loc main_arg18) ∧ leave2 m c main_arg18 = m ((c : Thread nD τ).loc main_arg18)
    ∧ leave3 m c main_arg18 = m ((c : Thread nD τ).loc main_arg18)) ∧ final m c main_arg18 = m ((c : Thread nD τ).loc main_arg18) := kept m c main_arg18 (args_not_written _ (by decide))

/-- Layer 0's states are the recurrence of the arguments. -/
theorem states0_eq : states0 (enter0 m) c = runA (turned (m := 6144) (n := 2048) (m ((c : Thread nD τ).loc main_arg2))) (vecOf (n := 6144) (m ((c : Thread nD τ).loc main_arg4))) (inp (fun t => matOf (m := 4096) (n := 1) (m ((c : Thread nD τ).loc main_arg0)) t 0) (fun i => matOf (m := 6144) (n := 1) (m ((c : Thread nD τ).loc main_arg1)) i 0) (vecOf (n := 6144) (m ((c : Thread nD τ).loc main_arg3)))) :=
  run_congr (congrArg (turned (m := 6144) (n := 2048)) ((stage0_w (start m c)).trans rfl)) (congrArg (vecOf (n := 6144)) ((stage0_b (start m c)).trans rfl))
    (funext fun t => funext fun i => stage0_x (start m c) t i)

/-- The rows layer 0 leaves. -/
theorem rows_y1 (t : Fin 4096) (j : Fin 2048) : matOf (m := 4096) (n := 2048) (leave0 m c main_v7_5) t j = Y1 m c t j := by
  rw [leave0_at m c main_v7_5 (by decide)]
  exact (rows0 (enter0 m) c (fun c => enter0_ctr m c) (fun j => stage0_h (start m c) j) 4096 le_rfl t t.isLt j).trans
    (congrFun (congrFun (states0_eq m c) (t.val + 1)) j)

/-- Layer 1's states are the recurrence of the arguments. -/
theorem states1_eq : states1 (enter1 m) c = runB (turned (m := 3072) (n := 1024) (m ((c : Thread nD τ).loc main_arg6))) (vecOf (n := 3072) (m ((c : Thread nD τ).loc main_arg8))) (lin (Y1 m c) (turned (m := 3072) (n := 2048) (m ((c : Thread nD τ).loc main_arg5))) (vecOf (n := 3072) (m ((c : Thread nD τ).loc main_arg7)))) :=
  run_congr (congrArg (turned (m := 3072) (n := 1024)) ((stage1_w (leave0 m c)).trans (kept6 m c).1.1)) (congrArg (vecOf (n := 3072)) ((stage1_b (leave0 m c)).trans (kept8 m c).1.1))
    ((funext fun t => funext fun i => stage1_x (leave0 m c) t i).trans
      (lin_congr (funext fun t => funext fun j => rows_y1 m c t j) (congrArg (turned (m := 3072) (n := 2048)) ((kept5 m c).1.1)) (congrArg (vecOf (n := 3072)) ((kept7 m c).1.1))))

/-- The state layer 1 leaves. -/
theorem last_e2 (j : Fin 1024) : vecOf (n := 1024) (leave1 m c main_v15_4) j = E2 m c j := by
  rw [leave1_at m c main_v15_4 (by decide)]
  exact (state1 (enter1 m) c (fun c => enter1_ctr m c) (fun j => stage1_h (leave0 m c) j) 4096 le_rfl j).trans
    (congrFun (congrFun (states1_eq m c) 4096) j)

/-- Layer 2's states are the recurrence of the arguments. -/
theorem states2_eq : states2 (enter2 m) c = runB (turned (m := 3072) (n := 1024) (m ((c : Thread nD τ).loc main_arg10))) (vecOf (n := 3072) (m ((c : Thread nD τ).loc main_arg12))) (lin (fun _ : Fin 4096 => E2 m c) (turned (m := 3072) (n := 1024) (m ((c : Thread nD τ).loc main_arg9))) (vecOf (n := 3072) (m ((c : Thread nD τ).loc main_arg11)))) :=
  run_congr (congrArg (turned (m := 3072) (n := 1024)) ((stage2_w (leave1 m c)).trans (kept10 m c).1.2.1)) (congrArg (vecOf (n := 3072)) ((stage2_b (leave1 m c)).trans (kept12 m c).1.2.1))
    ((funext fun t => funext fun i => stage2_x (leave1 m c) t i).trans
      (lin_congr (funext fun _ => funext fun j => last_e2 m c j) (congrArg (turned (m := 3072) (n := 1024)) ((kept9 m c).1.2.1)) (congrArg (vecOf (n := 3072)) ((kept11 m c).1.2.1))))

/-- The rows layer 2 leaves. -/
theorem rows_y2 (t : Fin 4096) (j : Fin 1024) : matOf (m := 4096) (n := 1024) (leave2 m c main_v25_5) t j = Y2 m c t j := by
  rw [leave2_at m c main_v25_5 (by decide)]
  exact (rows2 (enter2 m) c (fun c => enter2_ctr m c) (fun j => stage2_h (leave1 m c) j) 4096 le_rfl t t.isLt j).trans
    (congrFun (congrFun (states2_eq m c) (t.val + 1)) j)

/-- Layer 3's states are the recurrence of the arguments. -/
theorem states3_eq : states3 (enter3 m) c = runA (turned (m := 6144) (n := 2048) (m ((c : Thread nD τ).loc main_arg14))) (vecOf (n := 6144) (m ((c : Thread nD τ).loc main_arg16))) (lin (Y2 m c) (turned (m := 6144) (n := 1024) (m ((c : Thread nD τ).loc main_arg13))) (vecOf (n := 6144) (m ((c : Thread nD τ).loc main_arg15)))) :=
  run_congr (congrArg (turned (m := 6144) (n := 2048)) ((stage3_w (leave2 m c)).trans (kept14 m c).1.2.2.1)) (congrArg (vecOf (n := 6144)) ((stage3_b (leave2 m c)).trans (kept16 m c).1.2.2.1))
    ((funext fun t => funext fun i => stage3_x (leave2 m c) t i).trans
      (lin_congr (funext fun t => funext fun j => rows_y2 m c t j) (congrArg (turned (m := 6144) (n := 1024)) ((kept13 m c).1.2.2.1)) (congrArg (vecOf (n := 6144)) ((kept15 m c).1.2.2.1))))

/-- The rows layer 3 leaves. -/
theorem rows_y3 (t : Fin 4096) (j : Fin 2048) : matOf (m := 4096) (n := 2048) (leave3 m c main_v33_5) t j = Y3 m c t j := by
  rw [leave3_at m c main_v33_5 (by decide)]
  exact (rows3 (enter3 m) c (fun c => enter3_ctr m c) (fun j => stage3_h (leave2 m c) j) 4096 le_rfl t t.isLt j).trans
    (congrFun (congrFun (states3_eq m c) (t.val + 1)) j)

/-- The reference's result is the autoencoder of the arguments. -/
theorem final_eq (t : Fin 4096) (i : Fin 1) : matOf (m := 4096) (n := 1) (final m c main_v38) t i
    = auto (fun t => matOf (m := 4096) (n := 1) (m ((c : Thread nD τ).loc main_arg0)) t 0)
      (fun i => matOf (m := 6144) (n := 1) (m ((c : Thread nD τ).loc main_arg1)) i 0) (turned (m := 6144) (n := 2048) (m ((c : Thread nD τ).loc main_arg2))) (vecOf (n := 6144) (m ((c : Thread nD τ).loc main_arg3))) (vecOf (n := 6144) (m ((c : Thread nD τ).loc main_arg4)))
      (turned (m := 3072) (n := 2048) (m ((c : Thread nD τ).loc main_arg5))) (turned (m := 3072) (n := 1024) (m ((c : Thread nD τ).loc main_arg6))) (vecOf (n := 3072) (m ((c : Thread nD τ).loc main_arg7))) (vecOf (n := 3072) (m ((c : Thread nD τ).loc main_arg8)))
      (turned (m := 3072) (n := 1024) (m ((c : Thread nD τ).loc main_arg9))) (turned (m := 3072) (n := 1024) (m ((c : Thread nD τ).loc main_arg10))) (vecOf (n := 3072) (m ((c : Thread nD τ).loc main_arg11))) (vecOf (n := 3072) (m ((c : Thread nD τ).loc main_arg12)))
      (turned (m := 6144) (n := 1024) (m ((c : Thread nD τ).loc main_arg13))) (turned (m := 6144) (n := 2048) (m ((c : Thread nD τ).loc main_arg14))) (vecOf (n := 6144) (m ((c : Thread nD τ).loc main_arg15))) (vecOf (n := 6144) (m ((c : Thread nD τ).loc main_arg16)))
      (turned (m := 1) (n := 2048) (m ((c : Thread nD τ).loc main_arg17))) (vecOf (n := 1) (m ((c : Thread nD τ).loc main_arg18))) t i :=
  (stage4_x (leave3 m c) t i).trans (congrFun (congrFun
    (lin_congr (funext fun t => funext fun j => rows_y3 m c t j) (congrArg (turned (m := 1) (n := 2048)) (kept17 m c).1.2.2.2)
      (congrArg (vecOf (n := 1)) (kept18 m c).1.2.2.2)) t) i)

end Cert.ReferenceIdeal.Gru

end
-- ==== Proof.Agree.lean ====
module

public import proofs.«01_k».proof.Proof.ValKernel
public import proofs.«01_k».proof.Proof.ValRef

/-!
The kernel and the reference compute the same result from the same arguments, at the extended reals.
-/

@[expose] public section

noncomputable section

namespace Cert.Value

open Idealize.ShloMosaic Idealize.ShloMosaic.TcCoe Idealize.SL.Sem

/-- The autoencoder, of the nineteen argument arrays. -/
def whole (a0 : (⟨2, ![4096, 1]⟩ : Shape).Idx → EReal) (a1 : (⟨2, ![6144, 1]⟩ : Shape).Idx → EReal) (a2 : (⟨2, ![6144, 2048]⟩ : Shape).Idx → EReal) (a3 : (⟨1, ![6144]⟩ : Shape).Idx → EReal) (a4 : (⟨1, ![6144]⟩ : Shape).Idx → EReal) (a5 : (⟨2, ![3072, 2048]⟩ : Shape).Idx → EReal) (a6 : (⟨2, ![3072, 1024]⟩ : Shape).Idx → EReal) (a7 : (⟨1, ![3072]⟩ : Shape).Idx → EReal) (a8 : (⟨1, ![3072]⟩ : Shape).Idx → EReal) (a9 : (⟨2, ![3072, 1024]⟩ : Shape).Idx → EReal) (a10 : (⟨2, ![3072, 1024]⟩ : Shape).Idx → EReal) (a11 : (⟨1, ![3072]⟩ : Shape).Idx → EReal) (a12 : (⟨1, ![3072]⟩ : Shape).Idx → EReal) (a13 : (⟨2, ![6144, 1024]⟩ : Shape).Idx → EReal) (a14 : (⟨2, ![6144, 2048]⟩ : Shape).Idx → EReal) (a15 : (⟨1, ![6144]⟩ : Shape).Idx → EReal) (a16 : (⟨1, ![6144]⟩ : Shape).Idx → EReal) (a17 : (⟨2, ![1, 2048]⟩ : Shape).Idx → EReal) (a18 : (⟨1, ![1]⟩ : Shape).Idx → EReal) : Fin 4096 → Fin 1 → EReal :=
  auto (fun t => a0 (ix2 t 0)) (fun i => a1 (ix2 i 0)) (fun k i => a2 (ix2 i k)) (fun i => a3 (ix1 i)) (fun i => a4 (ix1 i)) (fun k i => a5 (ix2 i k)) (fun k i => a6 (ix2 i k)) (fun i => a7 (ix1 i)) (fun i => a8 (ix1 i)) (fun k i => a9 (ix2 i k)) (fun k i => a10 (ix2 i k)) (fun i => a11 (ix1 i)) (fun i => a12 (ix1 i)) (fun k i => a13 (ix2 i k)) (fun k i => a14 (ix2 i k)) (fun i => a15 (ix1 i)) (fun i => a16 (ix1 i)) (fun k i => a17 (ix2 i k)) (fun i => a18 (ix1 i))

/-- Equal arrays give equal results. -/
theorem whole_congr {a0 b0 : (⟨2, ![4096, 1]⟩ : Shape).Idx → EReal} {a1 b1 : (⟨2, ![6144, 1]⟩ : Shape).Idx → EReal} {a2 b2 : (⟨2, ![6144, 2048]⟩ : Shape).Idx → EReal} {a3 b3 : (⟨1, ![6144]⟩ : Shape).Idx → EReal} {a4 b4 : (⟨1, ![6144]⟩ : Shape).Idx → EReal} {a5 b5 : (⟨2, ![3072, 2048]⟩ : Shape).Idx → EReal} {a6 b6 : (⟨2, ![3072, 1024]⟩ : Shape).Idx → EReal} {a7 b7 : (⟨1, ![3072]⟩ : Shape).Idx → EReal} {a8 b8 : (⟨1, ![3072]⟩ : Shape).Idx → EReal} {a9 b9 : (⟨2, ![3072, 1024]⟩ : Shape).Idx → EReal} {a10 b10 : (⟨2, ![3072, 1024]⟩ : Shape).Idx → EReal} {a11 b11 : (⟨1, ![3072]⟩ : Shape).Idx → EReal} {a12 b12 : (⟨1, ![3072]⟩ : Shape).Idx → EReal} {a13 b13 : (⟨2, ![6144, 1024]⟩ : Shape).Idx → EReal} {a14 b14 : (⟨2, ![6144, 2048]⟩ : Shape).Idx → EReal} {a15 b15 : (⟨1, ![6144]⟩ : Shape).Idx → EReal} {a16 b16 : (⟨1, ![6144]⟩ : Shape).Idx → EReal} {a17 b17 : (⟨2, ![1, 2048]⟩ : Shape).Idx → EReal} {a18 b18 : (⟨1, ![1]⟩ : Shape).Idx → EReal}
    (h0 : a0 = b0) (h1 : a1 = b1) (h2 : a2 = b2) (h3 : a3 = b3) (h4 : a4 = b4) (h5 : a5 = b5) (h6 : a6 = b6) (h7 : a7 = b7) (h8 : a8 = b8) (h9 : a9 = b9) (h10 : a10 = b10) (h11 : a11 = b11) (h12 : a12 = b12) (h13 : a13 = b13) (h14 : a14 = b14) (h15 : a15 = b15) (h16 : a16 = b16) (h17 : a17 = b17) (h18 : a18 = b18) :
    whole a0 a1 a2 a3 a4 a5 a6 a7 a8 a9 a10 a11 a12 a13 a14 a15 a16 a17 a18 = whole b0 b1 b2 b3 b4 b5 b6 b7 b8 b9 b10 b11 b12 b13 b14 b15 b16 b17 b18 := by
  subst h0 h1 h2 h3 h4 h5 h6 h7 h8 h9 h10 h11 h12 h13 h14 h15 h16 h17 h18; rfl

end Cert.Value

namespace Cert.KernelIdeal.Gru

open Cert.KernelIdeal Idealize.ShloMosaic Idealize.ShloMosaic.TcCoe

variable (m : (ℓ : Loc nD τ sig) → Buf (Elt Ideal) ℓ) (c : Dev nD)

/-- The autoencoder of the program's arguments. -/
def value : Fin 4096 → Fin 1 → EReal :=
  Cert.Value.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- It is what the program computes. -/
theorem result_value (t : Fin 4096) (i : Fin 1) : (U8 m c main_v29 : (⟨2, ![4096, 1]⟩ : Shape).Idx → EReal) (ix2 t i) = value m c t i :=
  result_eq m c t i

end Cert.KernelIdeal.Gru

namespace Cert.ReferenceIdeal.Gru

open Cert.ReferenceIdeal Idealize.ShloMosaic Idealize.ShloMosaic.TcCoe

variable (m : (ℓ : Loc nD τ sig) → Buf (Elt Ideal) ℓ) (c : Dev nD)

/-- The autoencoder of the program's arguments. -/
def value : Fin 4096 → Fin 1 → EReal :=
  Cert.Value.whole (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) (m ((c : Thread nD τ).loc main_arg15)) (m ((c : Thread nD τ).loc main_arg16)) (m ((c : Thread nD τ).loc main_arg17)) (m ((c : Thread nD τ).loc main_arg18))

/-- It is what the program computes. -/
theorem result_value (t : Fin 4096) (i : Fin 1) : (final m c main_v38 : (⟨2, ![4096, 1]⟩ : Shape).Idx → EReal) (ix2 t i) = value m c t i :=
  final_eq m c t i

end Cert.ReferenceIdeal.Gru

namespace Cert.Value

open Idealize.ShloMosaic Idealize.ShloMosaic.TcCoe Idealize.ShloMosaic.Tactic

/-- Where both programs' arguments give one value, their results are equal. -/
theorem results_agree (m : (ℓ : Loc Cert.KernelIdeal.nD Cert.KernelIdeal.τ Cert.KernelIdeal.sig) → Buf (Elt Ideal) ℓ)
    (m' : (ℓ : Loc Cert.ReferenceIdeal.nD Cert.ReferenceIdeal.τ Cert.ReferenceIdeal.sig) → Buf (Elt Ideal) ℓ) (c : Dev Cert.KernelIdeal.nD)
    (h : Cert.ReferenceIdeal.Gru.value m' c = Cert.KernelIdeal.Gru.value m c) :
    (Cert.ReferenceIdeal.Gru.final m' c Cert.ReferenceIdeal.main_v38 : (⟨2, ![4096, 1]⟩ : Shape).Idx → EReal) = Cert.KernelIdeal.Gru.U8 m c Cert.KernelIdeal.main_v29 := by
  funext y
  obtain ⟨t, i, rfl⟩ : ∃ (t : Fin 4096) (i : Fin 1), y = ix2 t i :=
    ⟨y 0, y 1, funext fun a => match a with | ⟨0, _⟩ => rfl | ⟨1, _⟩ => rfl⟩
  exact (Cert.ReferenceIdeal.Gru.result_value m' c t i).trans ((congrFun (congrFun h t) i).trans (Cert.KernelIdeal.Gru.result_value m c t i).symm)

end Cert.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Loops
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Loops
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Keeps
public import proofs.«01_k».proof.Proof.Twin.Keeps
public import proofs.«01_k».proof.Proof.RefKeeps
public import proofs.«01_k».proof.Proof.Agree
public import Idealize.ShloMosaic.Adequacy
public import Idealize.ShloMosaic.Init

@[expose] public section

noncomputable section

namespace Cert.Proof

open Idealize.ShloMosaic Idealize.SL.Sem Cert.Kernel

/-- From the same arguments the kernel and the reference run to the same result, with their arguments unchanged. -/
theorem same_result : Cert.algebraic_KernelIdeal_ReferenceIdeal (hKernelIdeal := Cert.KernelIdeal.Gen.facts)
    (hReferenceIdeal := Cert.ReferenceIdeal.Gen.facts) := fun m g m' g' _ h =>
  ⟨fun c => Cert.KernelIdeal.Gru.U8 m c (Proc.devRef .tc Cert.KernelIdeal.main_v29),
    (θ_run Cert.KernelIdeal.defs _ _).mono (fun r hr c => hr.1 c) (Cert.KernelIdeal.Gru.run_ends m g),
    (θ_run Cert.ReferenceIdeal.defs _ _).mono (fun r hr c => ⟨(hr.1 c).1.trans (Cert.Value.results_agree m m' c
      (have ⟨h0, h1, h2, h3, h4, h5, h6, h7, h8, h9, h10, h11, h12, h13, h14, h15, h16, h17, h18⟩ := h c;
        Cert.Value.whole_congr h0 h1 h2 h3 h4 h5 h6 h7 h8 h9 h10 h11 h12 h13 h14 h15 h16 h17 h18)), (hr.1 c).2⟩)
      (Cert.ReferenceIdeal.Gru.run_ends m' g')⟩

/-- The kernel, its idealization and the reference each run to an end with their arguments unchanged and their semaphore
    counters at zero, the idealization is the kernel itself, and the idealization computes the reference's result. -/
theorem claim : Cert.Claim := ⟨Cert.Kernel.Gen.facts, Cert.KernelIdeal.Gen.facts, Cert.ReferenceIdeal.Gen.facts,
  fun m g _ => (θ_run Cert.Kernel.defs _ _).mono (fun r h => ⟨fun c => (h.1 c).2, h.2⟩) (Cert.Kernel.Gru.run_ends m g),
  fun m g _ => (θ_run Cert.KernelIdeal.defs _ _).mono (fun r h => ⟨fun c => (h.1 c).2, h.2⟩) (Cert.KernelIdeal.Gru.run_ends m g),
  fun m g _ => (θ_run Cert.ReferenceIdeal.defs _ _).mono (fun r h => ⟨fun c => (h.1 c).2, h.2⟩) (Cert.ReferenceIdeal.Gru.run_ends m g),
  trivial, same_result⟩

end Cert.Proof

end
